-- ==== Defs.lean ====
def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_router_finite [hPre_router_finite : Cert.Pre_router_finite.Facts] (m : (ℓ : Loc Cert.RouterIdeal.nD Cert.RouterIdeal.τ Cert.RouterIdeal.sig) → Buf (Elt Ideal) ℓ) : Prop :=
  ∀ c : Dev Cert.RouterIdeal.nD,
    (Cert.Pre_router_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7)) (m ((c.tc : Thread Cert.RouterIdeal.nD Cert.RouterIdeal.τ).loc Cert.RouterIdeal.main_arg8)) (m ((c.tc : Thread Cert.RouterIdeal.nD Cert.RouterIdeal.τ).loc Cert.RouterIdeal.main_arg9)) (m ((c.tc : Thread Cert.RouterIdeal.nD Cert.RouterIdeal.τ).loc Cert.RouterIdeal.main_arg10)) (m ((c.tc : Thread Cert.RouterIdeal.nD Cert.RouterIdeal.τ).loc Cert.RouterIdeal.main_arg11)) (m ((c.tc : Thread Cert.RouterIdeal.nD Cert.RouterIdeal.τ).loc Cert.RouterIdeal.main_arg12)) (m ((c.tc : Thread Cert.RouterIdeal.nD Cert.RouterIdeal.τ).loc Cert.RouterIdeal.main_arg13)) (m ((c.tc : Thread Cert.RouterIdeal.nD Cert.RouterIdeal.τ).loc Cert.RouterIdeal.main_arg14))) = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_router_finite [hPre_router_finite : Cert.Pre_router_finite.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_router_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5)) (m ((c.tc : Thread Cert.RouterRefIdeal.nD Cert.RouterRefIdeal.τ).loc Cert.RouterRefIdeal.main_arg6)) (m ((c.tc : Thread Cert.RouterRefIdeal.nD Cert.RouterRefIdeal.τ).loc Cert.RouterRefIdeal.main_arg7)) (m ((c.tc : Thread Cert.RouterRefIdeal.nD Cert.RouterRefIdeal.τ).loc Cert.RouterRefIdeal.main_arg8)) (m ((c.tc : Thread Cert.RouterRefIdeal.nD Cert.RouterRefIdeal.τ).loc Cert.RouterRefIdeal.main_arg9)) (m ((c.tc : Thread Cert.RouterRefIdeal.nD Cert.RouterRefIdeal.τ).loc Cert.RouterRefIdeal.main_arg10)) (m ((c.tc : Thread Cert.RouterRefIdeal.nD Cert.RouterRefIdeal.τ).loc Cert.RouterRefIdeal.main_arg11)) (m ((c.tc : Thread Cert.RouterRefIdeal.nD Cert.RouterRefIdeal.τ).loc Cert.RouterRefIdeal.main_arg12)) (m ((c.tc : Thread Cert.RouterRefIdeal.nD Cert.RouterRefIdeal.τ).loc Cert.RouterRefIdeal.main_arg13)) (m ((c.tc : Thread Cert.RouterRefIdeal.nD Cert.RouterRefIdeal.τ).loc Cert.RouterRefIdeal.main_arg14))) = (fun _ => 1#1)

def Pre_Ffn [hPre_experts_in_range : Cert.Pre_experts_in_range.Facts] (m : (ℓ : Loc Cert.Ffn.nD Cert.Ffn.τ Cert.Ffn.sig) → Buf (Elt Bits) ℓ) : Prop :=
  ∀ c : Dev Cert.Ffn.nD,
    (Cert.Pre_experts_in_range.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6))) = (fun _ => 1#1)

def Pre_FfnIdeal [hPre_experts_in_range : Cert.Pre_experts_in_range.Facts] (m : (ℓ : Loc Cert.FfnIdeal.nD Cert.FfnIdeal.τ Cert.FfnIdeal.sig) → Buf (Elt Ideal) ℓ) : Prop :=
  ∀ c : Dev Cert.FfnIdeal.nD,
    (Cert.Pre_experts_in_range.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_experts_in_range [hPre_experts_in_range : Cert.Pre_experts_in_range.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_experts_in_range.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_NsaPrep (m : (ℓ : Loc Cert.NsaPrep.nD Cert.NsaPrep.τ Cert.NsaPrep.sig) → Buf (Elt Bits) ℓ) : Prop :=
  True

def Pre_NsaPrepIdeal (m : (ℓ : Loc Cert.NsaPrepIdeal.nD Cert.NsaPrepIdeal.τ Cert.NsaPrepIdeal.sig) → Buf (Elt Ideal) ℓ) : Prop :=
  True

def Pre_NsaPrepIdeal_rows_finite [hPre_rows_finite : Cert.Pre_rows_finite.Facts] (m : (ℓ : Loc Cert.NsaPrepIdeal.nD Cert.NsaPrepIdeal.τ Cert.NsaPrepIdeal.sig) → Buf (Elt Ideal) ℓ) : Prop :=
  ∀ c : Dev Cert.NsaPrepIdeal.nD,
    (Cert.Pre_rows_finite.fn (F := Ideal) (m ((c.tc : Thread Cert.NsaPrepIdeal.nD Cert.NsaPrepIdeal.τ).loc Cert.NsaPrepIdeal.main_arg0)) (m ((c.tc : Thread Cert.NsaPrepIdeal.nD Cert.NsaPrepIdeal.τ).loc Cert.NsaPrepIdeal.main_arg1)) (m ((c.tc : Thread Cert.NsaPrepIdeal.nD Cert.NsaPrepIdeal.τ).loc Cert.NsaPrepIdeal.main_arg2))) = (fun _ => 1#1)

def Pre_NsaPrepRefIdeal (m : (ℓ : Loc Cert.NsaPrepRefIdeal.nD Cert.NsaPrepRefIdeal.τ Cert.NsaPrepRefIdeal.sig) → Buf (Elt Ideal) ℓ) : Prop :=
  True

def Pre_NsaPrepRefIdeal_rows_finite [hPre_rows_finite : Cert.Pre_rows_finite.Facts] (m : (ℓ : Loc Cert.NsaPrepRefIdeal.nD Cert.NsaPrepRefIdeal.τ Cert.NsaPrepRefIdeal.sig) → Buf (Elt Ideal) ℓ) : Prop :=
  ∀ c : Dev Cert.NsaPrepRefIdeal.nD,
    (Cert.Pre_rows_finite.fn (F := Ideal) (m ((c.tc : Thread Cert.NsaPrepRefIdeal.nD Cert.NsaPrepRefIdeal.τ).loc Cert.NsaPrepRefIdeal.main_arg0)) (m ((c.tc : Thread Cert.NsaPrepRefIdeal.nD Cert.NsaPrepRefIdeal.τ).loc Cert.NsaPrepRefIdeal.main_arg1)) (m ((c.tc : Thread Cert.NsaPrepRefIdeal.nD Cert.NsaPrepRefIdeal.τ).loc Cert.NsaPrepRefIdeal.main_arg2))) = (fun _ => 1#1)

def Pre_NsaCmp (m : (ℓ : Loc Cert.NsaCmp.nD Cert.NsaCmp.τ Cert.NsaCmp.sig) → Buf (Elt Bits) ℓ) : Prop :=
  True

def Pre_NsaCmpIdeal (m : (ℓ : Loc Cert.NsaCmpIdeal.nD Cert.NsaCmpIdeal.τ Cert.NsaCmpIdeal.sig) → Buf (Elt Ideal) ℓ) : Prop :=
  True

def Pre_NsaCmpIdeal_keys_finite [hPre_keys_finite : Cert.Pre_keys_finite.Facts] (m : (ℓ : Loc Cert.NsaCmpIdeal.nD Cert.NsaCmpIdeal.τ Cert.NsaCmpIdeal.sig) → Buf (Elt Ideal) ℓ) : Prop :=
  ∀ c : Dev Cert.NsaCmpIdeal.nD,
    (Cert.Pre_keys_finite.fn (F := Ideal) (m ((c.tc : Thread Cert.NsaCmpIdeal.nD Cert.NsaCmpIdeal.τ).loc Cert.NsaCmpIdeal.main_arg0)) (m ((c.tc : Thread Cert.NsaCmpIdeal.nD Cert.NsaCmpIdeal.τ).loc Cert.NsaCmpIdeal.main_arg1)) (m ((c.tc : Thread Cert.NsaCmpIdeal.nD Cert.NsaCmpIdeal.τ).loc Cert.NsaCmpIdeal.main_arg2)) (m ((c.tc : Thread Cert.NsaCmpIdeal.nD Cert.NsaCmpIdeal.τ).loc Cert.NsaCmpIdeal.main_arg3)) (m ((c.tc : Thread Cert.NsaCmpIdeal.nD Cert.NsaCmpIdeal.τ).loc Cert.NsaCmpIdeal.main_arg4)) (m ((c.tc : Thread Cert.NsaCmpIdeal.nD Cert.NsaCmpIdeal.τ).loc Cert.NsaCmpIdeal.main_arg5)) (m ((c.tc : Thread Cert.NsaCmpIdeal.nD Cert.NsaCmpIdeal.τ).loc Cert.NsaCmpIdeal.main_arg6)) (m ((c.tc : Thread Cert.NsaCmpIdeal.nD Cert.NsaCmpIdeal.τ).loc Cert.NsaCmpIdeal.main_arg7)) (m ((c.tc : Thread Cert.NsaCmpIdeal.nD Cert.NsaCmpIdeal.τ).loc Cert.NsaCmpIdeal.main_arg8)) (m ((c.tc : Thread Cert.NsaCmpIdeal.nD Cert.NsaCmpIdeal.τ).loc Cert.NsaCmpIdeal.main_arg9)) (m ((c.tc : Thread Cert.NsaCmpIdeal.nD Cert.NsaCmpIdeal.τ).loc Cert.NsaCmpIdeal.main_arg10))) = (fun _ => 1#1)

def Pre_NsaCmpRefIdeal (m : (ℓ : Loc Cert.NsaCmpRefIdeal.nD Cert.NsaCmpRefIdeal.τ Cert.NsaCmpRefIdeal.sig) → Buf (Elt Ideal) ℓ) : Prop :=
  True

def Pre_NsaCmpRefIdeal_keys_finite [hPre_keys_finite : Cert.Pre_keys_finite.Facts] (m : (ℓ : Loc Cert.NsaCmpRefIdeal.nD Cert.NsaCmpRefIdeal.τ Cert.NsaCmpRefIdeal.sig) → Buf (Elt Ideal) ℓ) : Prop :=
  ∀ c : Dev Cert.NsaCmpRefIdeal.nD,
    (Cert.Pre_keys_finite.fn (F := Ideal) (m ((c.tc : Thread Cert.NsaCmpRefIdeal.nD Cert.NsaCmpRefIdeal.τ).loc Cert.NsaCmpRefIdeal.main_arg0)) (m ((c.tc : Thread Cert.NsaCmpRefIdeal.nD Cert.NsaCmpRefIdeal.τ).loc Cert.NsaCmpRefIdeal.main_arg1)) (m ((c.tc : Thread Cert.NsaCmpRefIdeal.nD Cert.NsaCmpRefIdeal.τ).loc Cert.NsaCmpRefIdeal.main_arg2)) (m ((c.tc : Thread Cert.NsaCmpRefIdeal.nD Cert.NsaCmpRefIdeal.τ).loc Cert.NsaCmpRefIdeal.main_arg3)) (m ((c.tc : Thread Cert.NsaCmpRefIdeal.nD Cert.NsaCmpRefIdeal.τ).loc Cert.NsaCmpRefIdeal.main_arg4)) (m ((c.tc : Thread Cert.NsaCmpRefIdeal.nD Cert.NsaCmpRefIdeal.τ).loc Cert.NsaCmpRefIdeal.main_arg5)) (m ((c.tc : Thread Cert.NsaCmpRefIdeal.nD Cert.NsaCmpRefIdeal.τ).loc Cert.NsaCmpRefIdeal.main_arg6)) (m ((c.tc : Thread Cert.NsaCmpRefIdeal.nD Cert.NsaCmpRefIdeal.τ).loc Cert.NsaCmpRefIdeal.main_arg7)) (m ((c.tc : Thread Cert.NsaCmpRefIdeal.nD Cert.NsaCmpRefIdeal.τ).loc Cert.NsaCmpRefIdeal.main_arg8)) (m ((c.tc : Thread Cert.NsaCmpRefIdeal.nD Cert.NsaCmpRefIdeal.τ).loc Cert.NsaCmpRefIdeal.main_arg9)) (m ((c.tc : Thread Cert.NsaCmpRefIdeal.nD Cert.NsaCmpRefIdeal.τ).loc Cert.NsaCmpRefIdeal.main_arg10))) = (fun _ => 1#1)

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5)
      ∧ r.2.mem ((c.tc : Thread Cert.Router.nD Cert.Router.τ).loc Cert.Router.main_arg6) = m ((c.tc : Thread Cert.Router.nD Cert.Router.τ).loc Cert.Router.main_arg6)
      ∧ r.2.mem ((c.tc : Thread Cert.Router.nD Cert.Router.τ).loc Cert.Router.main_arg7) = m ((c.tc : Thread Cert.Router.nD Cert.Router.τ).loc Cert.Router.main_arg7)
      ∧ r.2.mem ((c.tc : Thread Cert.Router.nD Cert.Router.τ).loc Cert.Router.main_arg8) = m ((c.tc : Thread Cert.Router.nD Cert.Router.τ).loc Cert.Router.main_arg8)
      ∧ r.2.mem ((c.tc : Thread Cert.Router.nD Cert.Router.τ).loc Cert.Router.main_arg9) = m ((c.tc : Thread Cert.Router.nD Cert.Router.τ).loc Cert.Router.main_arg9)
      ∧ r.2.mem ((c.tc : Thread Cert.Router.nD Cert.Router.τ).loc Cert.Router.main_arg10) = m ((c.tc : Thread Cert.Router.nD Cert.Router.τ).loc Cert.Router.main_arg10)
      ∧ r.2.mem ((c.tc : Thread Cert.Router.nD Cert.Router.τ).loc Cert.Router.main_arg11) = m ((c.tc : Thread Cert.Router.nD Cert.Router.τ).loc Cert.Router.main_arg11)
      ∧ r.2.mem ((c.tc : Thread Cert.Router.nD Cert.Router.τ).loc Cert.Router.main_arg12) = m ((c.tc : Thread Cert.Router.nD Cert.Router.τ).loc Cert.Router.main_arg12)
      ∧ r.2.mem ((c.tc : Thread Cert.Router.nD Cert.Router.τ).loc Cert.Router.main_arg13) = m ((c.tc : Thread Cert.Router.nD Cert.Router.τ).loc Cert.Router.main_arg13)
      ∧ r.2.mem ((c.tc : Thread Cert.Router.nD Cert.Router.τ).loc Cert.Router.main_arg14) = m ((c.tc : Thread Cert.Router.nD Cert.Router.τ).loc Cert.Router.main_arg14))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
      ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8)
      ∧ r.2.mem ((c.tc : Thread Cert.RouterIdeal.nD Cert.RouterIdeal.τ).loc Cert.RouterIdeal.main_arg9) = m ((c.tc : Thread Cert.RouterIdeal.nD Cert.RouterIdeal.τ).loc Cert.RouterIdeal.main_arg9)
      ∧ r.2.mem ((c.tc : Thread Cert.RouterIdeal.nD Cert.RouterIdeal.τ).loc Cert.RouterIdeal.main_arg10) = m ((c.tc : Thread Cert.RouterIdeal.nD Cert.RouterIdeal.τ).loc Cert.RouterIdeal.main_arg10)
      ∧ r.2.mem ((c.tc : Thread Cert.RouterIdeal.nD Cert.RouterIdeal.τ).loc Cert.RouterIdeal.main_arg11) = m ((c.tc : Thread Cert.RouterIdeal.nD Cert.RouterIdeal.τ).loc Cert.RouterIdeal.main_arg11)
      ∧ r.2.mem ((c.tc : Thread Cert.RouterIdeal.nD Cert.RouterIdeal.τ).loc Cert.RouterIdeal.main_arg12) = m ((c.tc : Thread Cert.RouterIdeal.nD Cert.RouterIdeal.τ).loc Cert.RouterIdeal.main_arg12)
      ∧ r.2.mem ((c.tc : Thread Cert.RouterIdeal.nD Cert.RouterIdeal.τ).loc Cert.RouterIdeal.main_arg13) = m ((c.tc : Thread Cert.RouterIdeal.nD Cert.RouterIdeal.τ).loc Cert.RouterIdeal.main_arg13)
      ∧ r.2.mem ((c.tc : Thread Cert.RouterIdeal.nD Cert.RouterIdeal.τ).loc Cert.RouterIdeal.main_arg14) = m ((c.tc : Thread Cert.RouterIdeal.nD Cert.RouterIdeal.τ).loc Cert.RouterIdeal.main_arg14))
      ∧ r.2.sem = fun _ => 0)

def quiescent_RouterIdeal_pre_router_finite [hRouterIdeal : Cert.RouterIdeal.Facts] [hPre_router_finite : Cert.Pre_router_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_router_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
      ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8)
      ∧ r.2.mem ((c.tc : Thread Cert.RouterIdeal.nD Cert.RouterIdeal.τ).loc Cert.RouterIdeal.main_arg9) = m ((c.tc : Thread Cert.RouterIdeal.nD Cert.RouterIdeal.τ).loc Cert.RouterIdeal.main_arg9)
      ∧ r.2.mem ((c.tc : Thread Cert.RouterIdeal.nD Cert.RouterIdeal.τ).loc Cert.RouterIdeal.main_arg10) = m ((c.tc : Thread Cert.RouterIdeal.nD Cert.RouterIdeal.τ).loc Cert.RouterIdeal.main_arg10)
      ∧ r.2.mem ((c.tc : Thread Cert.RouterIdeal.nD Cert.RouterIdeal.τ).loc Cert.RouterIdeal.main_arg11) = m ((c.tc : Thread Cert.RouterIdeal.nD Cert.RouterIdeal.τ).loc Cert.RouterIdeal.main_arg11)
      ∧ r.2.mem ((c.tc : Thread Cert.RouterIdeal.nD Cert.RouterIdeal.τ).loc Cert.RouterIdeal.main_arg12) = m ((c.tc : Thread Cert.RouterIdeal.nD Cert.RouterIdeal.τ).loc Cert.RouterIdeal.main_arg12)
      ∧ r.2.mem ((c.tc : Thread Cert.RouterIdeal.nD Cert.RouterIdeal.τ).loc Cert.RouterIdeal.main_arg13) = m ((c.tc : Thread Cert.RouterIdeal.nD Cert.RouterIdeal.τ).loc Cert.RouterIdeal.main_arg13)
      ∧ r.2.mem ((c.tc : Thread Cert.RouterIdeal.nD Cert.RouterIdeal.τ).loc Cert.RouterIdeal.main_arg14) = m ((c.tc : Thread Cert.RouterIdeal.nD Cert.RouterIdeal.τ).loc Cert.RouterIdeal.main_arg14))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5)
      ∧ r.2.mem ((c.tc : Thread Cert.RouterRefIdeal.nD Cert.RouterRefIdeal.τ).loc Cert.RouterRefIdeal.main_arg6) = m ((c.tc : Thread Cert.RouterRefIdeal.nD Cert.RouterRefIdeal.τ).loc Cert.RouterRefIdeal.main_arg6)
      ∧ r.2.mem ((c.tc : Thread Cert.RouterRefIdeal.nD Cert.RouterRefIdeal.τ).loc Cert.RouterRefIdeal.main_arg7) = m ((c.tc : Thread Cert.RouterRefIdeal.nD Cert.RouterRefIdeal.τ).loc Cert.RouterRefIdeal.main_arg7)
      ∧ r.2.mem ((c.tc : Thread Cert.RouterRefIdeal.nD Cert.RouterRefIdeal.τ).loc Cert.RouterRefIdeal.main_arg8) = m ((c.tc : Thread Cert.RouterRefIdeal.nD Cert.RouterRefIdeal.τ).loc Cert.RouterRefIdeal.main_arg8)
      ∧ r.2.mem ((c.tc : Thread Cert.RouterRefIdeal.nD Cert.RouterRefIdeal.τ).loc Cert.RouterRefIdeal.main_arg9) = m ((c.tc : Thread Cert.RouterRefIdeal.nD Cert.RouterRefIdeal.τ).loc Cert.RouterRefIdeal.main_arg9)
      ∧ r.2.mem ((c.tc : Thread Cert.RouterRefIdeal.nD Cert.RouterRefIdeal.τ).loc Cert.RouterRefIdeal.main_arg10) = m ((c.tc : Thread Cert.RouterRefIdeal.nD Cert.RouterRefIdeal.τ).loc Cert.RouterRefIdeal.main_arg10)
      ∧ r.2.mem ((c.tc : Thread Cert.RouterRefIdeal.nD Cert.RouterRefIdeal.τ).loc Cert.RouterRefIdeal.main_arg11) = m ((c.tc : Thread Cert.RouterRefIdeal.nD Cert.RouterRefIdeal.τ).loc Cert.RouterRefIdeal.main_arg11)
      ∧ r.2.mem ((c.tc : Thread Cert.RouterRefIdeal.nD Cert.RouterRefIdeal.τ).loc Cert.RouterRefIdeal.main_arg12) = m ((c.tc : Thread Cert.RouterRefIdeal.nD Cert.RouterRefIdeal.τ).loc Cert.RouterRefIdeal.main_arg12)
      ∧ r.2.mem ((c.tc : Thread Cert.RouterRefIdeal.nD Cert.RouterRefIdeal.τ).loc Cert.RouterRefIdeal.main_arg13) = m ((c.tc : Thread Cert.RouterRefIdeal.nD Cert.RouterRefIdeal.τ).loc Cert.RouterRefIdeal.main_arg13)
      ∧ r.2.mem ((c.tc : Thread Cert.RouterRefIdeal.nD Cert.RouterRefIdeal.τ).loc Cert.RouterRefIdeal.main_arg14) = m ((c.tc : Thread Cert.RouterRefIdeal.nD Cert.RouterRefIdeal.τ).loc Cert.RouterRefIdeal.main_arg14))
      ∧ r.2.sem = fun _ => 0)

def quiescent_RouterRefIdeal_pre_router_finite [hRouterRefIdeal : Cert.RouterRefIdeal.Facts] [hPre_router_finite : Cert.Pre_router_finite.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_router_finite m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5)
      ∧ r.2.mem ((c.tc : Thread Cert.RouterRefIdeal.nD Cert.RouterRefIdeal.τ).loc Cert.RouterRefIdeal.main_arg6) = m ((c.tc : Thread Cert.RouterRefIdeal.nD Cert.RouterRefIdeal.τ).loc Cert.RouterRefIdeal.main_arg6)
      ∧ r.2.mem ((c.tc : Thread Cert.RouterRefIdeal.nD Cert.RouterRefIdeal.τ).loc Cert.RouterRefIdeal.main_arg7) = m ((c.tc : Thread Cert.RouterRefIdeal.nD Cert.RouterRefIdeal.τ).loc Cert.RouterRefIdeal.main_arg7)
      ∧ r.2.mem ((c.tc : Thread Cert.RouterRefIdeal.nD Cert.RouterRefIdeal.τ).loc Cert.RouterRefIdeal.main_arg8) = m ((c.tc : Thread Cert.RouterRefIdeal.nD Cert.RouterRefIdeal.τ).loc Cert.RouterRefIdeal.main_arg8)
      ∧ r.2.mem ((c.tc : Thread Cert.RouterRefIdeal.nD Cert.RouterRefIdeal.τ).loc Cert.RouterRefIdeal.main_arg9) = m ((c.tc : Thread Cert.RouterRefIdeal.nD Cert.RouterRefIdeal.τ).loc Cert.RouterRefIdeal.main_arg9)
      ∧ r.2.mem ((c.tc : Thread Cert.RouterRefIdeal.nD Cert.RouterRefIdeal.τ).loc Cert.RouterRefIdeal.main_arg10) = m ((c.tc : Thread Cert.RouterRefIdeal.nD Cert.RouterRefIdeal.τ).loc Cert.RouterRefIdeal.main_arg10)
      ∧ r.2.mem ((c.tc : Thread Cert.RouterRefIdeal.nD Cert.RouterRefIdeal.τ).loc Cert.RouterRefIdeal.main_arg11) = m ((c.tc : Thread Cert.RouterRefIdeal.nD Cert.RouterRefIdeal.τ).loc Cert.RouterRefIdeal.main_arg11)
      ∧ r.2.mem ((c.tc : Thread Cert.RouterRefIdeal.nD Cert.RouterRefIdeal.τ).loc Cert.RouterRefIdeal.main_arg12) = m ((c.tc : Thread Cert.RouterRefIdeal.nD Cert.RouterRefIdeal.τ).loc Cert.RouterRefIdeal.main_arg12)
      ∧ r.2.mem ((c.tc : Thread Cert.RouterRefIdeal.nD Cert.RouterRefIdeal.τ).loc Cert.RouterRefIdeal.main_arg13) = m ((c.tc : Thread Cert.RouterRefIdeal.nD Cert.RouterRefIdeal.τ).loc Cert.RouterRefIdeal.main_arg13)
      ∧ r.2.mem ((c.tc : Thread Cert.RouterRefIdeal.nD Cert.RouterRefIdeal.τ).loc Cert.RouterRefIdeal.main_arg14) = m ((c.tc : Thread Cert.RouterRefIdeal.nD Cert.RouterRefIdeal.τ).loc Cert.RouterRefIdeal.main_arg14))
      ∧ r.2.sem = fun _ => 0)

def quiescent_Ffn [hFfn : Cert.Ffn.Facts] [hPre_experts_in_range : Cert.Pre_experts_in_range.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] [hPre_experts_in_range : Cert.Pre_experts_in_range.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_experts_in_range [hFfnRefIdeal : Cert.FfnRefIdeal.Facts] [hPre_experts_in_range : Cert.Pre_experts_in_range.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_experts_in_range m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_NsaPrep [hNsaPrep : Cert.NsaPrep.Facts] : Prop :=
  ∀ (m : (ℓ : Loc Cert.NsaPrep.nD Cert.NsaPrep.τ Cert.NsaPrep.sig) → Buf (Elt Bits) ℓ) (g : Dev Cert.NsaPrep.nD → PrngReg), Pre_NsaPrep m →
    θ_run (Cert.NsaPrep.defs (F := Bits)) (onTc (τ := Cert.NsaPrep.τ) (Cert.NsaPrep.main (F := Bits))) ⟨m, fun _ => 0, g⟩ (fun r => (∀ c : Dev Cert.NsaPrep.nD,
      r.2.mem ((c.tc : Thread Cert.NsaPrep.nD Cert.NsaPrep.τ).loc Cert.NsaPrep.main_arg0) = m ((c.tc : Thread Cert.NsaPrep.nD Cert.NsaPrep.τ).loc Cert.NsaPrep.main_arg0)
      ∧ r.2.mem ((c.tc : Thread Cert.NsaPrep.nD Cert.NsaPrep.τ).loc Cert.NsaPrep.main_arg1) = m ((c.tc : Thread Cert.NsaPrep.nD Cert.NsaPrep.τ).loc Cert.NsaPrep.main_arg1)
      ∧ r.2.mem ((c.tc : Thread Cert.NsaPrep.nD Cert.NsaPrep.τ).loc Cert.NsaPrep.main_arg2) = m ((c.tc : Thread Cert.NsaPrep.nD Cert.NsaPrep.τ).loc Cert.NsaPrep.main_arg2))
      ∧ r.2.sem = fun _ => 0)

def quiescent_NsaPrepIdeal [hNsaPrepIdeal : Cert.NsaPrepIdeal.Facts] : Prop :=
  ∀ (m : (ℓ : Loc Cert.NsaPrepIdeal.nD Cert.NsaPrepIdeal.τ Cert.NsaPrepIdeal.sig) → Buf (Elt Ideal) ℓ) (g : Dev Cert.NsaPrepIdeal.nD → PrngReg), Pre_NsaPrepIdeal m →
    θ_run (Cert.NsaPrepIdeal.defs (F := Ideal)) (onTc (τ := Cert.NsaPrepIdeal.τ) (Cert.NsaPrepIdeal.main (F := Ideal))) ⟨m, fun _ => 0, g⟩ (fun r => (∀ c : Dev Cert.NsaPrepIdeal.nD,
      r.2.mem ((c.tc : Thread Cert.NsaPrepIdeal.nD Cert.NsaPrepIdeal.τ).loc Cert.NsaPrepIdeal.main_arg0) = m ((c.tc : Thread Cert.NsaPrepIdeal.nD Cert.NsaPrepIdeal.τ).loc Cert.NsaPrepIdeal.main_arg0)
      ∧ r.2.mem ((c.tc : Thread Cert.NsaPrepIdeal.nD Cert.NsaPrepIdeal.τ).loc Cert.NsaPrepIdeal.main_arg1) = m ((c.tc : Thread Cert.NsaPrepIdeal.nD Cert.NsaPrepIdeal.τ).loc Cert.NsaPrepIdeal.main_arg1)
      ∧ r.2.mem ((c.tc : Thread Cert.NsaPrepIdeal.nD Cert.NsaPrepIdeal.τ).loc Cert.NsaPrepIdeal.main_arg2) = m ((c.tc : Thread Cert.NsaPrepIdeal.nD Cert.NsaPrepIdeal.τ).loc Cert.NsaPrepIdeal.main_arg2))
      ∧ r.2.sem = fun _ => 0)

def quiescent_NsaPrepIdeal_pre_rows_finite [hNsaPrepIdeal : Cert.NsaPrepIdeal.Facts] [hPre_rows_finite : Cert.Pre_rows_finite.Facts] : Prop :=
  ∀ (m : (ℓ : Loc Cert.NsaPrepIdeal.nD Cert.NsaPrepIdeal.τ Cert.NsaPrepIdeal.sig) → Buf (Elt Ideal) ℓ) (g : Dev Cert.NsaPrepIdeal.nD → PrngReg), Pre_NsaPrepIdeal_rows_finite m →
    θ_run (Cert.NsaPrepIdeal.defs (F := Ideal)) (onTc (τ := Cert.NsaPrepIdeal.τ) (Cert.NsaPrepIdeal.main (F := Ideal))) ⟨m, fun _ => 0, g⟩ (fun r => (∀ c : Dev Cert.NsaPrepIdeal.nD,
      r.2.mem ((c.tc : Thread Cert.NsaPrepIdeal.nD Cert.NsaPrepIdeal.τ).loc Cert.NsaPrepIdeal.main_arg0) = m ((c.tc : Thread Cert.NsaPrepIdeal.nD Cert.NsaPrepIdeal.τ).loc Cert.NsaPrepIdeal.main_arg0)
      ∧ r.2.mem ((c.tc : Thread Cert.NsaPrepIdeal.nD Cert.NsaPrepIdeal.τ).loc Cert.NsaPrepIdeal.main_arg1) = m ((c.tc : Thread Cert.NsaPrepIdeal.nD Cert.NsaPrepIdeal.τ).loc Cert.NsaPrepIdeal.main_arg1)
      ∧ r.2.mem ((c.tc : Thread Cert.NsaPrepIdeal.nD Cert.NsaPrepIdeal.τ).loc Cert.NsaPrepIdeal.main_arg2) = m ((c.tc : Thread Cert.NsaPrepIdeal.nD Cert.NsaPrepIdeal.τ).loc Cert.NsaPrepIdeal.main_arg2))
      ∧ r.2.sem = fun _ => 0)

def quiescent_NsaPrepRefIdeal [hNsaPrepRefIdeal : Cert.NsaPrepRefIdeal.Facts] : Prop :=
  ∀ (m : (ℓ : Loc Cert.NsaPrepRefIdeal.nD Cert.NsaPrepRefIdeal.τ Cert.NsaPrepRefIdeal.sig) → Buf (Elt Ideal) ℓ) (g : Dev Cert.NsaPrepRefIdeal.nD → PrngReg), Pre_NsaPrepRefIdeal m →
    θ_run (Cert.NsaPrepRefIdeal.defs (F := Ideal)) (onTc (τ := Cert.NsaPrepRefIdeal.τ) (Cert.NsaPrepRefIdeal.main (F := Ideal))) ⟨m, fun _ => 0, g⟩ (fun r => (∀ c : Dev Cert.NsaPrepRefIdeal.nD,
      r.2.mem ((c.tc : Thread Cert.NsaPrepRefIdeal.nD Cert.NsaPrepRefIdeal.τ).loc Cert.NsaPrepRefIdeal.main_arg0) = m ((c.tc : Thread Cert.NsaPrepRefIdeal.nD Cert.NsaPrepRefIdeal.τ).loc Cert.NsaPrepRefIdeal.main_arg0)
      ∧ r.2.mem ((c.tc : Thread Cert.NsaPrepRefIdeal.nD Cert.NsaPrepRefIdeal.τ).loc Cert.NsaPrepRefIdeal.main_arg1) = m ((c.tc : Thread Cert.NsaPrepRefIdeal.nD Cert.NsaPrepRefIdeal.τ).loc Cert.NsaPrepRefIdeal.main_arg1)
      ∧ r.2.mem ((c.tc : Thread Cert.NsaPrepRefIdeal.nD Cert.NsaPrepRefIdeal.τ).loc Cert.NsaPrepRefIdeal.main_arg2) = m ((c.tc : Thread Cert.NsaPrepRefIdeal.nD Cert.NsaPrepRefIdeal.τ).loc Cert.NsaPrepRefIdeal.main_arg2))
      ∧ r.2.sem = fun _ => 0)

def quiescent_NsaPrepRefIdeal_pre_rows_finite [hNsaPrepRefIdeal : Cert.NsaPrepRefIdeal.Facts] [hPre_rows_finite : Cert.Pre_rows_finite.Facts] : Prop :=
  ∀ (m : (ℓ : Loc Cert.NsaPrepRefIdeal.nD Cert.NsaPrepRefIdeal.τ Cert.NsaPrepRefIdeal.sig) → Buf (Elt Ideal) ℓ) (g : Dev Cert.NsaPrepRefIdeal.nD → PrngReg), Pre_NsaPrepRefIdeal_rows_finite m →
    θ_run (Cert.NsaPrepRefIdeal.defs (F := Ideal)) (onTc (τ := Cert.NsaPrepRefIdeal.τ) (Cert.NsaPrepRefIdeal.main (F := Ideal))) ⟨m, fun _ => 0, g⟩ (fun r => (∀ c : Dev Cert.NsaPrepRefIdeal.nD,
      r.2.mem ((c.tc : Thread Cert.NsaPrepRefIdeal.nD Cert.NsaPrepRefIdeal.τ).loc Cert.NsaPrepRefIdeal.main_arg0) = m ((c.tc : Thread Cert.NsaPrepRefIdeal.nD Cert.NsaPrepRefIdeal.τ).loc Cert.NsaPrepRefIdeal.main_arg0)
      ∧ r.2.mem ((c.tc : Thread Cert.NsaPrepRefIdeal.nD Cert.NsaPrepRefIdeal.τ).loc Cert.NsaPrepRefIdeal.main_arg1) = m ((c.tc : Thread Cert.NsaPrepRefIdeal.nD Cert.NsaPrepRefIdeal.τ).loc Cert.NsaPrepRefIdeal.main_arg1)
      ∧ r.2.mem ((c.tc : Thread Cert.NsaPrepRefIdeal.nD Cert.NsaPrepRefIdeal.τ).loc Cert.NsaPrepRefIdeal.main_arg2) = m ((c.tc : Thread Cert.NsaPrepRefIdeal.nD Cert.NsaPrepRefIdeal.τ).loc Cert.NsaPrepRefIdeal.main_arg2))
      ∧ r.2.sem = fun _ => 0)

def quiescent_NsaCmp [hNsaCmp : Cert.NsaCmp.Facts] : Prop :=
  ∀ (m : (ℓ : Loc Cert.NsaCmp.nD Cert.NsaCmp.τ Cert.NsaCmp.sig) → Buf (Elt Bits) ℓ) (g : Dev Cert.NsaCmp.nD → PrngReg), Pre_NsaCmp m →
    θ_run (Cert.NsaCmp.defs (F := Bits)) (onTc (τ := Cert.NsaCmp.τ) (Cert.NsaCmp.main (F := Bits))) ⟨m, fun _ => 0, g⟩ (fun r => (∀ c : Dev Cert.NsaCmp.nD,
      r.2.mem ((c.tc : Thread Cert.NsaCmp.nD Cert.NsaCmp.τ).loc Cert.NsaCmp.main_arg0) = m ((c.tc : Thread Cert.NsaCmp.nD Cert.NsaCmp.τ).loc Cert.NsaCmp.main_arg0)
      ∧ r.2.mem ((c.tc : Thread Cert.NsaCmp.nD Cert.NsaCmp.τ).loc Cert.NsaCmp.main_arg1) = m ((c.tc : Thread Cert.NsaCmp.nD Cert.NsaCmp.τ).loc Cert.NsaCmp.main_arg1)
      ∧ r.2.mem ((c.tc : Thread Cert.NsaCmp.nD Cert.NsaCmp.τ).loc Cert.NsaCmp.main_arg2) = m ((c.tc : Thread Cert.NsaCmp.nD Cert.NsaCmp.τ).loc Cert.NsaCmp.main_arg2)
      ∧ r.2.mem ((c.tc : Thread Cert.NsaCmp.nD Cert.NsaCmp.τ).loc Cert.NsaCmp.main_arg3) = m ((c.tc : Thread Cert.NsaCmp.nD Cert.NsaCmp.τ).loc Cert.NsaCmp.main_arg3)
      ∧ r.2.mem ((c.tc : Thread Cert.NsaCmp.nD Cert.NsaCmp.τ).loc Cert.NsaCmp.main_arg4) = m ((c.tc : Thread Cert.NsaCmp.nD Cert.NsaCmp.τ).loc Cert.NsaCmp.main_arg4)
      ∧ r.2.mem ((c.tc : Thread Cert.NsaCmp.nD Cert.NsaCmp.τ).loc Cert.NsaCmp.main_arg5) = m ((c.tc : Thread Cert.NsaCmp.nD Cert.NsaCmp.τ).loc Cert.NsaCmp.main_arg5)
      ∧ r.2.mem ((c.tc : Thread Cert.NsaCmp.nD Cert.NsaCmp.τ).loc Cert.NsaCmp.main_arg6) = m ((c.tc : Thread Cert.NsaCmp.nD Cert.NsaCmp.τ).loc Cert.NsaCmp.main_arg6)
      ∧ r.2.mem ((c.tc : Thread Cert.NsaCmp.nD Cert.NsaCmp.τ).loc Cert.NsaCmp.main_arg7) = m ((c.tc : Thread Cert.NsaCmp.nD Cert.NsaCmp.τ).loc Cert.NsaCmp.main_arg7)
      ∧ r.2.mem ((c.tc : Thread Cert.NsaCmp.nD Cert.NsaCmp.τ).loc Cert.NsaCmp.main_arg8) = m ((c.tc : Thread Cert.NsaCmp.nD Cert.NsaCmp.τ).loc Cert.NsaCmp.main_arg8)
      ∧ r.2.mem ((c.tc : Thread Cert.NsaCmp.nD Cert.NsaCmp.τ).loc Cert.NsaCmp.main_arg9) = m ((c.tc : Thread Cert.NsaCmp.nD Cert.NsaCmp.τ).loc Cert.NsaCmp.main_arg9)
      ∧ r.2.mem ((c.tc : Thread Cert.NsaCmp.nD Cert.NsaCmp.τ).loc Cert.NsaCmp.main_arg10) = m ((c.tc : Thread Cert.NsaCmp.nD Cert.NsaCmp.τ).loc Cert.NsaCmp.main_arg10))
      ∧ r.2.sem = fun _ => 0)

def quiescent_NsaCmpIdeal [hNsaCmpIdeal : Cert.NsaCmpIdeal.Facts] : Prop :=
  ∀ (m : (ℓ : Loc Cert.NsaCmpIdeal.nD Cert.NsaCmpIdeal.τ Cert.NsaCmpIdeal.sig) → Buf (Elt Ideal) ℓ) (g : Dev Cert.NsaCmpIdeal.nD → PrngReg), Pre_NsaCmpIdeal m →
    θ_run (Cert.NsaCmpIdeal.defs (F := Ideal)) (onTc (τ := Cert.NsaCmpIdeal.τ) (Cert.NsaCmpIdeal.main (F := Ideal))) ⟨m, fun _ => 0, g⟩ (fun r => (∀ c : Dev Cert.NsaCmpIdeal.nD,
      r.2.mem ((c.tc : Thread Cert.NsaCmpIdeal.nD Cert.NsaCmpIdeal.τ).loc Cert.NsaCmpIdeal.main_arg0) = m ((c.tc : Thread Cert.NsaCmpIdeal.nD Cert.NsaCmpIdeal.τ).loc Cert.NsaCmpIdeal.main_arg0)
      ∧ r.2.mem ((c.tc : Thread Cert.NsaCmpIdeal.nD Cert.NsaCmpIdeal.τ).loc Cert.NsaCmpIdeal.main_arg1) = m ((c.tc : Thread Cert.NsaCmpIdeal.nD Cert.NsaCmpIdeal.τ).loc Cert.NsaCmpIdeal.main_arg1)
      ∧ r.2.mem ((c.tc : Thread Cert.NsaCmpIdeal.nD Cert.NsaCmpIdeal.τ).loc Cert.NsaCmpIdeal.main_arg2) = m ((c.tc : Thread Cert.NsaCmpIdeal.nD Cert.NsaCmpIdeal.τ).loc Cert.NsaCmpIdeal.main_arg2)
      ∧ r.2.mem ((c.tc : Thread Cert.NsaCmpIdeal.nD Cert.NsaCmpIdeal.τ).loc Cert.NsaCmpIdeal.main_arg3) = m ((c.tc : Thread Cert.NsaCmpIdeal.nD Cert.NsaCmpIdeal.τ).loc Cert.NsaCmpIdeal.main_arg3)
      ∧ r.2.mem ((c.tc : Thread Cert.NsaCmpIdeal.nD Cert.NsaCmpIdeal.τ).loc Cert.NsaCmpIdeal.main_arg4) = m ((c.tc : Thread Cert.NsaCmpIdeal.nD Cert.NsaCmpIdeal.τ).loc Cert.NsaCmpIdeal.main_arg4)
      ∧ r.2.mem ((c.tc : Thread Cert.NsaCmpIdeal.nD Cert.NsaCmpIdeal.τ).loc Cert.NsaCmpIdeal.main_arg5) = m ((c.tc : Thread Cert.NsaCmpIdeal.nD Cert.NsaCmpIdeal.τ).loc Cert.NsaCmpIdeal.main_arg5)
      ∧ r.2.mem ((c.tc : Thread Cert.NsaCmpIdeal.nD Cert.NsaCmpIdeal.τ).loc Cert.NsaCmpIdeal.main_arg6) = m ((c.tc : Thread Cert.NsaCmpIdeal.nD Cert.NsaCmpIdeal.τ).loc Cert.NsaCmpIdeal.main_arg6)
      ∧ r.2.mem ((c.tc : Thread Cert.NsaCmpIdeal.nD Cert.NsaCmpIdeal.τ).loc Cert.NsaCmpIdeal.main_arg7) = m ((c.tc : Thread Cert.NsaCmpIdeal.nD Cert.NsaCmpIdeal.τ).loc Cert.NsaCmpIdeal.main_arg7)
      ∧ r.2.mem ((c.tc : Thread Cert.NsaCmpIdeal.nD Cert.NsaCmpIdeal.τ).loc Cert.NsaCmpIdeal.main_arg8) = m ((c.tc : Thread Cert.NsaCmpIdeal.nD Cert.NsaCmpIdeal.τ).loc Cert.NsaCmpIdeal.main_arg8)
      ∧ r.2.mem ((c.tc : Thread Cert.NsaCmpIdeal.nD Cert.NsaCmpIdeal.τ).loc Cert.NsaCmpIdeal.main_arg9) = m ((c.tc : Thread Cert.NsaCmpIdeal.nD Cert.NsaCmpIdeal.τ).loc Cert.NsaCmpIdeal.main_arg9)
      ∧ r.2.mem ((c.tc : Thread Cert.NsaCmpIdeal.nD Cert.NsaCmpIdeal.τ).loc Cert.NsaCmpIdeal.main_arg10) = m ((c.tc : Thread Cert.NsaCmpIdeal.nD Cert.NsaCmpIdeal.τ).loc Cert.NsaCmpIdeal.main_arg10))
      ∧ r.2.sem = fun _ => 0)

def quiescent_NsaCmpIdeal_pre_keys_finite [hNsaCmpIdeal : Cert.NsaCmpIdeal.Facts] [hPre_keys_finite : Cert.Pre_keys_finite.Facts] : Prop :=
  ∀ (m : (ℓ : Loc Cert.NsaCmpIdeal.nD Cert.NsaCmpIdeal.τ Cert.NsaCmpIdeal.sig) → Buf (Elt Ideal) ℓ) (g : Dev Cert.NsaCmpIdeal.nD → PrngReg), Pre_NsaCmpIdeal_keys_finite m →
    θ_run (Cert.NsaCmpIdeal.defs (F := Ideal)) (onTc (τ := Cert.NsaCmpIdeal.τ) (Cert.NsaCmpIdeal.main (F := Ideal))) ⟨m, fun _ => 0, g⟩ (fun r => (∀ c : Dev Cert.NsaCmpIdeal.nD,
      r.2.mem ((c.tc : Thread Cert.NsaCmpIdeal.nD Cert.NsaCmpIdeal.τ).loc Cert.NsaCmpIdeal.main_arg0) = m ((c.tc : Thread Cert.NsaCmpIdeal.nD Cert.NsaCmpIdeal.τ).loc Cert.NsaCmpIdeal.main_arg0)
      ∧ r.2.mem ((c.tc : Thread Cert.NsaCmpIdeal.nD Cert.NsaCmpIdeal.τ).loc Cert.NsaCmpIdeal.main_arg1) = m ((c.tc : Thread Cert.NsaCmpIdeal.nD Cert.NsaCmpIdeal.τ).loc Cert.NsaCmpIdeal.main_arg1)
      ∧ r.2.mem ((c.tc : Thread Cert.NsaCmpIdeal.nD Cert.NsaCmpIdeal.τ).loc Cert.NsaCmpIdeal.main_arg2) = m ((c.tc : Thread Cert.NsaCmpIdeal.nD Cert.NsaCmpIdeal.τ).loc Cert.NsaCmpIdeal.main_arg2)
      ∧ r.2.mem ((c.tc : Thread Cert.NsaCmpIdeal.nD Cert.NsaCmpIdeal.τ).loc Cert.NsaCmpIdeal.main_arg3) = m ((c.tc : Thread Cert.NsaCmpIdeal.nD Cert.NsaCmpIdeal.τ).loc Cert.NsaCmpIdeal.main_arg3)
      ∧ r.2.mem ((c.tc : Thread Cert.NsaCmpIdeal.nD Cert.NsaCmpIdeal.τ).loc Cert.NsaCmpIdeal.main_arg4) = m ((c.tc : Thread Cert.NsaCmpIdeal.nD Cert.NsaCmpIdeal.τ).loc Cert.NsaCmpIdeal.main_arg4)
      ∧ r.2.mem ((c.tc : Thread Cert.NsaCmpIdeal.nD Cert.NsaCmpIdeal.τ).loc Cert.NsaCmpIdeal.main_arg5) = m ((c.tc : Thread Cert.NsaCmpIdeal.nD Cert.NsaCmpIdeal.τ).loc Cert.NsaCmpIdeal.main_arg5)
      ∧ r.2.mem ((c.tc : Thread Cert.NsaCmpIdeal.nD Cert.NsaCmpIdeal.τ).loc Cert.NsaCmpIdeal.main_arg6) = m ((c.tc : Thread Cert.NsaCmpIdeal.nD Cert.NsaCmpIdeal.τ).loc Cert.NsaCmpIdeal.main_arg6)
      ∧ r.2.mem ((c.tc : Thread Cert.NsaCmpIdeal.nD Cert.NsaCmpIdeal.τ).loc Cert.NsaCmpIdeal.main_arg7) = m ((c.tc : Thread Cert.NsaCmpIdeal.nD Cert.NsaCmpIdeal.τ).loc Cert.NsaCmpIdeal.main_arg7)
      ∧ r.2.mem ((c.tc : Thread Cert.NsaCmpIdeal.nD Cert.NsaCmpIdeal.τ).loc Cert.NsaCmpIdeal.main_arg8) = m ((c.tc : Thread Cert.NsaCmpIdeal.nD Cert.NsaCmpIdeal.τ).loc Cert.NsaCmpIdeal.main_arg8)
      ∧ r.2.mem ((c.tc : Thread Cert.NsaCmpIdeal.nD Cert.NsaCmpIdeal.τ).loc Cert.NsaCmpIdeal.main_arg9) = m ((c.tc : Thread Cert.NsaCmpIdeal.nD Cert.NsaCmpIdeal.τ).loc Cert.NsaCmpIdeal.main_arg9)
      ∧ r.2.mem ((c.tc : Thread Cert.NsaCmpIdeal.nD Cert.NsaCmpIdeal.τ).loc Cert.NsaCmpIdeal.main_arg10) = m ((c.tc : Thread Cert.NsaCmpIdeal.nD Cert.NsaCmpIdeal.τ).loc Cert.NsaCmpIdeal.main_arg10))
      ∧ r.2.sem = fun _ => 0)

def quiescent_NsaCmpRefIdeal [hNsaCmpRefIdeal : Cert.NsaCmpRefIdeal.Facts] : Prop :=
  ∀ (m : (ℓ : Loc Cert.NsaCmpRefIdeal.nD Cert.NsaCmpRefIdeal.τ Cert.NsaCmpRefIdeal.sig) → Buf (Elt Ideal) ℓ) (g : Dev Cert.NsaCmpRefIdeal.nD → PrngReg), Pre_NsaCmpRefIdeal m →
    θ_run (Cert.NsaCmpRefIdeal.defs (F := Ideal)) (onTc (τ := Cert.NsaCmpRefIdeal.τ) (Cert.NsaCmpRefIdeal.main (F := Ideal))) ⟨m, fun _ => 0, g⟩ (fun r => (∀ c : Dev Cert.NsaCmpRefIdeal.nD,
      r.2.mem ((c.tc : Thread Cert.NsaCmpRefIdeal.nD Cert.NsaCmpRefIdeal.τ).loc Cert.NsaCmpRefIdeal.main_arg0) = m ((c.tc : Thread Cert.NsaCmpRefIdeal.nD Cert.NsaCmpRefIdeal.τ).loc Cert.NsaCmpRefIdeal.main_arg0)
      ∧ r.2.mem ((c.tc : Thread Cert.NsaCmpRefIdeal.nD Cert.NsaCmpRefIdeal.τ).loc Cert.NsaCmpRefIdeal.main_arg1) = m ((c.tc : Thread Cert.NsaCmpRefIdeal.nD Cert.NsaCmpRefIdeal.τ).loc Cert.NsaCmpRefIdeal.main_arg1)
      ∧ r.2.mem ((c.tc : Thread Cert.NsaCmpRefIdeal.nD Cert.NsaCmpRefIdeal.τ).loc Cert.NsaCmpRefIdeal.main_arg2) = m ((c.tc : Thread Cert.NsaCmpRefIdeal.nD Cert.NsaCmpRefIdeal.τ).loc Cert.NsaCmpRefIdeal.main_arg2)
      ∧ r.2.mem ((c.tc : Thread Cert.NsaCmpRefIdeal.nD Cert.NsaCmpRefIdeal.τ).loc Cert.NsaCmpRefIdeal.main_arg3) = m ((c.tc : Thread Cert.NsaCmpRefIdeal.nD Cert.NsaCmpRefIdeal.τ).loc Cert.NsaCmpRefIdeal.main_arg3)
      ∧ r.2.mem ((c.tc : Thread Cert.NsaCmpRefIdeal.nD Cert.NsaCmpRefIdeal.τ).loc Cert.NsaCmpRefIdeal.main_arg4) = m ((c.tc : Thread Cert.NsaCmpRefIdeal.nD Cert.NsaCmpRefIdeal.τ).loc Cert.NsaCmpRefIdeal.main_arg4)
      ∧ r.2.mem ((c.tc : Thread Cert.NsaCmpRefIdeal.nD Cert.NsaCmpRefIdeal.τ).loc Cert.NsaCmpRefIdeal.main_arg5) = m ((c.tc : Thread Cert.NsaCmpRefIdeal.nD Cert.NsaCmpRefIdeal.τ).loc Cert.NsaCmpRefIdeal.main_arg5)
      ∧ r.2.mem ((c.tc : Thread Cert.NsaCmpRefIdeal.nD Cert.NsaCmpRefIdeal.τ).loc Cert.NsaCmpRefIdeal.main_arg6) = m ((c.tc : Thread Cert.NsaCmpRefIdeal.nD Cert.NsaCmpRefIdeal.τ).loc Cert.NsaCmpRefIdeal.main_arg6)
      ∧ r.2.mem ((c.tc : Thread Cert.NsaCmpRefIdeal.nD Cert.NsaCmpRefIdeal.τ).loc Cert.NsaCmpRefIdeal.main_arg7) = m ((c.tc : Thread Cert.NsaCmpRefIdeal.nD Cert.NsaCmpRefIdeal.τ).loc Cert.NsaCmpRefIdeal.main_arg7)
      ∧ r.2.mem ((c.tc : Thread Cert.NsaCmpRefIdeal.nD Cert.NsaCmpRefIdeal.τ).loc Cert.NsaCmpRefIdeal.main_arg8) = m ((c.tc : Thread Cert.NsaCmpRefIdeal.nD Cert.NsaCmpRefIdeal.τ).loc Cert.NsaCmpRefIdeal.main_arg8)
      ∧ r.2.mem ((c.tc : Thread Cert.NsaCmpRefIdeal.nD Cert.NsaCmpRefIdeal.τ).loc Cert.NsaCmpRefIdeal.main_arg9) = m ((c.tc : Thread Cert.NsaCmpRefIdeal.nD Cert.NsaCmpRefIdeal.τ).loc Cert.NsaCmpRefIdeal.main_arg9)
      ∧ r.2.mem ((c.tc : Thread Cert.NsaCmpRefIdeal.nD Cert.NsaCmpRefIdeal.τ).loc Cert.NsaCmpRefIdeal.main_arg10) = m ((c.tc : Thread Cert.NsaCmpRefIdeal.nD Cert.NsaCmpRefIdeal.τ).loc Cert.NsaCmpRefIdeal.main_arg10))
      ∧ r.2.sem = fun _ => 0)

def quiescent_NsaCmpRefIdeal_pre_keys_finite [hNsaCmpRefIdeal : Cert.NsaCmpRefIdeal.Facts] [hPre_keys_finite : Cert.Pre_keys_finite.Facts] : Prop :=
  ∀ (m : (ℓ : Loc Cert.NsaCmpRefIdeal.nD Cert.NsaCmpRefIdeal.τ Cert.NsaCmpRefIdeal.sig) → Buf (Elt Ideal) ℓ) (g : Dev Cert.NsaCmpRefIdeal.nD → PrngReg), Pre_NsaCmpRefIdeal_keys_finite m →
    θ_run (Cert.NsaCmpRefIdeal.defs (F := Ideal)) (onTc (τ := Cert.NsaCmpRefIdeal.τ) (Cert.NsaCmpRefIdeal.main (F := Ideal))) ⟨m, fun _ => 0, g⟩ (fun r => (∀ c : Dev Cert.NsaCmpRefIdeal.nD,
      r.2.mem ((c.tc : Thread Cert.NsaCmpRefIdeal.nD Cert.NsaCmpRefIdeal.τ).loc Cert.NsaCmpRefIdeal.main_arg0) = m ((c.tc : Thread Cert.NsaCmpRefIdeal.nD Cert.NsaCmpRefIdeal.τ).loc Cert.NsaCmpRefIdeal.main_arg0)
      ∧ r.2.mem ((c.tc : Thread Cert.NsaCmpRefIdeal.nD Cert.NsaCmpRefIdeal.τ).loc Cert.NsaCmpRefIdeal.main_arg1) = m ((c.tc : Thread Cert.NsaCmpRefIdeal.nD Cert.NsaCmpRefIdeal.τ).loc Cert.NsaCmpRefIdeal.main_arg1)
      ∧ r.2.mem ((c.tc : Thread Cert.NsaCmpRefIdeal.nD Cert.NsaCmpRefIdeal.τ).loc Cert.NsaCmpRefIdeal.main_arg2) = m ((c.tc : Thread Cert.NsaCmpRefIdeal.nD Cert.NsaCmpRefIdeal.τ).loc Cert.NsaCmpRefIdeal.main_arg2)
      ∧ r.2.mem ((c.tc : Thread Cert.NsaCmpRefIdeal.nD Cert.NsaCmpRefIdeal.τ).loc Cert.NsaCmpRefIdeal.main_arg3) = m ((c.tc : Thread Cert.NsaCmpRefIdeal.nD Cert.NsaCmpRefIdeal.τ).loc Cert.NsaCmpRefIdeal.main_arg3)
      ∧ r.2.mem ((c.tc : Thread Cert.NsaCmpRefIdeal.nD Cert.NsaCmpRefIdeal.τ).loc Cert.NsaCmpRefIdeal.main_arg4) = m ((c.tc : Thread Cert.NsaCmpRefIdeal.nD Cert.NsaCmpRefIdeal.τ).loc Cert.NsaCmpRefIdeal.main_arg4)
      ∧ r.2.mem ((c.tc : Thread Cert.NsaCmpRefIdeal.nD Cert.NsaCmpRefIdeal.τ).loc Cert.NsaCmpRefIdeal.main_arg5) = m ((c.tc : Thread Cert.NsaCmpRefIdeal.nD Cert.NsaCmpRefIdeal.τ).loc Cert.NsaCmpRefIdeal.main_arg5)
      ∧ r.2.mem ((c.tc : Thread Cert.NsaCmpRefIdeal.nD Cert.NsaCmpRefIdeal.τ).loc Cert.NsaCmpRefIdeal.main_arg6) = m ((c.tc : Thread Cert.NsaCmpRefIdeal.nD Cert.NsaCmpRefIdeal.τ).loc Cert.NsaCmpRefIdeal.main_arg6)
      ∧ r.2.mem ((c.tc : Thread Cert.NsaCmpRefIdeal.nD Cert.NsaCmpRefIdeal.τ).loc Cert.NsaCmpRefIdeal.main_arg7) = m ((c.tc : Thread Cert.NsaCmpRefIdeal.nD Cert.NsaCmpRefIdeal.τ).loc Cert.NsaCmpRefIdeal.main_arg7)
      ∧ r.2.mem ((c.tc : Thread Cert.NsaCmpRefIdeal.nD Cert.NsaCmpRefIdeal.τ).loc Cert.NsaCmpRefIdeal.main_arg8) = m ((c.tc : Thread Cert.NsaCmpRefIdeal.nD Cert.NsaCmpRefIdeal.τ).loc Cert.NsaCmpRefIdeal.main_arg8)
      ∧ r.2.mem ((c.tc : Thread Cert.NsaCmpRefIdeal.nD Cert.NsaCmpRefIdeal.τ).loc Cert.NsaCmpRefIdeal.main_arg9) = m ((c.tc : Thread Cert.NsaCmpRefIdeal.nD Cert.NsaCmpRefIdeal.τ).loc Cert.NsaCmpRefIdeal.main_arg9)
      ∧ r.2.mem ((c.tc : Thread Cert.NsaCmpRefIdeal.nD Cert.NsaCmpRefIdeal.τ).loc Cert.NsaCmpRefIdeal.main_arg10) = m ((c.tc : Thread Cert.NsaCmpRefIdeal.nD Cert.NsaCmpRefIdeal.τ).loc Cert.NsaCmpRefIdeal.main_arg10))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5))
      ∧ r.2.sem = fun _ => 0)

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v3_0)) (v1 : (c : Dev Cert.MemKvIdeal.nD) → Buf (Elt Ideal) ((c.tc : Thread Cert.MemKvIdeal.nD Cert.MemKvIdeal.τ).loc Cert.MemKvIdeal.main_v3_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3_0) = v0 c
          ∧ r.2.mem ((c.tc : Thread Cert.MemKvIdeal.nD Cert.MemKvIdeal.τ).loc Cert.MemKvIdeal.main_v3_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v31) = v0 c
          ∧ r.2.mem ((c.tc : Thread Cert.MemKvRefIdeal.nD Cert.MemKvRefIdeal.τ).loc Cert.MemKvRefIdeal.main_v32) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v9_0)) (v1 : (c : Dev Cert.ProjIdeal.nD) → Buf (Elt Ideal) ((c.tc : Thread Cert.ProjIdeal.nD Cert.ProjIdeal.τ).loc Cert.ProjIdeal.main_v9_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9_0) = v0 c
          ∧ r.2.mem ((c.tc : Thread Cert.ProjIdeal.nD Cert.ProjIdeal.τ).loc Cert.ProjIdeal.main_v9_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v17) = v0 c
          ∧ r.2.mem ((c.tc : Thread Cert.ProjRefIdeal.nD Cert.ProjRefIdeal.τ).loc Cert.ProjRefIdeal.main_v18) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)) →
    ∃ (v0 : (c : Dev Cert.PostIdeal.nD) → Buf (Elt Ideal) ((c.tc : Thread Cert.PostIdeal.nD Cert.PostIdeal.τ).loc Cert.PostIdeal.main_v15_0)) (v1 : (c : Dev Cert.PostIdeal.nD) → Buf (Elt Ideal) ((c.tc : Thread Cert.PostIdeal.nD Cert.PostIdeal.τ).loc Cert.PostIdeal.main_v15_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v15_0) = v0 c
          ∧ r.2.mem ((c.tc : Thread Cert.PostIdeal.nD Cert.PostIdeal.τ).loc Cert.PostIdeal.main_v15_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v93) = v0 c
          ∧ r.2.mem ((c.tc : Thread Cert.PostRefIdeal.nD Cert.PostRefIdeal.τ).loc Cert.PostRefIdeal.main_v94) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12))

def preserves_Router_RouterIdeal : Prop :=
  True

def algebraic_RouterIdeal_RouterRefIdeal_pre_router_finite [hRouterIdeal : Cert.RouterIdeal.Facts] [hRouterRefIdeal : Cert.RouterRefIdeal.Facts] [hPre_router_finite : Cert.Pre_router_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_router_finite m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)
      ∧ m' ((c.tc : Thread Cert.RouterRefIdeal.nD Cert.RouterRefIdeal.τ).loc Cert.RouterRefIdeal.main_arg4) = m ((c.tc : Thread Cert.RouterIdeal.nD Cert.RouterIdeal.τ).loc Cert.RouterIdeal.main_arg4)
      ∧ m' ((c.tc : Thread Cert.RouterRefIdeal.nD Cert.RouterRefIdeal.τ).loc Cert.RouterRefIdeal.main_arg5) = m ((c.tc : Thread Cert.RouterIdeal.nD Cert.RouterIdeal.τ).loc Cert.RouterIdeal.main_arg5)
      ∧ m' ((c.tc : Thread Cert.RouterRefIdeal.nD Cert.RouterRefIdeal.τ).loc Cert.RouterRefIdeal.main_arg6) = m ((c.tc : Thread Cert.RouterIdeal.nD Cert.RouterIdeal.τ).loc Cert.RouterIdeal.main_arg6)
      ∧ m' ((c.tc : Thread Cert.RouterRefIdeal.nD Cert.RouterRefIdeal.τ).loc Cert.RouterRefIdeal.main_arg7) = m ((c.tc : Thread Cert.RouterIdeal.nD Cert.RouterIdeal.τ).loc Cert.RouterIdeal.main_arg7)
      ∧ m' ((c.tc : Thread Cert.RouterRefIdeal.nD Cert.RouterRefIdeal.τ).loc Cert.RouterRefIdeal.main_arg8) = m ((c.tc : Thread Cert.RouterIdeal.nD Cert.RouterIdeal.τ).loc Cert.RouterIdeal.main_arg8)
      ∧ m' ((c.tc : Thread Cert.RouterRefIdeal.nD Cert.RouterRefIdeal.τ).loc Cert.RouterRefIdeal.main_arg9) = m ((c.tc : Thread Cert.RouterIdeal.nD Cert.RouterIdeal.τ).loc Cert.RouterIdeal.main_arg9)
      ∧ m' ((c.tc : Thread Cert.RouterRefIdeal.nD Cert.RouterRefIdeal.τ).loc Cert.RouterRefIdeal.main_arg10) = m ((c.tc : Thread Cert.RouterIdeal.nD Cert.RouterIdeal.τ).loc Cert.RouterIdeal.main_arg10)
      ∧ m' ((c.tc : Thread Cert.RouterRefIdeal.nD Cert.RouterRefIdeal.τ).loc Cert.RouterRefIdeal.main_arg11) = m ((c.tc : Thread Cert.RouterIdeal.nD Cert.RouterIdeal.τ).loc Cert.RouterIdeal.main_arg11)
      ∧ m' ((c.tc : Thread Cert.RouterRefIdeal.nD Cert.RouterRefIdeal.τ).loc Cert.RouterRefIdeal.main_arg12) = m ((c.tc : Thread Cert.RouterIdeal.nD Cert.RouterIdeal.τ).loc Cert.RouterIdeal.main_arg12)
      ∧ m' ((c.tc : Thread Cert.RouterRefIdeal.nD Cert.RouterRefIdeal.τ).loc Cert.RouterRefIdeal.main_arg13) = m ((c.tc : Thread Cert.RouterIdeal.nD Cert.RouterIdeal.τ).loc Cert.RouterIdeal.main_arg13)
      ∧ m' ((c.tc : Thread Cert.RouterRefIdeal.nD Cert.RouterRefIdeal.τ).loc Cert.RouterRefIdeal.main_arg14) = m ((c.tc : Thread Cert.RouterIdeal.nD Cert.RouterIdeal.τ).loc Cert.RouterIdeal.main_arg14)) →
    ∃ (v0 : (c : Dev Cert.RouterIdeal.nD) → Buf (Elt Ideal) ((c.tc : Thread Cert.RouterIdeal.nD Cert.RouterIdeal.τ).loc Cert.RouterIdeal.main_v20_2)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v20_2) = v0 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
          ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
          ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
          ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8)
          ∧ r.2.mem ((c.tc : Thread Cert.RouterIdeal.nD Cert.RouterIdeal.τ).loc Cert.RouterIdeal.main_arg9) = m ((c.tc : Thread Cert.RouterIdeal.nD Cert.RouterIdeal.τ).loc Cert.RouterIdeal.main_arg9)
          ∧ r.2.mem ((c.tc : Thread Cert.RouterIdeal.nD Cert.RouterIdeal.τ).loc Cert.RouterIdeal.main_arg10) = m ((c.tc : Thread Cert.RouterIdeal.nD Cert.RouterIdeal.τ).loc Cert.RouterIdeal.main_arg10)
          ∧ r.2.mem ((c.tc : Thread Cert.RouterIdeal.nD Cert.RouterIdeal.τ).loc Cert.RouterIdeal.main_arg11) = m ((c.tc : Thread Cert.RouterIdeal.nD Cert.RouterIdeal.τ).loc Cert.RouterIdeal.main_arg11)
          ∧ r.2.mem ((c.tc : Thread Cert.RouterIdeal.nD Cert.RouterIdeal.τ).loc Cert.RouterIdeal.main_arg12) = m ((c.tc : Thread Cert.RouterIdeal.nD Cert.RouterIdeal.τ).loc Cert.RouterIdeal.main_arg12)
          ∧ r.2.mem ((c.tc : Thread Cert.RouterIdeal.nD Cert.RouterIdeal.τ).loc Cert.RouterIdeal.main_arg13) = m ((c.tc : Thread Cert.RouterIdeal.nD Cert.RouterIdeal.τ).loc Cert.RouterIdeal.main_arg13)
          ∧ r.2.mem ((c.tc : Thread Cert.RouterIdeal.nD Cert.RouterIdeal.τ).loc Cert.RouterIdeal.main_arg14) = m ((c.tc : Thread Cert.RouterIdeal.nD Cert.RouterIdeal.τ).loc Cert.RouterIdeal.main_arg14))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v99) = v0 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)
          ∧ r.2.mem ((c.tc : Thread Cert.RouterRefIdeal.nD Cert.RouterRefIdeal.τ).loc Cert.RouterRefIdeal.main_arg4) = m' ((c.tc : Thread Cert.RouterRefIdeal.nD Cert.RouterRefIdeal.τ).loc Cert.RouterRefIdeal.main_arg4)
          ∧ r.2.mem ((c.tc : Thread Cert.RouterRefIdeal.nD Cert.RouterRefIdeal.τ).loc Cert.RouterRefIdeal.main_arg5) = m' ((c.tc : Thread Cert.RouterRefIdeal.nD Cert.RouterRefIdeal.τ).loc Cert.RouterRefIdeal.main_arg5)
          ∧ r.2.mem ((c.tc : Thread Cert.RouterRefIdeal.nD Cert.RouterRefIdeal.τ).loc Cert.RouterRefIdeal.main_arg6) = m' ((c.tc : Thread Cert.RouterRefIdeal.nD Cert.RouterRefIdeal.τ).loc Cert.RouterRefIdeal.main_arg6)
          ∧ r.2.mem ((c.tc : Thread Cert.RouterRefIdeal.nD Cert.RouterRefIdeal.τ).loc Cert.RouterRefIdeal.main_arg7) = m' ((c.tc : Thread Cert.RouterRefIdeal.nD Cert.RouterRefIdeal.τ).loc Cert.RouterRefIdeal.main_arg7)
          ∧ r.2.mem ((c.tc : Thread Cert.RouterRefIdeal.nD Cert.RouterRefIdeal.τ).loc Cert.RouterRefIdeal.main_arg8) = m' ((c.tc : Thread Cert.RouterRefIdeal.nD Cert.RouterRefIdeal.τ).loc Cert.RouterRefIdeal.main_arg8)
          ∧ r.2.mem ((c.tc : Thread Cert.RouterRefIdeal.nD Cert.RouterRefIdeal.τ).loc Cert.RouterRefIdeal.main_arg9) = m' ((c.tc : Thread Cert.RouterRefIdeal.nD Cert.RouterRefIdeal.τ).loc Cert.RouterRefIdeal.main_arg9)
          ∧ r.2.mem ((c.tc : Thread Cert.RouterRefIdeal.nD Cert.RouterRefIdeal.τ).loc Cert.RouterRefIdeal.main_arg10) = m' ((c.tc : Thread Cert.RouterRefIdeal.nD Cert.RouterRefIdeal.τ).loc Cert.RouterRefIdeal.main_arg10)
          ∧ r.2.mem ((c.tc : Thread Cert.RouterRefIdeal.nD Cert.RouterRefIdeal.τ).loc Cert.RouterRefIdeal.main_arg11) = m' ((c.tc : Thread Cert.RouterRefIdeal.nD Cert.RouterRefIdeal.τ).loc Cert.RouterRefIdeal.main_arg11)
          ∧ r.2.mem ((c.tc : Thread Cert.RouterRefIdeal.nD Cert.RouterRefIdeal.τ).loc Cert.RouterRefIdeal.main_arg12) = m' ((c.tc : Thread Cert.RouterRefIdeal.nD Cert.RouterRefIdeal.τ).loc Cert.RouterRefIdeal.main_arg12)
          ∧ r.2.mem ((c.tc : Thread Cert.RouterRefIdeal.nD Cert.RouterRefIdeal.τ).loc Cert.RouterRefIdeal.main_arg13) = m' ((c.tc : Thread Cert.RouterRefIdeal.nD Cert.RouterRefIdeal.τ).loc Cert.RouterRefIdeal.main_arg13)
          ∧ r.2.mem ((c.tc : Thread Cert.RouterRefIdeal.nD Cert.RouterRefIdeal.τ).loc Cert.RouterRefIdeal.main_arg14) = m' ((c.tc : Thread Cert.RouterRefIdeal.nD Cert.RouterRefIdeal.τ).loc Cert.RouterRefIdeal.main_arg14))

def preserves_Ffn_FfnIdeal : Prop :=
  True

def algebraic_FfnIdeal_FfnRefIdeal [hFfnIdeal : Cert.FfnIdeal.Facts] [hFfnRefIdeal : Cert.FfnRefIdeal.Facts] [hPre_experts_in_range : Cert.Pre_experts_in_range.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v60) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_NsaPrep_NsaPrepIdeal : Prop :=
  True

def algebraic_NsaPrepIdeal_NsaPrepRefIdeal_pre_rows_finite [hNsaPrepIdeal : Cert.NsaPrepIdeal.Facts] [hNsaPrepRefIdeal : Cert.NsaPrepRefIdeal.Facts] [hPre_rows_finite : Cert.Pre_rows_finite.Facts] : Prop :=
  ∀ (m : (ℓ : Loc Cert.NsaPrepIdeal.nD Cert.NsaPrepIdeal.τ Cert.NsaPrepIdeal.sig) → Buf (Elt Ideal) ℓ) (g : Dev Cert.NsaPrepIdeal.nD → PrngReg)
    (m' : (ℓ : Loc Cert.NsaPrepRefIdeal.nD Cert.NsaPrepRefIdeal.τ Cert.NsaPrepRefIdeal.sig) → Buf (Elt Ideal) ℓ) (g' : Dev Cert.NsaPrepRefIdeal.nD → PrngReg), Pre_NsaPrepIdeal_rows_finite m →
    (∀ c : Dev Cert.NsaPrepIdeal.nD,
      m' ((c.tc : Thread Cert.NsaPrepRefIdeal.nD Cert.NsaPrepRefIdeal.τ).loc Cert.NsaPrepRefIdeal.main_arg0) = m ((c.tc : Thread Cert.NsaPrepIdeal.nD Cert.NsaPrepIdeal.τ).loc Cert.NsaPrepIdeal.main_arg0)
      ∧ m' ((c.tc : Thread Cert.NsaPrepRefIdeal.nD Cert.NsaPrepRefIdeal.τ).loc Cert.NsaPrepRefIdeal.main_arg1) = m ((c.tc : Thread Cert.NsaPrepIdeal.nD Cert.NsaPrepIdeal.τ).loc Cert.NsaPrepIdeal.main_arg1)
      ∧ m' ((c.tc : Thread Cert.NsaPrepRefIdeal.nD Cert.NsaPrepRefIdeal.τ).loc Cert.NsaPrepRefIdeal.main_arg2) = m ((c.tc : Thread Cert.NsaPrepIdeal.nD Cert.NsaPrepIdeal.τ).loc Cert.NsaPrepIdeal.main_arg2)) →
    ∃ (v0 : (c : Dev Cert.NsaPrepIdeal.nD) → Buf (Elt Ideal) ((c.tc : Thread Cert.NsaPrepIdeal.nD Cert.NsaPrepIdeal.τ).loc Cert.NsaPrepIdeal.main_v40_0)) (v1 : (c : Dev Cert.NsaPrepIdeal.nD) → Buf (Elt Ideal) ((c.tc : Thread Cert.NsaPrepIdeal.nD Cert.NsaPrepIdeal.τ).loc Cert.NsaPrepIdeal.main_v40_1)) (v2 : (c : Dev Cert.NsaPrepIdeal.nD) → Buf (Elt Ideal) ((c.tc : Thread Cert.NsaPrepIdeal.nD Cert.NsaPrepIdeal.τ).loc Cert.NsaPrepIdeal.main_v40_2)) (v3 : (c : Dev Cert.NsaPrepIdeal.nD) → Buf (Elt Ideal) ((c.tc : Thread Cert.NsaPrepIdeal.nD Cert.NsaPrepIdeal.τ).loc Cert.NsaPrepIdeal.main_v40_3)) (v4 : (c : Dev Cert.NsaPrepIdeal.nD) → Buf (Elt Ideal) ((c.tc : Thread Cert.NsaPrepIdeal.nD Cert.NsaPrepIdeal.τ).loc Cert.NsaPrepIdeal.main_v40_4)) (v5 : (c : Dev Cert.NsaPrepIdeal.nD) → Buf (Elt Ideal) ((c.tc : Thread Cert.NsaPrepIdeal.nD Cert.NsaPrepIdeal.τ).loc Cert.NsaPrepIdeal.main_v40_5)) (v6 : (c : Dev Cert.NsaPrepIdeal.nD) → Buf (Elt Ideal) ((c.tc : Thread Cert.NsaPrepIdeal.nD Cert.NsaPrepIdeal.τ).loc Cert.NsaPrepIdeal.main_v40_6)),
      θ_run (Cert.NsaPrepIdeal.defs (F := Ideal)) (onTc (τ := Cert.NsaPrepIdeal.τ) (Cert.NsaPrepIdeal.main (F := Ideal))) ⟨m, fun _ => 0, g⟩ (fun r => ∀ c : Dev Cert.NsaPrepIdeal.nD,
          r.2.mem ((c.tc : Thread Cert.NsaPrepIdeal.nD Cert.NsaPrepIdeal.τ).loc Cert.NsaPrepIdeal.main_v40_0) = v0 c
          ∧ r.2.mem ((c.tc : Thread Cert.NsaPrepIdeal.nD Cert.NsaPrepIdeal.τ).loc Cert.NsaPrepIdeal.main_v40_1) = v1 c
          ∧ r.2.mem ((c.tc : Thread Cert.NsaPrepIdeal.nD Cert.NsaPrepIdeal.τ).loc Cert.NsaPrepIdeal.main_v40_2) = v2 c
          ∧ r.2.mem ((c.tc : Thread Cert.NsaPrepIdeal.nD Cert.NsaPrepIdeal.τ).loc Cert.NsaPrepIdeal.main_v40_3) = v3 c
          ∧ r.2.mem ((c.tc : Thread Cert.NsaPrepIdeal.nD Cert.NsaPrepIdeal.τ).loc Cert.NsaPrepIdeal.main_v40_4) = v4 c
          ∧ r.2.mem ((c.tc : Thread Cert.NsaPrepIdeal.nD Cert.NsaPrepIdeal.τ).loc Cert.NsaPrepIdeal.main_v40_5) = v5 c
          ∧ r.2.mem ((c.tc : Thread Cert.NsaPrepIdeal.nD Cert.NsaPrepIdeal.τ).loc Cert.NsaPrepIdeal.main_v40_6) = v6 c
          ∧ r.2.mem ((c.tc : Thread Cert.NsaPrepIdeal.nD Cert.NsaPrepIdeal.τ).loc Cert.NsaPrepIdeal.main_arg0) = m ((c.tc : Thread Cert.NsaPrepIdeal.nD Cert.NsaPrepIdeal.τ).loc Cert.NsaPrepIdeal.main_arg0)
          ∧ r.2.mem ((c.tc : Thread Cert.NsaPrepIdeal.nD Cert.NsaPrepIdeal.τ).loc Cert.NsaPrepIdeal.main_arg1) = m ((c.tc : Thread Cert.NsaPrepIdeal.nD Cert.NsaPrepIdeal.τ).loc Cert.NsaPrepIdeal.main_arg1)
          ∧ r.2.mem ((c.tc : Thread Cert.NsaPrepIdeal.nD Cert.NsaPrepIdeal.τ).loc Cert.NsaPrepIdeal.main_arg2) = m ((c.tc : Thread Cert.NsaPrepIdeal.nD Cert.NsaPrepIdeal.τ).loc Cert.NsaPrepIdeal.main_arg2))
      ∧ θ_run (Cert.NsaPrepRefIdeal.defs (F := Ideal)) (onTc (τ := Cert.NsaPrepRefIdeal.τ) (Cert.NsaPrepRefIdeal.main (F := Ideal))) ⟨m', fun _ => 0, g'⟩ (fun r => ∀ c : Dev Cert.NsaPrepRefIdeal.nD,
          r.2.mem ((c.tc : Thread Cert.NsaPrepRefIdeal.nD Cert.NsaPrepRefIdeal.τ).loc Cert.NsaPrepRefIdeal.main_v156) = v0 c
          ∧ r.2.mem ((c.tc : Thread Cert.NsaPrepRefIdeal.nD Cert.NsaPrepRefIdeal.τ).loc Cert.NsaPrepRefIdeal.main_v159) = v1 c
          ∧ r.2.mem ((c.tc : Thread Cert.NsaPrepRefIdeal.nD Cert.NsaPrepRefIdeal.τ).loc Cert.NsaPrepRefIdeal.main_v163) = v2 c
          ∧ r.2.mem ((c.tc : Thread Cert.NsaPrepRefIdeal.nD Cert.NsaPrepRefIdeal.τ).loc Cert.NsaPrepRefIdeal.main_v166) = v3 c
          ∧ r.2.mem ((c.tc : Thread Cert.NsaPrepRefIdeal.nD Cert.NsaPrepRefIdeal.τ).loc Cert.NsaPrepRefIdeal.main_v170) = v4 c
          ∧ r.2.mem ((c.tc : Thread Cert.NsaPrepRefIdeal.nD Cert.NsaPrepRefIdeal.τ).loc Cert.NsaPrepRefIdeal.main_v2) = v5 c
          ∧ r.2.mem ((c.tc : Thread Cert.NsaPrepRefIdeal.nD Cert.NsaPrepRefIdeal.τ).loc Cert.NsaPrepRefIdeal.main_v3) = v6 c
          ∧ r.2.mem ((c.tc : Thread Cert.NsaPrepRefIdeal.nD Cert.NsaPrepRefIdeal.τ).loc Cert.NsaPrepRefIdeal.main_arg0) = m' ((c.tc : Thread Cert.NsaPrepRefIdeal.nD Cert.NsaPrepRefIdeal.τ).loc Cert.NsaPrepRefIdeal.main_arg0)
          ∧ r.2.mem ((c.tc : Thread Cert.NsaPrepRefIdeal.nD Cert.NsaPrepRefIdeal.τ).loc Cert.NsaPrepRefIdeal.main_arg1) = m' ((c.tc : Thread Cert.NsaPrepRefIdeal.nD Cert.NsaPrepRefIdeal.τ).loc Cert.NsaPrepRefIdeal.main_arg1)
          ∧ r.2.mem ((c.tc : Thread Cert.NsaPrepRefIdeal.nD Cert.NsaPrepRefIdeal.τ).loc Cert.NsaPrepRefIdeal.main_arg2) = m' ((c.tc : Thread Cert.NsaPrepRefIdeal.nD Cert.NsaPrepRefIdeal.τ).loc Cert.NsaPrepRefIdeal.main_arg2))

def preserves_NsaCmp_NsaCmpIdeal : Prop :=
  True

def algebraic_NsaCmpIdeal_NsaCmpRefIdeal_pre_keys_finite [hNsaCmpIdeal : Cert.NsaCmpIdeal.Facts] [hNsaCmpRefIdeal : Cert.NsaCmpRefIdeal.Facts] [hPre_keys_finite : Cert.Pre_keys_finite.Facts] : Prop :=
  ∀ (m : (ℓ : Loc Cert.NsaCmpIdeal.nD Cert.NsaCmpIdeal.τ Cert.NsaCmpIdeal.sig) → Buf (Elt Ideal) ℓ) (g : Dev Cert.NsaCmpIdeal.nD → PrngReg)
    (m' : (ℓ : Loc Cert.NsaCmpRefIdeal.nD Cert.NsaCmpRefIdeal.τ Cert.NsaCmpRefIdeal.sig) → Buf (Elt Ideal) ℓ) (g' : Dev Cert.NsaCmpRefIdeal.nD → PrngReg), Pre_NsaCmpIdeal_keys_finite m →
    (∀ c : Dev Cert.NsaCmpIdeal.nD,
      m' ((c.tc : Thread Cert.NsaCmpRefIdeal.nD Cert.NsaCmpRefIdeal.τ).loc Cert.NsaCmpRefIdeal.main_arg0) = m ((c.tc : Thread Cert.NsaCmpIdeal.nD Cert.NsaCmpIdeal.τ).loc Cert.NsaCmpIdeal.main_arg0)
      ∧ m' ((c.tc : Thread Cert.NsaCmpRefIdeal.nD Cert.NsaCmpRefIdeal.τ).loc Cert.NsaCmpRefIdeal.main_arg1) = m ((c.tc : Thread Cert.NsaCmpIdeal.nD Cert.NsaCmpIdeal.τ).loc Cert.NsaCmpIdeal.main_arg1)
      ∧ m' ((c.tc : Thread Cert.NsaCmpRefIdeal.nD Cert.NsaCmpRefIdeal.τ).loc Cert.NsaCmpRefIdeal.main_arg2) = m ((c.tc : Thread Cert.NsaCmpIdeal.nD Cert.NsaCmpIdeal.τ).loc Cert.NsaCmpIdeal.main_arg2)
      ∧ m' ((c.tc : Thread Cert.NsaCmpRefIdeal.nD Cert.NsaCmpRefIdeal.τ).loc Cert.NsaCmpRefIdeal.main_arg3) = m ((c.tc : Thread Cert.NsaCmpIdeal.nD Cert.NsaCmpIdeal.τ).loc Cert.NsaCmpIdeal.main_arg3)
      ∧ m' ((c.tc : Thread Cert.NsaCmpRefIdeal.nD Cert.NsaCmpRefIdeal.τ).loc Cert.NsaCmpRefIdeal.main_arg4) = m ((c.tc : Thread Cert.NsaCmpIdeal.nD Cert.NsaCmpIdeal.τ).loc Cert.NsaCmpIdeal.main_arg4)
      ∧ m' ((c.tc : Thread Cert.NsaCmpRefIdeal.nD Cert.NsaCmpRefIdeal.τ).loc Cert.NsaCmpRefIdeal.main_arg5) = m ((c.tc : Thread Cert.NsaCmpIdeal.nD Cert.NsaCmpIdeal.τ).loc Cert.NsaCmpIdeal.main_arg5)
      ∧ m' ((c.tc : Thread Cert.NsaCmpRefIdeal.nD Cert.NsaCmpRefIdeal.τ).loc Cert.NsaCmpRefIdeal.main_arg6) = m ((c.tc : Thread Cert.NsaCmpIdeal.nD Cert.NsaCmpIdeal.τ).loc Cert.NsaCmpIdeal.main_arg6)
      ∧ m' ((c.tc : Thread Cert.NsaCmpRefIdeal.nD Cert.NsaCmpRefIdeal.τ).loc Cert.NsaCmpRefIdeal.main_arg7) = m ((c.tc : Thread Cert.NsaCmpIdeal.nD Cert.NsaCmpIdeal.τ).loc Cert.NsaCmpIdeal.main_arg7)
      ∧ m' ((c.tc : Thread Cert.NsaCmpRefIdeal.nD Cert.NsaCmpRefIdeal.τ).loc Cert.NsaCmpRefIdeal.main_arg8) = m ((c.tc : Thread Cert.NsaCmpIdeal.nD Cert.NsaCmpIdeal.τ).loc Cert.NsaCmpIdeal.main_arg8)
      ∧ m' ((c.tc : Thread Cert.NsaCmpRefIdeal.nD Cert.NsaCmpRefIdeal.τ).loc Cert.NsaCmpRefIdeal.main_arg9) = m ((c.tc : Thread Cert.NsaCmpIdeal.nD Cert.NsaCmpIdeal.τ).loc Cert.NsaCmpIdeal.main_arg9)
      ∧ m' ((c.tc : Thread Cert.NsaCmpRefIdeal.nD Cert.NsaCmpRefIdeal.τ).loc Cert.NsaCmpRefIdeal.main_arg10) = m ((c.tc : Thread Cert.NsaCmpIdeal.nD Cert.NsaCmpIdeal.τ).loc Cert.NsaCmpIdeal.main_arg10)) →
    ∃ (v0 : (c : Dev Cert.NsaCmpIdeal.nD) → Buf (Elt Ideal) ((c.tc : Thread Cert.NsaCmpIdeal.nD Cert.NsaCmpIdeal.τ).loc Cert.NsaCmpIdeal.main_v125)) (v1 : (c : Dev Cert.NsaCmpIdeal.nD) → Buf (Elt Ideal) ((c.tc : Thread Cert.NsaCmpIdeal.nD Cert.NsaCmpIdeal.τ).loc Cert.NsaCmpIdeal.main_v126)),
      θ_run (Cert.NsaCmpIdeal.defs (F := Ideal)) (onTc (τ := Cert.NsaCmpIdeal.τ) (Cert.NsaCmpIdeal.main (F := Ideal))) ⟨m, fun _ => 0, g⟩ (fun r => ∀ c : Dev Cert.NsaCmpIdeal.nD,
          r.2.mem ((c.tc : Thread Cert.NsaCmpIdeal.nD Cert.NsaCmpIdeal.τ).loc Cert.NsaCmpIdeal.main_v125) = v0 c
          ∧ r.2.mem ((c.tc : Thread Cert.NsaCmpIdeal.nD Cert.NsaCmpIdeal.τ).loc Cert.NsaCmpIdeal.main_v126) = v1 c
          ∧ r.2.mem ((c.tc : Thread Cert.NsaCmpIdeal.nD Cert.NsaCmpIdeal.τ).loc Cert.NsaCmpIdeal.main_arg0) = m ((c.tc : Thread Cert.NsaCmpIdeal.nD Cert.NsaCmpIdeal.τ).loc Cert.NsaCmpIdeal.main_arg0)
          ∧ r.2.mem ((c.tc : Thread Cert.NsaCmpIdeal.nD Cert.NsaCmpIdeal.τ).loc Cert.NsaCmpIdeal.main_arg1) = m ((c.tc : Thread Cert.NsaCmpIdeal.nD Cert.NsaCmpIdeal.τ).loc Cert.NsaCmpIdeal.main_arg1)
          ∧ r.2.mem ((c.tc : Thread Cert.NsaCmpIdeal.nD Cert.NsaCmpIdeal.τ).loc Cert.NsaCmpIdeal.main_arg2) = m ((c.tc : Thread Cert.NsaCmpIdeal.nD Cert.NsaCmpIdeal.τ).loc Cert.NsaCmpIdeal.main_arg2)
          ∧ r.2.mem ((c.tc : Thread Cert.NsaCmpIdeal.nD Cert.NsaCmpIdeal.τ).loc Cert.NsaCmpIdeal.main_arg3) = m ((c.tc : Thread Cert.NsaCmpIdeal.nD Cert.NsaCmpIdeal.τ).loc Cert.NsaCmpIdeal.main_arg3)
          ∧ r.2.mem ((c.tc : Thread Cert.NsaCmpIdeal.nD Cert.NsaCmpIdeal.τ).loc Cert.NsaCmpIdeal.main_arg4) = m ((c.tc : Thread Cert.NsaCmpIdeal.nD Cert.NsaCmpIdeal.τ).loc Cert.NsaCmpIdeal.main_arg4)
          ∧ r.2.mem ((c.tc : Thread Cert.NsaCmpIdeal.nD Cert.NsaCmpIdeal.τ).loc Cert.NsaCmpIdeal.main_arg5) = m ((c.tc : Thread Cert.NsaCmpIdeal.nD Cert.NsaCmpIdeal.τ).loc Cert.NsaCmpIdeal.main_arg5)
          ∧ r.2.mem ((c.tc : Thread Cert.NsaCmpIdeal.nD Cert.NsaCmpIdeal.τ).loc Cert.NsaCmpIdeal.main_arg6) = m ((c.tc : Thread Cert.NsaCmpIdeal.nD Cert.NsaCmpIdeal.τ).loc Cert.NsaCmpIdeal.main_arg6)
          ∧ r.2.mem ((c.tc : Thread Cert.NsaCmpIdeal.nD Cert.NsaCmpIdeal.τ).loc Cert.NsaCmpIdeal.main_arg7) = m ((c.tc : Thread Cert.NsaCmpIdeal.nD Cert.NsaCmpIdeal.τ).loc Cert.NsaCmpIdeal.main_arg7)
          ∧ r.2.mem ((c.tc : Thread Cert.NsaCmpIdeal.nD Cert.NsaCmpIdeal.τ).loc Cert.NsaCmpIdeal.main_arg8) = m ((c.tc : Thread Cert.NsaCmpIdeal.nD Cert.NsaCmpIdeal.τ).loc Cert.NsaCmpIdeal.main_arg8)
          ∧ r.2.mem ((c.tc : Thread Cert.NsaCmpIdeal.nD Cert.NsaCmpIdeal.τ).loc Cert.NsaCmpIdeal.main_arg9) = m ((c.tc : Thread Cert.NsaCmpIdeal.nD Cert.NsaCmpIdeal.τ).loc Cert.NsaCmpIdeal.main_arg9)
          ∧ r.2.mem ((c.tc : Thread Cert.NsaCmpIdeal.nD Cert.NsaCmpIdeal.τ).loc Cert.NsaCmpIdeal.main_arg10) = m ((c.tc : Thread Cert.NsaCmpIdeal.nD Cert.NsaCmpIdeal.τ).loc Cert.NsaCmpIdeal.main_arg10))
      ∧ θ_run (Cert.NsaCmpRefIdeal.defs (F := Ideal)) (onTc (τ := Cert.NsaCmpRefIdeal.τ) (Cert.NsaCmpRefIdeal.main (F := Ideal))) ⟨m', fun _ => 0, g'⟩ (fun r => ∀ c : Dev Cert.NsaCmpRefIdeal.nD,
          r.2.mem ((c.tc : Thread Cert.NsaCmpRefIdeal.nD Cert.NsaCmpRefIdeal.τ).loc Cert.NsaCmpRefIdeal.main_v83) = v0 c
          ∧ r.2.mem ((c.tc : Thread Cert.NsaCmpRefIdeal.nD Cert.NsaCmpRefIdeal.τ).loc Cert.NsaCmpRefIdeal.main_v86) = v1 c
          ∧ r.2.mem ((c.tc : Thread Cert.NsaCmpRefIdeal.nD Cert.NsaCmpRefIdeal.τ).loc Cert.NsaCmpRefIdeal.main_arg0) = m' ((c.tc : Thread Cert.NsaCmpRefIdeal.nD Cert.NsaCmpRefIdeal.τ).loc Cert.NsaCmpRefIdeal.main_arg0)
          ∧ r.2.mem ((c.tc : Thread Cert.NsaCmpRefIdeal.nD Cert.NsaCmpRefIdeal.τ).loc Cert.NsaCmpRefIdeal.main_arg1) = m' ((c.tc : Thread Cert.NsaCmpRefIdeal.nD Cert.NsaCmpRefIdeal.τ).loc Cert.NsaCmpRefIdeal.main_arg1)
          ∧ r.2.mem ((c.tc : Thread Cert.NsaCmpRefIdeal.nD Cert.NsaCmpRefIdeal.τ).loc Cert.NsaCmpRefIdeal.main_arg2) = m' ((c.tc : Thread Cert.NsaCmpRefIdeal.nD Cert.NsaCmpRefIdeal.τ).loc Cert.NsaCmpRefIdeal.main_arg2)
          ∧ r.2.mem ((c.tc : Thread Cert.NsaCmpRefIdeal.nD Cert.NsaCmpRefIdeal.τ).loc Cert.NsaCmpRefIdeal.main_arg3) = m' ((c.tc : Thread Cert.NsaCmpRefIdeal.nD Cert.NsaCmpRefIdeal.τ).loc Cert.NsaCmpRefIdeal.main_arg3)
          ∧ r.2.mem ((c.tc : Thread Cert.NsaCmpRefIdeal.nD Cert.NsaCmpRefIdeal.τ).loc Cert.NsaCmpRefIdeal.main_arg4) = m' ((c.tc : Thread Cert.NsaCmpRefIdeal.nD Cert.NsaCmpRefIdeal.τ).loc Cert.NsaCmpRefIdeal.main_arg4)
          ∧ r.2.mem ((c.tc : Thread Cert.NsaCmpRefIdeal.nD Cert.NsaCmpRefIdeal.τ).loc Cert.NsaCmpRefIdeal.main_arg5) = m' ((c.tc : Thread Cert.NsaCmpRefIdeal.nD Cert.NsaCmpRefIdeal.τ).loc Cert.NsaCmpRefIdeal.main_arg5)
          ∧ r.2.mem ((c.tc : Thread Cert.NsaCmpRefIdeal.nD Cert.NsaCmpRefIdeal.τ).loc Cert.NsaCmpRefIdeal.main_arg6) = m' ((c.tc : Thread Cert.NsaCmpRefIdeal.nD Cert.NsaCmpRefIdeal.τ).loc Cert.NsaCmpRefIdeal.main_arg6)
          ∧ r.2.mem ((c.tc : Thread Cert.NsaCmpRefIdeal.nD Cert.NsaCmpRefIdeal.τ).loc Cert.NsaCmpRefIdeal.main_arg7) = m' ((c.tc : Thread Cert.NsaCmpRefIdeal.nD Cert.NsaCmpRefIdeal.τ).loc Cert.NsaCmpRefIdeal.main_arg7)
          ∧ r.2.mem ((c.tc : Thread Cert.NsaCmpRefIdeal.nD Cert.NsaCmpRefIdeal.τ).loc Cert.NsaCmpRefIdeal.main_arg8) = m' ((c.tc : Thread Cert.NsaCmpRefIdeal.nD Cert.NsaCmpRefIdeal.τ).loc Cert.NsaCmpRefIdeal.main_arg8)
          ∧ r.2.mem ((c.tc : Thread Cert.NsaCmpRefIdeal.nD Cert.NsaCmpRefIdeal.τ).loc Cert.NsaCmpRefIdeal.main_arg9) = m' ((c.tc : Thread Cert.NsaCmpRefIdeal.nD Cert.NsaCmpRefIdeal.τ).loc Cert.NsaCmpRefIdeal.main_arg9)
          ∧ r.2.mem ((c.tc : Thread Cert.NsaCmpRefIdeal.nD Cert.NsaCmpRefIdeal.τ).loc Cert.NsaCmpRefIdeal.main_arg10) = m' ((c.tc : Thread Cert.NsaCmpRefIdeal.nD Cert.NsaCmpRefIdeal.τ).loc Cert.NsaCmpRefIdeal.main_arg10))

def preserves_Mlstm_MlstmIdeal : Prop :=
  True

def Claim : Prop :=
  ∃ (hMemKv : Cert.MemKv.Facts) (hMemKvIdeal : Cert.MemKvIdeal.Facts) (hMemKvRefIdeal : Cert.MemKvRefIdeal.Facts) (hProj : Cert.Proj.Facts) (hProjIdeal : Cert.ProjIdeal.Facts) (hProjRefIdeal : Cert.ProjRefIdeal.Facts) (hPost : Cert.Post.Facts) (hPostIdeal : Cert.PostIdeal.Facts) (hPostRefIdeal : Cert.PostRefIdeal.Facts) (hRouter : Cert.Router.Facts) (hRouterIdeal : Cert.RouterIdeal.Facts) (hRouterRefIdeal : Cert.RouterRefIdeal.Facts) (hFfn : Cert.Ffn.Facts) (hFfnIdeal : Cert.FfnIdeal.Facts) (hFfnRefIdeal : Cert.FfnRefIdeal.Facts) (hNsaPrep : Cert.NsaPrep.Facts) (hNsaPrepIdeal : Cert.NsaPrepIdeal.Facts) (hNsaPrepRefIdeal : Cert.NsaPrepRefIdeal.Facts) (hNsaCmp : Cert.NsaCmp.Facts) (hNsaCmpIdeal : Cert.NsaCmpIdeal.Facts) (hNsaCmpRefIdeal : Cert.NsaCmpRefIdeal.Facts) (hMlstm : Cert.Mlstm.Facts) (hMlstmIdeal : Cert.MlstmIdeal.Facts) (hPre_router_finite : Cert.Pre_router_finite.Facts) (hPre_experts_in_range : Cert.Pre_experts_in_range.Facts) (hPre_rows_finite : Cert.Pre_rows_finite.Facts) (hPre_keys_finite : Cert.Pre_keys_finite.Facts),
    quiescent_MemKv (hMemKv := hMemKv)
    ∧ quiescent_MemKvIdeal (hMemKvIdeal := hMemKvIdeal)
    ∧ quiescent_MemKvRefIdeal (hMemKvRefIdeal := hMemKvRefIdeal)
    ∧ quiescent_Proj (hProj := hProj)
    ∧ quiescent_ProjIdeal (hProjIdeal := hProjIdeal)
    ∧ quiescent_ProjRefIdeal (hProjRefIdeal := hProjRefIdeal)
    ∧ quiescent_Post (hPost := hPost)
    ∧ quiescent_PostIdeal (hPostIdeal := hPostIdeal)
    ∧ quiescent_PostRefIdeal (hPostRefIdeal := hPostRefIdeal)
    ∧ quiescent_Router (hRouter := hRouter)
    ∧ quiescent_RouterIdeal (hRouterIdeal := hRouterIdeal)
    ∧ quiescent_RouterIdeal_pre_router_finite (hRouterIdeal := hRouterIdeal) (hPre_router_finite := hPre_router_finite)
    ∧ quiescent_RouterRefIdeal (hRouterRefIdeal := hRouterRefIdeal)
    ∧ quiescent_RouterRefIdeal_pre_router_finite (hRouterRefIdeal := hRouterRefIdeal) (hPre_router_finite := hPre_router_finite)
    ∧ quiescent_Ffn (hFfn := hFfn) (hPre_experts_in_range := hPre_experts_in_range)
    ∧ quiescent_FfnIdeal (hFfnIdeal := hFfnIdeal) (hPre_experts_in_range := hPre_experts_in_range)
    ∧ quiescent_FfnRefIdeal (hFfnRefIdeal := hFfnRefIdeal)
    ∧ quiescent_FfnRefIdeal_pre_experts_in_range (hFfnRefIdeal := hFfnRefIdeal) (hPre_experts_in_range := hPre_experts_in_range)
    ∧ quiescent_NsaPrep (hNsaPrep := hNsaPrep)
    ∧ quiescent_NsaPrepIdeal (hNsaPrepIdeal := hNsaPrepIdeal)
    ∧ quiescent_NsaPrepIdeal_pre_rows_finite (hNsaPrepIdeal := hNsaPrepIdeal) (hPre_rows_finite := hPre_rows_finite)
    ∧ quiescent_NsaPrepRefIdeal (hNsaPrepRefIdeal := hNsaPrepRefIdeal)
    ∧ quiescent_NsaPrepRefIdeal_pre_rows_finite (hNsaPrepRefIdeal := hNsaPrepRefIdeal) (hPre_rows_finite := hPre_rows_finite)
    ∧ quiescent_NsaCmp (hNsaCmp := hNsaCmp)
    ∧ quiescent_NsaCmpIdeal (hNsaCmpIdeal := hNsaCmpIdeal)
    ∧ quiescent_NsaCmpIdeal_pre_keys_finite (hNsaCmpIdeal := hNsaCmpIdeal) (hPre_keys_finite := hPre_keys_finite)
    ∧ quiescent_NsaCmpRefIdeal (hNsaCmpRefIdeal := hNsaCmpRefIdeal)
    ∧ quiescent_NsaCmpRefIdeal_pre_keys_finite (hNsaCmpRefIdeal := hNsaCmpRefIdeal) (hPre_keys_finite := hPre_keys_finite)
    ∧ quiescent_Mlstm (hMlstm := hMlstm)
    ∧ quiescent_MlstmIdeal (hMlstmIdeal := hMlstmIdeal)
    ∧ preserves_MemKv_MemKvIdeal
    ∧ algebraic_MemKvIdeal_MemKvRefIdeal (hMemKvIdeal := hMemKvIdeal) (hMemKvRefIdeal := hMemKvRefIdeal)
    ∧ preserves_Proj_ProjIdeal
    ∧ algebraic_ProjIdeal_ProjRefIdeal (hProjIdeal := hProjIdeal) (hProjRefIdeal := hProjRefIdeal)
    ∧ preserves_Post_PostIdeal
    ∧ algebraic_PostIdeal_PostRefIdeal (hPostIdeal := hPostIdeal) (hPostRefIdeal := hPostRefIdeal)
    ∧ preserves_Router_RouterIdeal
    ∧ algebraic_RouterIdeal_RouterRefIdeal_pre_router_finite (hRouterIdeal := hRouterIdeal) (hRouterRefIdeal := hRouterRefIdeal) (hPre_router_finite := hPre_router_finite)
    ∧ preserves_Ffn_FfnIdeal
    ∧ algebraic_FfnIdeal_FfnRefIdeal (hFfnIdeal := hFfnIdeal) (hFfnRefIdeal := hFfnRefIdeal) (hPre_experts_in_range := hPre_experts_in_range)
    ∧ preserves_NsaPrep_NsaPrepIdeal
    ∧ algebraic_NsaPrepIdeal_NsaPrepRefIdeal_pre_rows_finite (hNsaPrepIdeal := hNsaPrepIdeal) (hNsaPrepRefIdeal := hNsaPrepRefIdeal) (hPre_rows_finite := hPre_rows_finite)
    ∧ preserves_NsaCmp_NsaCmpIdeal
    ∧ algebraic_NsaCmpIdeal_NsaCmpRefIdeal_pre_keys_finite (hNsaCmpIdeal := hNsaCmpIdeal) (hNsaCmpRefIdeal := hNsaCmpRefIdeal) (hPre_keys_finite := hPre_keys_finite)
    ∧ preserves_Mlstm_MlstmIdeal
-- ==== Pre_experts_in_range.lean ====
abbrev S139264x1024 : Shape := ⟨2, ![139264, 1024]⟩
abbrev S544 : Shape := ⟨1, ![544]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S544 : S_.BroadcastsInDim S544 (![] : Fin 0 → Fin S544.rank)

variable [Facts]

def fn {F : FTy → Type} [FloatOps F] (main_arg0 : FVec F S139264x1024 .f32) (main_arg1 : IVec S544 32) (main_arg2 : IVec S1 32) (main_arg3 : FVec F S32x1024x2048 .f32) (main_arg4 : FVec F S32x2048 .f32) (main_arg5 : FVec F S32x1024x1024 .f32) (main_arg6 : FVec F S32x1024 .f32) : IVec S544 1 :=
  let main_c : IVec S_ 32 := constantI S_ 32 0#32
  let main_v0 : IVec S544 32 := broadcastInDim S544 ![] bcast_S_S544 main_c
  let main_v1 : IVec S544 1 := cmpi .sge main_arg1 main_v0
  let main_c_0 : IVec S_ 32 := constantI S_ 32 32#32
  let main_v2 : IVec S544 32 := broadcastInDim S544 ![] bcast_S_S544 main_c_0
  let main_v3 : IVec S544 1 := cmpi .slt main_arg1 main_v2
  let main_v4 : IVec S544 1 := andi main_v1 main_v3
  main_v4
-- ==== Pre_keys_finite.lean ====
abbrev S16x2048x128 : Shape := ⟨3, ![16, 2048, 128]⟩
abbrev S3x64 : Shape := ⟨2, ![3, 64]⟩
abbrev S32x64 : Shape := ⟨2, ![32, 64]⟩
abbrev S32x64x256 : Shape := ⟨3, ![32, 64, 256]⟩
abbrev S256 : Shape := ⟨1, ![256]⟩
abbrev S256x64 : Shape := ⟨2, ![256, 64]⟩
abbrev S16x128x16x2x64 : Shape := ⟨5, ![16, 128, 16, 2, 64]⟩
abbrev S16x127x16x2x64 : Shape := ⟨5, ![16, 127, 16, 2, 64]⟩
abbrev S16x127x32x2x64 : Shape := ⟨5, ![16, 127, 32, 2, 64]⟩
abbrev S1x1x32x1x64 : Shape := ⟨5, ![1, 1, 32, 1, 64]⟩
abbrev S16x127x2x256 : Shape := ⟨4, ![16, 127, 2, 256]⟩
abbrev S1x1x1x256 : Shape := ⟨4, ![1, 1, 1, 256]⟩
abbrev S_ : Shape := ⟨0, ![]⟩
abbrev S16x127x2x64 : Shape := ⟨4, ![16, 127, 2, 64]⟩

class Facts : Prop where
  shapeCasts_S16x2048x128_S16x128x16x2x64 : S16x2048x128.ShapeCasts S16x128x16x2x64
  slices_S16x128x16x2x64_S16x127x16x2x64_0_0_0_0_0 : S16x128x16x2x64.Slices ![0, 0, 0, 0, 0] S16x127x16x2x64
  slices_S16x128x16x2x64_S16x127x16x2x64_0_1_0_0_0 : S16x128x16x2x64.Slices ![0, 1, 0, 0, 0] S16x127x16x2x64
  concatenates_S16x127x16x2x64_S16x127x16x2x64_S16x127x32x2x64_d2 : Shape.Concatenates [S16x127x16x2x64, S16x127x16x2x64] S16x127x32x2x64 2
  bcast_S32x64_S1x1x32x1x64_2_4 : S32x64.BroadcastsInDim S1x1x32x1x64 (![2, 4] : Fin 2 → Fin S1x1x32x1x64.rank)
  bcast_S1x1x32x1x64_S16x127x32x2x64_0_1_2_3_4 : S1x1x32x1x64.BroadcastsInDim S16x127x32x2x64 (![0, 1, 2, 3, 4] : Fin 5 → Fin S16x127x32x2x64.rank)
  bcast_S256_S1x1x1x256_3 : S256.BroadcastsInDim S1x1x1x256 (![3] : Fin 1 → Fin S1x1x1x256.rank)
  bcast_S1x1x1x256_S16x127x2x256_0_1_2_3 : S1x1x1x256.BroadcastsInDim S16x127x2x256 (![0, 1, 2, 3] : Fin 4 → Fin S16x127x2x256.rank)
  bcast_S_S16x127x2x256 : S_.BroadcastsInDim S16x127x2x256 (![] : Fin 0 → Fin S16x127x2x256.rank)
  bcast_S_S16x127x2x64 : S_.BroadcastsInDim S16x127x2x64 (![] : Fin 0 → Fin S16x127x2x64.rank)
  dot_S16x127x32x2x64_S32x64x256_S16x127x2x256_42_10_013_2_n_n_wf : DotDims.WF S16x127x32x2x64 S32x64x256 S16x127x2x256 [4, 2] [1, 0] [0, 1, 3] [2] [] []
  dot_S16x127x2x256_S256x64_S16x127x2x64_3_0_012_1_n_n_wf : DotDims.WF S16x127x2x256 S256x64 S16x127x2x64 [3] [0] [0, 1, 2] [1] [] []

variable [Facts]

def dot_S16x127x32x2x64_S32x64x256_S16x127x2x256_42_10_013_2_n_n : DotDims S16x127x32x2x64 S32x64x256 S16x127x2x256 where
  lhsContracting := [4, 2]
  rhsContracting := [1, 0]
  lhsNonContracting := [0, 1, 3]
  rhsNonContracting := [2]
  lhsBatch := []
  rhsBatch := []
  wf := dot_S16x127x32x2x64_S32x64x256_S16x127x2x256_42_10_013_2_n_n_wf
def dot_S16x127x2x256_S256x64_S16x127x2x64_3_0_012_1_n_n : DotDims S16x127x2x256 S256x64 S16x127x2x64 where
  lhsContracting := [3]
  rhsContracting := [0]
  lhsNonContracting := [0, 1, 2]
  rhsNonContracting := [1]
  lhsBatch := []
  rhsBatch := []
  wf := dot_S16x127x2x256_S256x64_S16x127x2x64_3_0_012_1_n_n_wf
def fn_silu {F : FTy → Type} [FloatOps F] (arg0 : FVec F S16x127x2x256 .f32) : FVec F S16x127x2x256 .f32 :=
  let v0 : FVec F S16x127x2x256 .f32 := Host.negf arg0
  let v1 : FVec F S16x127x2x256 .f32 := Host.exp v0
  let cst : FVec F S_ .f32 := constant S_ .f32 0x3F800000#32
  let v2 : FVec F S16x127x2x256 .f32 := broadcastInDim S16x127x2x256 ![] bcast_S_S16x127x2x256 cst
  let v3 : FVec F S16x127x2x256 .f32 := addf v2 v1
  let cst_0 : FVec F S_ .f32 := constant S_ .f32 0x3F800000#32
  let v4 : FVec F S16x127x2x256 .f32 := broadcastInDim S16x127x2x256 ![] bcast_S_S16x127x2x256 cst_0
  let v5 : FVec F S16x127x2x256 .f32 := Host.divf v4 v3
  let v6 : FVec F S16x127x2x256 .f32 := mulf arg0 v5
  v6

def fn {F : FTy → Type} [FloatOps F] (main_arg0 : FVec F S16x2048x128 .f32) (main_arg1 : FVec F S16x2048x128 .f32) (main_arg2 : FVec F S3x64 .f32) (main_arg3 : FVec F S32x64 .f32) (main_arg4 : FVec F S32x64x256 .f32) (main_arg5 : FVec F S256 .f32) (main_arg6 : FVec F S256x64 .f32) (main_arg7 : FVec F S32x64 .f32) (main_arg8 : FVec F S32x64x256 .f32) (main_arg9 : FVec F S256 .f32) (main_arg10 : FVec F S256x64 .f32) : IVec S16x127x2x64 1 :=
  let main_v0 : FVec F S16x128x16x2x64 .f32 := shapeCast S16x128x16x2x64 main_arg0 shapeCasts_S16x2048x128_S16x128x16x2x64
  let main_v1 : FVec F S16x127x16x2x64 .f32 := (extractStridedSlice S16x127x16x2x64 ![0, 0, 0, 0, 0] · slices_S16x128x16x2x64_S16x127x16x2x64_0_0_0_0_0) main_v0
  let main_v2 : FVec F S16x127x16x2x64 .f32 := (extractStridedSlice S16x127x16x2x64 ![0, 1, 0, 0, 0] · slices_S16x128x16x2x64_S16x127x16x2x64_0_1_0_0_0) main_v0
  let main_v3 : FVec F S16x127x32x2x64 .f32 := (fun a b => concatenate S16x127x32x2x64 2 [⟨S16x127x16x2x64, a⟩, ⟨S16x127x16x2x64, b⟩] concatenates_S16x127x16x2x64_S16x127x16x2x64_S16x127x32x2x64_d2) main_v1 main_v2
  let main_v4 : FVec F S1x1x32x1x64 .f32 := broadcastInDim S1x1x32x1x64 ![2, 4] bcast_S32x64_S1x1x32x1x64_2_4 main_arg3
  let main_v5 : FVec F S16x127x32x2x64 .f32 := broadcastInDim S16x127x32x2x64 ![0, 1, 2, 3, 4] bcast_S1x1x32x1x64_S16x127x32x2x64_0_1_2_3_4 main_v4
  let main_v6 : FVec F S16x127x32x2x64 .f32 := addf main_v3 main_v5
  let main_v7 : FVec F S16x127x2x256 .f32 := (fun l r => Host.dotGeneral dot_S16x127x32x2x64_S32x64x256_S16x127x2x256_42_10_013_2_n_n none l r) main_v6 main_arg4
  let main_v8 : FVec F S1x1x1x256 .f32 := broadcastInDim S1x1x1x256 ![3] bcast_S256_S1x1x1x256_3 main_arg5
  let main_v9 : FVec F S16x127x2x256 .f32 := broadcastInDim S16x127x2x256 ![0, 1, 2, 3] bcast_S1x1x1x256_S16x127x2x256_0_1_2_3 main_v8
  let main_v10 : FVec F S16x127x2x256 .f32 := addf main_v7 main_v9
  let main_v11 : FVec F S16x127x2x256 .f32 := fn_silu (F := F) main_v10
  let main_v12 : FVec F S16x127x2x64 .f32 := (fun l r => Host.dotGeneral dot_S16x127x2x256_S256x64_S16x127x2x64_3_0_012_1_n_n none l r) main_v11 main_arg6
  let main_v13 : FVec F S16x127x2x64 .f32 := Host.absf main_v12
  let main_cst : FVec F S_ .f32 := constant S_ .f32 0x7F800000#32
  let main_v14 : FVec F S16x127x2x64 .f32 := broadcastInDim S16x127x2x64 ![] bcast_S_S16x127x2x64 main_cst
  let main_v15 : IVec S16x127x2x64 1 := cmpf .olt main_v13 main_v14
  main_v15
-- ==== Pre_router_finite.lean ====
abbrev S32768x1024 : Shape := ⟨2, ![32768, 1024]⟩
abbrev S32768x512 : Shape := ⟨2, ![32768, 512]⟩
abbrev S16x256x512 : Shape := ⟨3, ![16, 256, 512]⟩
abbrev S1024x6944 : Shape := ⟨2, ![1024, 6944]⟩
abbrev S1024 : Shape := ⟨1, ![1024]⟩
abbrev S128 : Shape := ⟨1, ![128]⟩
abbrev S512x1024 : Shape := ⟨2, ![512, 1024]⟩
abbrev S1024x1024 : Shape := ⟨2, ![1024, 1024]⟩
abbrev S1024x32 : Shape := ⟨2, ![1024, 32]⟩
abbrev S32 : Shape := ⟨1, ![32]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x512 : Shape := ⟨2, ![1024, 512]⟩
abbrev S16x2048x512 : Shape := ⟨3, ![16, 2048, 512]⟩
abbrev S1024x3072 : Shape := ⟨2, ![1024, 3072]⟩
abbrev S16x2048x3072 : Shape := ⟨3, ![16, 2048, 3072]⟩
abbrev S16x256x4x128 : Shape := ⟨4, ![16, 256, 4, 128]⟩
abbrev S16x2048x4x128 : Shape := ⟨4, ![16, 2048, 4, 128]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S16x2048x3x1024 : Shape := ⟨4, ![16, 2048, 3, 1024]⟩
abbrev S16x2048x1x1024 : Shape := ⟨4, ![16, 2048, 1, 1024]⟩
abbrev S32x1024 : Shape := ⟨2, ![32, 1024]⟩
abbrev S32800x1024 : Shape := ⟨2, ![32800, 1024]⟩

class Facts : Prop where
  shapeCasts_S32768x1024_S16x2048x1024 : S32768x1024.ShapeCasts S16x2048x1024
  reducesTo_S16x2048x1024_S16x2048_d2 : S16x2048x1024.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x1024_0_1_2 : S16x2048x1.BroadcastsInDim S16x2048x1024 (![0, 1, 2] : Fin 3 → Fin S16x2048x1024.rank)
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  slices_S1024x6944_S1024x512_0_3360 : S1024x6944.Slices ![0, 3360] S1024x512
  slices_S1024x6944_S1024x3072_0_3872 : S1024x6944.Slices ![0, 3872] S1024x3072
  bitsLt_bf16_f32 : FTy.bits .bf16 < FTy.bits .f32
  shapeCasts_S16x256x512_S16x256x4x128 : S16x256x512.ShapeCasts S16x256x4x128
  shapeCasts_S16x2048x512_S16x2048x4x128 : S16x2048x512.ShapeCasts S16x2048x4x128
  reducesTo_S16x2048x4x128_S16x2048x4_d3 : S16x2048x4x128.ReducesTo [3] S16x2048x4
  bcast_S16x2048x4_S16x2048x4x1_0_1_2 : S16x2048x4.BroadcastsInDim S16x2048x4x1 (![0, 1, 2] : Fin 3 → Fin S16x2048x4x1.rank)
  bcast_S_S16x2048x4x1 : S_.BroadcastsInDim S16x2048x4x1 (![] : Fin 0 → Fin S16x2048x4x1.rank)
  bcast_S16x2048x4x1_S16x2048x4x128_0_1_2_3 : S16x2048x4x1.BroadcastsInDim S16x2048x4x128 (![0, 1, 2, 3] : Fin 4 → Fin S16x2048x4x128.rank)
  bcast_S128_S1x1x1x128_3 : S128.BroadcastsInDim S1x1x1x128 (![3] : Fin 1 → Fin S1x1x1x128.rank)
  bcast_S1x1x1x128_S16x2048x4x128_0_1_2_3 : S1x1x1x128.BroadcastsInDim S16x2048x4x128 (![0, 1, 2, 3] : Fin 4 → Fin S16x2048x4x128.rank)
  bcast_S_S16x2048x4x128 : S_.BroadcastsInDim S16x2048x4x128 (![] : Fin 0 → Fin S16x2048x4x128.rank)
  reducesTo_S16x4x2048x256_S16x4x2048_d3 : S16x4x2048x256.ReducesTo [3] S16x4x2048
  bcast_S_S16x4x2048 : S_.BroadcastsInDim S16x4x2048 (![] : Fin 0 → Fin S16x4x2048.rank)
  bcast_S16x4x2048_S16x4x2048x1_0_1_2 : S16x4x2048.BroadcastsInDim S16x4x2048x1 (![0, 1, 2] : Fin 3 → Fin S16x4x2048x1.rank)
  bcast_S16x4x2048x1_S16x4x2048x256_0_1_2_3 : S16x4x2048x1.BroadcastsInDim S16x4x2048x256 (![0, 1, 2, 3] : Fin 4 → Fin S16x4x2048x256.rank)
  transposes_S16x4x128x2048_S16x2048x4x128_0_3_1_2 : S16x4x128x2048.Transposes [0, 3, 1, 2] S16x2048x4x128
  shapeCasts_S16x2048x4x128_S16x2048x512 : S16x2048x4x128.ShapeCasts S16x2048x512
  shapeCasts_S32768x512_S16x2048x512 : S32768x512.ShapeCasts S16x2048x512
  shapeCasts_S16x2048x3072_S16x2048x3x1024 : S16x2048x3072.ShapeCasts S16x2048x3x1024
  bcast_S_S16x2048x3x1024 : S_.BroadcastsInDim S16x2048x3x1024 (![] : Fin 0 → Fin S16x2048x3x1024.rank)
  slices_S16x2048x3x1024_S16x2048x1x1024_0_0_0_0 : S16x2048x3x1024.Slices ![0, 0, 0, 0] S16x2048x1x1024
  shapeCasts_S16x2048x1x1024_S16x2048x1024 : S16x2048x1x1024.ShapeCasts S16x2048x1024
  slices_S16x2048x3x1024_S16x2048x1x1024_0_0_1_0 : S16x2048x3x1024.Slices ![0, 0, 1, 0] S16x2048x1x1024
  slices_S16x2048x3x1024_S16x2048x1x1024_0_0_2_0 : S16x2048x3x1024.Slices ![0, 0, 2, 0] S16x2048x1x1024
  shapeCasts_S16x2048x1024_S32768x1024 : S16x2048x1024.ShapeCasts S32768x1024
  transposes_S1024x32_S32x1024_1_0 : S1024x32.Transposes [1, 0] S32x1024
  concatenates_S32768x1024_S32x1024_S32800x1024_d0 : Shape.Concatenates [S32768x1024, S32x1024] S32800x1024 0
  bcast_S_S32800x1024 : S_.BroadcastsInDim S32800x1024 (![] : Fin 0 → Fin S32800x1024.rank)
  dot_S16x2048x1024_S1024x512_S16x2048x512_2_0_01_1_n_n_wf : DotDims.WF S16x2048x1024 S1024x512 S16x2048x512 [2] [0] [0, 1] [1] [] []
  dot_S16x2048x1024_S1024x3072_S16x2048x3072_2_0_01_1_n_n_wf : DotDims.WF S16x2048x1024 S1024x3072 S16x2048x3072 [2] [0] [0, 1] [1] [] []
  dot_S16x2048x4x128_S16x256x4x128_S16x4x2048x256_3_3_1_1_02_02_wf : DotDims.WF S16x2048x4x128 S16x256x4x128 S16x4x2048x256 [3] [3] [1] [1] [0, 2] [0, 2]
  dot_S16x256x4x128_S16x4x2048x256_S16x4x128x2048_1_3_3_2_02_01_wf : DotDims.WF S16x256x4x128 S16x4x2048x256 S16x4x128x2048 [1] [3] [3] [2] [0, 2] [0, 1]
  dot_S16x2048x512_S512x1024_S16x2048x1024_2_0_01_1_n_n_wf : DotDims.WF S16x2048x512 S512x1024 S16x2048x1024 [2] [0] [0, 1] [1] [] []
  dot_S16x2048x1024_S1024x1024_S16x2048x1024_2_0_01_1_n_n_wf : DotDims.WF S16x2048x1024 S1024x1024 S16x2048x1024 [2] [0] [0, 1] [1] [] []

variable [Facts]

def dot_S16x2048x1024_S1024x512_S16x2048x512_2_0_01_1_n_n : DotDims S16x2048x1024 S1024x512 S16x2048x512 where
  lhsContracting := [2]
  rhsContracting := [0]
  lhsNonContracting := [0, 1]
  rhsNonContracting := [1]
  lhsBatch := []
  rhsBatch := []
  wf := dot_S16x2048x1024_S1024x512_S16x2048x512_2_0_01_1_n_n_wf
def dot_S16x2048x1024_S1024x3072_S16x2048x3072_2_0_01_1_n_n : DotDims S16x2048x1024 S1024x3072 S16x2048x3072 where
  lhsContracting := [2]
  rhsContracting := [0]
  lhsNonContracting := [0, 1]
  rhsNonContracting := [1]
  lhsBatch := []
  rhsBatch := []
  wf := dot_S16x2048x1024_S1024x3072_S16x2048x3072_2_0_01_1_n_n_wf
def dot_S16x2048x4x128_S16x256x4x128_S16x4x2048x256_3_3_1_1_02_02 : DotDims S16x2048x4x128 S16x256x4x128 S16x4x2048x256 where
  lhsContracting := [3]
  rhsContracting := [3]
  lhsNonContracting := [1]
  rhsNonContracting := [1]
  lhsBatch := [0, 2]
  rhsBatch := [0, 2]
  wf := dot_S16x2048x4x128_S16x256x4x128_S16x4x2048x256_3_3_1_1_02_02_wf
def dot_S16x256x4x128_S16x4x2048x256_S16x4x128x2048_1_3_3_2_02_01 : DotDims S16x256x4x128 S16x4x2048x256 S16x4x128x2048 where
  lhsContracting := [1]
  rhsContracting := [3]
  lhsNonContracting := [3]
  rhsNonContracting := [2]
  lhsBatch := [0, 2]
  rhsBatch := [0, 1]
  wf := dot_S16x256x4x128_S16x4x2048x256_S16x4x128x2048_1_3_3_2_02_01_wf
def dot_S16x2048x512_S512x1024_S16x2048x1024_2_0_01_1_n_n : DotDims S16x2048x512 S512x1024 S16x2048x1024 where
  lhsContracting := [2]
  rhsContracting := [0]
  lhsNonContracting := [0, 1]
  rhsNonContracting := [1]
  lhsBatch := []
  rhsBatch := []
  wf := dot_S16x2048x512_S512x1024_S16x2048x1024_2_0_01_1_n_n_wf
def dot_S16x2048x1024_S1024x1024_S16x2048x1024_2_0_01_1_n_n : DotDims S16x2048x1024 S1024x1024 S16x2048x1024 where
  lhsContracting := [2]
  rhsContracting := [0]
  lhsNonContracting := [0, 1]
  rhsNonContracting := [1]
  lhsBatch := []
  rhsBatch := []
  wf := dot_S16x2048x1024_S1024x1024_S16x2048x1024_2_0_01_1_n_n_wf
def fn_part4 {F : FTy → Type} [FloatOps F] (main_arg12 : FVec F S1024 .f32) (main_arg13 : FVec F S1024x32 .f32) (main_v79 : FVec F S16x2048x1024 .f32) (main_v82 : FVec F S16x2048x1 .f32) : IVec S32800x1024 1 :=
  let main_cst_12 : FVec F S_ .f32 := constant S_ .f32 0x44800000#32
  let main_v83 : FVec F S16x2048x1 .f32 := broadcastInDim S16x2048x1 ![] bcast_S_S16x2048x1 main_cst_12
  let main_v84 : FVec F S16x2048x1 .f32 := Host.divf main_v82 main_v83
  let main_cst_13 : FVec F S_ .f32 := constant S_ .f32 0x358637BD#32
  let main_v85 : FVec F S16x2048x1 .f32 := broadcastInDim S16x2048x1 ![] bcast_S_S16x2048x1 main_cst_13
  let main_v86 : FVec F S16x2048x1 .f32 := addf main_v84 main_v85
  let main_v87 : FVec F S16x2048x1 .f32 := Host.rsqrt main_v86
  let main_v88 : FVec F S16x2048x1024 .f32 := broadcastInDim S16x2048x1024 ![0, 1, 2] bcast_S16x2048x1_S16x2048x1024_0_1_2 main_v87
  let main_v89 : FVec F S16x2048x1024 .f32 := mulf main_v79 main_v88
  let main_v90 : FVec F S1x1x1024 .f32 := broadcastInDim S1x1x1024 ![2] bcast_S1024_S1x1x1024_2 main_arg12
  let main_v91 : FVec F S16x2048x1024 .f32 := broadcastInDim S16x2048x1024 ![0, 1, 2] bcast_S1x1x1024_S16x2048x1024_0_1_2 main_v90
  let main_v92 : FVec F S16x2048x1024 .f32 := mulf main_v89 main_v91
  let main_v93 : FVec F S32768x1024 .f32 := shapeCast S32768x1024 main_v79 shapeCasts_S16x2048x1024_S32768x1024
  let main_v94 : FVec F S32768x1024 .f32 := shapeCast S32768x1024 main_v92 shapeCasts_S16x2048x1024_S32768x1024
  let main_v95 : FVec F S32x1024 .f32 := (transpose S32x1024 [1, 0] · transposes_S1024x32_S32x1024_1_0) main_arg13
  let main_v96 : FVec F S32800x1024 .f32 := (fun a b => concatenate S32800x1024 0 [⟨S32768x1024, a⟩, ⟨S32x1024, b⟩] concatenates_S32768x1024_S32x1024_S32800x1024_d0) main_v94 main_v95
  let main_v97 : FVec F S32800x1024 .f32 := Host.absf main_v96
  let main_cst_14 : FVec F S_ .f32 := constant S_ .f32 0x7F800000#32
  let main_v98 : FVec F S32800x1024 .f32 := broadcastInDim S32800x1024 ![] bcast_S_S32800x1024 main_cst_14
  let main_v99 : IVec S32800x1024 1 := cmpf .olt main_v97 main_v98
  main_v99

def fn_part3 {F : FTy → Type} [FloatOps F] (main_arg8 : FVec F S512x1024 .f32) (main_arg9 : FVec F S512x1024 .f32) (main_arg10 : FVec F S512x1024 .f32) (main_arg11 : FVec F S1024x1024 .f32) (main_arg12 : FVec F S1024 .f32) (main_arg13 : FVec F S1024x32 .f32) (main_v0 : FVec F S16x2048x1024 .f32) (main_v52 : FVec F S16x2048x512 .f32) (main_v54 : FVec F S16x2048x512 .f32) (main_v56 : FVec F S16x2048x512 .f32) (main_v59 : FVec F S16x2048x3x1024 .f32) (main_v60 : FVec F S16x2048x3x1024 .f32) : IVec S32800x1024 1 :=
  let main_v61 : FVec F S16x2048x3x1024 .f32 := addf main_v60 main_v59
  let main_cst_10 : FVec F S_ .f32 := constant S_ .f32 0x3F800000#32
  let main_v62 : FVec F S16x2048x3x1024 .f32 := broadcastInDim S16x2048x3x1024 ![] bcast_S_S16x2048x3x1024 main_cst_10
  let main_v63 : FVec F S16x2048x3x1024 .f32 := Host.divf main_v62 main_v61
  let main_v64 : FVec F S16x2048x1x1024 .f32 := (extractStridedSlice S16x2048x1x1024 ![0, 0, 0, 0] · slices_S16x2048x3x1024_S16x2048x1x1024_0_0_0_0) main_v63
  let main_v65 : FVec F S16x2048x1024 .f32 := shapeCast S16x2048x1024 main_v64 shapeCasts_S16x2048x1x1024_S16x2048x1024
  let main_v66 : FVec F S16x2048x1024 .f32 := (fun l r => Host.dotGeneral dot_S16x2048x512_S512x1024_S16x2048x1024_2_0_01_1_n_n none l r) main_v54 main_arg8
  let main_v67 : FVec F S16x2048x1024 .f32 := mulf main_v65 main_v66
  let main_v68 : FVec F S16x2048x1x1024 .f32 := (extractStridedSlice S16x2048x1x1024 ![0, 0, 1, 0] · slices_S16x2048x3x1024_S16x2048x1x1024_0_0_1_0) main_v63
  let main_v69 : FVec F S16x2048x1024 .f32 := shapeCast S16x2048x1024 main_v68 shapeCasts_S16x2048x1x1024_S16x2048x1024
  let main_v70 : FVec F S16x2048x1024 .f32 := (fun l r => Host.dotGeneral dot_S16x2048x512_S512x1024_S16x2048x1024_2_0_01_1_n_n none l r) main_v56 main_arg9
  let main_v71 : FVec F S16x2048x1024 .f32 := mulf main_v69 main_v70
  let main_v72 : FVec F S16x2048x1024 .f32 := addf main_v67 main_v71
  let main_v73 : FVec F S16x2048x1x1024 .f32 := (extractStridedSlice S16x2048x1x1024 ![0, 0, 2, 0] · slices_S16x2048x3x1024_S16x2048x1x1024_0_0_2_0) main_v63
  let main_v74 : FVec F S16x2048x1024 .f32 := shapeCast S16x2048x1024 main_v73 shapeCasts_S16x2048x1x1024_S16x2048x1024
  let main_v75 : FVec F S16x2048x1024 .f32 := (fun l r => Host.dotGeneral dot_S16x2048x512_S512x1024_S16x2048x1024_2_0_01_1_n_n none l r) main_v52 main_arg10
  let main_v76 : FVec F S16x2048x1024 .f32 := mulf main_v74 main_v75
  let main_v77 : FVec F S16x2048x1024 .f32 := addf main_v72 main_v76
  let main_v78 : FVec F S16x2048x1024 .f32 := (fun l r => Host.dotGeneral dot_S16x2048x1024_S1024x1024_S16x2048x1024_2_0_01_1_n_n none l r) main_v77 main_arg11
  let main_v79 : FVec F S16x2048x1024 .f32 := addf main_v0 main_v78
  let main_v80 : FVec F S16x2048x1024 .f32 := mulf main_v79 main_v79
  let main_cst_11 : FVec F S_ .f32 := constant S_ .f32 0x00000000#32
  let main_v81 : FVec F S16x2048 .f32 := (fun x v => Host.reduceAdd x v reducesTo_S16x2048x1024_S16x2048_d2 h_S_) main_v80 main_cst_11
  let main_v82 : FVec F S16x2048x1 .f32 := broadcastInDim S16x2048x1 ![0, 1] bcast_S16x2048_S16x2048x1_0_1 main_v81
  fn_part4 (F := F) main_arg12 main_arg13 main_v79 main_v82

def fn_part2 {F : FTy → Type} [FloatOps F] (main_arg1 : FVec F S32768x512 .bf16) (main_arg2 : FVec F S32768x512 .bf16) (main_arg8 : FVec F S512x1024 .f32) (main_arg9 : FVec F S512x1024 .f32) (main_arg10 : FVec F S512x1024 .f32) (main_arg11 : FVec F S1024x1024 .f32) (main_arg12 : FVec F S1024 .f32) (main_arg13 : FVec F S1024x32 .f32) (main_v0 : FVec F S16x2048x1024 .f32) (main_v17 : FVec F S16x2048x3072 .f32) (main_v21 : FVec F S16x256x4x128 .f32) (main_v38 : FVec F S16x4x2048x256 .f32) (main_v39 : FVec F S16x4x2048 .f32) : IVec S32800x1024 1 :=
  let main_cst_7 : FVec F S_ .f32 := constant S_ .f32 0xFF800000#32
  let main_v40 : FVec F S16x4x2048 .f32 := broadcastInDim S16x4x2048 ![] bcast_S_S16x4x2048 main_cst_7
  let main_v41 : FVec F S16x4x2048 .f32 := maximumf main_v40 main_v39
  let main_v42 : FVec F S16x4x2048x1 .f32 := broadcastInDim S16x4x2048x1 ![0, 1, 2] bcast_S16x4x2048_S16x4x2048x1_0_1_2 main_v41
  let main_v43 : FVec F S16x4x2048x256 .f32 := broadcastInDim S16x4x2048x256 ![0, 1, 2, 3] bcast_S16x4x2048x1_S16x4x2048x256_0_1_2_3 main_v42
  let main_v44 : FVec F S16x4x2048x256 .f32 := subf main_v38 main_v43
  let main_v45 : FVec F S16x4x2048x256 .f32 := Host.exp main_v44
  let main_cst_8 : FVec F S_ .f32 := constant S_ .f32 0x00000000#32
  let main_v46 : FVec F S16x4x2048 .f32 := (fun x v => Host.reduceAdd x v reducesTo_S16x4x2048x256_S16x4x2048_d3 h_S_) main_v45 main_cst_8
  let main_v47 : FVec F S16x4x2048x1 .f32 := broadcastInDim S16x4x2048x1 ![0, 1, 2] bcast_S16x4x2048_S16x4x2048x1_0_1_2 main_v46
  let main_v48 : FVec F S16x4x2048x256 .f32 := broadcastInDim S16x4x2048x256 ![0, 1, 2, 3] bcast_S16x4x2048x1_S16x4x2048x256_0_1_2_3 main_v47
  let main_v49 : FVec F S16x4x2048x256 .f32 := Host.divf main_v45 main_v48
  let main_v50 : FVec F S16x4x128x2048 .f32 := (fun l r => Host.dotGeneral dot_S16x256x4x128_S16x4x2048x256_S16x4x128x2048_1_3_3_2_02_01 none l r) main_v21 main_v49
  let main_v51 : FVec F S16x2048x4x128 .f32 := (transpose S16x2048x4x128 [0, 3, 1, 2] · transposes_S16x4x128x2048_S16x2048x4x128_0_3_1_2) main_v50
  let main_v52 : FVec F S16x2048x512 .f32 := shapeCast S16x2048x512 main_v51 shapeCasts_S16x2048x4x128_S16x2048x512
  let main_v53 : FVec F S32768x512 .f32 := (extf .f32 · bitsLt_bf16_f32) main_arg1
  let main_v54 : FVec F S16x2048x512 .f32 := shapeCast S16x2048x512 main_v53 shapeCasts_S32768x512_S16x2048x512
  let main_v55 : FVec F S32768x512 .f32 := (extf .f32 · bitsLt_bf16_f32) main_arg2
  let main_v56 : FVec F S16x2048x512 .f32 := shapeCast S16x2048x512 main_v55 shapeCasts_S32768x512_S16x2048x512
  let main_v57 : FVec F S16x2048x3x1024 .f32 := shapeCast S16x2048x3x1024 main_v17 shapeCasts_S16x2048x3072_S16x2048x3x1024
  let main_v58 : FVec F S16x2048x3x1024 .f32 := Host.negf main_v57
  let main_v59 : FVec F S16x2048x3x1024 .f32 := Host.exp main_v58
  let main_cst_9 : FVec F S_ .f32 := constant S_ .f32 0x3F800000#32
  let main_v60 : FVec F S16x2048x3x1024 .f32 := broadcastInDim S16x2048x3x1024 ![] bcast_S_S16x2048x3x1024 main_cst_9
  fn_part3 (F := F) main_arg8 main_arg9 main_arg10 main_arg11 main_arg12 main_arg13 main_v0 main_v52 main_v54 main_v56 main_v59 main_v60

def fn_part1 {F : FTy → Type} [FloatOps F] (main_arg1 : FVec F S32768x512 .bf16) (main_arg2 : FVec F S32768x512 .bf16) (main_arg7 : FVec F S128 .f32) (main_arg8 : FVec F S512x1024 .f32) (main_arg9 : FVec F S512x1024 .f32) (main_arg10 : FVec F S512x1024 .f32) (main_arg11 : FVec F S1024x1024 .f32) (main_arg12 : FVec F S1024 .f32) (main_arg13 : FVec F S1024x32 .f32) (main_v0 : FVec F S16x2048x1024 .f32) (main_v15 : FVec F S16x2048x512 .f32) (main_v17 : FVec F S16x2048x3072 .f32) (main_v19 : FVec F S16x256x4x128 .f32) (main_v20 : FVec F S16x256x512 .f32) : IVec S32800x1024 1 :=
  let main_v21 : FVec F S16x256x4x128 .f32 := shapeCast S16x256x4x128 main_v20 shapeCasts_S16x256x512_S16x256x4x128
  let main_v22 : FVec F S16x2048x4x128 .f32 := shapeCast S16x2048x4x128 main_v15 shapeCasts_S16x2048x512_S16x2048x4x128
  let main_v23 : FVec F S16x2048x4x128 .f32 := mulf main_v22 main_v22
  let main_cst_2 : FVec F S_ .f32 := constant S_ .f32 0x00000000#32
  let main_v24 : FVec F S16x2048x4 .f32 := (fun x v => Host.reduceAdd x v reducesTo_S16x2048x4x128_S16x2048x4_d3 h_S_) main_v23 main_cst_2
  let main_v25 : FVec F S16x2048x4x1 .f32 := broadcastInDim S16x2048x4x1 ![0, 1, 2] bcast_S16x2048x4_S16x2048x4x1_0_1_2 main_v24
  let main_cst_3 : FVec F S_ .f32 := constant S_ .f32 0x43000000#32
  let main_v26 : FVec F S16x2048x4x1 .f32 := broadcastInDim S16x2048x4x1 ![] bcast_S_S16x2048x4x1 main_cst_3
  let main_v27 : FVec F S16x2048x4x1 .f32 := Host.divf main_v25 main_v26
  let main_cst_4 : FVec F S_ .f32 := constant S_ .f32 0x358637BD#32
  let main_v28 : FVec F S16x2048x4x1 .f32 := broadcastInDim S16x2048x4x1 ![] bcast_S_S16x2048x4x1 main_cst_4
  let main_v29 : FVec F S16x2048x4x1 .f32 := addf main_v27 main_v28
  let main_v30 : FVec F S16x2048x4x1 .f32 := Host.rsqrt main_v29
  let main_v31 : FVec F S16x2048x4x128 .f32 := broadcastInDim S16x2048x4x128 ![0, 1, 2, 3] bcast_S16x2048x4x1_S16x2048x4x128_0_1_2_3 main_v30
  let main_v32 : FVec F S16x2048x4x128 .f32 := mulf main_v22 main_v31
  let main_v33 : FVec F S1x1x1x128 .f32 := broadcastInDim S1x1x1x128 ![3] bcast_S128_S1x1x1x128_3 main_arg7
  let main_v34 : FVec F S16x2048x4x128 .f32 := broadcastInDim S16x2048x4x128 ![0, 1, 2, 3] bcast_S1x1x1x128_S16x2048x4x128_0_1_2_3 main_v33
  let main_v35 : FVec F S16x2048x4x128 .f32 := mulf main_v32 main_v34
  let main_cst_5 : FVec F S_ .f32 := constant S_ .f32 0x3DB504F3#32
  let main_v36 : FVec F S16x2048x4x128 .f32 := broadcastInDim S16x2048x4x128 ![] bcast_S_S16x2048x4x128 main_cst_5
  let main_v37 : FVec F S16x2048x4x128 .f32 := mulf main_v35 main_v36
  let main_v38 : FVec F S16x4x2048x256 .f32 := (fun l r => Host.dotGeneral dot_S16x2048x4x128_S16x256x4x128_S16x4x2048x256_3_3_1_1_02_02 none l r) main_v37 main_v19
  let main_cst_6 : FVec F S_ .f32 := constant S_ .f32 0xFF800000#32
  let main_v39 : FVec F S16x4x2048 .f32 := (fun x v => Host.reduce FloatOps.maximumf x v reducesTo_S16x4x2048x256_S16x4x2048_d3 h_S_) main_v38 main_cst_6
  fn_part2 (F := F) main_arg1 main_arg2 main_arg8 main_arg9 main_arg10 main_arg11 main_arg12 main_arg13 main_v0 main_v17 main_v21 main_v38 main_v39

def fn {F : FTy → Type} [FloatOps F] (main_arg0 : FVec F S32768x1024 .f32) (main_arg1 : FVec F S32768x512 .bf16) (main_arg2 : FVec F S32768x512 .bf16) (main_arg3 : FVec F S16x256x512 .bf16) (main_arg4 : FVec F S16x256x512 .bf16) (main_arg5 : FVec F S1024x6944 .f32) (main_arg6 : FVec F S1024 .f32) (main_arg7 : FVec F S128 .f32) (main_arg8 : FVec F S512x1024 .f32) (main_arg9 : FVec F S512x1024 .f32) (main_arg10 : FVec F S512x1024 .f32) (main_arg11 : FVec F S1024x1024 .f32) (main_arg12 : FVec F S1024 .f32) (main_arg13 : FVec F S1024x32 .f32) (main_arg14 : FVec F S32 .f32) : IVec S32800x1024 1 :=
  let main_v0 : FVec F S16x2048x1024 .f32 := shapeCast S16x2048x1024 main_arg0 shapeCasts_S32768x1024_S16x2048x1024
  let main_v1 : FVec F S16x2048x1024 .f32 := mulf main_v0 main_v0
  let main_cst : FVec F S_ .f32 := constant S_ .f32 0x00000000#32
  let main_v2 : FVec F S16x2048 .f32 := (fun x v => Host.reduceAdd x v reducesTo_S16x2048x1024_S16x2048_d2 h_S_) main_v1 main_cst
  let main_v3 : FVec F S16x2048x1 .f32 := broadcastInDim S16x2048x1 ![0, 1] bcast_S16x2048_S16x2048x1_0_1 main_v2
  let main_cst_0 : FVec F S_ .f32 := constant S_ .f32 0x44800000#32
  let main_v4 : FVec F S16x2048x1 .f32 := broadcastInDim S16x2048x1 ![] bcast_S_S16x2048x1 main_cst_0
  let main_v5 : FVec F S16x2048x1 .f32 := Host.divf main_v3 main_v4
  let main_cst_1 : FVec F S_ .f32 := constant S_ .f32 0x358637BD#32
  let main_v6 : FVec F S16x2048x1 .f32 := broadcastInDim S16x2048x1 ![] bcast_S_S16x2048x1 main_cst_1
  let main_v7 : FVec F S16x2048x1 .f32 := addf main_v5 main_v6
  let main_v8 : FVec F S16x2048x1 .f32 := Host.rsqrt main_v7
  let main_v9 : FVec F S16x2048x1024 .f32 := broadcastInDim S16x2048x1024 ![0, 1, 2] bcast_S16x2048x1_S16x2048x1024_0_1_2 main_v8
  let main_v10 : FVec F S16x2048x1024 .f32 := mulf main_v0 main_v9
  let main_v11 : FVec F S1x1x1024 .f32 := broadcastInDim S1x1x1024 ![2] bcast_S1024_S1x1x1024_2 main_arg6
  let main_v12 : FVec F S16x2048x1024 .f32 := broadcastInDim S16x2048x1024 ![0, 1, 2] bcast_S1x1x1024_S16x2048x1024_0_1_2 main_v11
  let main_v13 : FVec F S16x2048x1024 .f32 := mulf main_v10 main_v12
  let main_v14 : FVec F S1024x512 .f32 := (extractStridedSlice S1024x512 ![0, 3360] · slices_S1024x6944_S1024x512_0_3360) main_arg5
  let main_v15 : FVec F S16x2048x512 .f32 := (fun l r => Host.dotGeneral dot_S16x2048x1024_S1024x512_S16x2048x512_2_0_01_1_n_n none l r) main_v13 main_v14
  let main_v16 : FVec F S1024x3072 .f32 := (extractStridedSlice S1024x3072 ![0, 3872] · slices_S1024x6944_S1024x3072_0_3872) main_arg5
  let main_v17 : FVec F S16x2048x3072 .f32 := (fun l r => Host.dotGeneral dot_S16x2048x1024_S1024x3072_S16x2048x3072_2_0_01_1_n_n none l r) main_v13 main_v16
  let main_v18 : FVec F S16x256x512 .f32 := (extf .f32 · bitsLt_bf16_f32) main_arg3
  let main_v19 : FVec F S16x256x4x128 .f32 := shapeCast S16x256x4x128 main_v18 shapeCasts_S16x256x512_S16x256x4x128
  let main_v20 : FVec F S16x256x512 .f32 := (extf .f32 · bitsLt_bf16_f32) main_arg4
  fn_part1 (F := F) main_arg1 main_arg2 main_arg7 main_arg8 main_arg9 main_arg10 main_arg11 main_arg12 main_arg13 main_v0 main_v15 main_v17 main_v19 main_v20
-- ==== Pre_rows_finite.lean ====
abbrev S16x2048x1408 : Shape := ⟨3, ![16, 2048, 1408]⟩
abbrev S64 : Shape := ⟨1, ![64]⟩
abbrev S3x64 : Shape := ⟨2, ![3, 64]⟩
abbrev S_ : Shape := ⟨0, ![]⟩

class Facts : Prop where
  bcast_S_S16x2048x1408 : S_.BroadcastsInDim S16x2048x1408 (![] : Fin 0 → Fin S16x2048x1408.rank)

variable [Facts]

def fn {F : FTy → Type} [FloatOps F] (main_arg0 : FVec F S16x2048x1408 .f32) (main_arg1 : FVec F S64 .f32) (main_arg2 : FVec F S3x64 .f32) : IVec S16x2048x1408 1 :=
  let main_v0 : FVec F S16x2048x1408 .f32 := Host.absf main_arg0
  let main_cst : FVec F S_ .f32 := constant S_ .f32 0x7F800000#32
  let main_v1 : FVec F S16x2048x1408 .f32 := broadcastInDim S16x2048x1408 ![] bcast_S_S16x2048x1408 main_cst
  let main_v2 : IVec S16x2048x1408 1 := cmpf .olt main_v0 main_v1
  main_v2
-- ==== MemKv.lean ====
abbrev S16x256x1024 : Shape := ⟨3, ![16, 256, 1024]⟩
abbrev S1024 : Shape := ⟨1, ![1024]⟩
abbrev S1024x1024 : Shape := ⟨2, ![1024, 1024]⟩
abbrev S128 : Shape := ⟨1, ![128]⟩
abbrev S1x1024 : Shape := ⟨2, ![1, 1024]⟩
abbrev S1x128 : Shape := ⟨2, ![1, 128]⟩
abbrev S16x256x512 : Shape := ⟨3, ![16, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S256x512 : Shape := ⟨2, ![256, 512]⟩

abbrev nBuf : Space → Nat
  | .hbm => 9
  | .vmem => 9
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S1x1024, .f32⟩
  | .hbm, ⟨5, _⟩ => ⟨S1024x1024, .bf16⟩
  | .hbm, ⟨6, _⟩ => ⟨S1x128, .f32⟩
  | .hbm, ⟨7, _⟩ => ⟨S16x256x512, .bf16⟩
  | .hbm, ⟨8, _⟩ => ⟨S16x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvRefIdeal.lean ====
abbrev S16x256x1024 : Shape := ⟨3, ![16, 256, 1024]⟩
abbrev S1024 : Shape := ⟨1, ![1024]⟩
abbrev S1024x1024 : Shape := ⟨2, ![1024, 1024]⟩
abbrev S128 : Shape := ⟨1, ![128]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x512 : Shape := ⟨3, ![16, 256, 512]⟩
abbrev S16x256x4x128 : Shape := ⟨4, ![16, 256, 4, 128]⟩
abbrev S16x256x4 : Shape := ⟨3, ![16, 256, 4]⟩
abbrev S16x256x4x1 : Shape := ⟨4, ![16, 256, 4, 1]⟩
abbrev S1x1x1x128 : Shape := ⟨4, ![1, 1, 1, 128]⟩

abbrev nBuf : Space → Nat
  | .hbm => 43
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S16x256x1024, .f32⟩
  | .hbm, ⟨5, _⟩ => ⟨S_, .f32⟩
  | .hbm, ⟨6, _⟩ => ⟨S16x256, .f32⟩
  | .hbm, ⟨7, _⟩ => ⟨S16x256x1, .f32⟩
  | .hbm, ⟨8, _⟩ => ⟨S_, .f32⟩
  | .hbm, ⟨9, _⟩ => ⟨S16x256x1, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S16x256x1, .f32⟩
  | .hbm, ⟨15, _⟩ => ⟨S16x256x1024, .f32⟩
  | .hbm, ⟨16, _⟩ => ⟨S16x256x1024, .f32⟩
  | .hbm, ⟨17, _⟩ => ⟨S1x1x1024, .f32⟩
  | .hbm, ⟨18, _⟩ => ⟨S16x256x1024, .f32⟩
  | .hbm, ⟨19, _⟩ => ⟨S16x256x1024, .f32⟩
  | .hbm, ⟨20, _⟩ => ⟨S16x256x1024, .f32⟩
  | .hbm, ⟨21, _⟩ => ⟨S16x256x512, .f32⟩
  | .hbm, ⟨22, _⟩ => ⟨S16x256x4x128, .f32⟩
  | .hbm, ⟨23, _⟩ => ⟨S16x256x4x128, .f32⟩
  | .hbm, ⟨24, _⟩ => ⟨S_, .f32⟩
  | .hbm, ⟨25, _⟩ => ⟨S16x256x4, .f32⟩
  | .hbm, ⟨26, _⟩ => ⟨S16x256x4x1, .f32⟩
  | .hbm, ⟨27, _⟩ => ⟨S_, .f32⟩
  | .hbm, ⟨28, _⟩ => ⟨S16x256x4x1, .f32⟩
  | .hbm, ⟨29, _⟩ => ⟨S16x256x4x1, .f32⟩
  | .hbm, ⟨30, _⟩ => ⟨S_, .f32⟩
  | .hbm, ⟨31, _⟩ => ⟨S16x256x4x1, .f32⟩
  | .hbm, ⟨32, _⟩ => ⟨S16x256x4x1, .f32⟩
  | .hbm, ⟨33, _⟩ => ⟨S16x256x4x1, .f32⟩
  | .hbm, ⟨34, _⟩ => ⟨S16x256x4x128, .f32⟩
  | .hbm, ⟨35, _⟩ => ⟨S16x256x4x128, .f32⟩
  | .hbm, ⟨36, _⟩ => ⟨S1x1x1x128, .f32⟩
  | .hbm, ⟨37, _⟩ => ⟨S16x256x4x128, .f32⟩
  | .hbm, ⟨38, _⟩ => ⟨S16x256x4x128, .f32⟩
  | .hbm, ⟨39, _⟩ => ⟨S16x256x512, .f32⟩
  | .hbm, ⟨40, _⟩ => ⟨S16x256x512, .f32⟩
  | .hbm, ⟨41, _⟩ => ⟨S16x256x512, .bf16⟩
  | .hbm, ⟨42, _⟩ => ⟨S16x256x512, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Proj.lean ====
abbrev S32768x1024 : Shape := ⟨2, ![32768, 1024]⟩
abbrev S1024 : Shape := ⟨1, ![1024]⟩
abbrev S1024x6944 : Shape := ⟨2, ![1024, 6944]⟩
abbrev S1024x2056 : Shape := ⟨2, ![1024, 2056]⟩
abbrev S_ : Shape := ⟨0, ![]⟩
abbrev S1024x120 : Shape := ⟨2, ![1024, 120]⟩
abbrev S1024x2176 : Shape := ⟨2, ![1024, 2176]⟩
abbrev S1024x1304 : Shape := ⟨2, ![1024, 1304]⟩
abbrev S1024x104 : Shape := ⟨2, ![1024, 104]⟩
abbrev S1024x1408 : Shape := ⟨2, ![1024, 1408]⟩
abbrev S1x1024 : Shape := ⟨2, ![1, 1024]⟩
abbrev S32768x2176 : Shape := ⟨2, ![32768, 2176]⟩
abbrev S32768x1408 : Shape := ⟨2, ![32768, 1408]⟩
abbrev S512x1024 : Shape := ⟨2, ![512, 1024]⟩
abbrev S512x2176 : Shape := ⟨2, ![512, 2176]⟩
abbrev S512x1408 : Shape := ⟨2, ![512, 1408]⟩
abbrev S512 : Shape := ⟨1, ![512]⟩
abbrev S512x1 : Shape := ⟨2, ![512, 1]⟩

abbrev nBuf : Space → Nat
  | .hbm => 16
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6944, .f32⟩
  | .hbm, ⟨3, _⟩ => ⟨S1024x2056, .f32⟩
  | .hbm, ⟨4, _⟩ => ⟨S_, .f32⟩
  | .hbm, ⟨5, _⟩ => ⟨S1024x120, .f32⟩
  | .hbm, ⟨6, _⟩ => ⟨S1024x2176, .f32⟩
  | .hbm, ⟨7, _⟩ => ⟨S1024x2176, .bf16⟩
  | .hbm, ⟨8, _⟩ => ⟨S1024x1304, .f32⟩
  | .hbm, ⟨9, _⟩ => ⟨S_, .f32⟩
  | .hbm, ⟨10, _⟩ => ⟨S1024x104, .f32⟩
  | .hbm, ⟨11, _⟩ => ⟨S1024x1408, .f32⟩
  | .hbm, ⟨12, _⟩ => ⟨S1024x1408, .bf16⟩
  | .hbm, ⟨13, _⟩ => ⟨S1x1024, .f32⟩
  | .hbm, ⟨14, _⟩ => ⟨S32768x2176, .f32⟩
  | .hbm, ⟨15, _⟩ => ⟨S32768x1408, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2176, .bf16⟩
  | .local _ .vmem, ⟨4, _⟩ => ⟨S1024x1408, .bf16⟩
  | .local _ .vmem, ⟨5, _⟩ => ⟨S512x2176, .f32⟩
  | .local _ .vmem, ⟨6, _⟩ => ⟨S512x2176, .f32⟩
  | .local _ .vmem, ⟨7, _⟩ => ⟨S512x1408, .f32⟩
  | .local _ .vmem, ⟨8, _⟩ => ⟨S512x1408, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjRefIdeal.lean ====
abbrev S32768x1024 : Shape := ⟨2, ![32768, 1024]⟩
abbrev S1024 : Shape := ⟨1, ![1024]⟩
abbrev S1024x6944 : Shape := ⟨2, ![1024, 6944]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x2056 : Shape := ⟨2, ![1024, 2056]⟩
abbrev S32768x2056 : Shape := ⟨2, ![32768, 2056]⟩
abbrev S1024x1304 : Shape := ⟨2, ![1024, 1304]⟩
abbrev S32768x1304 : Shape := ⟨2, ![32768, 1304]⟩
abbrev S32768x2176 : Shape := ⟨2, ![32768, 2176]⟩
abbrev S32768x1408 : Shape := ⟨2, ![32768, 1408]⟩

abbrev nBuf : Space → Nat
  | .hbm => 29
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6944, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S1024x2056, .f32⟩
  | .hbm, ⟨20, _⟩ => ⟨S32768x2056, .f32⟩
  | .hbm, ⟨21, _⟩ => ⟨S1024x1304, .f32⟩
  | .hbm, ⟨22, _⟩ => ⟨S32768x1304, .f32⟩
  | .hbm, ⟨23, _⟩ => ⟨S_, .i32⟩
  | .hbm, ⟨24, _⟩ => ⟨S_, .f32⟩
  | .hbm, ⟨25, _⟩ => ⟨S32768x2176, .f32⟩
  | .hbm, ⟨26, _⟩ => ⟨S_, .i32⟩
  | .hbm, ⟨27, _⟩ => ⟨S_, .f32⟩
  | .hbm, ⟨28, _⟩ => ⟨S32768x1408, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_c_2 : Ref sig .tc := ⟨.hbm, 26, rfl⟩
abbrev main_call1_v0 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Post.lean ====
abbrev S32768x1024 : Shape := ⟨2, ![32768, 1024]⟩
abbrev S32768x512 : Shape := ⟨2, ![32768, 512]⟩
abbrev S16x256x512 : Shape := ⟨3, ![16, 256, 512]⟩
abbrev S1024x6944 : Shape := ⟨2, ![1024, 6944]⟩
abbrev S1024 : Shape := ⟨1, ![1024]⟩
abbrev S128 : Shape := ⟨1, ![128]⟩
abbrev S512x1024 : Shape := ⟨2, ![512, 1024]⟩
abbrev S1024x1024 : Shape := ⟨2, ![1024, 1024]⟩
abbrev S_ : Shape := ⟨0, ![]⟩
abbrev S1024x128 : Shape := ⟨2, ![1024, 128]⟩
abbrev S1x1024 : Shape := ⟨2, ![1, 1024]⟩
abbrev S1024x512 : Shape := ⟨2, ![1024, 512]⟩
abbrev S1x128 : Shape := ⟨2, ![1, 128]⟩
abbrev S1024x3072 : Shape := ⟨2, ![1024, 3072]⟩
abbrev S32768x128 : Shape := ⟨2, ![32768, 128]⟩
abbrev S256x1024 : Shape := ⟨2, ![256, 1024]⟩
abbrev S256x512 : Shape := ⟨2, ![256, 512]⟩
abbrev S1x256x512 : Shape := ⟨3, ![1, 256, 512]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S256x256 : Shape := ⟨2, ![256, 256]⟩
abbrev S256x3072 : Shape := ⟨2, ![256, 3072]⟩

abbrev nBuf : Space → Nat
  | .hbm => 33
  | .vmem => 28
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S16x256x512, .bf16⟩
  | .hbm, ⟨4, _⟩ => ⟨S16x256x512, .bf16⟩
  | .hbm, ⟨5, _⟩ => ⟨S1024x6944, .f32⟩
  | .hbm, ⟨6, _⟩ => ⟨S1024, .f32⟩
  | .hbm, ⟨7, _⟩ => ⟨S128, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024, .f32⟩
  | .hbm, ⟨13, _⟩ => ⟨S_, .f32⟩
  | .hbm, ⟨14, _⟩ => ⟨S1024x128, .f32⟩
  | .hbm, ⟨15, _⟩ => ⟨S1x1024, .f32⟩
  | .hbm, ⟨16, _⟩ => ⟨S1024x512, .f32⟩
  | .hbm, ⟨17, _⟩ => ⟨S1024x512, .bf16⟩
  | .hbm, ⟨18, _⟩ => ⟨S1x128, .f32⟩
  | .hbm, ⟨19, _⟩ => ⟨S1024x3072, .f32⟩
  | .hbm, ⟨20, _⟩ => ⟨S1024x3072, .bf16⟩
  | .hbm, ⟨21, _⟩ => ⟨S512x1024, .bf16⟩
  | .hbm, ⟨22, _⟩ => ⟨S512x1024, .bf16⟩
  | .hbm, ⟨23, _⟩ => ⟨S512x1024, .bf16⟩
  | .hbm, ⟨24, _⟩ => ⟨S1024x1024, .bf16⟩
  | .hbm, ⟨25, _⟩ => ⟨S1x1024, .f32⟩
  | .hbm, ⟨26, _⟩ => ⟨S1024x128, .bf16⟩
  | .hbm, ⟨27, _⟩ => ⟨S1024x128, .bf16⟩
  | .hbm, ⟨28, _⟩ => ⟨S_, .f32⟩
  | .hbm, ⟨29, _⟩ => ⟨S1x128, .f32⟩
  | .hbm, ⟨30, _⟩ => ⟨S32768x1024, .f32⟩
  | .hbm, ⟨31, _⟩ => ⟨S32768x1024, .f32⟩
  | .hbm, ⟨32, _⟩ => ⟨S32768x128, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x1024, .f32⟩
  | .local _ .vmem, ⟨11, _⟩ => ⟨S1024x512, .bf16⟩
  | .local _ .vmem, ⟨12, _⟩ => ⟨S1x128, .f32⟩
  | .local _ .vmem, ⟨13, _⟩ => ⟨S1024x3072, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x128, .bf16⟩
  | .local _ .vmem, ⟨20, _⟩ => ⟨S1024x128, .bf16⟩
  | .local _ .vmem, ⟨21, _⟩ => ⟨S1x128, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x128, .f32⟩
  | .local _ .vmem, ⟨27, _⟩ => ⟨S256x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v15_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== PostRefIdeal.lean ====
abbrev S32768x1024 : Shape := ⟨2, ![32768, 1024]⟩
abbrev S32768x512 : Shape := ⟨2, ![32768, 512]⟩
abbrev S16x256x512 : Shape := ⟨3, ![16, 256, 512]⟩
abbrev S1024x6944 : Shape := ⟨2, ![1024, 6944]⟩
abbrev S1024 : Shape := ⟨1, ![1024]⟩
abbrev S128 : Shape := ⟨1, ![128]⟩
abbrev S512x1024 : Shape := ⟨2, ![512, 1024]⟩
abbrev S1024x1024 : Shape := ⟨2, ![1024, 1024]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x512 : Shape := ⟨2, ![1024, 512]⟩
abbrev S16x2048x512 : Shape := ⟨3, ![16, 2048, 512]⟩
abbrev S1024x3072 : Shape := ⟨2, ![1024, 3072]⟩
abbrev S16x2048x3072 : Shape := ⟨3, ![16, 2048, 3072]⟩
abbrev S16x256x4x128 : Shape := ⟨4, ![16, 256, 4, 128]⟩
abbrev S16x2048x4x128 : Shape := ⟨4, ![16, 2048, 4, 128]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S16x2048x3x1024 : Shape := ⟨4, ![16, 2048, 3, 1024]⟩
abbrev S16x2048x1x1024 : Shape := ⟨4, ![16, 2048, 1, 1024]⟩

abbrev nBuf : Space → Nat
  | .hbm => 123
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S16x256x512, .bf16⟩
  | .hbm, ⟨4, _⟩ => ⟨S16x256x512, .bf16⟩
  | .hbm, ⟨5, _⟩ => ⟨S1024x6944, .f32⟩
  | .hbm, ⟨6, _⟩ => ⟨S1024, .f32⟩
  | .hbm, ⟨7, _⟩ => ⟨S128, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024, .f32⟩
  | .hbm, ⟨13, _⟩ => ⟨S16x2048x1024, .f32⟩
  | .hbm, ⟨14, _⟩ => ⟨S16x2048x1024, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S1x1x1024, .f32⟩
  | .hbm, ⟨28, _⟩ => ⟨S16x2048x1024, .f32⟩
  | .hbm, ⟨29, _⟩ => ⟨S16x2048x1024, .f32⟩
  | .hbm, ⟨30, _⟩ => ⟨S1024x512, .f32⟩
  | .hbm, ⟨31, _⟩ => ⟨S16x2048x512, .f32⟩
  | .hbm, ⟨32, _⟩ => ⟨S1024x3072, .f32⟩
  | .hbm, ⟨33, _⟩ => ⟨S16x2048x3072, .f32⟩
  | .hbm, ⟨34, _⟩ => ⟨S16x256x512, .f32⟩
  | .hbm, ⟨35, _⟩ => ⟨S16x256x4x128, .f32⟩
  | .hbm, ⟨36, _⟩ => ⟨S16x256x512, .f32⟩
  | .hbm, ⟨37, _⟩ => ⟨S16x256x4x128, .f32⟩
  | .hbm, ⟨38, _⟩ => ⟨S16x2048x4x128, .f32⟩
  | .hbm, ⟨39, _⟩ => ⟨S16x2048x4x128, .f32⟩
  | .hbm, ⟨40, _⟩ => ⟨S_, .f32⟩
  | .hbm, ⟨41, _⟩ => ⟨S16x2048x4, .f32⟩
  | .hbm, ⟨42, _⟩ => ⟨S16x2048x4x1, .f32⟩
  | .hbm, ⟨43, _⟩ => ⟨S_, .f32⟩
  | .hbm, ⟨44, _⟩ => ⟨S16x2048x4x1, .f32⟩
  | .hbm, ⟨45, _⟩ => ⟨S16x2048x4x1, .f32⟩
  | .hbm, ⟨46, _⟩ => ⟨S_, .f32⟩
  | .hbm, ⟨47, _⟩ => ⟨S16x2048x4x1, .f32⟩
  | .hbm, ⟨48, _⟩ => ⟨S16x2048x4x1, .f32⟩
  | .hbm, ⟨49, _⟩ => ⟨S16x2048x4x1, .f32⟩
  | .hbm, ⟨50, _⟩ => ⟨S16x2048x4x128, .f32⟩
  | .hbm, ⟨51, _⟩ => ⟨S16x2048x4x128, .f32⟩
  | .hbm, ⟨52, _⟩ => ⟨S1x1x1x128, .f32⟩
  | .hbm, ⟨53, _⟩ => ⟨S16x2048x4x128, .f32⟩
  | .hbm, ⟨54, _⟩ => ⟨S16x2048x4x128, .f32⟩
  | .hbm, ⟨55, _⟩ => ⟨S_, .f32⟩
  | .hbm, ⟨56, _⟩ => ⟨S16x2048x4x128, .f32⟩
  | .hbm, ⟨57, _⟩ => ⟨S16x2048x4x128, .f32⟩
  | .hbm, ⟨58, _⟩ => ⟨S16x4x2048x256, .f32⟩
  | .hbm, ⟨59, _⟩ => ⟨S_, .f32⟩
  | .hbm, ⟨60, _⟩ => ⟨S16x4x2048, .f32⟩
  | .hbm, ⟨61, _⟩ => ⟨S_, .f32⟩
  | .hbm, ⟨62, _⟩ => ⟨S16x4x2048, .f32⟩
  | .hbm, ⟨63, _⟩ => ⟨S16x4x2048, .f32⟩
  | .hbm, ⟨64, _⟩ => ⟨S16x4x2048x1, .f32⟩
  | .hbm, ⟨65, _⟩ => ⟨S16x4x2048x256, .f32⟩
  | .hbm, ⟨66, _⟩ => ⟨S16x4x2048x256, .f32⟩
  | .hbm, ⟨67, _⟩ => ⟨S16x4x2048x256, .f32⟩
  | .hbm, ⟨68, _⟩ => ⟨S_, .f32⟩
  | .hbm, ⟨69, _⟩ => ⟨S16x4x2048, .f32⟩
  | .hbm, ⟨70, _⟩ => ⟨S16x4x2048x1, .f32⟩
  | .hbm, ⟨71, _⟩ => ⟨S16x4x2048x256, .f32⟩
  | .hbm, ⟨72, _⟩ => ⟨S16x4x2048x256, .f32⟩
  | .hbm, ⟨73, _⟩ => ⟨S16x4x128x2048, .f32⟩
  | .hbm, ⟨74, _⟩ => ⟨S16x2048x4x128, .f32⟩
  | .hbm, ⟨75, _⟩ => ⟨S16x2048x512, .f32⟩
  | .hbm, ⟨76, _⟩ => ⟨S32768x512, .f32⟩
  | .hbm, ⟨77, _⟩ => ⟨S16x2048x512, .f32⟩
  | .hbm, ⟨78, _⟩ => ⟨S32768x512, .f32⟩
  | .hbm, ⟨79, _⟩ => ⟨S16x2048x512, .f32⟩
  | .hbm, ⟨80, _⟩ => ⟨S16x2048x3x1024, .f32⟩
  | .hbm, ⟨81, _⟩ => ⟨S16x2048x3x1024, .f32⟩
  | .hbm, ⟨82, _⟩ => ⟨S16x2048x3x1024, .f32⟩
  | .hbm, ⟨83, _⟩ => ⟨S_, .f32⟩
  | .hbm, ⟨84, _⟩ => ⟨S16x2048x3x1024, .f32⟩
  | .hbm, ⟨85, _⟩ => ⟨S16x2048x3x1024, .f32⟩
  | .hbm, ⟨86, _⟩ => ⟨S_, .f32⟩
  | .hbm, ⟨87, _⟩ => ⟨S16x2048x3x1024, .f32⟩
  | .hbm, ⟨88, _⟩ => ⟨S16x2048x3x1024, .f32⟩
  | .hbm, ⟨89, _⟩ => ⟨S16x2048x1x1024, .f32⟩
  | .hbm, ⟨90, _⟩ => ⟨S16x2048x1024, .f32⟩
  | .hbm, ⟨91, _⟩ => ⟨S16x2048x1024, .f32⟩
  | .hbm, ⟨92, _⟩ => ⟨S16x2048x1024, .f32⟩
  | .hbm, ⟨93, _⟩ => ⟨S16x2048x1x1024, .f32⟩
  | .hbm, ⟨94, _⟩ => ⟨S16x2048x1024, .f32⟩
  | .hbm, ⟨95, _⟩ => ⟨S16x2048x1024, .f32⟩
  | .hbm, ⟨96, _⟩ => ⟨S16x2048x1024, .f32⟩
  | .hbm, ⟨97, _⟩ => ⟨S16x2048x1024, .f32⟩
  | .hbm, ⟨98, _⟩ => ⟨S16x2048x1x1024, .f32⟩
  | .hbm, ⟨99, _⟩ => ⟨S16x2048x1024, .f32⟩
  | .hbm, ⟨100, _⟩ => ⟨S16x2048x1024, .f32⟩
  | .hbm, ⟨101, _⟩ => ⟨S16x2048x1024, .f32⟩
  | .hbm, ⟨102, _⟩ => ⟨S16x2048x1024, .f32⟩
  | .hbm, ⟨103, _⟩ => ⟨S16x2048x1024, .f32⟩
  | .hbm, ⟨104, _⟩ => ⟨S16x2048x1024, .f32⟩
  | .hbm, ⟨105, _⟩ => ⟨S16x2048x1024, .f32⟩
  | .hbm, ⟨106, _⟩ => ⟨S_, .f32⟩
  | .hbm, ⟨107, _⟩ => ⟨S16x2048, .f32⟩
  | .hbm, ⟨108, _⟩ => ⟨S16x2048x1, .f32⟩
  | .hbm, ⟨109, _⟩ => ⟨S_, .f32⟩
  | .hbm, ⟨110, _⟩ => ⟨S16x2048x1, .f32⟩
  | .hbm, ⟨111, _⟩ => ⟨S16x2048x1, .f32⟩
  | .hbm, ⟨112, _⟩ => ⟨S_, .f32⟩
  | .hbm, ⟨113, _⟩ => ⟨S16x2048x1, .f32⟩
  | .hbm, ⟨114, _⟩ => ⟨S16x2048x1, .f32⟩
  | .hbm, ⟨115, _⟩ => ⟨S16x2048x1, .f32⟩
  | .hbm, ⟨116, _⟩ => ⟨S16x2048x1024, .f32⟩
  | .hbm, ⟨117, _⟩ => ⟨S16x2048x1024, .f32⟩
  | .hbm, ⟨118, _⟩ => ⟨S1x1x1024, .f32⟩
  | .hbm, ⟨119, _⟩ => ⟨S16x2048x1024, .f32⟩
  | .hbm, ⟨120, _⟩ => ⟨S16x2048x1024, .f32⟩
  | .hbm, ⟨121, _⟩ => ⟨S32768x1024, .f32⟩
  | .hbm, ⟨122, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_11 : Ref sig .tc := ⟨.hbm, 106, rfl⟩
abbrev main_v81 : Ref sig .tc := ⟨.hbm, 107, rfl⟩
abbrev main_v82 : Ref sig .tc := ⟨.hbm, 108, rfl⟩
abbrev main_cst_12 : Ref sig .tc := ⟨.hbm, 109, rfl⟩
abbrev main_v83 : Ref sig .tc := ⟨.hbm, 110, rfl⟩
abbrev main_v84 : Ref sig .tc := ⟨.hbm, 111, rfl⟩
abbrev main_cst_13 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩

abbrev nD : Nat := 1
abbrev τ : Topo := Topo.v7x

variable {F : FTy → Type} [FloatOps F]
-- ==== Router.lean ====
abbrev S32768x1024 : Shape := ⟨2, ![32768, 1024]⟩
abbrev S32768x512 : Shape := ⟨2, ![32768, 512]⟩
abbrev S16x256x512 : Shape := ⟨3, ![16, 256, 512]⟩
abbrev S1024x6944 : Shape := ⟨2, ![1024, 6944]⟩
abbrev S1024 : Shape := ⟨1, ![1024]⟩
abbrev S128 : Shape := ⟨1, ![128]⟩
abbrev S512x1024 : Shape := ⟨2, ![512, 1024]⟩
abbrev S1024x1024 : Shape := ⟨2, ![1024, 1024]⟩
abbrev S1024x32 : Shape := ⟨2, ![1024, 32]⟩
abbrev S32 : Shape := ⟨1, ![32]⟩
abbrev S_ : Shape := ⟨0, ![]⟩
abbrev S1024x96 : Shape := ⟨2, ![1024, 96]⟩
abbrev S1024x128 : Shape := ⟨2, ![1024, 128]⟩
abbrev S1x1024 : Shape := ⟨2, ![1, 1024]⟩
abbrev S1024x512 : Shape := ⟨2, ![1024, 512]⟩
abbrev S1x128 : Shape := ⟨2, ![1, 128]⟩
abbrev S1024x3072 : Shape := ⟨2, ![1024, 3072]⟩
abbrev S96 : Shape := ⟨1, ![96]⟩
abbrev S32768x128 : Shape := ⟨2, ![32768, 128]⟩
abbrev S256x1024 : Shape := ⟨2, ![256, 1024]⟩
abbrev S256x512 : Shape := ⟨2, ![256, 512]⟩
abbrev S1x256x512 : Shape := ⟨3, ![1, 256, 512]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S256x256 : Shape := ⟨2, ![256, 256]⟩
abbrev S256x3072 : Shape := ⟨2, ![256, 3072]⟩

abbrev nBuf : Space → Nat
  | .hbm => 40
  | .vmem => 28
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S16x256x512, .bf16⟩
  | .hbm, ⟨4, _⟩ => ⟨S16x256x512, .bf16⟩
  | .hbm, ⟨5, _⟩ => ⟨S1024x6944, .f32⟩
  | .hbm, ⟨6, _⟩ => ⟨S1024, .f32⟩
  | .hbm, ⟨7, _⟩ => ⟨S128, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024, .f32⟩
  | .hbm, ⟨13, _⟩ => ⟨S1024x32, .f32⟩
  | .hbm, ⟨14, _⟩ => ⟨S32, .f32⟩
  | .hbm, ⟨15, _⟩ => ⟨S_, .f32⟩
  | .hbm, ⟨16, _⟩ => ⟨S1024x96, .f32⟩
  | .hbm, ⟨17, _⟩ => ⟨S1024x128, .f32⟩
  | .hbm, ⟨18, _⟩ => ⟨S1x1024, .f32⟩
  | .hbm, ⟨19, _⟩ => ⟨S1024x512, .f32⟩
  | .hbm, ⟨20, _⟩ => ⟨S1024x512, .bf16⟩
  | .hbm, ⟨21, _⟩ => ⟨S1x128, .f32⟩
  | .hbm, ⟨22, _⟩ => ⟨S1024x3072, .f32⟩
  | .hbm, ⟨23, _⟩ => ⟨S1024x3072, .bf16⟩
  | .hbm, ⟨24, _⟩ => ⟨S512x1024, .bf16⟩
  | .hbm, ⟨25, _⟩ => ⟨S512x1024, .bf16⟩
  | .hbm, ⟨26, _⟩ => ⟨S512x1024, .bf16⟩
  | .hbm, ⟨27, _⟩ => ⟨S1024x1024, .bf16⟩
  | .hbm, ⟨28, _⟩ => ⟨S1x1024, .f32⟩
  | .hbm, ⟨29, _⟩ => ⟨S1024x128, .bf16⟩
  | .hbm, ⟨30, _⟩ => ⟨S1024x128, .f32⟩
  | .hbm, ⟨31, _⟩ => ⟨S1024x128, .f32⟩
  | .hbm, ⟨32, _⟩ => ⟨S1024x128, .bf16⟩
  | .hbm, ⟨33, _⟩ => ⟨S_, .f32⟩
  | .hbm, ⟨34, _⟩ => ⟨S96, .f32⟩
  | .hbm, ⟨35, _⟩ => ⟨S128, .f32⟩
  | .hbm, ⟨36, _⟩ => ⟨S1x128, .f32⟩
  | .hbm, ⟨37, _⟩ => ⟨S32768x1024, .f32⟩
  | .hbm, ⟨38, _⟩ => ⟨S32768x1024, .f32⟩
  | .hbm, ⟨39, _⟩ => ⟨S32768x128, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x1024, .f32⟩
  | .local _ .vmem, ⟨11, _⟩ => ⟨S1024x512, .bf16⟩
  | .local _ .vmem, ⟨12, _⟩ => ⟨S1x128, .f32⟩
  | .local _ .vmem, ⟨13, _⟩ => ⟨S1024x3072, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x128, .bf16⟩
  | .local _ .vmem, ⟨20, _⟩ => ⟨S1024x128, .bf16⟩
  | .local _ .vmem, ⟨21, _⟩ => ⟨S1x128, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x128, .f32⟩
  | .local _ .vmem, ⟨27, _⟩ => ⟨S256x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_v20_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== RouterRefIdeal.lean ====
abbrev S32768x1024 : Shape := ⟨2, ![32768, 1024]⟩
abbrev S32768x512 : Shape := ⟨2, ![32768, 512]⟩
abbrev S16x256x512 : Shape := ⟨3, ![16, 256, 512]⟩
abbrev S1024x6944 : Shape := ⟨2, ![1024, 6944]⟩
abbrev S1024 : Shape := ⟨1, ![1024]⟩
abbrev S128 : Shape := ⟨1, ![128]⟩
abbrev S512x1024 : Shape := ⟨2, ![512, 1024]⟩
abbrev S1024x1024 : Shape := ⟨2, ![1024, 1024]⟩
abbrev S1024x32 : Shape := ⟨2, ![1024, 32]⟩
abbrev S32 : Shape := ⟨1, ![32]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x512 : Shape := ⟨2, ![1024, 512]⟩
abbrev S16x2048x512 : Shape := ⟨3, ![16, 2048, 512]⟩
abbrev S1024x3072 : Shape := ⟨2, ![1024, 3072]⟩
abbrev S16x2048x3072 : Shape := ⟨3, ![16, 2048, 3072]⟩
abbrev S16x256x4x128 : Shape := ⟨4, ![16, 256, 4, 128]⟩
abbrev S16x2048x4x128 : Shape := ⟨4, ![16, 2048, 4, 128]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S16x2048x3x1024 : Shape := ⟨4, ![16, 2048, 3, 1024]⟩
abbrev S16x2048x1x1024 : Shape := ⟨4, ![16, 2048, 1, 1024]⟩
abbrev S32768x32 : Shape := ⟨2, ![32768, 32]⟩
abbrev S1x32 : Shape := ⟨2, ![1, 32]⟩
abbrev S32768x128 : Shape := ⟨2, ![32768, 128]⟩

abbrev nBuf : Space → Nat
  | .hbm => 132
  | .vmem => 0
  | .smem => 0
  | _ => 0

abbrev hbmTy0_0 (i : Nat) : BufTy := match i % 128 with
  | 0 => ⟨S32768x1024, .f32⟩
  | 1 => ⟨S32768x512, .bf16⟩
  | 2 => ⟨S32768x512, .bf16⟩
  | 3 => ⟨S16x256x512, .bf16⟩
  | 4 => ⟨S16x256x512, .bf16⟩
  | 5 => ⟨S1024x6944, .f32⟩
  | 6 => ⟨S1024, .f32⟩
  | 7 => ⟨S128, .f32⟩
  | 8 => ⟨S512x1024, .f32⟩
  | 9 => ⟨S512x1024, .f32⟩
  | 10 => ⟨S512x1024, .f32⟩
  | 11 => ⟨S1024x1024, .f32⟩
  | 12 => ⟨S1024, .f32⟩
  | 13 => ⟨S1024x32, .f32⟩
  | 14 => ⟨S32, .f32⟩
  | 15 => ⟨S16x2048x1024, .f32⟩
  | 16 => ⟨S16x2048x1024, .f32⟩
  | 17 => ⟨S_, .f32⟩
  | 18 => ⟨S16x2048, .f32⟩
  | 19 => ⟨S16x2048x1, .f32⟩
  | 20 => ⟨S_, .f32⟩
  | 21 => ⟨S16x2048x1, .f32⟩
  | 22 => ⟨S16x2048x1, .f32⟩
  | 23 => ⟨S_, .f32⟩
  | 24 => ⟨S16x2048x1, .f32⟩
  | 25 => ⟨S16x2048x1, .f32⟩
  | 26 => ⟨S16x2048x1, .f32⟩
  | 27 => ⟨S16x2048x1024, .f32⟩
  | 28 => ⟨S16x2048x1024, .f32⟩
  | 29 => ⟨S1x1x1024, .f32⟩
  | 30 => ⟨S16x2048x1024, .f32⟩
  | 31 => ⟨S16x2048x1024, .f32⟩
  | 32 => ⟨S1024x512, .f32⟩
  | 33 => ⟨S16x2048x512, .f32⟩
  | 34 => ⟨S1024x3072, .f32⟩
  | 35 => ⟨S16x2048x3072, .f32⟩
  | 36 => ⟨S16x256x512, .f32⟩
  | 37 => ⟨S16x256x4x128, .f32⟩
  | 38 => ⟨S16x256x512, .f32⟩
  | 39 => ⟨S16x256x4x128, .f32⟩
  | 40 => ⟨S16x2048x4x128, .f32⟩
  | 41 => ⟨S16x2048x4x128, .f32⟩
  | 42 => ⟨S_, .f32⟩
  | 43 => ⟨S16x2048x4, .f32⟩
  | 44 => ⟨S16x2048x4x1, .f32⟩
  | 45 => ⟨S_, .f32⟩
  | 46 => ⟨S16x2048x4x1, .f32⟩
  | 47 => ⟨S16x2048x4x1, .f32⟩
  | 48 => ⟨S_, .f32⟩
  | 49 => ⟨S16x2048x4x1, .f32⟩
  | 50 => ⟨S16x2048x4x1, .f32⟩
  | 51 => ⟨S16x2048x4x1, .f32⟩
  | 52 => ⟨S16x2048x4x128, .f32⟩
  | 53 => ⟨S16x2048x4x128, .f32⟩
  | 54 => ⟨S1x1x1x128, .f32⟩
  | 55 => ⟨S16x2048x4x128, .f32⟩
  | 56 => ⟨S16x2048x4x128, .f32⟩
  | 57 => ⟨S_, .f32⟩
  | 58 => ⟨S16x2048x4x128, .f32⟩
  | 59 => ⟨S16x2048x4x128, .f32⟩
  | 60 => ⟨S16x4x2048x256, .f32⟩
  | 61 => ⟨S_, .f32⟩
  | 62 => ⟨S16x4x2048, .f32⟩
  | 63 => ⟨S_, .f32⟩
  | 64 => ⟨S16x4x2048, .f32⟩
  | 65 => ⟨S16x4x2048, .f32⟩
  | 66 => ⟨S16x4x2048x1, .f32⟩
  | 67 => ⟨S16x4x2048x256, .f32⟩
  | 68 => ⟨S16x4x2048x256, .f32⟩
  | 69 => ⟨S16x4x2048x256, .f32⟩
  | 70 => ⟨S_, .f32⟩
  | 71 => ⟨S16x4x2048, .f32⟩
  | 72 => ⟨S16x4x2048x1, .f32⟩
  | 73 => ⟨S16x4x2048x256, .f32⟩
  | 74 => ⟨S16x4x2048x256, .f32⟩
  | 75 => ⟨S16x4x128x2048, .f32⟩
  | 76 => ⟨S16x2048x4x128, .f32⟩
  | 77 => ⟨S16x2048x512, .f32⟩
  | 78 => ⟨S32768x512, .f32⟩
  | 79 => ⟨S16x2048x512, .f32⟩
  | 80 => ⟨S32768x512, .f32⟩
  | 81 => ⟨S16x2048x512, .f32⟩
  | 82 => ⟨S16x2048x3x1024, .f32⟩
  | 83 => ⟨S16x2048x3x1024, .f32⟩
  | 84 => ⟨S16x2048x3x1024, .f32⟩
  | 85 => ⟨S_, .f32⟩
  | 86 => ⟨S16x2048x3x1024, .f32⟩
  | 87 => ⟨S16x2048x3x1024, .f32⟩
  | 88 => ⟨S_, .f32⟩
  | 89 => ⟨S16x2048x3x1024, .f32⟩
  | 90 => ⟨S16x2048x3x1024, .f32⟩
  | 91 => ⟨S16x2048x1x1024, .f32⟩
  | 92 => ⟨S16x2048x1024, .f32⟩
  | 93 => ⟨S16x2048x1024, .f32⟩
  | 94 => ⟨S16x2048x1024, .f32⟩
  | 95 => ⟨S16x2048x1x1024, .f32⟩
  | 96 => ⟨S16x2048x1024, .f32⟩
  | 97 => ⟨S16x2048x1024, .f32⟩
  | 98 => ⟨S16x2048x1024, .f32⟩
  | 99 => ⟨S16x2048x1024, .f32⟩
  | 100 => ⟨S16x2048x1x1024, .f32⟩
  | 101 => ⟨S16x2048x1024, .f32⟩
  | 102 => ⟨S16x2048x1024, .f32⟩
  | 103 => ⟨S16x2048x1024, .f32⟩
  | 104 => ⟨S16x2048x1024, .f32⟩
  | 105 => ⟨S16x2048x1024, .f32⟩
  | 106 => ⟨S16x2048x1024, .f32⟩
  | 107 => ⟨S16x2048x1024, .f32⟩
  | 108 => ⟨S_, .f32⟩
  | 109 => ⟨S16x2048, .f32⟩
  | 110 => ⟨S16x2048x1, .f32⟩
  | 111 => ⟨S_, .f32⟩
  | 112 => ⟨S16x2048x1, .f32⟩
  | 113 => ⟨S16x2048x1, .f32⟩
  | 114 => ⟨S_, .f32⟩
  | 115 => ⟨S16x2048x1, .f32⟩
  | 116 => ⟨S16x2048x1, .f32⟩
  | 117 => ⟨S16x2048x1, .f32⟩
  | 118 => ⟨S16x2048x1024, .f32⟩
  | 119 => ⟨S16x2048x1024, .f32⟩
  | 120 => ⟨S1x1x1024, .f32⟩
  | 121 => ⟨S16x2048x1024, .f32⟩
  | 122 => ⟨S16x2048x1024, .f32⟩
  | 123 => ⟨S32768x1024, .f32⟩
  | 124 => ⟨S32768x1024, .f32⟩
  | 125 => ⟨S32768x32, .f32⟩
  | 126 => ⟨S1x32, .f32⟩
  | 127 => ⟨S32768x32, .f32⟩
  | _ => ⟨S32768x1024, .f32⟩

abbrev hbmTy0_1 (i : Nat) : BufTy := match i % 128 with
  | 0 => ⟨S32768x32, .f32⟩
  | 1 => ⟨S_, .i32⟩
  | 2 => ⟨S_, .f32⟩
  | 3 => ⟨S32768x128, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_9 : Ref sig .tc := ⟨.hbm, 85, rfl⟩
abbrev main_v60 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_11 : Ref sig .tc := ⟨.hbm, 108, rfl⟩
abbrev main_v81 : Ref sig .tc := ⟨.hbm, 109, rfl⟩
abbrev main_v82 : Ref sig .tc := ⟨.hbm, 110, rfl⟩
abbrev main_cst_12 : Ref sig .tc := ⟨.hbm, 111, rfl⟩
abbrev main_v83 : Ref sig .tc := ⟨.hbm, 112, rfl⟩
abbrev main_v84 : Ref sig .tc := ⟨.hbm, 113, rfl⟩
abbrev main_cst_13 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_c : Ref sig .tc := ⟨.hbm, 129, rfl⟩
abbrev main_call0_v0 : Ref sig .tc := ⟨.hbm, 130, rfl⟩
abbrev main_v99 : Ref sig .tc := ⟨.hbm, 131, rfl⟩

abbrev nD : Nat := 1
abbrev τ : Topo := Topo.v7x

variable {F : FTy → Type} [FloatOps F]
-- ==== Ffn.lean ====
abbrev S139264x1024 : Shape := ⟨2, ![139264, 1024]⟩
abbrev S544 : Shape := ⟨1, ![544]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x1024 : Shape := ⟨3, ![32, 1, 1024]⟩
abbrev S256x1024 : Shape := ⟨2, ![256, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 16
  | .vmem => 16
  | .smem => 2
  | _ => 0

abbrev bufTy : (tb : Table) → Fin (tcTables nBuf tb) → BufTy
  | .hbm, ⟨0, _⟩ => ⟨S139264x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1024x1024, .f32⟩
  | .hbm, ⟨6, _⟩ => ⟨S32x1024x1024, .bf16⟩
  | .hbm, ⟨7, _⟩ => ⟨S32x1024x1024, .f32⟩
  | .hbm, ⟨8, _⟩ => ⟨S32x1024x1024, .bf16⟩
  | .hbm, ⟨9, _⟩ => ⟨S32x1024, .f32⟩
  | .hbm, ⟨10, _⟩ => ⟨S32x1x1024, .f32⟩
  | .hbm, ⟨11, _⟩ => ⟨S32x1024, .f32⟩
  | .hbm, ⟨12, _⟩ => ⟨S32x1x1024, .f32⟩
  | .hbm, ⟨13, _⟩ => ⟨S32x1024x1024, .bf16⟩
  | .hbm, ⟨14, _⟩ => ⟨S32x1x1024, .f32⟩
  | .hbm, ⟨15, _⟩ => ⟨S139264x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S256x1024, .f32⟩
  | .local _ .vmem, ⟨15, _⟩ => ⟨S256x1024, .f32⟩
  | .local _ .smem, ⟨0, _⟩ => ⟨S544, .i32⟩
  | .local _ .smem, ⟨1, _⟩ => ⟨S1, .i32⟩
  | _, _ => ⟨S139264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S139264x1024 : Shape := ⟨2, ![139264, 1024]⟩
abbrev S544 : Shape := ⟨1, ![544]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S544x256x1024 : Shape := ⟨3, ![544, 256, 1024]⟩
abbrev S_ : Shape := ⟨0, ![]⟩
abbrev S544x1 : Shape := ⟨2, ![544, 1]⟩
abbrev S544x1024x2048 : Shape := ⟨3, ![544, 1024, 2048]⟩
abbrev S544x256x2048 : Shape := ⟨3, ![544, 256, 2048]⟩
abbrev S544x2048 : Shape := ⟨2, ![544, 2048]⟩
abbrev S544x1x2048 : Shape := ⟨3, ![544, 1, 2048]⟩
abbrev S544x1024x1024 : Shape := ⟨3, ![544, 1024, 1024]⟩
abbrev S544x1024 : Shape := ⟨2, ![544, 1024]⟩
abbrev S544x1x1024 : Shape := ⟨3, ![544, 1, 1024]⟩
abbrev S544x1x1 : Shape := ⟨3, ![544, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S139264x1024, .f32⟩
  | .hbm, ⟨1, _⟩ => ⟨S544, .i32⟩
  | .hbm, ⟨2, _⟩ => ⟨S1, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S544x256x1024, .f32⟩
  | .hbm, ⟨8, _⟩ => ⟨S_, .i32⟩
  | .hbm, ⟨9, _⟩ => ⟨S544, .i32⟩
  | .hbm, ⟨10, _⟩ => ⟨S544, .i1⟩
  | .hbm, ⟨11, _⟩ => ⟨S_, .i32⟩
  | .hbm, ⟨12, _⟩ => ⟨S544, .i32⟩
  | .hbm, ⟨13, _⟩ => ⟨S544, .i32⟩
  | .hbm, ⟨14, _⟩ => ⟨S544, .i32⟩
  | .hbm, ⟨15, _⟩ => ⟨S544x1, .i32⟩
  | .hbm, ⟨16, _⟩ => ⟨S544x1024x2048, .f32⟩
  | .hbm, ⟨17, _⟩ => ⟨S544x256x2048, .f32⟩
  | .hbm, ⟨18, _⟩ => ⟨S_, .i32⟩
  | .hbm, ⟨19, _⟩ => ⟨S544, .i32⟩
  | .hbm, ⟨20, _⟩ => ⟨S544, .i1⟩
  | .hbm, ⟨21, _⟩ => ⟨S_, .i32⟩
  | .hbm, ⟨22, _⟩ => ⟨S544, .i32⟩
  | .hbm, ⟨23, _⟩ => ⟨S544, .i32⟩
  | .hbm, ⟨24, _⟩ => ⟨S544, .i32⟩
  | .hbm, ⟨25, _⟩ => ⟨S544x1, .i32⟩
  | .hbm, ⟨26, _⟩ => ⟨S544x2048, .f32⟩
  | .hbm, ⟨27, _⟩ => ⟨S544x1x2048, .f32⟩
  | .hbm, ⟨28, _⟩ => ⟨S544x256x2048, .f32⟩
  | .hbm, ⟨29, _⟩ => ⟨S544x256x2048, .f32⟩
  | .hbm, ⟨30, _⟩ => ⟨S544x256x1024, .f32⟩
  | .hbm, ⟨31, _⟩ => ⟨S_, .f32⟩
  | .hbm, ⟨32, _⟩ => ⟨S544x256x1024, .f32⟩
  | .hbm, ⟨33, _⟩ => ⟨S544x256x1024, .f32⟩
  | .hbm, ⟨34, _⟩ => ⟨S544x256x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S544x256x1024, .f32⟩
  | .hbm, ⟨39, _⟩ => ⟨S544x256x1024, .f32⟩
  | .hbm, ⟨40, _⟩ => ⟨S_, .f32⟩
  | .hbm, ⟨41, _⟩ => ⟨S544x256x1024, .f32⟩
  | .hbm, ⟨42, _⟩ => ⟨S544x256x1024, .f32⟩
  | .hbm, ⟨43, _⟩ => ⟨S_, .f32⟩
  | .hbm, ⟨44, _⟩ => ⟨S544x256x1024, .f32⟩
  | .hbm, ⟨45, _⟩ => ⟨S544x256x1024, .f32⟩
  | .hbm, ⟨46, _⟩ => ⟨S_, .f32⟩
  | .hbm, ⟨47, _⟩ => ⟨S544x256x1024, .f32⟩
  | .hbm, ⟨48, _⟩ => ⟨S544x256x1024, .f32⟩
  | .hbm, ⟨49, _⟩ => ⟨S544x256x1024, .f32⟩
  | .hbm, ⟨50, _⟩ => ⟨S544x256x1024, .f32⟩
  | .hbm, ⟨51, _⟩ => ⟨S_, .f32⟩
  | .hbm, ⟨52, _⟩ => ⟨S544x256x1024, .f32⟩
  | .hbm, ⟨53, _⟩ => ⟨S544x256x1024, .f32⟩
  | .hbm, ⟨54, _⟩ => ⟨S_, .f32⟩
  | .hbm, ⟨55, _⟩ => ⟨S544x256x1024, .f32⟩
  | .hbm, ⟨56, _⟩ => ⟨S544x256x1024, .f32⟩
  | .hbm, ⟨57, _⟩ => ⟨S544x256x1024, .f32⟩
  | .hbm, ⟨58, _⟩ => ⟨S544x256x1024, .f32⟩
  | .hbm, ⟨59, _⟩ => ⟨S_, .i32⟩
  | .hbm, ⟨60, _⟩ => ⟨S544, .i32⟩
  | .hbm, ⟨61, _⟩ => ⟨S544, .i1⟩
  | .hbm, ⟨62, _⟩ => ⟨S_, .i32⟩
  | .hbm, ⟨63, _⟩ => ⟨S544, .i32⟩
  | .hbm, ⟨64, _⟩ => ⟨S544, .i32⟩
  | .hbm, ⟨65, _⟩ => ⟨S544, .i32⟩
  | .hbm, ⟨66, _⟩ => ⟨S544x1, .i32⟩
  | .hbm, ⟨67, _⟩ => ⟨S544x1024x1024, .f32⟩
  | .hbm, ⟨68, _⟩ => ⟨S544x256x1024, .f32⟩
  | .hbm, ⟨69, _⟩ => ⟨S_, .i32⟩
  | .hbm, ⟨70, _⟩ => ⟨S544, .i32⟩
  | .hbm, ⟨71, _⟩ => ⟨S544, .i1⟩
  | .hbm, ⟨72, _⟩ => ⟨S_, .i32⟩
  | .hbm, ⟨73, _⟩ => ⟨S544, .i32⟩
  | .hbm, ⟨74, _⟩ => ⟨S544, .i32⟩
  | .hbm, ⟨75, _⟩ => ⟨S544, .i32⟩
  | .hbm, ⟨76, _⟩ => ⟨S544x1, .i32⟩
  | .hbm, ⟨77, _⟩ => ⟨S544x1024, .f32⟩
  | .hbm, ⟨78, _⟩ => ⟨S544x1x1024, .f32⟩
  | .hbm, ⟨79, _⟩ => ⟨S544x256x1024, .f32⟩
  | .hbm, ⟨80, _⟩ => ⟨S544x256x1024, .f32⟩
  | .hbm, ⟨81, _⟩ => ⟨S544, .i32⟩
  | .hbm, ⟨82, _⟩ => ⟨S_, .i32⟩
  | .hbm, ⟨83, _⟩ => ⟨S544, .i32⟩
  | .hbm, ⟨84, _⟩ => ⟨S544, .i1⟩
  | .hbm, ⟨85, _⟩ => ⟨S544x1x1, .i1⟩
  | .hbm, ⟨86, _⟩ => ⟨S_, .f32⟩
  | .hbm, ⟨87, _⟩ => ⟨S_, .f32⟩
  | .hbm, ⟨88, _⟩ => ⟨S544x256x1024, .i1⟩
  | .hbm, ⟨89, _⟩ => ⟨S544x256x1024, .f32⟩
  | .hbm, ⟨90, _⟩ => ⟨S544x256x1024, .f32⟩
  | .hbm, ⟨91, _⟩ => ⟨S139264x1024, .f32⟩
  | _, _ => ⟨S139264x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== NsaPrep.lean ====
abbrev S16x2048x1408 : Shape := ⟨3, ![16, 2048, 1408]⟩
abbrev S64 : Shape := ⟨1, ![64]⟩
abbrev S3x64 : Shape := ⟨2, ![3, 64]⟩
abbrev S128x128 : Shape := ⟨2, ![128, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16x2048x512 : Shape := ⟨3, ![16, 2048, 512]⟩
abbrev S16x2x2048x128 : Shape := ⟨4, ![16, 2, 2048, 128]⟩
abbrev S16x2048x128 : Shape := ⟨3, ![16, 2048, 128]⟩
abbrev S1x256x1408 : Shape := ⟨3, ![1, 256, 1408]⟩
abbrev S256x128 : Shape := ⟨2, ![256, 128]⟩
abbrev S1x256x512 : Shape := ⟨3, ![1, 256, 512]⟩
abbrev S1x2x256x128 : Shape := ⟨4, ![1, 2, 256, 128]⟩
abbrev S1x256x128 : Shape := ⟨3, ![1, 256, 128]⟩
abbrev S1x1x256x128 : Shape := ⟨4, ![1, 1, 256, 128]⟩

abbrev nBuf : Space → Nat
  | .hbm => 53
  | .vmem => 24
  | .smem => 0
  | _ => 0

abbrev bufTy : (tb : Table) → Fin (tcTables nBuf tb) → BufTy
  | .hbm, ⟨0, _⟩ => ⟨S16x2048x1408, .f32⟩
  | .hbm, ⟨1, _⟩ => ⟨S64, .f32⟩
  | .hbm, ⟨2, _⟩ => ⟨S3x64, .f32⟩
  | .hbm, ⟨3, _⟩ => ⟨S128x128, .bf16⟩
  | .hbm, ⟨4, _⟩ => ⟨S1x64, .f32⟩
  | .hbm, ⟨5, _⟩ => ⟨S2x64, .f32⟩
  | .hbm, ⟨6, _⟩ => ⟨S128, .f32⟩
  | .hbm, ⟨7, _⟩ => ⟨S1x128, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S2x64, .f32⟩
  | .hbm, ⟨12, _⟩ => ⟨S128, .f32⟩
  | .hbm, ⟨13, _⟩ => ⟨S1x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S2x64, .f32⟩
  | .hbm, ⟨18, _⟩ => ⟨S128, .f32⟩
  | .hbm, ⟨19, _⟩ => ⟨S1x128, .f32⟩
  | .hbm, ⟨20, _⟩ => ⟨S2048, .i32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S2048, .f32⟩
  | .hbm, ⟨30, _⟩ => ⟨S2048x1, .f32⟩
  | .hbm, ⟨31, _⟩ => ⟨S1x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2048x32, .f32⟩
  | .hbm, ⟨37, _⟩ => ⟨S2048x64, .f32⟩
  | .hbm, ⟨38, _⟩ => ⟨S2048x32, .f32⟩
  | .hbm, ⟨39, _⟩ => ⟨S2048x64, .f32⟩
  | .hbm, ⟨40, _⟩ => ⟨S1x2048x1x64, .f32⟩
  | .hbm, ⟨41, _⟩ => ⟨S1x2048x2x64, .f32⟩
  | .hbm, ⟨42, _⟩ => ⟨S2048x128, .f32⟩
  | .hbm, ⟨43, _⟩ => ⟨S1x2048x1x64, .f32⟩
  | .hbm, ⟨44, _⟩ => ⟨S1x2048x2x64, .f32⟩
  | .hbm, ⟨45, _⟩ => ⟨S2048x128, .f32⟩
  | .hbm, ⟨46, _⟩ => ⟨S16x2048x512, .bf16⟩
  | .hbm, ⟨47, _⟩ => ⟨S16x2x2048x128, .bf16⟩
  | .hbm, ⟨48, _⟩ => ⟨S16x2x2048x128, .bf16⟩
  | .hbm, ⟨49, _⟩ => ⟨S16x2x2048x128, .bf16⟩
  | .hbm, ⟨50, _⟩ => ⟨S16x2x2048x128, .bf16⟩
  | .hbm, ⟨51, _⟩ => ⟨S16x2048x128, .f32⟩
  | .hbm, ⟨52, _⟩ => ⟨S16x2048x128, .f32⟩
  | .local _ .vmem, ⟨0, _⟩ => ⟨S1x256x1408, .f32⟩
  | .local _ .vmem, ⟨1, _⟩ => ⟨S1x256x1408, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S128x128, .bf16⟩
  | .local _ .vmem, ⟨10, _⟩ => ⟨S1x256x512, .bf16⟩
  | .local _ .vmem, ⟨11, _⟩ => ⟨S1x256x512, .bf16⟩
  | .local _ .vmem, ⟨12, _⟩ => ⟨S1x2x256x128, .bf16⟩
  | .local _ .vmem, ⟨13, _⟩ => ⟨S1x2x256x128, .bf16⟩
  | .local _ .vmem, ⟨14, _⟩ => ⟨S1x2x256x128, .bf16⟩
  | .local _ .vmem, ⟨15, _⟩ => ⟨S1x2x256x128, .bf16⟩
  | .local _ .vmem, ⟨16, _⟩ => ⟨S1x2x256x128, .bf16⟩
  | .local _ .vmem, ⟨17, _⟩ => ⟨S1x2x256x128, .bf16⟩
  | .local _ .vmem, ⟨18, _⟩ => ⟨S1x2x256x128, .bf16⟩
  | .local _ .vmem, ⟨19, _⟩ => ⟨S1x2x256x128, .bf16⟩
  | .local _ .vmem, ⟨20, _⟩ => ⟨S1x256x128, .f32⟩
  | .local _ .vmem, ⟨21, _⟩ => ⟨S1x256x128, .f32⟩
  | .local _ .vmem, ⟨22, _⟩ => ⟨S1x256x128, .f32⟩
  | .local _ .vmem, ⟨23, _⟩ => ⟨S1x256x128, .f32⟩
  | _, _ => ⟨S16x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40_0 : Ref sig .tc := ⟨.hbm, 46, rfl⟩
abbrev main_v40_1 : Ref sig .tc := ⟨.hbm, 47, rfl⟩
abbrev main_v40_2 : Ref sig .tc := ⟨.hbm, 48, rfl⟩
abbrev main_v40_3 : Ref sig .tc := ⟨.hbm, 49, rfl⟩
abbrev main_v40_4 : Ref sig .tc := ⟨.hbm, 50, rfl⟩
abbrev main_v40_5 : Ref sig .tc := ⟨.hbm, 51, rfl⟩
abbrev main_v40_6 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== NsaPrepRefIdeal.lean ====
abbrev S16x2048x1408 : Shape := ⟨3, ![16, 2048, 1408]⟩
abbrev S64 : Shape := ⟨1, ![64]⟩
abbrev S3x64 : Shape := ⟨2, ![3, 64]⟩
abbrev S2048 : Shape := ⟨1, ![2048]⟩
abbrev S16x2048x512 : Shape := ⟨3, ![16, 2048, 512]⟩
abbrev S16x2048x128 : Shape := ⟨3, ![16, 2048, 128]⟩
abbrev S16x2048x8x64 : Shape := ⟨4, ![16, 2048, 8, 64]⟩
abbrev S_ : Shape := ⟨0, ![]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S16x2048x8x32 : Shape := ⟨4, ![16, 2048, 8, 32]⟩
abbrev S1x2048x1x32 : Shape := ⟨4, ![1, 2048, 1, 32]⟩
abbrev S16x2048x2x64 : Shape := ⟨4, ![16, 2048, 2, 64]⟩
abbrev S1x64 : Shape := ⟨2, ![1, 64]⟩
abbrev S16x2048x2 : Shape := ⟨3, ![16, 2048, 2]⟩
abbrev S16x2048x2x1 : Shape := ⟨4, ![16, 2048, 2, 1]⟩
abbrev S16x2048x2x32 : Shape := ⟨4, ![16, 2048, 2, 32]⟩
abbrev S16x2x2048x64 : Shape := ⟨4, ![16, 2, 2048, 64]⟩
abbrev S16x2x2048x128 : Shape := ⟨4, ![16, 2, 2048, 128]⟩

abbrev nBuf : Space → Nat
  | .hbm => 190
  | .vmem => 0
  | .smem => 0
  | _ => 0

abbrev hbmTy0_0 (i : Nat) : BufTy := match i % 128 with
  | 0 => ⟨S16x2048x1408, .f32⟩
  | 1 => ⟨S64, .f32⟩
  | 2 => ⟨S3x64, .f32⟩
  | 3 => ⟨S2048, .i32⟩
  | 4 => ⟨S16x2048x512, .f32⟩
  | 5 => ⟨S16x2048x128, .f32⟩
  | 6 => ⟨S16x2048x128, .f32⟩
  | 7 => ⟨S16x2048x128, .f32⟩
  | 8 => ⟨S16x2048x128, .f32⟩
  | 9 => ⟨S16x2048x128, .f32⟩
  | 10 => ⟨S16x2048x128, .f32⟩
  | 11 => ⟨S16x2048x8x64, .f32⟩
  | 12 => ⟨S16x2048x8x64, .f32⟩
  | 13 => ⟨S_, .f32⟩
  | 14 => ⟨S16x2048x8, .f32⟩
  | 15 => ⟨S16x2048x8x1, .f32⟩
  | 16 => ⟨S_, .f32⟩
  | 17 => ⟨S16x2048x8x1, .f32⟩
  | 18 => ⟨S16x2048x8x1, .f32⟩
  | 19 => ⟨S_, .f32⟩
  | 20 => ⟨S16x2048x8x1, .f32⟩
  | 21 => ⟨S16x2048x8x1, .f32⟩
  | 22 => ⟨S16x2048x8x1, .f32⟩
  | 23 => ⟨S16x2048x8x64, .f32⟩
  | 24 => ⟨S16x2048x8x64, .f32⟩
  | 25 => ⟨S1x1x1x64, .f32⟩
  | 26 => ⟨S16x2048x8x64, .f32⟩
  | 27 => ⟨S16x2048x8x64, .f32⟩
  | 28 => ⟨S32, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S2048, .f32⟩
  | 37 => ⟨S2048x1, .f32⟩
  | 38 => ⟨S1x32, .f32⟩
  | 39 => ⟨S2048x32, .f32⟩
  | 40 => ⟨S2048x32, .f32⟩
  | 41 => ⟨S2048x32, .f32⟩
  | 42 => ⟨S2048x32, .f32⟩
  | 43 => ⟨S2048x1x32, .f32⟩
  | 44 => ⟨S2048x32, .f32⟩
  | 45 => ⟨S2048x1x32, .f32⟩
  | 46 => ⟨S16x2048x8x32, .f32⟩
  | 47 => ⟨S16x2048x8x32, .f32⟩
  | 48 => ⟨S1x2048x1x32, .f32⟩
  | 49 => ⟨S16x2048x8x32, .f32⟩
  | 50 => ⟨S16x2048x8x32, .f32⟩
  | 51 => ⟨S1x2048x1x32, .f32⟩
  | 52 => ⟨S16x2048x8x32, .f32⟩
  | 53 => ⟨S16x2048x8x32, .f32⟩
  | 54 => ⟨S16x2048x8x32, .f32⟩
  | 55 => ⟨S1x2048x1x32, .f32⟩
  | 56 => ⟨S16x2048x8x32, .f32⟩
  | 57 => ⟨S16x2048x8x32, .f32⟩
  | 58 => ⟨S1x2048x1x32, .f32⟩
  | 59 => ⟨S16x2048x8x32, .f32⟩
  | 60 => ⟨S16x2048x8x32, .f32⟩
  | 61 => ⟨S16x2048x8x32, .f32⟩
  | 62 => ⟨S16x2048x8x64, .f32⟩
  | 63 => ⟨S_, .f32⟩
  | 64 => ⟨S16x2048x8x64, .f32⟩
  | 65 => ⟨S16x2048x8x64, .f32⟩
  | 66 => ⟨S16x2048x2x64, .f32⟩
  | 67 => ⟨S1x64, .f32⟩
  | 68 => ⟨S64, .f32⟩
  | 69 => ⟨S16x2048x2x64, .f32⟩
  | 70 => ⟨S_, .f32⟩
  | 71 => ⟨S16x2048x2, .f32⟩
  | 72 => ⟨S16x2048x2x1, .f32⟩
  | 73 => ⟨S_, .f32⟩
  | 74 => ⟨S16x2048x2x1, .f32⟩
  | 75 => ⟨S16x2048x2x1, .f32⟩
  | 76 => ⟨S_, .f32⟩
  | 77 => ⟨S16x2048x2x1, .f32⟩
  | 78 => ⟨S16x2048x2x1, .f32⟩
  | 79 => ⟨S16x2048x2x1, .f32⟩
  | 80 => ⟨S16x2048x2x64, .f32⟩
  | 81 => ⟨S16x2048x2x64, .f32⟩
  | 82 => ⟨S1x1x1x64, .f32⟩
  | 83 => ⟨S16x2048x2x64, .f32⟩
  | 84 => ⟨S16x2048x2x64, .f32⟩
  | 85 => ⟨S32, .f32⟩
  | 86 => ⟨S32, .f32⟩
  | 87 => ⟨S_, .f32⟩
  | 88 => ⟨S32, .f32⟩
  | 89 => ⟨S32, .f32⟩
  | 90 => ⟨S_, .f32⟩
  | 91 => ⟨S32, .f32⟩
  | 92 => ⟨S32, .f32⟩
  | 93 => ⟨S2048, .f32⟩
  | 94 => ⟨S2048x1, .f32⟩
  | 95 => ⟨S1x32, .f32⟩
  | 96 => ⟨S2048x32, .f32⟩
  | 97 => ⟨S2048x32, .f32⟩
  | 98 => ⟨S2048x32, .f32⟩
  | 99 => ⟨S2048x32, .f32⟩
  | 100 => ⟨S2048x1x32, .f32⟩
  | 101 => ⟨S2048x32, .f32⟩
  | 102 => ⟨S2048x1x32, .f32⟩
  | 103 => ⟨S16x2048x2x32, .f32⟩
  | 104 => ⟨S16x2048x2x32, .f32⟩
  | 105 => ⟨S1x2048x1x32, .f32⟩
  | 106 => ⟨S16x2048x2x32, .f32⟩
  | 107 => ⟨S16x2048x2x32, .f32⟩
  | 108 => ⟨S1x2048x1x32, .f32⟩
  | 109 => ⟨S16x2048x2x32, .f32⟩
  | 110 => ⟨S16x2048x2x32, .f32⟩
  | 111 => ⟨S16x2048x2x32, .f32⟩
  | 112 => ⟨S1x2048x1x32, .f32⟩
  | 113 => ⟨S16x2048x2x32, .f32⟩
  | 114 => ⟨S16x2048x2x32, .f32⟩
  | 115 => ⟨S1x2048x1x32, .f32⟩
  | 116 => ⟨S16x2048x2x32, .f32⟩
  | 117 => ⟨S16x2048x2x32, .f32⟩
  | 118 => ⟨S16x2048x2x32, .f32⟩
  | 119 => ⟨S16x2048x2x64, .f32⟩
  | 120 => ⟨S16x2048x2x64, .f32⟩
  | 121 => ⟨S1x64, .f32⟩
  | 122 => ⟨S64, .f32⟩
  | 123 => ⟨S16x2048x2x64, .f32⟩
  | 124 => ⟨S_, .f32⟩
  | 125 => ⟨S16x2048x2, .f32⟩
  | 126 => ⟨S16x2048x2x1, .f32⟩
  | 127 => ⟨S_, .f32⟩
  | _ => ⟨S16x2048x1408, .f32⟩

abbrev hbmTy0_1 (i : Nat) : BufTy := match i % 128 with
  | 0 => ⟨S16x2048x2x1, .f32⟩
  | 1 => ⟨S16x2048x2x1, .f32⟩
  | 2 => ⟨S_, .f32⟩
  | 3 => ⟨S16x2048x2x1, .f32⟩
  | 4 => ⟨S16x2048x2x1, .f32⟩
  | 5 => ⟨S16x2048x2x1, .f32⟩
  | 6 => ⟨S16x2048x2x64, .f32⟩
  | 7 => ⟨S16x2048x2x64, .f32⟩
  | 8 => ⟨S1x1x1x64, .f32⟩
  | 9 => ⟨S16x2048x2x64, .f32⟩
  | 10 => ⟨S16x2048x2x64, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S2048, .f32⟩
  | 20 => ⟨S2048x1, .f32⟩
  | 21 => ⟨S1x32, .f32⟩
  | 22 => ⟨S2048x32, .f32⟩
  | 23 => ⟨S2048x32, .f32⟩
  | 24 => ⟨S2048x32, .f32⟩
  | 25 => ⟨S2048x32, .f32⟩
  | 26 => ⟨S2048x1x32, .f32⟩
  | 27 => ⟨S2048x32, .f32⟩
  | 28 => ⟨S2048x1x32, .f32⟩
  | 29 => ⟨S16x2048x2x32, .f32⟩
  | 30 => ⟨S16x2048x2x32, .f32⟩
  | 31 => ⟨S1x2048x1x32, .f32⟩
  | 32 => ⟨S16x2048x2x32, .f32⟩
  | 33 => ⟨S16x2048x2x32, .f32⟩
  | 34 => ⟨S1x2048x1x32, .f32⟩
  | 35 => ⟨S16x2048x2x32, .f32⟩
  | 36 => ⟨S16x2048x2x32, .f32⟩
  | 37 => ⟨S16x2048x2x32, .f32⟩
  | 38 => ⟨S1x2048x1x32, .f32⟩
  | 39 => ⟨S16x2048x2x32, .f32⟩
  | 40 => ⟨S16x2048x2x32, .f32⟩
  | 41 => ⟨S1x2048x1x32, .f32⟩
  | 42 => ⟨S16x2048x2x32, .f32⟩
  | 43 => ⟨S16x2048x2x32, .f32⟩
  | 44 => ⟨S16x2048x2x32, .f32⟩
  | 45 => ⟨S16x2048x2x64, .f32⟩
  | 46 => ⟨S16x2048x512, .f32⟩
  | 47 => ⟨S16x2048x512, .bf16⟩
  | 48 => ⟨S16x2x2048x64, .f32⟩
  | 49 => ⟨S16x2x2048x128, .f32⟩
  | 50 => ⟨S16x2x2048x128, .bf16⟩
  | 51 => ⟨S16x2048x2x64, .f32⟩
  | 52 => ⟨S16x2x2048x64, .f32⟩
  | 53 => ⟨S16x2x2048x128, .f32⟩
  | 54 => ⟨S16x2x2048x128, .bf16⟩
  | 55 => ⟨S16x2x2048x64, .f32⟩
  | 56 => ⟨S16x2x2048x128, .f32⟩
  | 57 => ⟨S16x2x2048x128, .bf16⟩
  | 58 => ⟨S16x2048x2x64, .f32⟩
  | 59 => ⟨S16x2x2048x64, .f32⟩
  | 60 => ⟨S16x2x2048x128, .f32⟩
  | 61 => ⟨S16x2x2048x128, .bf16⟩
  | _ => ⟨S16x2048x1408, .f32⟩

abbrev hbmTy (i : Nat) : BufTy := match i / 128 with
  | 0 => hbmTy0_0 i
  | 1 => hbmTy0_1 i
  | _ => ⟨S16x2048x1408, .f32⟩

abbrev bufTy : (tb : Table) → Fin (tcTables nBuf tb) → BufTy
  | .hbm, ⟨i, _⟩ => hbmTy i
  | _, _ => ⟨S16x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_4 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst_5 : Ref sig .tc := ⟨.hbm, 70, rfl⟩
abbrev main_v61 : Ref sig .tc := ⟨.hbm, 71, rfl⟩
abbrev main_v62 : Ref sig .tc := ⟨.hbm, 72, rfl⟩
abbrev main_cst_6 : Ref sig .tc := ⟨.hbm, 73, rfl⟩
abbrev main_v63 : Ref sig .tc := ⟨.hbm, 74, rfl⟩
abbrev main_v64 : Ref sig .tc := ⟨.hbm, 75, rfl⟩
abbrev main_cst_7 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_cst_8 : Ref sig .tc := ⟨.hbm, 87, rfl⟩
abbrev main_v75 : Ref sig .tc := ⟨.hbm, 88, rfl⟩
abbrev main_v76 : Ref sig .tc := ⟨.hbm, 89, rfl⟩
abbrev main_cst_9 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_cst_10 : Ref sig .tc := ⟨.hbm, 124, rfl⟩
abbrev main_v110 : Ref sig .tc := ⟨.hbm, 125, rfl⟩
abbrev main_v111 : Ref sig .tc := ⟨.hbm, 126, rfl⟩
abbrev main_cst_11 : Ref sig .tc := ⟨.hbm, 127, rfl⟩
abbrev main_v112 : Ref sig .tc := ⟨.hbm, 128, rfl⟩
abbrev main_v113 : Ref sig .tc := ⟨.hbm, 129, rfl⟩
abbrev main_cst_12 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_cst_13 : Ref sig .tc := ⟨.hbm, 141, rfl⟩
abbrev main_v124 : Ref sig .tc := ⟨.hbm, 142, rfl⟩
abbrev main_v125 : Ref sig .tc := ⟨.hbm, 143, rfl⟩
abbrev main_cst_14 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩

abbrev nD : Nat := 1
abbrev τ : Topo := Topo.v7x

variable {F : FTy → Type} [FloatOps F]
-- ==== NsaCmp.lean ====
abbrev S16x2048x128 : Shape := ⟨3, ![16, 2048, 128]⟩
abbrev S3x64 : Shape := ⟨2, ![3, 64]⟩
abbrev S32x64 : Shape := ⟨2, ![32, 64]⟩
abbrev S32x64x256 : Shape := ⟨3, ![32, 64, 256]⟩
abbrev S256 : Shape := ⟨1, ![256]⟩
abbrev S256x64 : Shape := ⟨2, ![256, 64]⟩
abbrev S128x128 : Shape := ⟨2, ![128, 128]⟩
abbrev S1x64 : Shape := ⟨2, ![1, 64]⟩
abbrev S64 : Shape := ⟨1, ![64]⟩
abbrev S2x64 : Shape := ⟨2, ![2, 64]⟩
abbrev S128 : Shape := ⟨1, ![128]⟩
abbrev S1x128 : Shape := ⟨2, ![1, 128]⟩
abbrev S2x2 : Shape := ⟨2, ![2, 2]⟩
abbrev S_ : Shape := ⟨0, ![]⟩
abbrev S16x64x256 : Shape := ⟨3, ![16, 64, 256]⟩
abbrev S16x1x64x1x256 : Shape := ⟨5, ![16, 1, 64, 1, 256]⟩
abbrev S1x2x1x2x1 : Shape := ⟨5, ![1, 2, 1, 2, 1]⟩
abbrev S16x2x64x2x256 : Shape := ⟨5, ![16, 2, 64, 2, 256]⟩
abbrev S2048x512 : Shape := ⟨2, ![2048, 512]⟩
abbrev S16x64 : Shape := ⟨2, ![16, 64]⟩
abbrev S16x1x64 : Shape := ⟨3, ![16, 1, 64]⟩
abbrev S16x2x64 : Shape := ⟨3, ![16, 2, 64]⟩
abbrev S2048 : Shape := ⟨1, ![2048]⟩
abbrev S1x2048 : Shape := ⟨2, ![1, 2048]⟩
abbrev S2x2048 : Shape := ⟨2, ![2, 2048]⟩
abbrev S1x256x1x64 : Shape := ⟨4, ![1, 256, 1, 64]⟩
abbrev S2x1x2x1 : Shape := ⟨4, ![2, 1, 2, 1]⟩
abbrev S2x256x2x64 : Shape := ⟨4, ![2, 256, 2, 64]⟩
abbrev S512x128 : Shape := ⟨2, ![512, 128]⟩
abbrev S1x256 : Shape := ⟨2, ![1, 256]⟩
abbrev S2x256 : Shape := ⟨2, ![2, 256]⟩
abbrev S512 : Shape := ⟨1, ![512]⟩
abbrev S1x512 : Shape := ⟨2, ![1, 512]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x64 : Shape := ⟨2, ![128, 64]⟩
abbrev S1x128x1x64 : Shape := ⟨4, ![1, 128, 1, 64]⟩
abbrev S1x128x2x64 : Shape := ⟨4, ![1, 128, 2, 64]⟩
abbrev S16x128x2048 : Shape := ⟨3, ![16, 128, 2048]⟩
abbrev S16x2x128x128 : Shape := ⟨4, ![16, 2, 128, 128]⟩
abbrev S1x128x2048 : Shape := ⟨3, ![1, 128, 2048]⟩
abbrev S1x2x128x128 : Shape := ⟨4, ![1, 2, 128, 128]⟩
abbrev S128x2048 : Shape := ⟨2, ![128, 2048]⟩
abbrev S128x512 : Shape := ⟨2, ![128, 512]⟩
abbrev S1x1x128x128 : Shape := ⟨4, ![1, 1, 128, 128]⟩
abbrev S16x2x127x128 : Shape := ⟨4, ![16, 2, 127, 128]⟩

abbrev nBuf : Space → Nat
  | .hbm => 146
  | .vmem => 22
  | .smem => 0
  | _ => 0

abbrev hbmTy0_0 (i : Nat) : BufTy := match i % 128 with
  | 0 => ⟨S16x2048x128, .f32⟩
  | 1 => ⟨S16x2048x128, .f32⟩
  | 2 => ⟨S3x64, .f32⟩
  | 3 => ⟨S32x64, .f32⟩
  | 4 => ⟨S32x64x256, .f32⟩
  | 5 => ⟨S256, .f32⟩
  | 6 => ⟨S256x64, .f32⟩
  | 7 => ⟨S32x64, .f32⟩
  | 8 => ⟨S32x64x256, .f32⟩
  | 9 => ⟨S256, .f32⟩
  | 10 => ⟨S256x64, .f32⟩
  | 11 => ⟨S128x128, .bf16⟩
  | 12 => ⟨S1x64, .f32⟩
  | 13 => ⟨S64, .f32⟩
  | 14 => ⟨S1x64, .f32⟩
  | 15 => ⟨S2x64, .f32⟩
  | 16 => ⟨S128, .f32⟩
  | 17 => ⟨S1x128, .f32⟩
  | 18 => ⟨S2x2, .i32⟩
  | 19 => ⟨S2x2, .i32⟩
  | 20 => ⟨S_, .i32⟩
  | 21 => ⟨S2x2, .i32⟩
  | 22 => ⟨S2x2, .i32⟩
  | 23 => ⟨S2x2, .i1⟩
  | 24 => ⟨S2x2, .f32⟩
  | 25 => ⟨S16x64x256, .f32⟩
  | 26 => ⟨S16x64x256, .f32⟩
  | 27 => ⟨S16x1x64x1x256, .f32⟩
  | 28 => ⟨S1x2x1x2x1, .f32⟩
  | 29 => ⟨S16x2x64x2x256, .f32⟩
  | 30 => ⟨S16x2x64x2x256, .f32⟩
  | 31 => ⟨S16x2x64x2x256, .f32⟩
  | 32 => ⟨S2048x512, .f32⟩
  | 33 => ⟨S2048x512, .bf16⟩
  | 34 => ⟨S16x1x64x1x256, .f32⟩
  | 35 => ⟨S1x2x1x2x1, .f32⟩
  | 36 => ⟨S16x2x64x2x256, .f32⟩
  | 37 => ⟨S16x2x64x2x256, .f32⟩
  | 38 => ⟨S16x2x64x2x256, .f32⟩
  | 39 => ⟨S2048x512, .f32⟩
  | 40 => ⟨S2048x512, .bf16⟩
  | 41 => ⟨S16x64, .f32⟩
  | 42 => ⟨S16x64, .f32⟩
  | 43 => ⟨S16x1x64, .f32⟩
  | 44 => ⟨S16x2x64, .f32⟩
  | 45 => ⟨S2048, .f32⟩
  | 46 => ⟨S16x1x64, .f32⟩
  | 47 => ⟨S16x2x64, .f32⟩
  | 48 => ⟨S2048, .f32⟩
  | 49 => ⟨S1x2048, .f32⟩
  | 50 => ⟨S1x2048, .f32⟩
  | 51 => ⟨S2x2048, .f32⟩
  | 52 => ⟨S1x256x1x64, .f32⟩
  | 53 => ⟨S2x1x2x1, .f32⟩
  | 54 => ⟨S2x256x2x64, .f32⟩
  | 55 => ⟨S2x256x2x64, .f32⟩
  | 56 => ⟨S2x256x2x64, .f32⟩
  | 57 => ⟨S512x128, .f32⟩
  | 58 => ⟨S512x128, .bf16⟩
  | 59 => ⟨S1x256, .f32⟩
  | 60 => ⟨S2x256, .f32⟩
  | 61 => ⟨S512, .f32⟩
  | 62 => ⟨S1x512, .f32⟩
  | 63 => ⟨S2x2, .i32⟩
  | 64 => ⟨S2x2, .i32⟩
  | 65 => ⟨S_, .i32⟩
  | 66 => ⟨S2x2, .i32⟩
  | 67 => ⟨S2x2, .i32⟩
  | 68 => ⟨S2x2, .i1⟩
  | 69 => ⟨S2x2, .f32⟩
  | 70 => ⟨S16x64x256, .f32⟩
  | 71 => ⟨S16x64x256, .f32⟩
  | 72 => ⟨S16x1x64x1x256, .f32⟩
  | 73 => ⟨S1x2x1x2x1, .f32⟩
  | 74 => ⟨S16x2x64x2x256, .f32⟩
  | 75 => ⟨S16x2x64x2x256, .f32⟩
  | 76 => ⟨S16x2x64x2x256, .f32⟩
  | 77 => ⟨S2048x512, .f32⟩
  | 78 => ⟨S2048x512, .bf16⟩
  | 79 => ⟨S16x1x64x1x256, .f32⟩
  | 80 => ⟨S1x2x1x2x1, .f32⟩
  | 81 => ⟨S16x2x64x2x256, .f32⟩
  | 82 => ⟨S16x2x64x2x256, .f32⟩
  | 83 => ⟨S16x2x64x2x256, .f32⟩
  | 84 => ⟨S2048x512, .f32⟩
  | 85 => ⟨S2048x512, .bf16⟩
  | 86 => ⟨S16x64, .f32⟩
  | 87 => ⟨S16x64, .f32⟩
  | 88 => ⟨S16x1x64, .f32⟩
  | 89 => ⟨S16x2x64, .f32⟩
  | 90 => ⟨S2048, .f32⟩
  | 91 => ⟨S16x1x64, .f32⟩
  | 92 => ⟨S16x2x64, .f32⟩
  | 93 => ⟨S2048, .f32⟩
  | 94 => ⟨S1x2048, .f32⟩
  | 95 => ⟨S1x2048, .f32⟩
  | 96 => ⟨S2x2048, .f32⟩
  | 97 => ⟨S1x256x1x64, .f32⟩
  | 98 => ⟨S2x1x2x1, .f32⟩
  | 99 => ⟨S2x256x2x64, .f32⟩
  | 100 => ⟨S2x256x2x64, .f32⟩
  | 101 => ⟨S2x256x2x64, .f32⟩
  | 102 => ⟨S512x128, .f32⟩
  | 103 => ⟨S512x128, .bf16⟩
  | 104 => ⟨S1x256, .f32⟩
  | 105 => ⟨S2x256, .f32⟩
  | 106 => ⟨S512, .f32⟩
  | 107 => ⟨S1x512, .f32⟩
  | 108 => ⟨S128, .i32⟩
  | 109 => ⟨S_, .i32⟩
  | 110 => ⟨S128, .i32⟩
  | 111 => ⟨S128, .i32⟩
  | 112 => ⟨S_, .i32⟩
  | 113 => ⟨S128, .i32⟩
  | 114 => ⟨S128, .i32⟩
  | 115 => ⟨S32, .f32⟩
  | 116 => ⟨S32, .f32⟩
  | 117 => ⟨S_, .f32⟩
  | 118 => ⟨S32, .f32⟩
  | 119 => ⟨S32, .f32⟩
  | 120 => ⟨S_, .f32⟩
  | 121 => ⟨S32, .f32⟩
  | 122 => ⟨S32, .f32⟩
  | 123 => ⟨S128, .f32⟩
  | 124 => ⟨S128x1, .f32⟩
  | 125 => ⟨S1x32, .f32⟩
  | 126 => ⟨S128x32, .f32⟩
  | 127 => ⟨S128x32, .f32⟩
  | _ => ⟨S16x2048x128, .f32⟩

abbrev hbmTy0_1 (i : Nat) : BufTy := match i % 128 with
  | 0 => ⟨S128x32, .f32⟩
  | 1 => ⟨S128x32, .f32⟩
  | 2 => ⟨S128x32, .f32⟩
  | 3 => ⟨S128x64, .f32⟩
  | 4 => ⟨S128x32, .f32⟩
  | 5 => ⟨S128x64, .f32⟩
  | 6 => ⟨S1x128x1x64, .f32⟩
  | 7 => ⟨S1x128x2x64, .f32⟩
  | 8 => ⟨S128x128, .f32⟩
  | 9 => ⟨S1x128x1x64, .f32⟩
  | 10 => ⟨S1x128x2x64, .f32⟩
  | 11 => ⟨S128x128, .f32⟩
  | 12 => ⟨S16x128x2048, .f32⟩
  | 13 => ⟨S16x128x2048, .f32⟩
  | 14 => ⟨S16x2x128x128, .bf16⟩
  | 15 => ⟨S16x2x128x128, .bf16⟩
  | 16 => ⟨S16x2x127x128, .bf16⟩
  | 17 => ⟨S16x2x127x128, .bf16⟩
  | _ => ⟨S16x2048x128, .f32⟩

abbrev hbmTy (i : Nat) : BufTy := match i / 128 with
  | 0 => hbmTy0_0 i
  | 1 => hbmTy0_1 i
  | _ => ⟨S16x2048x128, .f32⟩

abbrev bufTy : (tb : Table) → Fin (tcTables nBuf tb) → BufTy
  | .hbm, ⟨i, _⟩ => hbmTy i
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S2x2048, .f32⟩
  | .local _ .vmem, ⟨5, _⟩ => ⟨S2x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1x512, .f32⟩
  | .local _ .vmem, ⟨11, _⟩ => ⟨S1x512, .f32⟩
  | .local _ .vmem, ⟨12, _⟩ => ⟨S512x128, .bf16⟩
  | .local _ .vmem, ⟨13, _⟩ => ⟨S512x128, .bf16⟩
  | .local _ .vmem, ⟨14, _⟩ => ⟨S1x128, .f32⟩
  | .local _ .vmem, ⟨15, _⟩ => ⟨S128x128, .f32⟩
  | .local _ .vmem, ⟨16, _⟩ => ⟨S128x128, .f32⟩
  | .local _ .vmem, ⟨17, _⟩ => ⟨S128x128, .bf16⟩
  | .local _ .vmem, ⟨18, _⟩ => ⟨S1x2x128x128, .bf16⟩
  | .local _ .vmem, ⟨19, _⟩ => ⟨S1x2x128x128, .bf16⟩
  | .local _ .vmem, ⟨20, _⟩ => ⟨S1x2x128x128, .bf16⟩
  | .local _ .vmem, ⟨21, _⟩ => ⟨S1x2x128x128, .bf16⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_0 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_c_1 : Ref sig .tc := ⟨.hbm, 109, rfl⟩
abbrev main_v95 : Ref sig .tc := ⟨.hbm, 110, rfl⟩
abbrev main_v96 : Ref sig .tc := ⟨.hbm, 111, rfl⟩
abbrev main_c_2 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_cst_3 : Ref sig .tc := ⟨.hbm, 117, rfl⟩
abbrev main_v101 : Ref sig .tc := ⟨.hbm, 118, rfl⟩
abbrev main_v102 : Ref sig .tc := ⟨.hbm, 119, rfl⟩
abbrev main_cst_4 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124_0 : Ref sig .tc := ⟨.hbm, 142, rfl⟩
abbrev main_v124_1 : Ref sig .tc := ⟨.hbm, 143, rfl⟩
abbrev main_v125 : Ref sig .tc := ⟨.hbm, 144, rfl⟩
abbrev main_v126 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x2x128x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x2x128x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== NsaCmpRefIdeal.lean ====
abbrev S16x2048x128 : Shape := ⟨3, ![16, 2048, 128]⟩
abbrev S3x64 : Shape := ⟨2, ![3, 64]⟩
abbrev S32x64 : Shape := ⟨2, ![32, 64]⟩
abbrev S32x64x256 : Shape := ⟨3, ![32, 64, 256]⟩
abbrev S256 : Shape := ⟨1, ![256]⟩
abbrev S256x64 : Shape := ⟨2, ![256, 64]⟩
abbrev S127 : Shape := ⟨1, ![127]⟩
abbrev S_ : Shape := ⟨0, ![]⟩
abbrev S16x128x16x2x64 : Shape := ⟨5, ![16, 128, 16, 2, 64]⟩
abbrev S16x127x16x2x64 : Shape := ⟨5, ![16, 127, 16, 2, 64]⟩
abbrev S16x127x32x2x64 : Shape := ⟨5, ![16, 127, 32, 2, 64]⟩
abbrev S1x1x32x1x64 : Shape := ⟨5, ![1, 1, 32, 1, 64]⟩
abbrev S16x127x2x256 : Shape := ⟨4, ![16, 127, 2, 256]⟩
abbrev S1x1x1x256 : Shape := ⟨4, ![1, 1, 1, 256]⟩
abbrev S16x127x2x64 : Shape := ⟨4, ![16, 127, 2, 64]⟩
abbrev S1x64 : Shape := ⟨2, ![1, 64]⟩
abbrev S64 : Shape := ⟨1, ![64]⟩
abbrev S16x127x2 : Shape := ⟨3, ![16, 127, 2]⟩
abbrev S16x127x2x1 : Shape := ⟨4, ![16, 127, 2, 1]⟩
abbrev S1x1x1x64 : Shape := ⟨4, ![1, 1, 1, 64]⟩
abbrev S32 : Shape := ⟨1, ![32]⟩
abbrev S127x1 : Shape := ⟨2, ![127, 1]⟩
abbrev S1x32 : Shape := ⟨2, ![1, 32]⟩
abbrev S127x32 : Shape := ⟨2, ![127, 32]⟩
abbrev S127x1x32 : Shape := ⟨3, ![127, 1, 32]⟩
abbrev S16x127x2x32 : Shape := ⟨4, ![16, 127, 2, 32]⟩
abbrev S1x127x1x32 : Shape := ⟨4, ![1, 127, 1, 32]⟩
abbrev S16x2x127x64 : Shape := ⟨4, ![16, 2, 127, 64]⟩
abbrev S16x2x127x128 : Shape := ⟨4, ![16, 2, 127, 128]⟩

abbrev nBuf : Space → Nat
  | .hbm => 122
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S3x64, .f32⟩
  | .hbm, ⟨3, _⟩ => ⟨S32x64, .f32⟩
  | .hbm, ⟨4, _⟩ => ⟨S32x64x256, .f32⟩
  | .hbm, ⟨5, _⟩ => ⟨S256, .f32⟩
  | .hbm, ⟨6, _⟩ => ⟨S256x64, .f32⟩
  | .hbm, ⟨7, _⟩ => ⟨S32x64, .f32⟩
  | .hbm, ⟨8, _⟩ => ⟨S32x64x256, .f32⟩
  | .hbm, ⟨9, _⟩ => ⟨S256, .f32⟩
  | .hbm, ⟨10, _⟩ => ⟨S256x64, .f32⟩
  | .hbm, ⟨11, _⟩ => ⟨S127, .i32⟩
  | .hbm, ⟨12, _⟩ => ⟨S_, .i32⟩
  | .hbm, ⟨13, _⟩ => ⟨S127, .i32⟩
  | .hbm, ⟨14, _⟩ => ⟨S127, .i32⟩
  | .hbm, ⟨15, _⟩ => ⟨S_, .i32⟩
  | .hbm, ⟨16, _⟩ => ⟨S127, .i32⟩
  | .hbm, ⟨17, _⟩ => ⟨S127, .i32⟩
  | .hbm, ⟨18, _⟩ => ⟨S_, .i32⟩
  | .hbm, ⟨19, _⟩ => ⟨S127, .i32⟩
  | .hbm, ⟨20, _⟩ => ⟨S127, .i32⟩
  | .hbm, ⟨21, _⟩ => ⟨S16x128x16x2x64, .f32⟩
  | .hbm, ⟨22, _⟩ => ⟨S16x127x16x2x64, .f32⟩
  | .hbm, ⟨23, _⟩ => ⟨S16x127x16x2x64, .f32⟩
  | .hbm, ⟨24, _⟩ => ⟨S16x127x32x2x64, .f32⟩
  | .hbm, ⟨25, _⟩ => ⟨S1x1x32x1x64, .f32⟩
  | .hbm, ⟨26, _⟩ => ⟨S16x127x32x2x64, .f32⟩
  | .hbm, ⟨27, _⟩ => ⟨S16x127x32x2x64, .f32⟩
  | .hbm, ⟨28, _⟩ => ⟨S16x127x2x256, .f32⟩
  | .hbm, ⟨29, _⟩ => ⟨S1x1x1x256, .f32⟩
  | .hbm, ⟨30, _⟩ => ⟨S16x127x2x256, .f32⟩
  | .hbm, ⟨31, _⟩ => ⟨S16x127x2x256, .f32⟩
  | .hbm, ⟨32, _⟩ => ⟨S16x127x2x256, .f32⟩
  | .hbm, ⟨33, _⟩ => ⟨S16x127x2x256, .f32⟩
  | .hbm, ⟨34, _⟩ => ⟨S_, .f32⟩
  | .hbm, ⟨35, _⟩ => ⟨S16x127x2x256, .f32⟩
  | .hbm, ⟨36, _⟩ => ⟨S16x127x2x256, .f32⟩
  | .hbm, ⟨37, _⟩ => ⟨S_, .f32⟩
  | .hbm, ⟨38, _⟩ => ⟨S16x127x2x256, .f32⟩
  | .hbm, ⟨39, _⟩ => ⟨S16x127x2x256, .f32⟩
  | .hbm, ⟨40, _⟩ => ⟨S16x127x2x256, .f32⟩
  | .hbm, ⟨41, _⟩ => ⟨S16x127x2x64, .f32⟩
  | .hbm, ⟨42, _⟩ => ⟨S1x64, .f32⟩
  | .hbm, ⟨43, _⟩ => ⟨S64, .f32⟩
  | .hbm, ⟨44, _⟩ => ⟨S16x127x2x64, .f32⟩
  | .hbm, ⟨45, _⟩ => ⟨S_, .f32⟩
  | .hbm, ⟨46, _⟩ => ⟨S16x127x2, .f32⟩
  | .hbm, ⟨47, _⟩ => ⟨S16x127x2x1, .f32⟩
  | .hbm, ⟨48, _⟩ => ⟨S_, .f32⟩
  | .hbm, ⟨49, _⟩ => ⟨S16x127x2x1, .f32⟩
  | .hbm, ⟨50, _⟩ => ⟨S16x127x2x1, .f32⟩
  | .hbm, ⟨51, _⟩ => ⟨S_, .f32⟩
  | .hbm, ⟨52, _⟩ => ⟨S16x127x2x1, .f32⟩
  | .hbm, ⟨53, _⟩ => ⟨S16x127x2x1, .f32⟩
  | .hbm, ⟨54, _⟩ => ⟨S16x127x2x1, .f32⟩
  | .hbm, ⟨55, _⟩ => ⟨S16x127x2x64, .f32⟩
  | .hbm, ⟨56, _⟩ => ⟨S16x127x2x64, .f32⟩
  | .hbm, ⟨57, _⟩ => ⟨S1x1x1x64, .f32⟩
  | .hbm, ⟨58, _⟩ => ⟨S16x127x2x64, .f32⟩
  | .hbm, ⟨59, _⟩ => ⟨S16x127x2x64, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S127, .f32⟩
  | .hbm, ⟨69, _⟩ => ⟨S127x1, .f32⟩
  | .hbm, ⟨70, _⟩ => ⟨S1x32, .f32⟩
  | .hbm, ⟨71, _⟩ => ⟨S127x32, .f32⟩
  | .hbm, ⟨72, _⟩ => ⟨S127x32, .f32⟩
  | .hbm, ⟨73, _⟩ => ⟨S127x32, .f32⟩
  | .hbm, ⟨74, _⟩ => ⟨S127x32, .f32⟩
  | .hbm, ⟨75, _⟩ => ⟨S127x1x32, .f32⟩
  | .hbm, ⟨76, _⟩ => ⟨S127x32, .f32⟩
  | .hbm, ⟨77, _⟩ => ⟨S127x1x32, .f32⟩
  | .hbm, ⟨78, _⟩ => ⟨S16x127x2x32, .f32⟩
  | .hbm, ⟨79, _⟩ => ⟨S16x127x2x32, .f32⟩
  | .hbm, ⟨80, _⟩ => ⟨S1x127x1x32, .f32⟩
  | .hbm, ⟨81, _⟩ => ⟨S16x127x2x32, .f32⟩
  | .hbm, ⟨82, _⟩ => ⟨S16x127x2x32, .f32⟩
  | .hbm, ⟨83, _⟩ => ⟨S1x127x1x32, .f32⟩
  | .hbm, ⟨84, _⟩ => ⟨S16x127x2x32, .f32⟩
  | .hbm, ⟨85, _⟩ => ⟨S16x127x2x32, .f32⟩
  | .hbm, ⟨86, _⟩ => ⟨S16x127x2x32, .f32⟩
  | .hbm, ⟨87, _⟩ => ⟨S1x127x1x32, .f32⟩
  | .hbm, ⟨88, _⟩ => ⟨S16x127x2x32, .f32⟩
  | .hbm, ⟨89, _⟩ => ⟨S16x127x2x32, .f32⟩
  | .hbm, ⟨90, _⟩ => ⟨S1x127x1x32, .f32⟩
  | .hbm, ⟨91, _⟩ => ⟨S16x127x2x32, .f32⟩
  | .hbm, ⟨92, _⟩ => ⟨S16x127x2x32, .f32⟩
  | .hbm, ⟨93, _⟩ => ⟨S16x127x2x32, .f32⟩
  | .hbm, ⟨94, _⟩ => ⟨S16x127x2x64, .f32⟩
  | .hbm, ⟨95, _⟩ => ⟨S16x128x16x2x64, .f32⟩
  | .hbm, ⟨96, _⟩ => ⟨S16x127x16x2x64, .f32⟩
  | .hbm, ⟨97, _⟩ => ⟨S16x127x16x2x64, .f32⟩
  | .hbm, ⟨98, _⟩ => ⟨S16x127x32x2x64, .f32⟩
  | .hbm, ⟨99, _⟩ => ⟨S1x1x32x1x64, .f32⟩
  | .hbm, ⟨100, _⟩ => ⟨S16x127x32x2x64, .f32⟩
  | .hbm, ⟨101, _⟩ => ⟨S16x127x32x2x64, .f32⟩
  | .hbm, ⟨102, _⟩ => ⟨S16x127x2x256, .f32⟩
  | .hbm, ⟨103, _⟩ => ⟨S1x1x1x256, .f32⟩
  | .hbm, ⟨104, _⟩ => ⟨S16x127x2x256, .f32⟩
  | .hbm, ⟨105, _⟩ => ⟨S16x127x2x256, .f32⟩
  | .hbm, ⟨106, _⟩ => ⟨S16x127x2x256, .f32⟩
  | .hbm, ⟨107, _⟩ => ⟨S16x127x2x256, .f32⟩
  | .hbm, ⟨108, _⟩ => ⟨S_, .f32⟩
  | .hbm, ⟨109, _⟩ => ⟨S16x127x2x256, .f32⟩
  | .hbm, ⟨110, _⟩ => ⟨S16x127x2x256, .f32⟩
  | .hbm, ⟨111, _⟩ => ⟨S_, .f32⟩
  | .hbm, ⟨112, _⟩ => ⟨S16x127x2x256, .f32⟩
  | .hbm, ⟨113, _⟩ => ⟨S16x127x2x256, .f32⟩
  | .hbm, ⟨114, _⟩ => ⟨S16x127x2x256, .f32⟩
  | .hbm, ⟨115, _⟩ => ⟨S16x127x2x64, .f32⟩
  | .hbm, ⟨116, _⟩ => ⟨S16x2x127x64, .f32⟩
  | .hbm, ⟨117, _⟩ => ⟨S16x2x127x128, .f32⟩
  | .hbm, ⟨118, _⟩ => ⟨S16x2x127x128, .bf16⟩
  | .hbm, ⟨119, _⟩ => ⟨S16x2x127x64, .f32⟩
  | .hbm, ⟨120, _⟩ => ⟨S16x2x127x128, .f32⟩
  | .hbm, ⟨121, _⟩ => ⟨S16x2x127x128, .bf16⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst : Ref sig .tc := ⟨.hbm, 45, rfl⟩
abbrev main_v23 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_call1_v0 : Ref sig .tc := ⟨.hbm, 106, rfl⟩
abbrev main_call1_v1 : Ref sig .tc := ⟨.hbm, 107, rfl⟩
abbrev main_call1_cst : Ref sig .tc := ⟨.hbm, 108, rfl⟩
abbrev main_call1_v2 : Ref sig .tc := ⟨.hbm, 109, rfl⟩
abbrev main_call1_v3 : Ref sig .tc := ⟨.hbm, 110, rfl⟩
abbrev main_call1_cst_0 : Ref sig .tc := ⟨.hbm, 111, rfl⟩
abbrev main_call1_v4 : Ref sig .tc := ⟨.hbm, 112, rfl⟩
abbrev main_call1_v5 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩

abbrev nD : Nat := 1
abbrev τ : Topo := Topo.v7x

variable {F : FTy → Type} [FloatOps F]
-- ==== Mlstm.lean ====
abbrev S16x2048x2176 : Shape := ⟨3, ![16, 2048, 2176]⟩
abbrev S4x1024 : Shape := ⟨2, ![4, 1024]⟩
abbrev S1024 : Shape := ⟨1, ![1024]⟩
abbrev S4 : Shape := ⟨1, ![4]⟩
abbrev S4x128 : Shape := ⟨2, ![4, 128]⟩
abbrev S_ : Shape := ⟨0, ![]⟩
abbrev S120 : Shape := ⟨1, ![120]⟩
abbrev S128 : Shape := ⟨1, ![128]⟩
abbrev S1x128 : Shape := ⟨2, ![1, 128]⟩
abbrev S1x1024 : Shape := ⟨2, ![1, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16x2048x512 : Shape := ⟨3, ![16, 2048, 512]⟩
abbrev S1x256x512 : Shape := ⟨3, ![1, 256, 512]⟩
abbrev S1x256x128 : Shape := ⟨3, ![1, 256, 128]⟩
abbrev S264x1024 : Shape := ⟨2, ![264, 1024]⟩
abbrev S4x128x128 : Shape := ⟨3, ![4, 128, 128]⟩
abbrev S4x1x128 : Shape := ⟨3, ![4, 1, 128]⟩
abbrev S8x1024 : Shape := ⟨2, ![8, 1024]⟩
abbrev S256x512 : Shape := ⟨2, ![256, 512]⟩
abbrev S256x1024 : Shape := ⟨2, ![256, 1024]⟩
abbrev S256x128 : Shape := ⟨2, ![256, 128]⟩
abbrev S128x256 : Shape := ⟨2, ![128, 256]⟩
abbrev S8x256 : Shape := ⟨2, ![8, 256]⟩
abbrev S64x64 : Shape := ⟨2, ![64, 64]⟩
abbrev S64x1 : Shape := ⟨2, ![64, 1]⟩
abbrev S1x64 : Shape := ⟨2, ![1, 64]⟩
abbrev S64x128 : Shape := ⟨2, ![64, 128]⟩
abbrev S1x64x128 : Shape := ⟨3, ![1, 64, 128]⟩
abbrev S1x128x128 : Shape := ⟨3, ![1, 128, 128]⟩
abbrev S128x128 : Shape := ⟨2, ![128, 128]⟩
abbrev S1x1x128 : Shape := ⟨3, ![1, 1, 128]⟩
abbrev S1x1 : Shape := ⟨2, ![1, 1]⟩
abbrev S64 : Shape := ⟨1, ![64]⟩
abbrev S1 : Shape := ⟨1, ![1]⟩

abbrev nBuf : Space → Nat
  | .hbm => 62
  | .vmem => 21
  | .smem => 0
  | _ => 0

abbrev bufTy : (tb : Table) → Fin (tcTables nBuf tb) → BufTy
  | .hbm, ⟨0, _⟩ => ⟨S16x2048x2176, .f32⟩
  | .hbm, ⟨1, _⟩ => ⟨S4x1024, .f32⟩
  | .hbm, ⟨2, _⟩ => ⟨S1024, .f32⟩
  | .hbm, ⟨3, _⟩ => ⟨S4, .f32⟩
  | .hbm, ⟨4, _⟩ => ⟨S4, .f32⟩
  | .hbm, ⟨5, _⟩ => ⟨S4x128, .f32⟩
  | .hbm, ⟨6, _⟩ => ⟨S_, .f32⟩
  | .hbm, ⟨7, _⟩ => ⟨S120, .f32⟩
  | .hbm, ⟨8, _⟩ => ⟨S128, .f32⟩
  | .hbm, ⟨9, _⟩ => ⟨S1x128, .f32⟩
  | .hbm, ⟨10, _⟩ => ⟨S1x1024, .f32⟩
  | .hbm, ⟨11, _⟩ => ⟨S256, .i32⟩
  | .hbm, ⟨12, _⟩ => ⟨S256x1, .i32⟩
  | .hbm, ⟨13, _⟩ => ⟨S_, .i32⟩
  | .hbm, ⟨14, _⟩ => ⟨S_, .i32⟩
  | .hbm, ⟨15, _⟩ => ⟨S256x1, .i32⟩
  | .hbm, ⟨16, _⟩ => ⟨S256x1, .i32⟩
  | .hbm, ⟨17, _⟩ => ⟨S256x1, .i32⟩
  | .hbm, ⟨18, _⟩ => ⟨S_, .i32⟩
  | .hbm, ⟨19, _⟩ => ⟨S256x1, .i32⟩
  | .hbm, ⟨20, _⟩ => ⟨S256x1, .i1⟩
  | .hbm, ⟨21, _⟩ => ⟨S256x1, .i32⟩
  | .hbm, ⟨22, _⟩ => ⟨S256x1, .i32⟩
  | .hbm, ⟨23, _⟩ => ⟨S_, .i32⟩
  | .hbm, ⟨24, _⟩ => ⟨S256x1, .i32⟩
  | .hbm, ⟨25, _⟩ => ⟨S256x1, .i1⟩
  | .hbm, ⟨26, _⟩ => ⟨S256x1, .i1⟩
  | .hbm, ⟨27, _⟩ => ⟨S_, .i32⟩
  | .hbm, ⟨28, _⟩ => ⟨S256x1, .i32⟩
  | .hbm, ⟨29, _⟩ => ⟨S256x1, .i32⟩
  | .hbm, ⟨30, _⟩ => ⟨S256x1, .i32⟩
  | .hbm, ⟨31, _⟩ => ⟨S1x256, .i32⟩
  | .hbm, ⟨32, _⟩ => ⟨S_, .i32⟩
  | .hbm, ⟨33, _⟩ => ⟨S_, .i32⟩
  | .hbm, ⟨34, _⟩ => ⟨S1x256, .i32⟩
  | .hbm, ⟨35, _⟩ => ⟨S1x256, .i32⟩
  | .hbm, ⟨36, _⟩ => ⟨S1x256, .i32⟩
  | .hbm, ⟨37, _⟩ => ⟨S_, .i32⟩
  | .hbm, ⟨38, _⟩ => ⟨S1x256, .i32⟩
  | .hbm, ⟨39, _⟩ => ⟨S1x256, .i1⟩
  | .hbm, ⟨40, _⟩ => ⟨S1x256, .i32⟩
  | .hbm, ⟨41, _⟩ => ⟨S1x256, .i32⟩
  | .hbm, ⟨42, _⟩ => ⟨S_, .i32⟩
  | .hbm, ⟨43, _⟩ => ⟨S1x256, .i32⟩
  | .hbm, ⟨44, _⟩ => ⟨S1x256, .i1⟩
  | .hbm, ⟨45, _⟩ => ⟨S1x256, .i1⟩
  | .hbm, ⟨46, _⟩ => ⟨S_, .i32⟩
  | .hbm, ⟨47, _⟩ => ⟨S1x256, .i32⟩
  | .hbm, ⟨48, _⟩ => ⟨S1x256, .i32⟩
  | .hbm, ⟨49, _⟩ => ⟨S1x256, .i32⟩
  | .hbm, ⟨50, _⟩ => ⟨S256x256, .i32⟩
  | .hbm, ⟨51, _⟩ => ⟨S256x256, .i32⟩
  | .hbm, ⟨52, _⟩ => ⟨S256x256, .i1⟩
  | .hbm, ⟨53, _⟩ => ⟨S1x256, .i32⟩
  | .hbm, ⟨54, _⟩ => ⟨S256x1, .i32⟩
  | .hbm, ⟨55, _⟩ => ⟨S256x256, .i32⟩
  | .hbm, ⟨56, _⟩ => ⟨S256x256, .i32⟩
  | .hbm, ⟨57, _⟩ => ⟨S256x256, .i1⟩
  | .hbm, ⟨58, _⟩ => ⟨S256x256, .i1⟩
  | .hbm, ⟨59, _⟩ => ⟨S256x256, .f32⟩
  | .hbm, ⟨60, _⟩ => ⟨S256x256, .bf16⟩
  | .hbm, ⟨61, _⟩ => ⟨S16x2048x512, .bf16⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x128, .f32⟩
  | .local _ .vmem, ⟨9, _⟩ => ⟨S1x256x128, .f32⟩
  | .local _ .vmem, ⟨10, _⟩ => ⟨S4x1024, .f32⟩
  | .local _ .vmem, ⟨11, _⟩ => ⟨S1x1024, .f32⟩
  | .local _ .vmem, ⟨12, _⟩ => ⟨S1x128, .f32⟩
  | .local _ .vmem, ⟨13, _⟩ => ⟨S4x128, .f32⟩
  | .local _ .vmem, ⟨14, _⟩ => ⟨S256x256, .bf16⟩
  | .local _ .vmem, ⟨15, _⟩ => ⟨S1x256x512, .bf16⟩
  | .local _ .vmem, ⟨16, _⟩ => ⟨S1x256x512, .bf16⟩
  | .local _ .vmem, ⟨17, _⟩ => ⟨S264x1024, .f32⟩
  | .local _ .vmem, ⟨18, _⟩ => ⟨S4x128x128, .f32⟩
  | .local _ .vmem, ⟨19, _⟩ => ⟨S4x1x128, .f32⟩
  | .local _ .vmem, ⟨20, _⟩ => ⟨S4x1x128, .f32⟩
  | _, _ => ⟨S16x2048x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v6 : Ref sig .tc := ⟨.hbm, 30, rfl⟩
abbrev main_v7 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  ![arg0.toNat, arg1.toNat, c16_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Proof.ProjValue.lean ====
module

public import proofs.«01_k».proof.Proof.Gen.ProjIdeal.Value
public import proofs.«01_k».proof.Proof.Gen.ProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjRefIdeal.Spec

open Cert.ProjRefIdeal Cert.ProjRefIdeal.Gen

/-- The normalised rows of the reference: each row of `a0` divided by its root mean square, times the gain. -/
def rows (a0 : FVec Ideal S32768x1024 .f32) (a1 : FVec Ideal S1024 .f32) : FVec Ideal S32768x1024 .f32 :=
  mulf (mulf a0 (broadcastInDim S32768x1024 ![0, 1] bcast_S32768x1_S32768x1024_0_1 (Host.rsqrt (addf (Host.divf (broadcastInDim S32768x1 ![0] bcast_S32768_S32768x1_0 (Host.reduceAdd (mulf a0 a0) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 a1))

/-- The reference's first result: the rows times the first slice of the weights, padded with zero columns. -/
def ml (a0 : FVec Ideal S32768x1024 .f32) (a1 : FVec Ideal S1024 .f32) (a2 : FVec Ideal S1024x6944 .f32) : FVec Ideal S32768x2176 .f32 :=
  pad S32768x2176 ![0, 0] ![0, 120] ![0, 0] (Host.dotGeneral dot_S32768x1024_S1024x2056_S32768x2056_1_0_0_1_n_n none (rows a0 a1) (extractStridedSlice S1024x2056 ![0, 0] a2 slices_S1024x6944_S1024x2056_0_0)) (sitofp .f32 (constantI S_ 32 0#32)) pads_S32768x2056_S32768x2176_000_01200 h_S_

/-- The reference's second result: the rows times the second slice of the weights, padded with zero columns. -/
def nsa (a0 : FVec Ideal S32768x1024 .f32) (a1 : FVec Ideal S1024 .f32) (a2 : FVec Ideal S1024x6944 .f32) : FVec Ideal S32768x1408 .f32 :=
  pad S32768x1408 ![0, 0] ![0, 104] ![0, 0] (Host.dotGeneral dot_S32768x1024_S1024x1304_S32768x1304_1_0_0_1_n_n none (rows a0 a1) (extractStridedSlice S1024x1304 ![0, 2056] a2 slices_S1024x6944_S1024x1304_0_2056)) (sitofp .f32 (constantI S_ 32 0#32)) pads_S32768x1304_S32768x1408_000_01040 h_S_

end Cert.ProjRefIdeal.Spec

namespace Cert.ProjIdeal.Value

open Cert.ProjIdeal Cert.ProjIdeal.Gen

variable (m : (ℓ : Loc nD τ sig) → Buf (Elt Ideal) ℓ)

/-- Which block each window holds at grid point `t`. -/
theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![t.val, 0] ∧ win0_5.index t = ![t.val, 0])

/-- The first weight operand: a slice of the weights, with zero columns after it. -/
theorem wml (c : Dev nD) (t : Fin cfg0.N) (k : Fin 1024) (j : Fin 2176) : (iblk m c 2 t : FVec Ideal S1024x2176 .bf16) (ix2 k j)
    = if h : (j : ℕ) < 2056 then (show EReal from (m ((c : Thread nD τ).loc main_arg2) : FVec Ideal S1024x6944 .f32) (ix2 k ⟨j, by omega⟩)) else (0 : EReal) := by
  have e : (iblk m c 2 t : FVec Ideal S1024x2176 .bf16) (ix2 k j) = (V m c main_v3 : FVec Ideal S1024x2176 .bf16) (ix2 k j) := by
    blk_ext [iblk, idx t]
  rw [e]
  entry_read
  pointwise
  try rfl

/-- The second weight operand: a slice of the weights, with zero columns after it. -/
theorem wnsa (c : Dev nD) (t : Fin cfg0.N) (k : Fin 1024) (j : Fin 1408) : (iblk m c 3 t : FVec Ideal S1024x1408 .bf16) (ix2 k j)
    = if h : (j : ℕ) < 1304 then (show EReal from (m ((c : Thread nD τ).loc main_arg2) : FVec Ideal S1024x6944 .f32) (ix2 k ⟨2056 + j, by omega⟩)) else (0 : EReal) := by
  have e : (iblk m c 3 t : FVec Ideal S1024x1408 .bf16) (ix2 k j) = (V m c main_v7 : FVec Ideal S1024x1408 .bf16) (ix2 k j) := by
    blk_ext [iblk, idx t]
  rw [e]
  entry_read
  pointwise
  try rfl

/-- The padding value of the reference, the integer zero as a float, is zero. -/
theorem zero_word : FloatOps.sitofp (F := Ideal) FTy.f32 0#32 = (0 : EReal) := by
  show (((0#32 : BitVec 32).toInt : ℝ) : EReal) = 0
  simp

/-- What point `t` stores in output window 4 is the reference's result at the place it is written to. -/
theorem point4 (c : Dev nD) (t : Fin cfg0.N) (y : S512x2176.Idx) :
    k0_pay2 (iblk m c 0 t) (iblk m c 1 t) (iblk m c 2 t) y
      = Cert.ProjRefIdeal.Spec.ml (m ((c : Thread nD τ).loc main_arg0)) (m ((c : Thread nD τ).loc main_arg1)) (m ((c : Thread nD τ).loc main_arg2)) (((cfg0.win 4).blk t).view.emb y) := by
  idx_vars y
  pointwise [k0_pay2, k0_pay1, Cert.ProjRefIdeal.Spec.ml, Cert.ProjRefIdeal.Spec.rows, zero_word]
  blk_simp [idx t, wml]
  split
  · blk_point [iblk, V, idx t]
  · simp only [mul_zero, Finset.sum_const_zero]

/-- The array of output window 4 after the run. -/
theorem final4 (c : Dev nD) : (dats m 0 c).arrAt 4 cfg0.N
    = Cert.ProjRefIdeal.Spec.ml (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point4 m c t y

/-- What point `t` stores in output window 5 is the reference's result at the place it is written to. -/
theorem point5 (c : Dev nD) (t : Fin cfg0.N) (y : S512x1408.Idx) :
    k0_pay3 (iblk m c 0 t) (iblk m c 1 t) (iblk m c 3 t) y
      = Cert.ProjRefIdeal.Spec.nsa (m ((c : Thread nD τ).loc main_arg0)) (m ((c : Thread nD τ).loc main_arg1)) (m ((c : Thread nD τ).loc main_arg2)) (((cfg0.win 5).blk t).view.emb y) := by
  idx_vars y
  pointwise [k0_pay3, k0_pay1, Cert.ProjRefIdeal.Spec.nsa, Cert.ProjRefIdeal.Spec.rows, zero_word]
  blk_simp [idx t, wnsa]
  split
  · blk_point [iblk, V, idx t]
  · simp only [mul_zero, Finset.sum_const_zero]

/-- The array of output window 5 after the run. -/
theorem final5 (c : Dev nD) : (dats m 0 c).arrAt 5 cfg0.N
    = Cert.ProjRefIdeal.Spec.nsa (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  exact point5 m c t y

end Cert.ProjIdeal.Value

end
-- ==== Proof.MemKvValue.lean ====
module

public import proofs.«01_k».proof.Proof.Gen.MemKvIdeal.Value
public import proofs.«01_k».proof.Proof.Gen.MemKvRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MemKvRefIdeal.Spec

open Cert.MemKvRefIdeal Cert.MemKvRefIdeal.Gen

/-- The reference's projection of the normalised memory rows: keys in the first half of the columns, values in the second. -/
def kv (a0 : FVec Ideal S16x256x1024 .f32) (a1 : FVec Ideal S1024 .f32) (a2 : FVec Ideal S1024x1024 .f32) : FVec Ideal S16x256x1024 .f32 :=
  Host.dotGeneral dot_S16x256x1024_S1024x1024_S16x256x1024_2_0_01_1_n_n none (mulf (mulf a0 (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf a0 a0) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 a1))) a2

/-- The reference's first result: the keys, normalised head by head. -/
def keys (a0 : FVec Ideal S16x256x1024 .f32) (a1 : FVec Ideal S1024 .f32) (a2 : FVec Ideal S1024x1024 .f32) (a3 : FVec Ideal S128 .f32) : FVec Ideal S16x256x512 .bf16 :=
  truncf .bf16 (shapeCast _ (mulf (mulf (shapeCast _ (extractStridedSlice S16x256x512 ![0, 0, 0] (kv a0 a1 a2) slices_S16x256x1024_S16x256x512_0_0_0) shapeCasts_S16x256x512_S16x256x4x128) (broadcastInDim S16x256x4x128 ![0, 1, 2, 3] bcast_S16x256x4x1_S16x256x4x128_0_1_2_3 (Host.rsqrt (addf (Host.divf (broadcastInDim S16x256x4x1 ![0, 1, 2] bcast_S16x256x4_S16x256x4x1_0_1_2 (Host.reduceAdd (mulf (shapeCast _ (extractStridedSlice S16x256x512 ![0, 0, 0] (kv a0 a1 a2) slices_S16x256x1024_S16x256x512_0_0_0) shapeCasts_S16x256x512_S16x256x4x128) (shapeCast _ (extractStridedSlice S16x256x512 ![0, 0, 0] (kv a0 a1 a2) slices_S16x256x1024_S16x256x512_0_0_0) shapeCasts_S16x256x512_S16x256x4x128)) (constant S_ .f32 0x00000000#32) reducesTo_S16x256x4x128_S16x256x4_d3 h_S_)) (broadcastInDim S16x256x4x1 ![] bcast_S_S16x256x4x1 (constant S_ .f32 0x43000000#32))) (broadcastInDim S16x256x4x1 ![] bcast_S_S16x256x4x1 (constant S_ .f32 0x358637BD#32)))))) (broadcastInDim S16x256x4x128 ![0, 1, 2, 3] bcast_S1x1x1x128_S16x256x4x128_0_1_2_3 (broadcastInDim S1x1x1x128 ![3] bcast_S128_S1x1x1x128_3 a3))) shapeCasts_S16x256x4x128_S16x256x512) bitsLt_bf16_f32

/-- The reference's second result: the values. -/
def vals (a0 : FVec Ideal S16x256x1024 .f32) (a1 : FVec Ideal S1024 .f32) (a2 : FVec Ideal S1024x1024 .f32) : FVec Ideal S16x256x512 .bf16 :=
  truncf .bf16 (extractStridedSlice S16x256x512 ![0, 0, 512] (kv a0 a1 a2) slices_S16x256x1024_S16x256x512_0_0_512) bitsLt_bf16_f32

end Cert.MemKvRefIdeal.Spec

namespace Cert.MemKvIdeal.Value

open Cert.MemKvIdeal Cert.MemKvIdeal.Gen Cert.MemKvRefIdeal.Spec

/-- One key row of one head, divided by its root mean square, times the gain. -/
def kn (q g : Fin 128 → EReal) (d : Fin 128) : EReal :=
  q d * Ideal.rsqrt (Ideal.div (∑ k, q k * q k) (Ideal.ofBits .f32 0x43000000#32) + Ideal.ofBits .f32 0x358637BD#32) * g d

/-- The reference's keys at an index. -/
theorem keys_at (a0 : FVec Ideal S16x256x1024 .f32) (a1 : FVec Ideal S1024 .f32) (a2 : FVec Ideal S1024x1024 .f32) (a3 : FVec Ideal S128 .f32) (b : Fin 16) (r : Fin 256) (j : Fin 512) :
    (keys a0 a1 a2 a3 : S16x256x512.Idx → EReal) (ix3 b r j) = kn (fun k => kv a0 a1 a2 (ix3 b r ⟨(j : ℕ) / 128 * 128 + k, by omega⟩)) (fun k => a3 (ix1 k)) ⟨(j : ℕ) % 128, by omega⟩ := by
  unfold keys kn
  generalize kv a0 a1 a2 = q
  pointwise
  have e : q (ix3 b r ⟨j, by omega⟩) = q (ix3 b r ⟨(j : ℕ) / 128 * 128 + (j : ℕ) % 128, by omega⟩) :=
    congrArg (fun z => q (ix3 b r z)) (Fin.ext (Nat.div_add_mod' _ _).symm)
  rw [e]

/-- The reference's values at an index. -/
theorem vals_at (a0 : FVec Ideal S16x256x1024 .f32) (a1 : FVec Ideal S1024 .f32) (a2 : FVec Ideal S1024x1024 .f32) (b : Fin 16) (r : Fin 256) (j : Fin 512) :
    (vals a0 a1 a2 : S16x256x512.Idx → EReal) (ix3 b r j) = kv a0 a1 a2 (ix3 b r ⟨512 + j, by omega⟩) := by
  unfold vals
  generalize kv a0 a1 a2 = q
  pointwise

/-- The projection of a block's rows, against the reference's at batch `b`. -/
theorem kv_eq (a0 : FVec Ideal S16x256x1024 .f32) (a1 : FVec Ideal S1024 .f32) (a2 : FVec Ideal S1024x1024 .f32) (x0 : FVec Ideal S1x256x1024 .f32) (x1 : FVec Ideal S1x1024 .f32) (x2 : FVec Ideal S1024x1024 .bf16) (b : Fin 16)
    (h0 : ∀ (r : Fin 256) (k : Fin 1024), x0 (ix3 0 r k) = a0 (ix3 b r k)) (h1 : ∀ k : Fin 1024, x1 (ix2 0 k) = a1 (ix1 k))
    (h2 : ∀ k j : Fin 1024, (x2 : S1024x1024.Idx → EReal) (ix2 k j) = a2 (ix2 k j)) (r : Fin 256) (j : Fin 1024) :
    k0_pay3 x0 x1 x2 (ix2 r j) = kv a0 a1 a2 (ix3 b r j) := by
  pointwise [k0_pay3, kv]
  simp only [h0, h1, h2]

/-- Head 0's piece of the keys, at an index of the piece. -/
theorem head0 (x0 : FVec Ideal S1x256x1024 .f32) (x1 : FVec Ideal S1x1024 .f32) (x2 : FVec Ideal S1024x1024 .bf16) (x3 : FVec Ideal S1x128 .f32) (Q : FVec Ideal S256x1024 .f32) (hQ : Q = k0_pay3 x0 x1 x2) (r : Fin 256) (d : Fin 128) :
    (k0_pay4 (F := Ideal) x0 x1 x2 x3 : S1x256x128.Idx → EReal) (ix3 0 r d) = kn (fun k => Q (ix2 r ⟨k, by omega⟩)) (fun k => x3 (ix2 0 k)) d := by
  unfold k0_pay4
  rw [← hQ]
  clear hQ
  pointwise
  rfl

/-- Head 1's piece of the keys, at an index of the piece. -/
theorem head1 (q : FVec Ideal S256x1024 .f32) (x3 : FVec Ideal S1x128 .f32) (r : Fin 256) (d : Fin 128) :
    (k0_pay5 (F := Ideal) q x3 : S1x256x128.Idx → EReal) (ix3 0 r d) = kn (fun k => q (ix2 r ⟨128 + k, by omega⟩)) (fun k => x3 (ix2 0 k)) d := by
  pointwise [k0_pay5]
  rfl

/-- Head 2's piece of the keys, at an index of the piece. -/
theorem head2 (q : FVec Ideal S256x1024 .f32) (x3 : FVec Ideal S1x128 .f32) (r : Fin 256) (d : Fin 128) :
    (k0_pay6 (F := Ideal) q x3 : S1x256x128.Idx → EReal) (ix3 0 r d) = kn (fun k => q (ix2 r ⟨256 + k, by omega⟩)) (fun k => x3 (ix2 0 k)) d := by
  pointwise [k0_pay6]
  rfl

/-- Head 3's piece of the keys, at an index of the piece. -/
theorem head3 (q : FVec Ideal S256x1024 .f32) (x3 : FVec Ideal S1x128 .f32) (r : Fin 256) (d : Fin 128) :
    (k0_pay1 (F := Ideal) (k0_pay7 q) x3 : S1x256x128.Idx → EReal) (ix3 0 r d) = kn (fun k => q (ix2 r ⟨384 + k, by omega⟩)) (fun k => x3 (ix2 0 k)) d := by
  pointwise [k0_pay1, k0_pay7]
  rfl

variable (m : (ℓ : Loc nD τ sig) → Buf (Elt Ideal) ℓ)

/-- Which block each window holds at grid point `t`. -/
theorem idx : ∀ t : Fin cfg0.N, win0_0.index t = ![t.val, 0, 0] ∧ win0_1.index t = ![0, 0] ∧ win0_2.index t = ![0, 0] ∧ win0_3.index t = ![0, 0] ∧ win0_4.index t = ![t.val, 0, 0] ∧ win0_5.index t = ![t.val, 0, 0] :=
  (by decide +kernel : ∀ t : Fin grid0.N, win0_0.index t = ![t.val, 0, 0] ∧ win0_1.index t = ![0, 0] ∧ win0_2.index t = ![0, 0] ∧ win0_3.index t = ![0, 0] ∧ win0_4.index t = ![t.val, 0, 0] ∧ win0_5.index t = ![t.val, 0, 0])

/-- Rows of operand 0's block. -/
theorem b0 (c : Dev nD) (t : Fin cfg0.N) (r : Fin 256) (k : Fin 1024) : (iblk m c 0 t : FVec Ideal S1x256x1024 .f32) (ix3 0 r k)
    = (m ((c : Thread nD τ).loc main_arg0) : FVec Ideal S16x256x1024 .f32) (ix3 ⟨t.val, t.isLt⟩ r k) := by
  blk_ext [iblk, V, idx t]

/-- Operand 1's block, from the argument it is computed from. -/
theorem b1 (c : Dev nD) (t : Fin cfg0.N) (k : Fin 1024) : (iblk m c 1 t : S1x1024.Idx → EReal) (ix2 0 k)
    = (m ((c : Thread nD τ).loc main_arg1) : FVec Ideal S1024 .f32) (ix1 k) := by
  have e : (iblk m c 1 t : FVec Ideal S1x1024 .f32) (ix2 0 k) = (V m c main_v0 : FVec Ideal S1x1024 .f32) (ix2 0 k) := by
    blk_ext [iblk, idx t]
  rw [e]
  entry_read
  pointwise
  try rfl

/-- Operand 2's block, from the argument it is computed from. -/
theorem b2 (c : Dev nD) (t : Fin cfg0.N) (k j : Fin 1024) : (iblk m c 2 t : S1024x1024.Idx → EReal) (ix2 k j)
    = (m ((c : Thread nD τ).loc main_arg2) : FVec Ideal S1024x1024 .f32) (ix2 k j) := by
  have e : (iblk m c 2 t : FVec Ideal S1024x1024 .bf16) (ix2 k j) = (V m c main_v1 : FVec Ideal S1024x1024 .bf16) (ix2 k j) := by
    blk_ext [iblk, idx t]
  rw [e]
  entry_read
  pointwise
  try rfl

/-- Operand 3's block, from the argument it is computed from. -/
theorem b3 (c : Dev nD) (t : Fin cfg0.N) (k : Fin 128) : (iblk m c 3 t : S1x128.Idx → EReal) (ix2 0 k)
    = (m ((c : Thread nD τ).loc main_arg3) : FVec Ideal S128 .f32) (ix1 k) := by
  have e : (iblk m c 3 t : FVec Ideal S1x128 .f32) (ix2 0 k) = (V m c main_v2 : FVec Ideal S1x128 .f32) (ix2 0 k) := by
    blk_ext [iblk, idx t]
  rw [e]
  entry_read
  pointwise
  try rfl

/-- The projection of the rows of point `t`'s block. -/
theorem kv_blk (c : Dev nD) (t : Fin cfg0.N) (r : Fin 256) (j : Fin 1024) :
    (k0_pay3 (F := Ideal) (iblk m c 0 t) (iblk m c 1 t) (iblk m c 2 t) : S256x1024.Idx → EReal) (ix2 r j)
      = kv (m ((c : Thread nD τ).loc main_arg0)) (m ((c : Thread nD τ).loc main_arg1)) (m ((c : Thread nD τ).loc main_arg2)) (ix3 ⟨t.val, t.isLt⟩ r j) :=
  kv_eq _ _ _ _ _ _ _ (fun r k => b0 m c t r k) (fun k => b1 m c t k) (fun k j => b2 m c t k j) r j

/-- The block of point `t` in the first result's array holds batch `t`. -/
theorem emb4 (t : Fin cfg0.N) (f : S16x256x512.Idx → EReal) (r : Fin 256) (j : Fin 512) :
    f (((cfg0.win 4).blk t).view.emb (ix3 (0 : Fin 1) r j : S1x256x512.Idx)) = f (ix3 ⟨t.val, t.isLt⟩ r j) := by
  blk_ext [idx t]

/-- The block of point `t` in the second result's array holds batch `t`. -/
theorem emb5 (t : Fin cfg0.N) (f : S16x256x512.Idx → EReal) (r : Fin 256) (j : Fin 512) :
    f (((cfg0.win 5).blk t).view.emb (ix3 (0 : Fin 1) r j : S1x256x512.Idx)) = f (ix3 ⟨t.val, t.isLt⟩ r j) := by
  blk_ext [idx t]

/-- The values' piece at an index. -/
theorem vpay (q : FVec Ideal S256x1024 .f32) (r : Fin 256) (j : Fin 512) :
    (k0_pay2 (F := Ideal) q : S1x256x512.Idx → EReal) (ix3 0 r j) = q (ix2 r ⟨512 + j, by omega⟩) := by
  pointwise [k0_pay2]

/-- What point `t` stores of the values is the reference's at the place it is written to. -/
theorem point5 (c : Dev nD) (t : Fin cfg0.N) (y : S1x256x512.Idx) :
    k0_pay2 (k0_pay3 (iblk m c 0 t) (iblk m c 1 t) (iblk m c 2 t)) y = vals (m ((c : Thread nD τ).loc main_arg0)) (m ((c : Thread nD τ).loc main_arg1)) (m ((c : Thread nD τ).loc main_arg2)) (((cfg0.win 5).blk t).view.emb y) := by
  idx_vars y
  obtain rfl : y0 = 0 := Subsingleton.elim _ _
  refine (vpay _ y1 y2).trans ((kv_blk m c t y1 _).trans ?_)
  exact ((emb5 t (vals (m ((c : Thread nD τ).loc main_arg0)) (m ((c : Thread nD τ).loc main_arg1)) (m ((c : Thread nD τ).loc main_arg2))) y1 y2).trans (vals_at _ _ _ _ y1 y2)).symm

/-- The second result array after the run. -/
theorem final5 (c : Dev nD) : (dats m 0 c).arrAt 5 cfg0.N = vals (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out [k0_pay8]
  exact point5 m c t y

/-- Where head 0's piece lies in the block. -/
theorem ridx0 (r : Fin 256) (d : Fin 128) : (r0_4.idx (ix3 (0 : Fin 1) r d : S1x256x128.Idx) : S1x256x512.Idx) = ix3 0 r ⟨0 + d, by omega⟩ := by
  refine funext fun a => Fin.ext ?_
  obtain ⟨a, ha⟩ := a
  have ha : a < 3 := ha
  interval_cases a
  all_goals
    refine (Rect.idx_unit_val _ _ _ _ _).trans ?_
    first
      | rfl
      | exact Nat.zero_add _
      | exact congrArg (· + (d : ℕ)) (by rfl)

/-- What point `t` stores of head 0's keys is the reference's at the place it is written to. -/
theorem point4_0 (c : Dev nD) (t : Fin cfg0.N) (x : S1x256x128.Idx) :
    k0_pay4 (iblk m c 0 t) (iblk m c 1 t) (iblk m c 2 t) (iblk m c 3 t) x = keys (m ((c : Thread nD τ).loc main_arg0)) (m ((c : Thread nD τ).loc main_arg1)) (m ((c : Thread nD τ).loc main_arg2)) (m ((c : Thread nD τ).loc main_arg3)) (((cfg0.win 4).blk t).view.emb (r0_4.idx x)) := by
  idx_vars x
  obtain rfl : x0 = 0 := Subsingleton.elim _ _
  refine (head0 _ _ _ _ _ rfl x1 x2).trans ?_
  rw [ridx0]
  refine Eq.trans ?_ ((emb4 t (keys (m ((c : Thread nD τ).loc main_arg0)) (m ((c : Thread nD τ).loc main_arg1)) (m ((c : Thread nD τ).loc main_arg2)) (m ((c : Thread nD τ).loc main_arg3))) x1 _).trans (keys_at _ _ _ _ _ x1 _)).symm
  have e1 : ((0 + (x2 : ℕ)) / 128 : ℕ) = 0 := by omega
  have e2 : ((0 + (x2 : ℕ)) % 128 : ℕ) = x2 := by omega
  simp only [e1, e2]
  unfold kn
  simp only [kv_blk, b3, Nat.zero_mul, Nat.zero_add]

/-- Where head 1's piece lies in the block. -/
theorem ridx1 (r : Fin 256) (d : Fin 128) : (r0_5.idx (ix3 (0 : Fin 1) r d : S1x256x128.Idx) : S1x256x512.Idx) = ix3 0 r ⟨128 + d, by omega⟩ := by
  refine funext fun a => Fin.ext ?_
  obtain ⟨a, ha⟩ := a
  have ha : a < 3 := ha
  interval_cases a
  all_goals
    refine (Rect.idx_unit_val _ _ _ _ _).trans ?_
    first
      | rfl
      | exact Nat.zero_add _
      | exact congrArg (· + (d : ℕ)) (by rfl)

/-- What point `t` stores of head 1's keys is the reference's at the place it is written to. -/
theorem point4_1 (c : Dev nD) (t : Fin cfg0.N) (x : S1x256x128.Idx) :
    k0_pay5 (k0_pay3 (iblk m c 0 t) (iblk m c 1 t) (iblk m c 2 t)) (iblk m c 3 t) x = keys (m ((c : Thread nD τ).loc main_arg0)) (m ((c : Thread nD τ).loc main_arg1)) (m ((c : Thread nD τ).loc main_arg2)) (m ((c : Thread nD τ).loc main_arg3)) (((cfg0.win 4).blk t).view.emb (r0_5.idx x)) := by
  idx_vars x
  obtain rfl : x0 = 0 := Subsingleton.elim _ _
  refine (head1 _ _ x1 x2).trans ?_
  rw [ridx1]
  refine Eq.trans ?_ ((emb4 t (keys (m ((c : Thread nD τ).loc main_arg0)) (m ((c : Thread nD τ).loc main_arg1)) (m ((c : Thread nD τ).loc main_arg2)) (m ((c : Thread nD τ).loc main_arg3))) x1 _).trans (keys_at _ _ _ _ _ x1 _)).symm
  have e1 : ((128 + (x2 : ℕ)) / 128 : ℕ) = 1 := by omega
  have e2 : ((128 + (x2 : ℕ)) % 128 : ℕ) = x2 := by omega
  simp only [e1, e2]
  unfold kn
  simp only [kv_blk, b3]

/-- Where head 2's piece lies in the block. -/
theorem ridx2 (r : Fin 256) (d : Fin 128) : (r0_6.idx (ix3 (0 : Fin 1) r d : S1x256x128.Idx) : S1x256x512.Idx) = ix3 0 r ⟨256 + d, by omega⟩ := by
  refine funext fun a => Fin.ext ?_
  obtain ⟨a, ha⟩ := a
  have ha : a < 3 := ha
  interval_cases a
  all_goals
    refine (Rect.idx_unit_val _ _ _ _ _).trans ?_
    first
      | rfl
      | exact Nat.zero_add _
      | exact congrArg (· + (d : ℕ)) (by rfl)

/-- What point `t` stores of head 2's keys is the reference's at the place it is written to. -/
theorem point4_2 (c : Dev nD) (t : Fin cfg0.N) (x : S1x256x128.Idx) :
    k0_pay6 (k0_pay3 (iblk m c 0 t) (iblk m c 1 t) (iblk m c 2 t)) (iblk m c 3 t) x = keys (m ((c : Thread nD τ).loc main_arg0)) (m ((c : Thread nD τ).loc main_arg1)) (m ((c : Thread nD τ).loc main_arg2)) (m ((c : Thread nD τ).loc main_arg3)) (((cfg0.win 4).blk t).view.emb (r0_6.idx x)) := by
  idx_vars x
  obtain rfl : x0 = 0 := Subsingleton.elim _ _
  refine (head2 _ _ x1 x2).trans ?_
  rw [ridx2]
  refine Eq.trans ?_ ((emb4 t (keys (m ((c : Thread nD τ).loc main_arg0)) (m ((c : Thread nD τ).loc main_arg1)) (m ((c : Thread nD τ).loc main_arg2)) (m ((c : Thread nD τ).loc main_arg3))) x1 _).trans (keys_at _ _ _ _ _ x1 _)).symm
  have e1 : ((256 + (x2 : ℕ)) / 128 : ℕ) = 2 := by omega
  have e2 : ((256 + (x2 : ℕ)) % 128 : ℕ) = x2 := by omega
  simp only [e1, e2]
  unfold kn
  simp only [kv_blk, b3]

/-- Where head 3's piece lies in the block. -/
theorem ridx3 (r : Fin 256) (d : Fin 128) : (r0_7.idx (ix3 (0 : Fin 1) r d : S1x256x128.Idx) : S1x256x512.Idx) = ix3 0 r ⟨384 + d, by omega⟩ := by
  refine funext fun a => Fin.ext ?_
  obtain ⟨a, ha⟩ := a
  have ha : a < 3 := ha
  interval_cases a
  all_goals
    refine (Rect.idx_unit_val _ _ _ _ _).trans ?_
    first
      | rfl
      | exact Nat.zero_add _
      | exact congrArg (· + (d : ℕ)) (by rfl)

/-- What point `t` stores of head 3's keys is the reference's at the place it is written to. -/
theorem point4_3 (c : Dev nD) (t : Fin cfg0.N) (x : S1x256x128.Idx) :
    k0_pay1 (k0_pay7 (k0_pay3 (iblk m c 0 t) (iblk m c 1 t) (iblk m c 2 t))) (iblk m c 3 t) x = keys (m ((c : Thread nD τ).loc main_arg0)) (m ((c : Thread nD τ).loc main_arg1)) (m ((c : Thread nD τ).loc main_arg2)) (m ((c : Thread nD τ).loc main_arg3)) (((cfg0.win 4).blk t).view.emb (r0_7.idx x)) := by
  idx_vars x
  obtain rfl : x0 = 0 := Subsingleton.elim _ _
  refine (head3 _ _ x1 x2).trans ?_
  rw [ridx3]
  refine Eq.trans ?_ ((emb4 t (keys (m ((c : Thread nD τ).loc main_arg0)) (m ((c : Thread nD τ).loc main_arg1)) (m ((c : Thread nD τ).loc main_arg2)) (m ((c : Thread nD τ).loc main_arg3))) x1 _).trans (keys_at _ _ _ _ _ x1 _)).symm
  have e1 : ((384 + (x2 : ℕ)) / 128 : ℕ) = 3 := by omega
  have e2 : ((384 + (x2 : ℕ)) % 128 : ℕ) = x2 := by omega
  simp only [e1, e2]
  unfold kn
  simp only [kv_blk, b3]

/-- The first result array after the run. -/
theorem final4 (c : Dev nD) : (dats m 0 c).arrAt 4 cfg0.N = keys (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out [k0_pay8]
  refine View.canon_apply_of_pieces (Val := Elt Ideal) (fun y => keys (m ((c : Thread nD τ).loc main_arg0)) (m ((c : Thread nD τ).loc main_arg1)) (m ((c : Thread nD τ).loc main_arg2)) (m ((c : Thread nD τ).loc main_arg3)) (((cfg0.win 4).blk t).view.emb y)) _ ?_ y (cover0_4 _ _ _ _ y)
  intro pc hpc
  rcases List.mem_cons.mp hpc with rfl | hpc
  · exact fun x => point4_3 m c t x
  rcases List.mem_cons.mp hpc with rfl | hpc
  · exact fun x => point4_2 m c t x
  rcases List.mem_cons.mp hpc with rfl | hpc
  · exact fun x => point4_1 m c t x
  rcases List.mem_cons.mp hpc with rfl | hpc
  · exact fun x => point4_0 m c t x
  nomatch hpc

end Cert.MemKvIdeal.Value

end
-- ==== Proof.PostSpec.lean ====
module

public import proofs.«01_k».proof.Proof.Gen.PostRefIdeal.Run
public import Idealize.ShloMosaic.Lib.Pipeline.ValueKit

@[expose] public section

set_option maxRecDepth 16384

noncomputable section

open Idealize.ShloMosaic Idealize.ShloMosaic.TcCoe Idealize.SL.Sem

namespace Cert.PostRefIdeal.Spec

open Cert.PostRefIdeal Cert.PostRefIdeal.Gen

/-- Stage of the reference: the normalised rows. -/
def st_u (a0 : FVec Ideal S32768x1024 .f32) (a6 : FVec Ideal S1024 .f32) : FVec Ideal S16x2048x1024 .f32 :=
  mulf (mulf (shapeCast _ a0 shapeCasts_S32768x1024_S16x2048x1024) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (shapeCast _ a0 shapeCasts_S32768x1024_S16x2048x1024) (shapeCast _ a0 shapeCasts_S32768x1024_S16x2048x1024)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 a6))

/-- Stage of the reference: the memory queries, before their heads are taken apart. -/
def st_mq (a0 : FVec Ideal S32768x1024 .f32) (a5 : FVec Ideal S1024x6944 .f32) (a6 : FVec Ideal S1024 .f32) : FVec Ideal S16x2048x512 .f32 :=
  Host.dotGeneral dot_S16x2048x1024_S1024x512_S16x2048x512_2_0_01_1_n_n none (st_u a0 a6) (extractStridedSlice S1024x512 ![0, 3360] a5 slices_S1024x6944_S1024x512_0_3360)

/-- Stage of the reference: the memory queries by head, normalised, with their gain and scale. -/
def st_q (a0 : FVec Ideal S32768x1024 .f32) (a5 : FVec Ideal S1024x6944 .f32) (a6 : FVec Ideal S1024 .f32) (a7 : FVec Ideal S128 .f32) : FVec Ideal S16x2048x4x128 .f32 :=
  mulf (mulf (mulf (shapeCast _ (st_mq a0 a5 a6) shapeCasts_S16x2048x512_S16x2048x4x128) (broadcastInDim S16x2048x4x128 ![0, 1, 2, 3] bcast_S16x2048x4x1_S16x2048x4x128_0_1_2_3 (Host.rsqrt (addf (Host.divf (broadcastInDim S16x2048x4x1 ![0, 1, 2] bcast_S16x2048x4_S16x2048x4x1_0_1_2 (Host.reduceAdd (mulf (shapeCast _ (st_mq a0 a5 a6) shapeCasts_S16x2048x512_S16x2048x4x128) (shapeCast _ (st_mq a0 a5 a6) shapeCasts_S16x2048x512_S16x2048x4x128)) (constant S_ .f32 0x00000000#32) reducesTo_S16x2048x4x128_S16x2048x4_d3 h_S_)) (broadcastInDim S16x2048x4x1 ![] bcast_S_S16x2048x4x1 (constant S_ .f32 0x43000000#32))) (broadcastInDim S16x2048x4x1 ![] bcast_S_S16x2048x4x1 (constant S_ .f32 0x358637BD#32)))))) (broadcastInDim S16x2048x4x128 ![0, 1, 2, 3] bcast_S1x1x1x128_S16x2048x4x128_0_1_2_3 (broadcastInDim S1x1x1x128 ![3] bcast_S128_S1x1x1x128_3 a7))) (broadcastInDim S16x2048x4x128 ![] bcast_S_S16x2048x4x128 (constant S_ .f32 0x3DB504F3#32))

/-- Stage of the reference: the scores of every query against every memory slot. -/
def st_s (a0 : FVec Ideal S32768x1024 .f32) (a3 : FVec Ideal S16x256x512 .bf16) (a5 : FVec Ideal S1024x6944 .f32) (a6 : FVec Ideal S1024 .f32) (a7 : FVec Ideal S128 .f32) : FVec Ideal S16x4x2048x256 .f32 :=
  Host.dotGeneral dot_S16x2048x4x128_S16x256x4x128_S16x4x2048x256_3_3_1_1_02_02 none (st_q a0 a5 a6 a7) (shapeCast _ (extf .f32 a3 bitsLt_bf16_f32) shapeCasts_S16x256x512_S16x256x4x128)

/-- Stage of the reference: the exponentials of the scores less their largest. -/
def st_e (a0 : FVec Ideal S32768x1024 .f32) (a3 : FVec Ideal S16x256x512 .bf16) (a5 : FVec Ideal S1024x6944 .f32) (a6 : FVec Ideal S1024 .f32) (a7 : FVec Ideal S128 .f32) : FVec Ideal S16x4x2048x256 .f32 :=
  Host.exp (subf (st_s a0 a3 a5 a6 a7) (broadcastInDim S16x4x2048x256 ![0, 1, 2, 3] bcast_S16x4x2048x1_S16x4x2048x256_0_1_2_3 (broadcastInDim S16x4x2048x1 ![0, 1, 2] bcast_S16x4x2048_S16x4x2048x1_0_1_2 (maximumf (broadcastInDim S16x4x2048 ![] bcast_S_S16x4x2048 (constant S_ .f32 0xFF800000#32)) (Host.reduce FloatOps.maximumf (st_s a0 a3 a5 a6 a7) (constant S_ .f32 0xFF800000#32) reducesTo_S16x4x2048x256_S16x4x2048_d3 h_S_)))))

/-- Stage of the reference: the attention weights. -/
def st_p (a0 : FVec Ideal S32768x1024 .f32) (a3 : FVec Ideal S16x256x512 .bf16) (a5 : FVec Ideal S1024x6944 .f32) (a6 : FVec Ideal S1024 .f32) (a7 : FVec Ideal S128 .f32) : FVec Ideal S16x4x2048x256 .f32 :=
  Host.divf (st_e a0 a3 a5 a6 a7) (broadcastInDim S16x4x2048x256 ![0, 1, 2, 3] bcast_S16x4x2048x1_S16x4x2048x256_0_1_2_3 (broadcastInDim S16x4x2048x1 ![0, 1, 2] bcast_S16x4x2048_S16x4x2048x1_0_1_2 (Host.reduceAdd (st_e a0 a3 a5 a6 a7) (constant S_ .f32 0x00000000#32) reducesTo_S16x4x2048x256_S16x4x2048_d3 h_S_)))

/-- Stage of the reference: what the memory attention returns, the heads side by side. -/
def st_hmem (a0 : FVec Ideal S32768x1024 .f32) (a3 : FVec Ideal S16x256x512 .bf16) (a4 : FVec Ideal S16x256x512 .bf16) (a5 : FVec Ideal S1024x6944 .f32) (a6 : FVec Ideal S1024 .f32) (a7 : FVec Ideal S128 .f32) : FVec Ideal S16x2048x512 .f32 :=
  shapeCast _ (transpose S16x2048x4x128 [0, 3, 1, 2] (Host.dotGeneral dot_S16x256x4x128_S16x4x2048x256_S16x4x128x2048_1_3_3_2_02_01 none (shapeCast _ (extf .f32 a4 bitsLt_bf16_f32) shapeCasts_S16x256x512_S16x256x4x128) (st_p a0 a3 a5 a6 a7)) transposes_S16x4x128x2048_S16x2048x4x128_0_3_1_2) shapeCasts_S16x2048x4x128_S16x2048x512

/-- Stage of the reference: the three merge gates. -/
def st_gates (a0 : FVec Ideal S32768x1024 .f32) (a5 : FVec Ideal S1024x6944 .f32) (a6 : FVec Ideal S1024 .f32) : FVec Ideal S16x2048x3x1024 .f32 :=
  Host.divf (broadcastInDim S16x2048x3x1024 ![] bcast_S_S16x2048x3x1024 (constant S_ .f32 0x3F800000#32)) (addf (broadcastInDim S16x2048x3x1024 ![] bcast_S_S16x2048x3x1024 (constant S_ .f32 0x3F800000#32)) (Host.exp (Host.negf (shapeCast _ (Host.dotGeneral dot_S16x2048x1024_S1024x3072_S16x2048x3072_2_0_01_1_n_n none (st_u a0 a6) (extractStridedSlice S1024x3072 ![0, 3872] a5 slices_S1024x6944_S1024x3072_0_3872)) shapeCasts_S16x2048x3072_S16x2048x3x1024))))

/-- Stage of the reference: the gated sum of the three mixers. -/
def st_merged (a0 : FVec Ideal S32768x1024 .f32) (a1 : FVec Ideal S32768x512 .bf16) (a2 : FVec Ideal S32768x512 .bf16) (a3 : FVec Ideal S16x256x512 .bf16) (a4 : FVec Ideal S16x256x512 .bf16) (a5 : FVec Ideal S1024x6944 .f32) (a6 : FVec Ideal S1024 .f32) (a7 : FVec Ideal S128 .f32) (a8 : FVec Ideal S512x1024 .f32) (a9 : FVec Ideal S512x1024 .f32) (a10 : FVec Ideal S512x1024 .f32) : FVec Ideal S16x2048x1024 .f32 :=
  addf (addf (mulf (shapeCast _ (extractStridedSlice S16x2048x1x1024 ![0, 0, 0, 0] (st_gates a0 a5 a6) slices_S16x2048x3x1024_S16x2048x1x1024_0_0_0_0) shapeCasts_S16x2048x1x1024_S16x2048x1024) (Host.dotGeneral dot_S16x2048x512_S512x1024_S16x2048x1024_2_0_01_1_n_n none (shapeCast _ (extf .f32 a1 bitsLt_bf16_f32) shapeCasts_S32768x512_S16x2048x512) a8)) (mulf (shapeCast _ (extractStridedSlice S16x2048x1x1024 ![0, 0, 1, 0] (st_gates a0 a5 a6) slices_S16x2048x3x1024_S16x2048x1x1024_0_0_1_0) shapeCasts_S16x2048x1x1024_S16x2048x1024) (Host.dotGeneral dot_S16x2048x512_S512x1024_S16x2048x1024_2_0_01_1_n_n none (shapeCast _ (extf .f32 a2 bitsLt_bf16_f32) shapeCasts_S32768x512_S16x2048x512) a9))) (mulf (shapeCast _ (extractStridedSlice S16x2048x1x1024 ![0, 0, 2, 0] (st_gates a0 a5 a6) slices_S16x2048x3x1024_S16x2048x1x1024_0_0_2_0) shapeCasts_S16x2048x1x1024_S16x2048x1024) (Host.dotGeneral dot_S16x2048x512_S512x1024_S16x2048x1024_2_0_01_1_n_n none (st_hmem a0 a3 a4 a5 a6 a7) a10))

/-- Stage of the reference: the residual stream after the mixers. -/
def st_x1 (a0 : FVec Ideal S32768x1024 .f32) (a1 : FVec Ideal S32768x512 .bf16) (a2 : FVec Ideal S32768x512 .bf16) (a3 : FVec Ideal S16x256x512 .bf16) (a4 : FVec Ideal S16x256x512 .bf16) (a5 : FVec Ideal S1024x6944 .f32) (a6 : FVec Ideal S1024 .f32) (a7 : FVec Ideal S128 .f32) (a8 : FVec Ideal S512x1024 .f32) (a9 : FVec Ideal S512x1024 .f32) (a10 : FVec Ideal S512x1024 .f32) (a11 : FVec Ideal S1024x1024 .f32) : FVec Ideal S16x2048x1024 .f32 :=
  addf (shapeCast _ a0 shapeCasts_S32768x1024_S16x2048x1024) (Host.dotGeneral dot_S16x2048x1024_S1024x1024_S16x2048x1024_2_0_01_1_n_n none (st_merged a0 a1 a2 a3 a4 a5 a6 a7 a8 a9 a10) a11)

/-- Stage of the reference: its normalised rows, which the router reads. -/
def st_t (a0 : FVec Ideal S32768x1024 .f32) (a1 : FVec Ideal S32768x512 .bf16) (a2 : FVec Ideal S32768x512 .bf16) (a3 : FVec Ideal S16x256x512 .bf16) (a4 : FVec Ideal S16x256x512 .bf16) (a5 : FVec Ideal S1024x6944 .f32) (a6 : FVec Ideal S1024 .f32) (a7 : FVec Ideal S128 .f32) (a8 : FVec Ideal S512x1024 .f32) (a9 : FVec Ideal S512x1024 .f32) (a10 : FVec Ideal S512x1024 .f32) (a11 : FVec Ideal S1024x1024 .f32) (a12 : FVec Ideal S1024 .f32) : FVec Ideal S16x2048x1024 .f32 :=
  mulf (mulf (st_x1 a0 a1 a2 a3 a4 a5 a6 a7 a8 a9 a10 a11) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (st_x1 a0 a1 a2 a3 a4 a5 a6 a7 a8 a9 a10 a11) (st_x1 a0 a1 a2 a3 a4 a5 a6 a7 a8 a9 a10 a11)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 a12))

/-- Stage of the reference: the first result, flat. -/
def st_out0 (a0 : FVec Ideal S32768x1024 .f32) (a1 : FVec Ideal S32768x512 .bf16) (a2 : FVec Ideal S32768x512 .bf16) (a3 : FVec Ideal S16x256x512 .bf16) (a4 : FVec Ideal S16x256x512 .bf16) (a5 : FVec Ideal S1024x6944 .f32) (a6 : FVec Ideal S1024 .f32) (a7 : FVec Ideal S128 .f32) (a8 : FVec Ideal S512x1024 .f32) (a9 : FVec Ideal S512x1024 .f32) (a10 : FVec Ideal S512x1024 .f32) (a11 : FVec Ideal S1024x1024 .f32) : FVec Ideal S32768x1024 .f32 :=
  shapeCast _ (st_x1 a0 a1 a2 a3 a4 a5 a6 a7 a8 a9 a10 a11) shapeCasts_S16x2048x1024_S32768x1024

/-- Stage of the reference: the second result, flat. -/
def st_out1 (a0 : FVec Ideal S32768x1024 .f32) (a1 : FVec Ideal S32768x512 .bf16) (a2 : FVec Ideal S32768x512 .bf16) (a3 : FVec Ideal S16x256x512 .bf16) (a4 : FVec Ideal S16x256x512 .bf16) (a5 : FVec Ideal S1024x6944 .f32) (a6 : FVec Ideal S1024 .f32) (a7 : FVec Ideal S128 .f32) (a8 : FVec Ideal S512x1024 .f32) (a9 : FVec Ideal S512x1024 .f32) (a10 : FVec Ideal S512x1024 .f32) (a11 : FVec Ideal S1024x1024 .f32) (a12 : FVec Ideal S1024 .f32) : FVec Ideal S32768x1024 .f32 :=
  shapeCast _ (st_t a0 a1 a2 a3 a4 a5 a6 a7 a8 a9 a10 a11 a12) shapeCasts_S16x2048x1024_S32768x1024

/-- The reference's first result is the composition of the stages. -/
theorem res0 (m : (ℓ : Loc nD τ sig) → Buf (Elt Ideal) ℓ) (c : Dev nD) :
    Value.res_main_v93 m c = st_out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := rfl

/-- The reference's second result is the composition of the stages. -/
theorem res1 (m : (ℓ : Loc nD τ sig) → Buf (Elt Ideal) ℓ) (c : Dev nD) :
    Value.res_main_v94 m c = st_out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := rfl

end Cert.PostRefIdeal.Spec
-- ==== Proof.PostValue.lean ====
module

public import proofs.«01_k».proof.Proof.Gen.PostIdeal.Value
public import proofs.«01_k».proof.Proof.PostSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PostIdeal.Value

open Cert.PostIdeal Cert.PostIdeal.Gen Cert.PostRefIdeal.Spec

/-- The normalised rows of a block, against the reference's at the rows `b, s` the block holds. -/
theorem rows_eq (a0 : FVec Ideal S32768x1024 .f32) (a6 : FVec Ideal S1024 .f32)
    (x0 : FVec Ideal S256x1024 .f32) (x5 : FVec Ideal S1x1024 .f32) (b : Fin 16) (s : Fin 2048) (r : Fin 256)
    (h0 : ∀ k : Fin 1024, x0 (ix2 r k) = a0 (ix2 ⟨b * 2048 + s, by omega⟩ k))
    (h5 : ∀ k : Fin 1024, x5 (ix2 0 k) = a6 (ix1 k)) (k : Fin 1024) :
    (k0_pay3 (F := Ideal) x0 x5 : S256x1024.Idx → EReal) (ix2 r k) = st_u a0 a6 (ix3 b s k) := by
  pointwise [k0_pay3, st_u]
  simp only [h0, h5]

/-- One query row of one head, normalised, with its gain and scale. -/
def qn (q g : Fin 128 → EReal) (d : Fin 128) : EReal :=
  q d * Ideal.rsqrt (Ideal.div (∑ k, q k * q k) (Ideal.ofBits .f32 0x43000000#32) + Ideal.ofBits .f32 0x358637BD#32) * g d * Ideal.ofBits .f32 0x3DB504F3#32

/-- The scores of the query row against the memory slots. -/
def sc (q g : Fin 128 → EReal) (K : Fin 256 → Fin 128 → EReal) (e : Fin 256) : EReal := ∑ d, qn q g d * K e d

/-- The exponential of each score less the largest. -/
def ex (q g : Fin 128 → EReal) (K : Fin 256 → Fin 128 → EReal) (e : Fin 256) : EReal :=
  Ideal.exp (sc q g K e - Finset.fold max (Ideal.ofBits .f32 0xFF800000#32) (fun x => sc q g K x) Finset.univ)

/-- The head's output row: the weighted sum of the memory values. -/
def ho (q g : Fin 128 → EReal) (K W : Fin 256 → Fin 128 → EReal) (d : Fin 128) : EReal :=
  ∑ e, Ideal.div (ex q g K e) (∑ x, ex q g K x) * W e d

/-- Head 2 on a block. -/
theorem head2 (x : FVec Ideal S256x512 .f32) (x7 : FVec Ideal S1x128 .f32) (kk vv : FVec Ideal S1x256x128 .bf16) (r : Fin 256) (d : Fin 128) :
    k0_pay11 x x7 kk vv (ix2 r d) = ho (fun k => x (ix2 r ⟨256 + k, by omega⟩)) (fun k => x7 (ix2 0 k)) (fun e k => kk (ix3 0 e k)) (fun e k => vv (ix3 0 e k)) d := by
  pointwise [k0_pay11]
  rfl

/-- The reference's queries at an index. -/
theorem q_at (a0 : FVec Ideal S32768x1024 .f32) (a5 : FVec Ideal S1024x6944 .f32) (a6 : FVec Ideal S1024 .f32) (a7 : FVec Ideal S128 .f32) (b : Fin 16) (s : Fin 2048) (h : Fin 4) (d : Fin 128) :
    st_q a0 a5 a6 a7 (ix4 b s h d) = qn (fun k => st_mq a0 a5 a6 (ix3 b s ⟨h * 128 + k, by omega⟩)) (fun k => a7 (ix1 k)) d := by
  pointwise [st_q]
  rfl

/-- The largest score of a row. -/
theorem mx_at (sT : FVec Ideal Cert.PostRefIdeal.S16x4x2048x256 .f32) (b : Fin 16) (s : Fin 2048) (h : Fin 4) :
    (Host.reduce (FloatOps.maximumf (F := Ideal) (φ := .f32)) sT (constant (F := Ideal) Cert.PostRefIdeal.S_ .f32 0xFF800000#32) Cert.PostRefIdeal.Gen.reducesTo_S16x4x2048x256_S16x4x2048_d3 Cert.PostRefIdeal.Gen.h_S_) (ix3 b h s) = Finset.fold max (Ideal.ofBits .f32 0xFF800000#32) (fun x : Fin 256 => sT (ix4 b h s x)) Finset.univ := by
  pointwise

/-- The reference's scores at an index. -/
theorem s_at (a0 : FVec Ideal S32768x1024 .f32) (a3 : FVec Ideal S16x256x512 .bf16) (a5 : FVec Ideal S1024x6944 .f32) (a6 : FVec Ideal S1024 .f32) (a7 : FVec Ideal S128 .f32) (b : Fin 16) (s : Fin 2048) (h : Fin 4) (e : Fin 256) :
    st_s a0 a3 a5 a6 a7 (ix4 b h s e) = sc (fun k => st_mq a0 a5 a6 (ix3 b s ⟨h * 128 + k, by omega⟩)) (fun k => a7 (ix1 k)) (fun e k => a3 (ix3 b e ⟨h * 128 + k, by omega⟩)) e := by
  pointwise [st_s]
  simp only [q_at]
  rfl

open Cert.PostRefIdeal Cert.PostRefIdeal.Gen in
/-- The exponentials of scores less a row's largest, read at an index. -/
theorem e_abs (sT : FVec Ideal S16x4x2048x256 .f32) (M : FVec Ideal S16x4x2048 .f32) (b : Fin 16) (s : Fin 2048) (h : Fin 4) (e : Fin 256) :
    (Host.exp (subf sT (broadcastInDim S16x4x2048x256 ![0, 1, 2, 3] bcast_S16x4x2048x1_S16x4x2048x256_0_1_2_3 (broadcastInDim S16x4x2048x1 ![0, 1, 2] bcast_S16x4x2048_S16x4x2048x1_0_1_2 (maximumf (broadcastInDim S16x4x2048 ![] bcast_S_S16x4x2048 (constant S_ .f32 0xFF800000#32)) M)))) : FVec Ideal S16x4x2048x256 .f32) (ix4 b h s e) = Ideal.exp (sT (ix4 b h s e) - max (Ideal.ofBits .f32 0xFF800000#32) (M (ix3 b h s))) := by
  pointwise

/-- A fold of `max` from a value is at least that value. -/
theorem max_fold (c : EReal) (f : Fin 256 → EReal) : max c (Finset.fold max c f Finset.univ) = Finset.fold max c f Finset.univ :=
  max_eq_right ((Finset.le_fold_max _).2 (Or.inl le_rfl))

/-- The reference's exponentials at an index. -/
theorem e_at (a0 : FVec Ideal S32768x1024 .f32) (a3 : FVec Ideal S16x256x512 .bf16) (a5 : FVec Ideal S1024x6944 .f32) (a6 : FVec Ideal S1024 .f32) (a7 : FVec Ideal S128 .f32) (b : Fin 16) (s : Fin 2048) (h : Fin 4) (e : Fin 256) :
    st_e a0 a3 a5 a6 a7 (ix4 b h s e) = ex (fun k => st_mq a0 a5 a6 (ix3 b s ⟨h * 128 + k, by omega⟩)) (fun k => a7 (ix1 k)) (fun e k => a3 (ix3 b e ⟨h * 128 + k, by omega⟩)) e := by
  unfold st_e
  rw [e_abs, mx_at, max_fold]
  simp only [s_at]
  rfl

/-- The reference's memory attention at an index. -/
theorem h_at (a0 : FVec Ideal S32768x1024 .f32) (a3 a4 : FVec Ideal S16x256x512 .bf16) (a5 : FVec Ideal S1024x6944 .f32) (a6 : FVec Ideal S1024 .f32) (a7 : FVec Ideal S128 .f32) (b : Fin 16) (s : Fin 2048) (h : Fin 4) (d : Fin 128) :
    st_hmem a0 a3 a4 a5 a6 a7 (ix3 b s ⟨h * 128 + d, by omega⟩) = ho (fun k => st_mq a0 a5 a6 (ix3 b s ⟨h * 128 + k, by omega⟩)) (fun k => a7 (ix1 k)) (fun e k => a3 (ix3 b e ⟨h * 128 + k, by omega⟩)) (fun e k => a4 (ix3 b e ⟨h * 128 + k, by omega⟩)) d := by
  pointwise [st_hmem, st_p]
  unfold ho
  simp only [e_at]
  exact Finset.sum_congr rfl fun x _ => mul_comm _ _

/-- Head 0 on a block. -/
theorem head0 (x0 : FVec Ideal S256x1024 .f32) (x5 : FVec Ideal S1x1024 .f32) (x6 : FVec Ideal S1024x512 .bf16) (x7 : FVec Ideal S1x128 .f32) (kk vv : FVec Ideal S1x256x128 .bf16) (r : Fin 256) (d : Fin 128) :
    (k0_pay7 (F := Ideal) (k0_pay5 x0 x5 x6 x7) (k0_pay6 kk) (constant S256x256 .f32 0x00000000#32) vv : S256x128.Idx → EReal) (ix2 r d)
      = ho (fun k => (k0_pay4 (F := Ideal) x0 x5 x6 : S256x512.Idx → EReal) (ix2 r ⟨k, by omega⟩)) (fun k => x7 (ix2 0 k)) (fun e k => kk (ix3 0 e k)) (fun e k => vv (ix3 0 e k)) d := by
  pointwise [k0_pay7, k0_pay6, k0_pay5]
  rfl

/-- Head 1 on a block. -/
theorem head1 (x : FVec Ideal S256x512 .f32) (x7 : FVec Ideal S1x128 .f32) (kk vv : FVec Ideal S1x256x128 .bf16) (r : Fin 256) (d : Fin 128) :
    (k0_pay10 (F := Ideal) (k0_pay8 x x7 kk) (k0_pay9 x x7 kk) vv : S256x128.Idx → EReal) (ix2 r d) = ho (fun k => x (ix2 r ⟨128 + k, by omega⟩)) (fun k => x7 (ix2 0 k)) (fun e k => kk (ix3 0 e k)) (fun e k => vv (ix3 0 e k)) d := by
  pointwise [k0_pay10, k0_pay9, k0_pay8]
  rfl

/-- Head 3 on a block, and the four heads side by side. -/
theorem heads (x : FVec Ideal S256x512 .f32) (y0 y1 y2 : FVec Ideal S256x128 .f32) (x7 : FVec Ideal S1x128 .f32) (kk vv : FVec Ideal S1x256x128 .bf16) (r : Fin 256) (j : Fin 512) :
    (k0_pay12 (F := Ideal) x y0 y1 y2 x7 kk vv : S256x512.Idx → EReal) (ix2 r j) =
      if h0 : (j : ℕ) < 128 then y0 (ix2 r ⟨j, h0⟩) else if h1 : (j : ℕ) - 128 < 128 then y1 (ix2 r ⟨j - 128, by omega⟩) else
      if h2 : (j : ℕ) - 128 - 128 < 128 then y2 (ix2 r ⟨j - 128 - 128, by omega⟩) else
      ho (fun k => x (ix2 r ⟨384 + k, by omega⟩)) (fun k => x7 (ix2 0 k)) (fun e k => kk (ix3 0 e k)) (fun e k => vv (ix3 0 e k)) ⟨j - 128 - 128 - 128, by omega⟩ := by
  obtain ⟨z, hz, hk⟩ : ∃ z : FVec Ideal S256x128 .f32, (∀ (r : Fin 256) (d : Fin 128), (z : S256x128.Idx → EReal) (ix2 r d) = ho (fun k => x (ix2 r ⟨384 + k, by omega⟩)) (fun k => x7 (ix2 0 k)) (fun e k => kk (ix3 0 e k)) (fun e k => vv (ix3 0 e k)) d) ∧
      k0_pay12 x y0 y1 y2 x7 kk vv = truncf .bf16 (concatenate S256x512 1 [⟨S256x128, y0⟩, ⟨S256x128, y1⟩, ⟨S256x128, y2⟩, ⟨S256x128, z⟩] concatenates_S256x128_S256x128_S256x128_S256x128_S256x512_d1) bitsLt_bf16_f32 := by
    refine ⟨_, ?_, rfl⟩
    intro r d
    pointwise
    rfl
  rw [hk]
  clear hk
  simp only [← hz]
  pointwise

/-- A row of the flat array, from its batch and position. -/
theorem row_lt (b : Fin 16) (s : Fin 2048) : (b : ℕ) * 2048 + (s : ℕ) < 32768 := by omega

/-- A column of the memory queries' slice lies in the weights. -/
theorem mq_lt (j : Fin 512) : 3360 + (j : ℕ) < 6944 := by omega

/-- A column of the gates' slice lies in the weights. -/
theorem gate_lt (j : Fin 3072) : 3872 + (j : ℕ) < 6944 := by omega

/-- A lane of head 0 lies in the row of all heads. -/
theorem lane0_lt (d : Fin 128) : 0 * 128 + (d : ℕ) < 512 := by omega

/-- A lane of head 1 lies in the row of all heads. -/
theorem lane1_lt (d : Fin 128) : 1 * 128 + (d : ℕ) < 512 := by omega

/-- A lane of head 2 lies in the row of all heads. -/
theorem lane2_lt (d : Fin 128) : 2 * 128 + (d : ℕ) < 512 := by omega

/-- A lane of head 3 lies in the row of all heads. -/
theorem lane3_lt (d : Fin 128) : 3 * 128 + (d : ℕ) < 512 := by omega

section Block

variable (a0 : FVec Ideal S32768x1024 .f32) (a1 a2 : FVec Ideal S32768x512 .bf16) (a3 a4 : FVec Ideal S16x256x512 .bf16) (a5 : FVec Ideal S1024x6944 .f32) (a6 : FVec Ideal S1024 .f32) (a7 : FVec Ideal S128 .f32) (a8 a9 a10 : FVec Ideal S512x1024 .f32) (a11 : FVec Ideal S1024x1024 .f32) (a12 : FVec Ideal S1024 .f32)
  (x0 : FVec Ideal S256x1024 .f32) (x1 x2 : FVec Ideal S256x512 .bf16) (x5 : FVec Ideal S1x1024 .f32) (x6 : FVec Ideal S1024x512 .bf16) (x7 : FVec Ideal S1x128 .f32)
  (k0 v0 k1 v1 k2 v2 k3 v3 : FVec Ideal S1x256x128 .bf16)
  (x8 : FVec Ideal S1024x3072 .bf16) (x9 x10 x11 : FVec Ideal S512x1024 .bf16) (x12 : FVec Ideal S1024x1024 .bf16) (x13 : FVec Ideal S1x1024 .f32) (b : Fin 16) (s : Fin 2048) (r : Fin 256)
  (h0 : ∀ k : Fin 1024, x0 (ix2 r k) = a0 (ix2 ⟨b * 2048 + s, row_lt b s⟩ k))
  (h1 : ∀ k : Fin 512, x1 (ix2 r k) = a1 (ix2 ⟨b * 2048 + s, row_lt b s⟩ k))
  (h2 : ∀ k : Fin 512, x2 (ix2 r k) = a2 (ix2 ⟨b * 2048 + s, row_lt b s⟩ k))
  (h5 : ∀ k : Fin 1024, x5 (ix2 0 k) = a6 (ix1 k))
  (h6 : ∀ (k : Fin 1024) (j : Fin 512), (x6 : S1024x512.Idx → EReal) (ix2 k j) = a5 (ix2 k ⟨3360 + j, mq_lt j⟩))
  (h7 : ∀ k : Fin 128, x7 (ix2 0 k) = a7 (ix1 k))
  (hk0 : ∀ (e : Fin 256) (d : Fin 128), k0 (ix3 0 e d) = a3 (ix3 b e ⟨0 * 128 + d, lane0_lt d⟩))
  (hv0 : ∀ (e : Fin 256) (d : Fin 128), v0 (ix3 0 e d) = a4 (ix3 b e ⟨0 * 128 + d, lane0_lt d⟩))
  (hk1 : ∀ (e : Fin 256) (d : Fin 128), k1 (ix3 0 e d) = a3 (ix3 b e ⟨1 * 128 + d, lane1_lt d⟩))
  (hv1 : ∀ (e : Fin 256) (d : Fin 128), v1 (ix3 0 e d) = a4 (ix3 b e ⟨1 * 128 + d, lane1_lt d⟩))
  (hk2 : ∀ (e : Fin 256) (d : Fin 128), k2 (ix3 0 e d) = a3 (ix3 b e ⟨2 * 128 + d, lane2_lt d⟩))
  (hv2 : ∀ (e : Fin 256) (d : Fin 128), v2 (ix3 0 e d) = a4 (ix3 b e ⟨2 * 128 + d, lane2_lt d⟩))
  (hk3 : ∀ (e : Fin 256) (d : Fin 128), k3 (ix3 0 e d) = a3 (ix3 b e ⟨3 * 128 + d, lane3_lt d⟩))
  (hv3 : ∀ (e : Fin 256) (d : Fin 128), v3 (ix3 0 e d) = a4 (ix3 b e ⟨3 * 128 + d, lane3_lt d⟩))
  (h8 : ∀ (k : Fin 1024) (j : Fin 3072), (x8 : S1024x3072.Idx → EReal) (ix2 k j) = a5 (ix2 k ⟨3872 + j, gate_lt j⟩))
  (h9 : ∀ (k : Fin 512) (j : Fin 1024), (x9 : S512x1024.Idx → EReal) (ix2 k j) = a8 (ix2 k j))
  (h10 : ∀ (k : Fin 512) (j : Fin 1024), (x10 : S512x1024.Idx → EReal) (ix2 k j) = a9 (ix2 k j))
  (h11 : ∀ (k : Fin 512) (j : Fin 1024), (x11 : S512x1024.Idx → EReal) (ix2 k j) = a10 (ix2 k j))
  (h12 : ∀ (k : Fin 1024) (j : Fin 1024), (x12 : S1024x1024.Idx → EReal) (ix2 k j) = a11 (ix2 k j))
  (h13 : ∀ k : Fin 1024, x13 (ix2 0 k) = a12 (ix1 k))

include h0 h5 h6 in
/-- The memory queries of a block's rows. -/
theorem mq_eq (j : Fin 512) : k0_pay4 x0 x5 x6 (ix2 r j) = st_mq a0 a5 a6 (ix3 b s j) := by
  have e := rows_eq a0 a6 x0 x5 b s r h0 h5
  pointwise [k0_pay4, st_mq]
  simp only [e, h6]

/-- The kernel's memory attention as its payloads compose. -/
def kmem : FVec Ideal S256x512 .bf16 :=
  k0_pay12 (k0_pay4 x0 x5 x6) (k0_pay7 (k0_pay5 x0 x5 x6 x7) (k0_pay6 k0) (constant S256x256 .f32 0x00000000#32) v0)
    (k0_pay10 (k0_pay8 (k0_pay4 x0 x5 x6) x7 k1) (k0_pay9 (k0_pay4 x0 x5 x6) x7 k1) v1) (k0_pay11 (k0_pay4 x0 x5 x6) x7 k2 v2) x7 k3 v3

include h0 h5 h6 h7 hk0 hv0 hk1 hv1 hk2 hv2 hk3 hv3 in
/-- The memory attention of a block's rows. -/
theorem mem_eq (j : Fin 512) : (kmem x0 x5 x6 x7 k0 v0 k1 v1 k2 v2 k3 v3 : S256x512.Idx → EReal) (ix2 r j) = st_hmem a0 a3 a4 a5 a6 a7 (ix3 b s j) := by
  have e := mq_eq a0 a5 a6 x0 x5 x6 b s r h0 h5 h6
  unfold kmem
  rw [heads]
  split
  · rename_i hj
    have := h_at a0 a3 a4 a5 a6 a7 b s 0 ⟨j, hj⟩
    simp only [Fin.val_zero, Nat.zero_mul, Nat.zero_add] at this hk0 hv0
    rw [this, head0]
    simp only [e, h7, hk0, hv0]
  split
  · rename_i hj
    have := h_at a0 a3 a4 a5 a6 a7 b s 1 ⟨j - 128, hj⟩
    have hj' : (⟨(1 : Fin 4) * 128 + (j - 128 : ℕ), by have : ((1 : Fin 4) : ℕ) = 1 := rfl; omega⟩ : Fin 512) = j := by ext; show 1 * 128 + (j - 128 : ℕ) = j; omega
    rw [hj'] at this
    rw [this, head1]
    simp only [e, h7, hk1, hv1]
    rfl
  split
  · rename_i hj
    have := h_at a0 a3 a4 a5 a6 a7 b s 2 ⟨j - 128 - 128, hj⟩
    have hj' : (⟨(2 : Fin 4) * 128 + (j - 128 - 128 : ℕ), by have : ((2 : Fin 4) : ℕ) = 2 := rfl; omega⟩ : Fin 512) = j := by ext; show 2 * 128 + (j - 128 - 128 : ℕ) = j; omega
    rw [hj'] at this
    rw [this, head2]
    simp only [e, h7, hk2, hv2]
    rfl
  · have := h_at a0 a3 a4 a5 a6 a7 b s 3 ⟨j - 128 - 128 - 128, by omega⟩
    have hj' : (⟨(3 : Fin 4) * 128 + (j - 128 - 128 - 128 : ℕ), by have : ((3 : Fin 4) : ℕ) = 3 := rfl; omega⟩ : Fin 512) = j := by ext; show 3 * 128 + (j - 128 - 128 - 128 : ℕ) = j; omega
    rw [hj'] at this
    rw [this]
    simp only [e, h7, hk3, hv3]
    rfl

/-- The kernel's residual stream as its payloads compose. -/
def kx1 : FVec Ideal S256x1024 .f32 :=
  k0_pay15 x0 (kmem x0 x5 x6 x7 k0 v0 k1 v1 k2 v2 k3 v3) (k0_pay13 (k0_pay3 x0 x5) x8) k0_pay14 x1 x9 x2 x10 x11 x12

include h0 h1 h2 h5 h6 h7 hk0 hv0 hk1 hv1 hk2 hv2 hk3 hv3 h8 h9 h10 h11 h12 in
/-- The residual stream of a block's rows. -/
theorem x1_eq (j : Fin 1024) : kx1 x0 x1 x2 x5 x6 x7 k0 v0 k1 v1 k2 v2 k3 v3 x8 x9 x10 x11 x12 (ix2 r j) = st_x1 a0 a1 a2 a3 a4 a5 a6 a7 a8 a9 a10 a11 (ix3 b s j) := by
  have eu := rows_eq a0 a6 x0 x5 b s r h0 h5
  have em := mem_eq a0 a3 a4 a5 a6 a7 x0 x5 x6 x7 k0 v0 k1 v1 k2 v2 k3 v3 b s r h0 h5 h6 h7 hk0 hv0 hk1 hv1 hk2 hv2 hk3 hv3
  unfold kx1
  generalize kmem x0 x5 x6 x7 k0 v0 k1 v1 k2 v2 k3 v3 = K at em ⊢
  generalize k0_pay3 (F := Ideal) x0 x5 = U at eu ⊢
  pointwise [k0_pay15, k0_pay14, k0_pay13, st_x1, st_merged, st_gates]
  simp only [eu, em, h0, h1, h2, h8, h9, h10, h11, h12, zero_sub]

include h0 h1 h2 h5 h6 h7 hk0 hv0 hk1 hv1 hk2 hv2 hk3 hv3 h8 h9 h10 h11 h12 h13 in
/-- The router's input of a block's rows. -/
theorem t_eq (j : Fin 1024) : k0_pay1 (kx1 x0 x1 x2 x5 x6 x7 k0 v0 k1 v1 k2 v2 k3 v3 x8 x9 x10 x11 x12) (k0_pay16 x13)
    (k0_pay17 x0 (kmem x0 x5 x6 x7 k0 v0 k1 v1 k2 v2 k3 v3) (k0_pay13 (k0_pay3 x0 x5) x8) k0_pay14 x1 x9 x2 x10 x11 x12) (ix2 r j) = st_t a0 a1 a2 a3 a4 a5 a6 a7 a8 a9 a10 a11 a12 (ix3 b s j) := by
  have e := x1_eq a0 a1 a2 a3 a4 a5 a6 a7 a8 a9 a10 a11 x0 x1 x2 x5 x6 x7 k0 v0 k1 v1 k2 v2 k3 v3 x8 x9 x10 x11 x12 b s r h0 h1 h2 h5 h6 h7 hk0 hv0 hk1 hv1 hk2 hv2 hk3 hv3 h8 h9 h10 h11 h12
  unfold k0_pay17
  change k0_pay1 (kx1 x0 x1 x2 x5 x6 x7 k0 v0 k1 v1 k2 v2 k3 v3 x8 x9 x10 x11 x12) (k0_pay16 x13) (shapeCast S256x1 (multiReduction .add [1] S256 (mulf (kx1 x0 x1 x2 x5 x6 x7 k0 v0 k1 v1 k2 v2 k3 v3 x8 x9 x10 x11 x12) (kx1 x0 x1 x2 x5 x6 x7 k0 v0 k1 v1 k2 v2 k3 v3 x8 x9 x10 x11 x12)) 0x00000000#32 reduces_S256x1024_S256 (.inl rfl) rfl) shapeCasts_S256_S256x1) (ix2 r j) = _
  generalize kx1 x0 x1 x2 x5 x6 x7 k0 v0 k1 v1 k2 v2 k3 v3 x8 x9 x10 x11 x12 = X at e ⊢
  pointwise [k0_pay1, k0_pay16, st_t]
  simp only [e, h13]

end Block

variable (m : (ℓ : Loc nD τ sig) → Buf (Elt Ideal) ℓ)

/-- Which block each window holds at grid point `t`. -/
theorem idx : ∀ t : Fin cfg0.N, win0_0.index t = ![t.val, 0] ∧ win0_1.index t = ![t.val, 0] ∧ win0_2.index t = ![t.val, 0] ∧ win0_3.index t = ![t.val / 8, 0, 0] ∧ win0_4.index t = ![t.val / 8, 0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_17.index t = ![t.val, 0] ∧ win0_18.index t = ![t.val, 0] :=
  (by decide +kernel : ∀ t : Fin grid0.N, win0_0.index t = ![t.val, 0] ∧ win0_1.index t = ![t.val, 0] ∧ win0_2.index t = ![t.val, 0] ∧ win0_3.index t = ![t.val / 8, 0, 0] ∧ win0_4.index t = ![t.val / 8, 0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_17.index t = ![t.val, 0] ∧ win0_18.index t = ![t.val, 0])

/-- Rows of operand 0's block. -/
theorem b0 (c : Dev nD) (t : Fin cfg0.N) (r : Fin 256) (k : Fin 1024) : (iblk m c 0 t : FVec Ideal S256x1024 .f32) (ix2 r k)
    = (m ((c : Thread nD τ).loc main_arg0) : FVec Ideal S32768x1024 .f32) (ix2 ⟨(⟨(t.val * 256 + r.val) / 2048, by have := t.isLt; change t.val < 128 at this; omega⟩ : Fin 16) * 2048 + (⟨(t.val * 256 + r.val) % 2048, by omega⟩ : Fin 2048), by have := t.isLt; change t.val < 128 at this; show (t.val * 256 + r.val) / 2048 * 2048 + (t.val * 256 + r.val) % 2048 < 32768; omega⟩ k) := by
  blk_ext [iblk, V, idx t]

/-- Rows of operand 1's block. -/
theorem b1 (c : Dev nD) (t : Fin cfg0.N) (r : Fin 256) (k : Fin 512) : (iblk m c 1 t : FVec Ideal S256x512 .bf16) (ix2 r k)
    = (m ((c : Thread nD τ).loc main_arg1) : FVec Ideal S32768x512 .bf16) (ix2 ⟨(⟨(t.val * 256 + r.val) / 2048, by have := t.isLt; change t.val < 128 at this; omega⟩ : Fin 16) * 2048 + (⟨(t.val * 256 + r.val) % 2048, by omega⟩ : Fin 2048), by have := t.isLt; change t.val < 128 at this; show (t.val * 256 + r.val) / 2048 * 2048 + (t.val * 256 + r.val) % 2048 < 32768; omega⟩ k) := by
  blk_ext [iblk, V, idx t]

/-- Rows of operand 2's block. -/
theorem b2 (c : Dev nD) (t : Fin cfg0.N) (r : Fin 256) (k : Fin 512) : (iblk m c 2 t : FVec Ideal S256x512 .bf16) (ix2 r k)
    = (m ((c : Thread nD τ).loc main_arg2) : FVec Ideal S32768x512 .bf16) (ix2 ⟨(⟨(t.val * 256 + r.val) / 2048, by have := t.isLt; change t.val < 128 at this; omega⟩ : Fin 16) * 2048 + (⟨(t.val * 256 + r.val) % 2048, by omega⟩ : Fin 2048), by have := t.isLt; change t.val < 128 at this; show (t.val * 256 + r.val) / 2048 * 2048 + (t.val * 256 + r.val) % 2048 < 32768; omega⟩ k) := by
  blk_ext [iblk, V, idx t]

/-- A read of head 0's columns. -/
theorem ld0 (X : FVec Ideal S1x256x512 .bf16) (e : Fin 256) (d : Fin 128) : View.ld (Val := Elt Ideal) (e' := .bf16) X r0_4 (ix3 (0 : Fin 1) e d : S1x256x128.Idx) = X (ix3 0 e ⟨0 * 128 + d, by omega⟩) := by
  refine congrArg X (funext fun a => Fin.ext ?_)
  obtain ⟨a, ha⟩ := a
  have ha : a < 3 := ha
  interval_cases a
  all_goals
    refine (Rect.idx_unit_val _ _ _ _ _).trans ?_
    first
      | rfl
      | exact Nat.zero_add _
      | exact congrArg (· + (d : ℕ)) (by rfl)

/-- A read of head 1's columns. -/
theorem ld1 (X : FVec Ideal S1x256x512 .bf16) (e : Fin 256) (d : Fin 128) : View.ld (Val := Elt Ideal) (e' := .bf16) X r0_5 (ix3 (0 : Fin 1) e d : S1x256x128.Idx) = X (ix3 0 e ⟨1 * 128 + d, by omega⟩) := by
  refine congrArg X (funext fun a => Fin.ext ?_)
  obtain ⟨a, ha⟩ := a
  have ha : a < 3 := ha
  interval_cases a
  all_goals
    refine (Rect.idx_unit_val _ _ _ _ _).trans ?_
    first
      | rfl
      | exact Nat.zero_add _
      | exact congrArg (· + (d : ℕ)) (by rfl)

/-- A read of head 2's columns. -/
theorem ld2 (X : FVec Ideal S1x256x512 .bf16) (e : Fin 256) (d : Fin 128) : View.ld (Val := Elt Ideal) (e' := .bf16) X r0_6 (ix3 (0 : Fin 1) e d : S1x256x128.Idx) = X (ix3 0 e ⟨2 * 128 + d, by omega⟩) := by
  refine congrArg X (funext fun a => Fin.ext ?_)
  obtain ⟨a, ha⟩ := a
  have ha : a < 3 := ha
  interval_cases a
  all_goals
    refine (Rect.idx_unit_val _ _ _ _ _).trans ?_
    first
      | rfl
      | exact Nat.zero_add _
      | exact congrArg (· + (d : ℕ)) (by rfl)

/-- A read of head 3's columns. -/
theorem ld3 (X : FVec Ideal S1x256x512 .bf16) (e : Fin 256) (d : Fin 128) : View.ld (Val := Elt Ideal) (e' := .bf16) X r0_7 (ix3 (0 : Fin 1) e d : S1x256x128.Idx) = X (ix3 0 e ⟨3 * 128 + d, by omega⟩) := by
  refine congrArg X (funext fun a => Fin.ext ?_)
  obtain ⟨a, ha⟩ := a
  have ha : a < 3 := ha
  interval_cases a
  all_goals
    refine (Rect.idx_unit_val _ _ _ _ _).trans ?_
    first
      | rfl
      | exact Nat.zero_add _
      | exact congrArg (· + (d : ℕ)) (by rfl)

/-- Head 0 of operand 3's block. -/
theorem b3_0 (c : Dev nD) (t : Fin cfg0.N) (r : Fin 256) (e : Fin 256) (d : Fin 128) : View.ld (Val := Elt Ideal) (e' := .bf16) (iblk m c 3 t) r0_4 (ix3 (0 : Fin 1) e d : S1x256x128.Idx)
    = (m ((c : Thread nD τ).loc main_arg3) : FVec Ideal S16x256x512 .bf16) (ix3 ⟨(t.val * 256 + r.val) / 2048, by have := t.isLt; change t.val < 128 at this; omega⟩ e ⟨0 * 128 + d, by omega⟩) := by
  have e1 : View.ld (Val := Elt Ideal) (e' := .bf16) (iblk m c 3 t) r0_4 (ix3 (0 : Fin 1) e d : S1x256x128.Idx) = (iblk m c 3 t : FVec Ideal S1x256x512 .bf16) (ix3 0 e ⟨0 * 128 + d, by omega⟩) := by
    exact ld0 _ e d
  rw [e1]
  blk_ext [iblk, V, idx t]

/-- Head 1 of operand 3's block. -/
theorem b3_1 (c : Dev nD) (t : Fin cfg0.N) (r : Fin 256) (e : Fin 256) (d : Fin 128) : View.ld (Val := Elt Ideal) (e' := .bf16) (iblk m c 3 t) r0_5 (ix3 (0 : Fin 1) e d : S1x256x128.Idx)
    = (m ((c : Thread nD τ).loc main_arg3) : FVec Ideal S16x256x512 .bf16) (ix3 ⟨(t.val * 256 + r.val) / 2048, by have := t.isLt; change t.val < 128 at this; omega⟩ e ⟨1 * 128 + d, by omega⟩) := by
  have e1 : View.ld (Val := Elt Ideal) (e' := .bf16) (iblk m c 3 t) r0_5 (ix3 (0 : Fin 1) e d : S1x256x128.Idx) = (iblk m c 3 t : FVec Ideal S1x256x512 .bf16) (ix3 0 e ⟨1 * 128 + d, by omega⟩) := by
    exact ld1 _ e d
  rw [e1]
  blk_ext [iblk, V, idx t]

/-- Head 2 of operand 3's block. -/
theorem b3_2 (c : Dev nD) (t : Fin cfg0.N) (r : Fin 256) (e : Fin 256) (d : Fin 128) : View.ld (Val := Elt Ideal) (e' := .bf16) (iblk m c 3 t) r0_6 (ix3 (0 : Fin 1) e d : S1x256x128.Idx)
    = (m ((c : Thread nD τ).loc main_arg3) : FVec Ideal S16x256x512 .bf16) (ix3 ⟨(t.val * 256 + r.val) / 2048, by have := t.isLt; change t.val < 128 at this; omega⟩ e ⟨2 * 128 + d, by omega⟩) := by
  have e1 : View.ld (Val := Elt Ideal) (e' := .bf16) (iblk m c 3 t) r0_6 (ix3 (0 : Fin 1) e d : S1x256x128.Idx) = (iblk m c 3 t : FVec Ideal S1x256x512 .bf16) (ix3 0 e ⟨2 * 128 + d, by omega⟩) := by
    exact ld2 _ e d
  rw [e1]
  blk_ext [iblk, V, idx t]

/-- Head 3 of operand 3's block. -/
theorem b3_3 (c : Dev nD) (t : Fin cfg0.N) (r : Fin 256) (e : Fin 256) (d : Fin 128) : View.ld (Val := Elt Ideal) (e' := .bf16) (iblk m c 3 t) r0_7 (ix3 (0 : Fin 1) e d : S1x256x128.Idx)
    = (m ((c : Thread nD τ).loc main_arg3) : FVec Ideal S16x256x512 .bf16) (ix3 ⟨(t.val * 256 + r.val) / 2048, by have := t.isLt; change t.val < 128 at this; omega⟩ e ⟨3 * 128 + d, by omega⟩) := by
  have e1 : View.ld (Val := Elt Ideal) (e' := .bf16) (iblk m c 3 t) r0_7 (ix3 (0 : Fin 1) e d : S1x256x128.Idx) = (iblk m c 3 t : FVec Ideal S1x256x512 .bf16) (ix3 0 e ⟨3 * 128 + d, by omega⟩) := by
    exact ld3 _ e d
  rw [e1]
  blk_ext [iblk, V, idx t]

/-- Head 0 of operand 4's block. -/
theorem b4_0 (c : Dev nD) (t : Fin cfg0.N) (r : Fin 256) (e : Fin 256) (d : Fin 128) : View.ld (Val := Elt Ideal) (e' := .bf16) (iblk m c 4 t) r0_4 (ix3 (0 : Fin 1) e d : S1x256x128.Idx)
    = (m ((c : Thread nD τ).loc main_arg4) : FVec Ideal S16x256x512 .bf16) (ix3 ⟨(t.val * 256 + r.val) / 2048, by have := t.isLt; change t.val < 128 at this; omega⟩ e ⟨0 * 128 + d, by omega⟩) := by
  have e1 : View.ld (Val := Elt Ideal) (e' := .bf16) (iblk m c 4 t) r0_4 (ix3 (0 : Fin 1) e d : S1x256x128.Idx) = (iblk m c 4 t : FVec Ideal S1x256x512 .bf16) (ix3 0 e ⟨0 * 128 + d, by omega⟩) := by
    exact ld0 _ e d
  rw [e1]
  blk_ext [iblk, V, idx t]

/-- Head 1 of operand 4's block. -/
theorem b4_1 (c : Dev nD) (t : Fin cfg0.N) (r : Fin 256) (e : Fin 256) (d : Fin 128) : View.ld (Val := Elt Ideal) (e' := .bf16) (iblk m c 4 t) r0_5 (ix3 (0 : Fin 1) e d : S1x256x128.Idx)
    = (m ((c : Thread nD τ).loc main_arg4) : FVec Ideal S16x256x512 .bf16) (ix3 ⟨(t.val * 256 + r.val) / 2048, by have := t.isLt; change t.val < 128 at this; omega⟩ e ⟨1 * 128 + d, by omega⟩) := by
  have e1 : View.ld (Val := Elt Ideal) (e' := .bf16) (iblk m c 4 t) r0_5 (ix3 (0 : Fin 1) e d : S1x256x128.Idx) = (iblk m c 4 t : FVec Ideal S1x256x512 .bf16) (ix3 0 e ⟨1 * 128 + d, by omega⟩) := by
    exact ld1 _ e d
  rw [e1]
  blk_ext [iblk, V, idx t]

/-- Head 2 of operand 4's block. -/
theorem b4_2 (c : Dev nD) (t : Fin cfg0.N) (r : Fin 256) (e : Fin 256) (d : Fin 128) : View.ld (Val := Elt Ideal) (e' := .bf16) (iblk m c 4 t) r0_6 (ix3 (0 : Fin 1) e d : S1x256x128.Idx)
    = (m ((c : Thread nD τ).loc main_arg4) : FVec Ideal S16x256x512 .bf16) (ix3 ⟨(t.val * 256 + r.val) / 2048, by have := t.isLt; change t.val < 128 at this; omega⟩ e ⟨2 * 128 + d, by omega⟩) := by
  have e1 : View.ld (Val := Elt Ideal) (e' := .bf16) (iblk m c 4 t) r0_6 (ix3 (0 : Fin 1) e d : S1x256x128.Idx) = (iblk m c 4 t : FVec Ideal S1x256x512 .bf16) (ix3 0 e ⟨2 * 128 + d, by omega⟩) := by
    exact ld2 _ e d
  rw [e1]
  blk_ext [iblk, V, idx t]

/-- Head 3 of operand 4's block. -/
theorem b4_3 (c : Dev nD) (t : Fin cfg0.N) (r : Fin 256) (e : Fin 256) (d : Fin 128) : View.ld (Val := Elt Ideal) (e' := .bf16) (iblk m c 4 t) r0_7 (ix3 (0 : Fin 1) e d : S1x256x128.Idx)
    = (m ((c : Thread nD τ).loc main_arg4) : FVec Ideal S16x256x512 .bf16) (ix3 ⟨(t.val * 256 + r.val) / 2048, by have := t.isLt; change t.val < 128 at this; omega⟩ e ⟨3 * 128 + d, by omega⟩) := by
  have e1 : View.ld (Val := Elt Ideal) (e' := .bf16) (iblk m c 4 t) r0_7 (ix3 (0 : Fin 1) e d : S1x256x128.Idx) = (iblk m c 4 t : FVec Ideal S1x256x512 .bf16) (ix3 0 e ⟨3 * 128 + d, by omega⟩) := by
    exact ld3 _ e d
  rw [e1]
  blk_ext [iblk, V, idx t]

/-- Operand 5's block, from the argument it is computed from. -/
theorem b5 (c : Dev nD) (t : Fin cfg0.N) (k : Fin 1024) : (iblk m c 5 t : S1x1024.Idx → EReal) (ix2 0 k)
    = (m ((c : Thread nD τ).loc main_arg6) : FVec Ideal S1024 .f32) (ix1 k) := by
  have e : (iblk m c 5 t : FVec Ideal S1x1024 .f32) (ix2 0 k) = (V m c main_v1 : FVec Ideal S1x1024 .f32) (ix2 0 k) := by
    blk_ext [iblk, idx t]
  rw [e]
  entry_read
  pointwise
  try rfl

/-- Operand 6's block, from the argument it is computed from. -/
theorem b6 (c : Dev nD) (t : Fin cfg0.N) (k : Fin 1024) (j : Fin 512) : (iblk m c 6 t : S1024x512.Idx → EReal) (ix2 k j)
    = (m ((c : Thread nD τ).loc main_arg5) : FVec Ideal S1024x6944 .f32) (ix2 k ⟨3360 + j, by omega⟩) := by
  have e : (iblk m c 6 t : FVec Ideal S1024x512 .bf16) (ix2 k j) = (V m c main_v3 : FVec Ideal S1024x512 .bf16) (ix2 k j) := by
    blk_ext [iblk, idx t]
  rw [e]
  entry_read
  pointwise
  try rfl

/-- Operand 7's block, from the argument it is computed from. -/
theorem b7 (c : Dev nD) (t : Fin cfg0.N) (k : Fin 128) : (iblk m c 7 t : S1x128.Idx → EReal) (ix2 0 k)
    = (m ((c : Thread nD τ).loc main_arg7) : FVec Ideal S128 .f32) (ix1 k) := by
  have e : (iblk m c 7 t : FVec Ideal S1x128 .f32) (ix2 0 k) = (V m c main_v4 : FVec Ideal S1x128 .f32) (ix2 0 k) := by
    blk_ext [iblk, idx t]
  rw [e]
  entry_read
  pointwise
  try rfl

/-- Operand 8's block, from the argument it is computed from. -/
theorem b8 (c : Dev nD) (t : Fin cfg0.N) (k : Fin 1024) (j : Fin 3072) : (iblk m c 8 t : S1024x3072.Idx → EReal) (ix2 k j)
    = (m ((c : Thread nD τ).loc main_arg5) : FVec Ideal S1024x6944 .f32) (ix2 k ⟨3872 + j, by omega⟩) := by
  have e : (iblk m c 8 t : FVec Ideal S1024x3072 .bf16) (ix2 k j) = (V m c main_v6 : FVec Ideal S1024x3072 .bf16) (ix2 k j) := by
    blk_ext [iblk, idx t]
  rw [e]
  entry_read
  pointwise
  try rfl

/-- Operand 9's block, from the argument it is computed from. -/
theorem b9 (c : Dev nD) (t : Fin cfg0.N) (k : Fin 512) (j : Fin 1024) : (iblk m c 9 t : S512x1024.Idx → EReal) (ix2 k j)
    = (m ((c : Thread nD τ).loc main_arg8) : FVec Ideal S512x1024 .f32) (ix2 k j) := by
  have e : (iblk m c 9 t : FVec Ideal S512x1024 .bf16) (ix2 k j) = (V m c main_v7 : FVec Ideal S512x1024 .bf16) (ix2 k j) := by
    blk_ext [iblk, idx t]
  rw [e]
  entry_read
  pointwise
  try rfl

/-- Operand 10's block, from the argument it is computed from. -/
theorem b10 (c : Dev nD) (t : Fin cfg0.N) (k : Fin 512) (j : Fin 1024) : (iblk m c 10 t : S512x1024.Idx → EReal) (ix2 k j)
    = (m ((c : Thread nD τ).loc main_arg9) : FVec Ideal S512x1024 .f32) (ix2 k j) := by
  have e : (iblk m c 10 t : FVec Ideal S512x1024 .bf16) (ix2 k j) = (V m c main_v8 : FVec Ideal S512x1024 .bf16) (ix2 k j) := by
    blk_ext [iblk, idx t]
  rw [e]
  entry_read
  pointwise
  try rfl

/-- Operand 11's block, from the argument it is computed from. -/
theorem b11 (c : Dev nD) (t : Fin cfg0.N) (k : Fin 512) (j : Fin 1024) : (iblk m c 11 t : S512x1024.Idx → EReal) (ix2 k j)
    = (m ((c : Thread nD τ).loc main_arg10) : FVec Ideal S512x1024 .f32) (ix2 k j) := by
  have e : (iblk m c 11 t : FVec Ideal S512x1024 .bf16) (ix2 k j) = (V m c main_v9 : FVec Ideal S512x1024 .bf16) (ix2 k j) := by
    blk_ext [iblk, idx t]
  rw [e]
  entry_read
  pointwise
  try rfl

/-- Operand 12's block, from the argument it is computed from. -/
theorem b12 (c : Dev nD) (t : Fin cfg0.N) (k : Fin 1024) (j : Fin 1024) : (iblk m c 12 t : S1024x1024.Idx → EReal) (ix2 k j)
    = (m ((c : Thread nD τ).loc main_arg11) : FVec Ideal S1024x1024 .f32) (ix2 k j) := by
  have e : (iblk m c 12 t : FVec Ideal S1024x1024 .bf16) (ix2 k j) = (V m c main_v10 : FVec Ideal S1024x1024 .bf16) (ix2 k j) := by
    blk_ext [iblk, idx t]
  rw [e]
  entry_read
  pointwise
  try rfl

/-- Operand 13's block, from the argument it is computed from. -/
theorem b13 (c : Dev nD) (t : Fin cfg0.N) (k : Fin 1024) : (iblk m c 13 t : S1x1024.Idx → EReal) (ix2 0 k)
    = (m ((c : Thread nD τ).loc main_arg12) : FVec Ideal S1024 .f32) (ix1 k) := by
  have e : (iblk m c 13 t : FVec Ideal S1x1024 .f32) (ix2 0 k) = (V m c main_v11 : FVec Ideal S1x1024 .f32) (ix2 0 k) := by
    blk_ext [iblk, idx t]
  rw [e]
  entry_read
  pointwise
  try rfl

/-- What point `t` stores of the residual stream is the reference's at the place it is written to. -/
theorem point17 (c : Dev nD) (t : Fin cfg0.N) (y : S256x1024.Idx) :
    kx1 (iblk m c 0 t) (iblk m c 1 t) (iblk m c 2 t) (iblk m c 5 t) (iblk m c 6 t) (iblk m c 7 t) (View.ld (iblk m c 3 t) r0_4) (View.ld (iblk m c 4 t) r0_4) (View.ld (iblk m c 3 t) r0_5) (View.ld (iblk m c 4 t) r0_5) (View.ld (iblk m c 3 t) r0_6) (View.ld (iblk m c 4 t) r0_6) (View.ld (iblk m c 3 t) r0_7) (View.ld (iblk m c 4 t) r0_7) (iblk m c 8 t) (iblk m c 9 t) (iblk m c 10 t) (iblk m c 11 t) (iblk m c 12 t) y
      = st_out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (((cfg0.win 17).blk t).view.emb y) := by
  idx_vars y
  rw [x1_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (iblk m c 0 t) (iblk m c 1 t) (iblk m c 2 t) (iblk m c 5 t) (iblk m c 6 t) (iblk m c 7 t) (View.ld (iblk m c 3 t) r0_4) (View.ld (iblk m c 4 t) r0_4) (View.ld (iblk m c 3 t) r0_5) (View.ld (iblk m c 4 t) r0_5) (View.ld (iblk m c 3 t) r0_6) (View.ld (iblk m c 4 t) r0_6) (View.ld (iblk m c 3 t) r0_7) (View.ld (iblk m c 4 t) r0_7) (iblk m c 8 t) (iblk m c 9 t) (iblk m c 10 t) (iblk m c 11 t) (iblk m c 12 t) ⟨(t.val * 256 + y0.val) / 2048, by have := t.isLt; change t.val < 128 at this; omega⟩ ⟨(t.val * 256 + y0.val) % 2048, by omega⟩ y0 (b0 m c t y0) (b1 m c t y0) (b2 m c t y0) (b5 m c t) (b6 m c t) (b7 m c t) (b3_0 m c t y0) (b4_0 m c t y0) (b3_1 m c t y0) (b4_1 m c t y0) (b3_2 m c t y0) (b4_2 m c t y0) (b3_3 m c t y0) (b4_3 m c t y0) (b8 m c t) (b9 m c t) (b10 m c t) (b11 m c t) (b12 m c t) y1]
  unfold st_out0
  generalize st_x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = X
  pointwise
  blk_ext [idx t]

/-- What point `t` stores of the router's input is the reference's at the place it is written to. -/
theorem point18 (c : Dev nD) (t : Fin cfg0.N) (y : S256x1024.Idx) :
    k0_pay1 (kx1 (iblk m c 0 t) (iblk m c 1 t) (iblk m c 2 t) (iblk m c 5 t) (iblk m c 6 t) (iblk m c 7 t) (View.ld (iblk m c 3 t) r0_4) (View.ld (iblk m c 4 t) r0_4) (View.ld (iblk m c 3 t) r0_5) (View.ld (iblk m c 4 t) r0_5) (View.ld (iblk m c 3 t) r0_6) (View.ld (iblk m c 4 t) r0_6) (View.ld (iblk m c 3 t) r0_7) (View.ld (iblk m c 4 t) r0_7) (iblk m c 8 t) (iblk m c 9 t) (iblk m c 10 t) (iblk m c 11 t) (iblk m c 12 t)) (k0_pay16 (iblk m c 13 t))
    (k0_pay17 (iblk m c 0 t) (kmem (iblk m c 0 t) (iblk m c 5 t) (iblk m c 6 t) (iblk m c 7 t) (View.ld (iblk m c 3 t) r0_4) (View.ld (iblk m c 4 t) r0_4) (View.ld (iblk m c 3 t) r0_5) (View.ld (iblk m c 4 t) r0_5) (View.ld (iblk m c 3 t) r0_6) (View.ld (iblk m c 4 t) r0_6) (View.ld (iblk m c 3 t) r0_7) (View.ld (iblk m c 4 t) r0_7)) (k0_pay13 (k0_pay3 (iblk m c 0 t) (iblk m c 5 t)) (iblk m c 8 t)) k0_pay14 (iblk m c 1 t) (iblk m c 9 t) (iblk m c 2 t) (iblk m c 10 t) (iblk m c 11 t) (iblk m c 12 t)) y
      = st_out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (((cfg0.win 18).blk t).view.emb y) := by
  idx_vars y
  rw [t_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (iblk m c 0 t) (iblk m c 1 t) (iblk m c 2 t) (iblk m c 5 t) (iblk m c 6 t) (iblk m c 7 t) (View.ld (iblk m c 3 t) r0_4) (View.ld (iblk m c 4 t) r0_4) (View.ld (iblk m c 3 t) r0_5) (View.ld (iblk m c 4 t) r0_5) (View.ld (iblk m c 3 t) r0_6) (View.ld (iblk m c 4 t) r0_6) (View.ld (iblk m c 3 t) r0_7) (View.ld (iblk m c 4 t) r0_7) (iblk m c 8 t) (iblk m c 9 t) (iblk m c 10 t) (iblk m c 11 t) (iblk m c 12 t) (iblk m c 13 t) ⟨(t.val * 256 + y0.val) / 2048, by have := t.isLt; change t.val < 128 at this; omega⟩ ⟨(t.val * 256 + y0.val) % 2048, by omega⟩ y0 (b0 m c t y0) (b1 m c t y0) (b2 m c t y0) (b5 m c t) (b6 m c t) (b7 m c t) (b3_0 m c t y0) (b4_0 m c t y0) (b3_1 m c t y0) (b4_1 m c t y0) (b3_2 m c t y0) (b4_2 m c t y0) (b3_3 m c t y0) (b4_3 m c t y0) (b8 m c t) (b9 m c t) (b10 m c t) (b11 m c t) (b12 m c t) (b13 m c t) y1]
  unfold st_out1
  generalize st_t (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) = X
  pointwise
  blk_ext [idx t]

/-- The first result array after the run. -/
theorem final17 (c : Dev nD) : (dats m 0 c).arrAt 17 cfg0.N = st_out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 17 _ (by decide +kernel) fun t _ y => ?_
  blk_simp
  rw [after0_17]; frame_out [k0_pay19, k0_pay20, k0_pay21, k0_pay18]
  exact point17 m c t y

/-- The second result array after the run. -/
theorem final18 (c : Dev nD) : (dats m 0 c).arrAt 18 cfg0.N = st_out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 18 _ (by decide +kernel) fun t _ y => ?_
  blk_simp
  rw [after0_18]; frame_out [k0_pay22, k0_pay23, k0_pay24, k0_pay19, k0_pay20, k0_pay21, k0_pay18]
  exact point18 m c t y

end Cert.PostIdeal.Value
-- ==== Proof.RouterRef.lean ====
module

public import proofs.«01_k».proof.Proof.Gen.RouterRefIdeal.Run
public import proofs.«01_k».proof.Proof.PostSpec
public import proofs.«01_k».proof.Proof.Gen.Pre_router_finite
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RouterRefIdeal.Spec

open Cert.RouterRefIdeal Cert.RouterRefIdeal.Gen Cert.PostRefIdeal.Spec

/-- The router's logits of the reference, from the rows the router reads, padded with zero columns. -/
def logits (T : FVec Ideal S32768x1024 .f32) (w : FVec Ideal S1024x32 .f32) (b : FVec Ideal S32 .f32) : FVec Ideal S32768x128 .f32 :=
  pad S32768x128 ![0, 0] ![0, 96] ![0, 0] (addf (Host.dotGeneral dot_S32768x1024_S1024x32_S32768x32_1_0_0_1_n_n none T w) (broadcastInDim S32768x32 ![0, 1] bcast_S1x32_S32768x32_0_1 (broadcastInDim S1x32 ![1] bcast_S32_S1x32_1 b))) (sitofp .f32 (constantI S_ 32 0#32)) pads_S32768x32_S32768x128_000_0960 h_S_

/-- The reference's result is the logits of the rows the router reads. -/
theorem res0 (m : (ℓ : Loc nD τ sig) → Buf (Elt Ideal) ℓ) (c : Dev nD) :
    Value.res_main_v99 m c = logits (st_out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (m ((c : Thread nD τ).loc main_arg13)) (m ((c : Thread nD τ).loc main_arg14)) := rfl

/-- The padding value, the integer zero as a float, is zero. -/
theorem pad0 : FloatOps.sitofp (F := Ideal) FTy.f32 0#32 = (0 : EReal) := by
  show (((0#32 : BitVec 32).toInt : ℝ) : EReal) = 0
  simp

/-- An entry of the logits: a sum over the row and the bias, or zero past the experts. -/
theorem logits_at (T : FVec Ideal S32768x1024 .f32) (w : FVec Ideal S1024x32 .f32) (b : FVec Ideal S32 .f32) (r : Fin 32768) (j : Fin 128) :
    (logits T w b : S32768x128.Idx → EReal) (ix2 r j)
      = if h : (j : ℕ) < 32 then @HAdd.hAdd EReal EReal EReal _ (∑ k : Fin 1024, @HMul.hMul EReal EReal EReal _ (T (ix2 r k)) (w (ix2 k ⟨j, h⟩))) (b (ix1 ⟨j, h⟩)) else (0 : EReal) := by
  pointwise [logits]
  split <;> rename_i h
  · rfl
  · exact pad0

/-- The precondition: every entry of the rows the router reads, and of its weights, is finite. -/
theorem finite_of (a0 : FVec Ideal S32768x1024 .f32) (a1 a2 : FVec Ideal S32768x512 .bf16) (a3 a4 : FVec Ideal S16x256x512 .bf16) (a5 : FVec Ideal S1024x6944 .f32) (a6 : FVec Ideal S1024 .f32) (a7 : FVec Ideal S128 .f32) (a8 a9 a10 : FVec Ideal S512x1024 .f32) (a11 : FVec Ideal S1024x1024 .f32) (a12 : FVec Ideal S1024 .f32) (a13 : FVec Ideal S1024x32 .f32) (a14 : FVec Ideal S32 .f32)
    [Cert.Pre_router_finite.Facts] (h : Cert.Pre_router_finite.fn (F := Ideal) a0 a1 a2 a3 a4 a5 a6 a7 a8 a9 a10 a11 a12 a13 a14 = fun _ => 1#1) :
    (∀ (r : Fin 32768) (k : Fin 1024), (st_out1 a0 a1 a2 a3 a4 a5 a6 a7 a8 a9 a10 a11 a12 : S32768x1024.Idx → EReal) (ix2 r k) ≠ (⊤ : EReal) ∧ (st_out1 a0 a1 a2 a3 a4 a5 a6 a7 a8 a9 a10 a11 a12 : S32768x1024.Idx → EReal) (ix2 r k) ≠ (⊥ : EReal))
    ∧ (∀ (k : Fin 1024) (j : Fin 32), (a13 : S1024x32.Idx → EReal) (ix2 k j) ≠ (⊤ : EReal) ∧ (a13 : S1024x32.Idx → EReal) (ix2 k j) ≠ (⊥ : EReal)) := by
  have key : ∀ x : EReal, Ideal.cmp .olt (max x (-x)) (Ideal.ofBits .f32 0x7F800000#32) = 1#1 → x ≠ (⊤ : EReal) ∧ x ≠ (⊥ : EReal) := by
    intro x e
    have htop : Ideal.ofBits .f32 0x7F800000#32 = ⊤ := by simp [Ideal.ofBits, Ideal.ieee]
    rw [htop] at e
    have e' : max x (-x) < ⊤ := by
      by_contra hn
      unfold Ideal.cmp at e
      simp [hn] at e
    obtain ⟨h1, h2⟩ := max_lt_iff.mp e'
    refine ⟨h1.ne, fun hb => ?_⟩
    rw [hb] at h2
    simp at h2
  have hx : Cert.Pre_router_finite.fn (F := Ideal) a0 a1 a2 a3 a4 a5 a6 a7 a8 a9 a10 a11 a12 a13 a14
      = cmpf .olt (Host.absf (concatenate Cert.Pre_router_finite.S32800x1024 0 [⟨S32768x1024, st_out1 a0 a1 a2 a3 a4 a5 a6 a7 a8 a9 a10 a11 a12⟩, ⟨Cert.Pre_router_finite.S32x1024, transpose Cert.Pre_router_finite.S32x1024 [1, 0] a13 Cert.Pre_router_finite.Facts.transposes_S1024x32_S32x1024_1_0⟩] Cert.Pre_router_finite.Facts.concatenates_S32768x1024_S32x1024_S32800x1024_d0))
        (broadcastInDim Cert.Pre_router_finite.S32800x1024 ![] Cert.Pre_router_finite.Facts.bcast_S_S32800x1024 (constant S_ .f32 0x7F800000#32)) := rfl
  rw [hx] at h
  generalize st_out1 a0 a1 a2 a3 a4 a5 a6 a7 a8 a9 a10 a11 a12 = T at h ⊢
  constructor
  · intro r k
    have e := congrFun h (ix2 ⟨r, by omega⟩ k)
    refine key _ ((?_ : _ = _).trans e)
    pointwise
    rfl
  · intro k j
    have e := congrFun h (ix2 ⟨32768 + j, by omega⟩ k)
    refine key _ ((?_ : _ = _).trans e)
    pointwise
    rfl

end Cert.RouterRefIdeal.Spec

end
-- ==== Proof.RouterValue.lean ====
module

public import proofs.«01_k».proof.Proof.Gen.RouterIdeal.Value
public import proofs.«01_k».proof.Proof.PostValue
public import proofs.«01_k».proof.Proof.RouterRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RouterIdeal.Value

open Cert.RouterIdeal Cert.RouterIdeal.Gen Cert.PostRefIdeal.Spec Cert.RouterRefIdeal.Spec

/-- The kernel's logits from the rows `T`: the rows' high part times both parts of the weights, their low part times the high part, and the bias. -/
def lg (T : FVec Ideal S256x1024 .f32) (A B : FVec Ideal S1024x128 .bf16) (D : FVec Ideal S1x128 .f32) : FVec Ideal S256x128 .f32 :=
  addf (addf (addf (matmul dot_S256x1024_S1024x128_S256x128_1_0_0_1_n_n none (truncf .bf16 T bitsLt_bf16_f32) (shapeCast S1024x128 A shapeCasts_S1024x128_S1024x128) (constant S256x128 .f32 0x00000000#32)) (matmul dot_S256x1024_S1024x128_S256x128_1_0_0_1_n_n none (truncf .bf16 T bitsLt_bf16_f32) (shapeCast S1024x128 B shapeCasts_S1024x128_S1024x128) (constant S256x128 .f32 0x00000000#32)))
    (matmul dot_S256x1024_S1024x128_S256x128_1_0_0_1_n_n none (truncf .bf16 (subf T (extf .f32 (truncf .bf16 T bitsLt_bf16_f32) bitsLt_bf16_f32)) bitsLt_bf16_f32) (shapeCast S1024x128 A shapeCasts_S1024x128_S1024x128) (constant S256x128 .f32 0x00000000#32)))
    (broadcastTo S256x128 (shapeCast S1x128 D shapeCasts_S1x128_S1x128) broadcasts_S1x128_S256x128)

/-- The payload of the third result is the logits of the payload of the second. -/
theorem pay2_eq (X : FVec Ideal S256x1024 .f32) (G : FVec Ideal S1x1024 .f32) (Q : FVec Ideal S256x1 .f32) (A B : FVec Ideal S1024x128 .bf16) (D : FVec Ideal S1x128 .f32) :
    k0_pay2 (F := Ideal) X G Q A B A D = lg (Cert.PostIdeal.Gen.k0_pay1 (F := Ideal) X G Q) A B D := rfl

/-- An entry of the kernel's logits, for finite rows. -/
theorem lg_at (T : FVec Ideal S256x1024 .f32) (A B : FVec Ideal S1024x128 .bf16) (D : FVec Ideal S1x128 .f32) (r : Fin 256) (j : Fin 128)
    (hT : ∀ k : Fin 1024, (T : S256x1024.Idx → EReal) (ix2 r k) ≠ (⊤ : EReal) ∧ (T : S256x1024.Idx → EReal) (ix2 r k) ≠ (⊥ : EReal))
    (hB : ∀ k : Fin 1024, (B : S1024x128.Idx → EReal) (ix2 k j) = (0 : EReal)) :
    (lg T A B D : S256x128.Idx → EReal) (ix2 r j)
      = @HAdd.hAdd EReal EReal EReal _ (∑ k : Fin 1024, @HMul.hMul EReal EReal EReal _ (T (ix2 r k)) (A (ix2 k j))) (D (ix2 0 j)) := by
  have hs : ∀ k : Fin 1024, @HSub.hSub EReal EReal EReal _ (T (ix2 r k)) (T (ix2 r k)) = 0 := fun k => EReal.sub_self (hT k).1 (hT k).2
  pointwise [lg]
  simp only [hs, hB, mul_zero, zero_mul, Finset.sum_const_zero, add_zero]

variable (m : (ℓ : Loc nD τ sig) → Buf (Elt Ideal) ℓ)

/-- Which block each window holds at grid point `t`. -/
theorem idx : ∀ t : Fin cfg0.N, win0_0.index t = ![t.val, 0] ∧ win0_1.index t = ![t.val, 0] ∧ win0_2.index t = ![t.val, 0] ∧ win0_3.index t = ![t.val / 8, 0, 0] ∧ win0_4.index t = ![t.val / 8, 0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_19.index t = ![t.val, 0] :=
  (by decide +kernel : ∀ t : Fin grid0.N, win0_0.index t = ![t.val, 0] ∧ win0_1.index t = ![t.val, 0] ∧ win0_2.index t = ![t.val, 0] ∧ win0_3.index t = ![t.val / 8, 0, 0] ∧ win0_4.index t = ![t.val / 8, 0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_19.index t = ![t.val, 0])

/-- Rows of operand 0's block. -/
theorem b0 (c : Dev nD) (t : Fin cfg0.N) (r : Fin 256) (k : Fin 1024) : (iblk m c 0 t : FVec Ideal S256x1024 .f32) (ix2 r k)
    = (m ((c : Thread nD τ).loc main_arg0) : FVec Ideal S32768x1024 .f32) (ix2 ⟨(⟨(t.val * 256 + r.val) / 2048, by have := t.isLt; change t.val < 128 at this; omega⟩ : Fin 16) * 2048 + (⟨(t.val * 256 + r.val) % 2048, by omega⟩ : Fin 2048), by have := t.isLt; change t.val < 128 at this; show (t.val * 256 + r.val) / 2048 * 2048 + (t.val * 256 + r.val) % 2048 < 32768; omega⟩ k) := by
  blk_ext [iblk, V, idx t]

/-- Rows of operand 1's block. -/
theorem b1 (c : Dev nD) (t : Fin cfg0.N) (r : Fin 256) (k : Fin 512) : (iblk m c 1 t : FVec Ideal S256x512 .bf16) (ix2 r k)
    = (m ((c : Thread nD τ).loc main_arg1) : FVec Ideal S32768x512 .bf16) (ix2 ⟨(⟨(t.val * 256 + r.val) / 2048, by have := t.isLt; change t.val < 128 at this; omega⟩ : Fin 16) * 2048 + (⟨(t.val * 256 + r.val) % 2048, by omega⟩ : Fin 2048), by have := t.isLt; change t.val < 128 at this; show (t.val * 256 + r.val) / 2048 * 2048 + (t.val * 256 + r.val) % 2048 < 32768; omega⟩ k) := by
  blk_ext [iblk, V, idx t]

/-- Rows of operand 2's block. -/
theorem b2 (c : Dev nD) (t : Fin cfg0.N) (r : Fin 256) (k : Fin 512) : (iblk m c 2 t : FVec Ideal S256x512 .bf16) (ix2 r k)
    = (m ((c : Thread nD τ).loc main_arg2) : FVec Ideal S32768x512 .bf16) (ix2 ⟨(⟨(t.val * 256 + r.val) / 2048, by have := t.isLt; change t.val < 128 at this; omega⟩ : Fin 16) * 2048 + (⟨(t.val * 256 + r.val) % 2048, by omega⟩ : Fin 2048), by have := t.isLt; change t.val < 128 at this; show (t.val * 256 + r.val) / 2048 * 2048 + (t.val * 256 + r.val) % 2048 < 32768; omega⟩ k) := by
  blk_ext [iblk, V, idx t]

/-- A read of head 0's columns. -/
theorem ld0 (X : FVec Ideal S1x256x512 .bf16) (e : Fin 256) (d : Fin 128) : View.ld (Val := Elt Ideal) (e' := .bf16) X r0_4 (ix3 (0 : Fin 1) e d : S1x256x128.Idx) = X (ix3 0 e ⟨0 * 128 + d, by omega⟩) := by
  refine congrArg X (funext fun a => Fin.ext ?_)
  obtain ⟨a, ha⟩ := a
  have ha : a < 3 := ha
  interval_cases a
  all_goals
    refine (Rect.idx_unit_val _ _ _ _ _).trans ?_
    first
      | rfl
      | exact Nat.zero_add _
      | exact congrArg (· + (d : ℕ)) (by rfl)

/-- A read of head 1's columns. -/
theorem ld1 (X : FVec Ideal S1x256x512 .bf16) (e : Fin 256) (d : Fin 128) : View.ld (Val := Elt Ideal) (e' := .bf16) X r0_5 (ix3 (0 : Fin 1) e d : S1x256x128.Idx) = X (ix3 0 e ⟨1 * 128 + d, by omega⟩) := by
  refine congrArg X (funext fun a => Fin.ext ?_)
  obtain ⟨a, ha⟩ := a
  have ha : a < 3 := ha
  interval_cases a
  all_goals
    refine (Rect.idx_unit_val _ _ _ _ _).trans ?_
    first
      | rfl
      | exact Nat.zero_add _
      | exact congrArg (· + (d : ℕ)) (by rfl)

/-- A read of head 2's columns. -/
theorem ld2 (X : FVec Ideal S1x256x512 .bf16) (e : Fin 256) (d : Fin 128) : View.ld (Val := Elt Ideal) (e' := .bf16) X r0_6 (ix3 (0 : Fin 1) e d : S1x256x128.Idx) = X (ix3 0 e ⟨2 * 128 + d, by omega⟩) := by
  refine congrArg X (funext fun a => Fin.ext ?_)
  obtain ⟨a, ha⟩ := a
  have ha : a < 3 := ha
  interval_cases a
  all_goals
    refine (Rect.idx_unit_val _ _ _ _ _).trans ?_
    first
      | rfl
      | exact Nat.zero_add _
      | exact congrArg (· + (d : ℕ)) (by rfl)

/-- A read of head 3's columns. -/
theorem ld3 (X : FVec Ideal S1x256x512 .bf16) (e : Fin 256) (d : Fin 128) : View.ld (Val := Elt Ideal) (e' := .bf16) X r0_7 (ix3 (0 : Fin 1) e d : S1x256x128.Idx) = X (ix3 0 e ⟨3 * 128 + d, by omega⟩) := by
  refine congrArg X (funext fun a => Fin.ext ?_)
  obtain ⟨a, ha⟩ := a
  have ha : a < 3 := ha
  interval_cases a
  all_goals
    refine (Rect.idx_unit_val _ _ _ _ _).trans ?_
    first
      | rfl
      | exact Nat.zero_add _
      | exact congrArg (· + (d : ℕ)) (by rfl)

/-- Head 0 of operand 3's block. -/
theorem b3_0 (c : Dev nD) (t : Fin cfg0.N) (r : Fin 256) (e : Fin 256) (d : Fin 128) : View.ld (Val := Elt Ideal) (e' := .bf16) (iblk m c 3 t) r0_4 (ix3 (0 : Fin 1) e d : S1x256x128.Idx)
    = (m ((c : Thread nD τ).loc main_arg3) : FVec Ideal S16x256x512 .bf16) (ix3 ⟨(t.val * 256 + r.val) / 2048, by have := t.isLt; change t.val < 128 at this; omega⟩ e ⟨0 * 128 + d, by omega⟩) := by
  have e1 : View.ld (Val := Elt Ideal) (e' := .bf16) (iblk m c 3 t) r0_4 (ix3 (0 : Fin 1) e d : S1x256x128.Idx) = (iblk m c 3 t : FVec Ideal S1x256x512 .bf16) (ix3 0 e ⟨0 * 128 + d, by omega⟩) := by
    exact ld0 _ e d
  rw [e1]
  blk_ext [iblk, V, idx t]

/-- Head 1 of operand 3's block. -/
theorem b3_1 (c : Dev nD) (t : Fin cfg0.N) (r : Fin 256) (e : Fin 256) (d : Fin 128) : View.ld (Val := Elt Ideal) (e' := .bf16) (iblk m c 3 t) r0_5 (ix3 (0 : Fin 1) e d : S1x256x128.Idx)
    = (m ((c : Thread nD τ).loc main_arg3) : FVec Ideal S16x256x512 .bf16) (ix3 ⟨(t.val * 256 + r.val) / 2048, by have := t.isLt; change t.val < 128 at this; omega⟩ e ⟨1 * 128 + d, by omega⟩) := by
  have e1 : View.ld (Val := Elt Ideal) (e' := .bf16) (iblk m c 3 t) r0_5 (ix3 (0 : Fin 1) e d : S1x256x128.Idx) = (iblk m c 3 t : FVec Ideal S1x256x512 .bf16) (ix3 0 e ⟨1 * 128 + d, by omega⟩) := by
    exact ld1 _ e d
  rw [e1]
  blk_ext [iblk, V, idx t]

/-- Head 2 of operand 3's block. -/
theorem b3_2 (c : Dev nD) (t : Fin cfg0.N) (r : Fin 256) (e : Fin 256) (d : Fin 128) : View.ld (Val := Elt Ideal) (e' := .bf16) (iblk m c 3 t) r0_6 (ix3 (0 : Fin 1) e d : S1x256x128.Idx)
    = (m ((c : Thread nD τ).loc main_arg3) : FVec Ideal S16x256x512 .bf16) (ix3 ⟨(t.val * 256 + r.val) / 2048, by have := t.isLt; change t.val < 128 at this; omega⟩ e ⟨2 * 128 + d, by omega⟩) := by
  have e1 : View.ld (Val := Elt Ideal) (e' := .bf16) (iblk m c 3 t) r0_6 (ix3 (0 : Fin 1) e d : S1x256x128.Idx) = (iblk m c 3 t : FVec Ideal S1x256x512 .bf16) (ix3 0 e ⟨2 * 128 + d, by omega⟩) := by
    exact ld2 _ e d
  rw [e1]
  blk_ext [iblk, V, idx t]

/-- Head 3 of operand 3's block. -/
theorem b3_3 (c : Dev nD) (t : Fin cfg0.N) (r : Fin 256) (e : Fin 256) (d : Fin 128) : View.ld (Val := Elt Ideal) (e' := .bf16) (iblk m c 3 t) r0_7 (ix3 (0 : Fin 1) e d : S1x256x128.Idx)
    = (m ((c : Thread nD τ).loc main_arg3) : FVec Ideal S16x256x512 .bf16) (ix3 ⟨(t.val * 256 + r.val) / 2048, by have := t.isLt; change t.val < 128 at this; omega⟩ e ⟨3 * 128 + d, by omega⟩) := by
  have e1 : View.ld (Val := Elt Ideal) (e' := .bf16) (iblk m c 3 t) r0_7 (ix3 (0 : Fin 1) e d : S1x256x128.Idx) = (iblk m c 3 t : FVec Ideal S1x256x512 .bf16) (ix3 0 e ⟨3 * 128 + d, by omega⟩) := by
    exact ld3 _ e d
  rw [e1]
  blk_ext [iblk, V, idx t]

/-- Head 0 of operand 4's block. -/
theorem b4_0 (c : Dev nD) (t : Fin cfg0.N) (r : Fin 256) (e : Fin 256) (d : Fin 128) : View.ld (Val := Elt Ideal) (e' := .bf16) (iblk m c 4 t) r0_4 (ix3 (0 : Fin 1) e d : S1x256x128.Idx)
    = (m ((c : Thread nD τ).loc main_arg4) : FVec Ideal S16x256x512 .bf16) (ix3 ⟨(t.val * 256 + r.val) / 2048, by have := t.isLt; change t.val < 128 at this; omega⟩ e ⟨0 * 128 + d, by omega⟩) := by
  have e1 : View.ld (Val := Elt Ideal) (e' := .bf16) (iblk m c 4 t) r0_4 (ix3 (0 : Fin 1) e d : S1x256x128.Idx) = (iblk m c 4 t : FVec Ideal S1x256x512 .bf16) (ix3 0 e ⟨0 * 128 + d, by omega⟩) := by
    exact ld0 _ e d
  rw [e1]
  blk_ext [iblk, V, idx t]

/-- Head 1 of operand 4's block. -/
theorem b4_1 (c : Dev nD) (t : Fin cfg0.N) (r : Fin 256) (e : Fin 256) (d : Fin 128) : View.ld (Val := Elt Ideal) (e' := .bf16) (iblk m c 4 t) r0_5 (ix3 (0 : Fin 1) e d : S1x256x128.Idx)
    = (m ((c : Thread nD τ).loc main_arg4) : FVec Ideal S16x256x512 .bf16) (ix3 ⟨(t.val * 256 + r.val) / 2048, by have := t.isLt; change t.val < 128 at this; omega⟩ e ⟨1 * 128 + d, by omega⟩) := by
  have e1 : View.ld (Val := Elt Ideal) (e' := .bf16) (iblk m c 4 t) r0_5 (ix3 (0 : Fin 1) e d : S1x256x128.Idx) = (iblk m c 4 t : FVec Ideal S1x256x512 .bf16) (ix3 0 e ⟨1 * 128 + d, by omega⟩) := by
    exact ld1 _ e d
  rw [e1]
  blk_ext [iblk, V, idx t]

/-- Head 2 of operand 4's block. -/
theorem b4_2 (c : Dev nD) (t : Fin cfg0.N) (r : Fin 256) (e : Fin 256) (d : Fin 128) : View.ld (Val := Elt Ideal) (e' := .bf16) (iblk m c 4 t) r0_6 (ix3 (0 : Fin 1) e d : S1x256x128.Idx)
    = (m ((c : Thread nD τ).loc main_arg4) : FVec Ideal S16x256x512 .bf16) (ix3 ⟨(t.val * 256 + r.val) / 2048, by have := t.isLt; change t.val < 128 at this; omega⟩ e ⟨2 * 128 + d, by omega⟩) := by
  have e1 : View.ld (Val := Elt Ideal) (e' := .bf16) (iblk m c 4 t) r0_6 (ix3 (0 : Fin 1) e d : S1x256x128.Idx) = (iblk m c 4 t : FVec Ideal S1x256x512 .bf16) (ix3 0 e ⟨2 * 128 + d, by omega⟩) := by
    exact ld2 _ e d
  rw [e1]
  blk_ext [iblk, V, idx t]

/-- Head 3 of operand 4's block. -/
theorem b4_3 (c : Dev nD) (t : Fin cfg0.N) (r : Fin 256) (e : Fin 256) (d : Fin 128) : View.ld (Val := Elt Ideal) (e' := .bf16) (iblk m c 4 t) r0_7 (ix3 (0 : Fin 1) e d : S1x256x128.Idx)
    = (m ((c : Thread nD τ).loc main_arg4) : FVec Ideal S16x256x512 .bf16) (ix3 ⟨(t.val * 256 + r.val) / 2048, by have := t.isLt; change t.val < 128 at this; omega⟩ e ⟨3 * 128 + d, by omega⟩) := by
  have e1 : View.ld (Val := Elt Ideal) (e' := .bf16) (iblk m c 4 t) r0_7 (ix3 (0 : Fin 1) e d : S1x256x128.Idx) = (iblk m c 4 t : FVec Ideal S1x256x512 .bf16) (ix3 0 e ⟨3 * 128 + d, by omega⟩) := by
    exact ld3 _ e d
  rw [e1]
  blk_ext [iblk, V, idx t]

/-- Operand 5's block, from the argument it is computed from. -/
theorem b5 (c : Dev nD) (t : Fin cfg0.N) (k : Fin 1024) : (iblk m c 5 t : S1x1024.Idx → EReal) (ix2 0 k)
    = (m ((c : Thread nD τ).loc main_arg6) : FVec Ideal S1024 .f32) (ix1 k) := by
  have e : (iblk m c 5 t : FVec Ideal S1x1024 .f32) (ix2 0 k) = (V m c main_v2 : FVec Ideal S1x1024 .f32) (ix2 0 k) := by
    blk_ext [iblk, idx t]
  rw [e]
  entry_read
  pointwise
  try rfl

/-- Operand 6's block, from the argument it is computed from. -/
theorem b6 (c : Dev nD) (t : Fin cfg0.N) (k : Fin 1024) (j : Fin 512) : (iblk m c 6 t : S1024x512.Idx → EReal) (ix2 k j)
    = (m ((c : Thread nD τ).loc main_arg5) : FVec Ideal S1024x6944 .f32) (ix2 k ⟨3360 + j, by omega⟩) := by
  have e : (iblk m c 6 t : FVec Ideal S1024x512 .bf16) (ix2 k j) = (V m c main_v4 : FVec Ideal S1024x512 .bf16) (ix2 k j) := by
    blk_ext [iblk, idx t]
  rw [e]
  entry_read
  pointwise
  try rfl

/-- Operand 7's block, from the argument it is computed from. -/
theorem b7 (c : Dev nD) (t : Fin cfg0.N) (k : Fin 128) : (iblk m c 7 t : S1x128.Idx → EReal) (ix2 0 k)
    = (m ((c : Thread nD τ).loc main_arg7) : FVec Ideal S128 .f32) (ix1 k) := by
  have e : (iblk m c 7 t : FVec Ideal S1x128 .f32) (ix2 0 k) = (V m c main_v5 : FVec Ideal S1x128 .f32) (ix2 0 k) := by
    blk_ext [iblk, idx t]
  rw [e]
  entry_read
  pointwise
  try rfl

/-- Operand 8's block, from the argument it is computed from. -/
theorem b8 (c : Dev nD) (t : Fin cfg0.N) (k : Fin 1024) (j : Fin 3072) : (iblk m c 8 t : S1024x3072.Idx → EReal) (ix2 k j)
    = (m ((c : Thread nD τ).loc main_arg5) : FVec Ideal S1024x6944 .f32) (ix2 k ⟨3872 + j, by omega⟩) := by
  have e : (iblk m c 8 t : FVec Ideal S1024x3072 .bf16) (ix2 k j) = (V m c main_v7 : FVec Ideal S1024x3072 .bf16) (ix2 k j) := by
    blk_ext [iblk, idx t]
  rw [e]
  entry_read
  pointwise
  try rfl

/-- Operand 9's block, from the argument it is computed from. -/
theorem b9 (c : Dev nD) (t : Fin cfg0.N) (k : Fin 512) (j : Fin 1024) : (iblk m c 9 t : S512x1024.Idx → EReal) (ix2 k j)
    = (m ((c : Thread nD τ).loc main_arg8) : FVec Ideal S512x1024 .f32) (ix2 k j) := by
  have e : (iblk m c 9 t : FVec Ideal S512x1024 .bf16) (ix2 k j) = (V m c main_v8 : FVec Ideal S512x1024 .bf16) (ix2 k j) := by
    blk_ext [iblk, idx t]
  rw [e]
  entry_read
  pointwise
  try rfl

/-- Operand 10's block, from the argument it is computed from. -/
theorem b10 (c : Dev nD) (t : Fin cfg0.N) (k : Fin 512) (j : Fin 1024) : (iblk m c 10 t : S512x1024.Idx → EReal) (ix2 k j)
    = (m ((c : Thread nD τ).loc main_arg9) : FVec Ideal S512x1024 .f32) (ix2 k j) := by
  have e : (iblk m c 10 t : FVec Ideal S512x1024 .bf16) (ix2 k j) = (V m c main_v9 : FVec Ideal S512x1024 .bf16) (ix2 k j) := by
    blk_ext [iblk, idx t]
  rw [e]
  entry_read
  pointwise
  try rfl

/-- Operand 11's block, from the argument it is computed from. -/
theorem b11 (c : Dev nD) (t : Fin cfg0.N) (k : Fin 512) (j : Fin 1024) : (iblk m c 11 t : S512x1024.Idx → EReal) (ix2 k j)
    = (m ((c : Thread nD τ).loc main_arg10) : FVec Ideal S512x1024 .f32) (ix2 k j) := by
  have e : (iblk m c 11 t : FVec Ideal S512x1024 .bf16) (ix2 k j) = (V m c main_v10 : FVec Ideal S512x1024 .bf16) (ix2 k j) := by
    blk_ext [iblk, idx t]
  rw [e]
  entry_read
  pointwise
  try rfl

/-- Operand 12's block, from the argument it is computed from. -/
theorem b12 (c : Dev nD) (t : Fin cfg0.N) (k : Fin 1024) (j : Fin 1024) : (iblk m c 12 t : S1024x1024.Idx → EReal) (ix2 k j)
    = (m ((c : Thread nD τ).loc main_arg11) : FVec Ideal S1024x1024 .f32) (ix2 k j) := by
  have e : (iblk m c 12 t : FVec Ideal S1024x1024 .bf16) (ix2 k j) = (V m c main_v11 : FVec Ideal S1024x1024 .bf16) (ix2 k j) := by
    blk_ext [iblk, idx t]
  rw [e]
  entry_read
  pointwise
  try rfl

/-- Operand 13's block, from the argument it is computed from. -/
theorem b13 (c : Dev nD) (t : Fin cfg0.N) (k : Fin 1024) : (iblk m c 13 t : S1x1024.Idx → EReal) (ix2 0 k)
    = (m ((c : Thread nD τ).loc main_arg12) : FVec Ideal S1024 .f32) (ix1 k) := by
  have e : (iblk m c 13 t : FVec Ideal S1x1024 .f32) (ix2 0 k) = (V m c main_v12 : FVec Ideal S1x1024 .f32) (ix2 0 k) := by
    blk_ext [iblk, idx t]
  rw [e]
  entry_read
  pointwise
  try rfl

/-- Operand 14's block, the weights' high part: the router's weights, and zero past the experts. -/
theorem b14 (c : Dev nD) (t : Fin cfg0.N) (k : Fin 1024) (j : Fin 128) : (iblk m c 14 t : S1024x128.Idx → EReal) (ix2 k j)
    = if h : (j : ℕ) < 32 then (m ((c : Thread nD τ).loc main_arg13) : S1024x32.Idx → EReal) (ix2 k ⟨j, h⟩) else (0 : EReal) := by
  have e : (iblk m c 14 t : FVec Ideal S1024x128 .bf16) (ix2 k j) = (V m c main_v13 : FVec Ideal S1024x128 .bf16) (ix2 k j) := by
    blk_ext [iblk, idx t]
  rw [e]
  entry_read
  pointwise
  try rfl

/-- Operand 15's block, the weights' low part: zero for finite weights. -/
theorem b15 (c : Dev nD) (t : Fin cfg0.N) (k : Fin 1024) (j : Fin 128)
    (hw : ∀ (k : Fin 1024) (j : Fin 32), (m ((c : Thread nD τ).loc main_arg13) : S1024x32.Idx → EReal) (ix2 k j) ≠ (⊤ : EReal) ∧ (m ((c : Thread nD τ).loc main_arg13) : S1024x32.Idx → EReal) (ix2 k j) ≠ (⊥ : EReal)) :
    (iblk m c 15 t : S1024x128.Idx → EReal) (ix2 k j) = (0 : EReal) := by
  have e : (iblk m c 15 t : FVec Ideal S1024x128 .bf16) (ix2 k j) = (V m c main_v16 : FVec Ideal S1024x128 .bf16) (ix2 k j) := by
    blk_ext [iblk, idx t]
  rw [e]
  entry_read
  pointwise
  split <;> rename_i h
  · exact EReal.sub_self (hw k ⟨j, h⟩).1 (hw k ⟨j, h⟩).2
  · simp

/-- Operand 16's block, the bias, and zero past the experts. -/
theorem b16 (c : Dev nD) (t : Fin cfg0.N) (j : Fin 128) : (iblk m c 16 t : S1x128.Idx → EReal) (ix2 0 j)
    = if h : (j : ℕ) < 32 then (m ((c : Thread nD τ).loc main_arg14) : S32.Idx → EReal) (ix1 ⟨j, h⟩) else (0 : EReal) := by
  have e : (iblk m c 16 t : FVec Ideal S1x128 .f32) (ix2 0 j) = (V m c main_v19 : FVec Ideal S1x128 .f32) (ix2 0 j) := by
    blk_ext [iblk, idx t]
  rw [e]
  entry_read
  pointwise
  try rfl

/-- Every entry of the rows the router reads, and of its weights, is finite. -/
def Finite : Prop := ∀ c : Dev nD,
    (∀ (r : Fin 32768) (k : Fin 1024), (st_out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) : S32768x1024.Idx → EReal) (ix2 r k) ≠ (⊤ : EReal) ∧ (st_out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) : S32768x1024.Idx → EReal) (ix2 r k) ≠ (⊥ : EReal))
    ∧ (∀ (k : Fin 1024) (j : Fin 32), (m ((c : Thread nD τ).loc main_arg13) : S1024x32.Idx → EReal) (ix2 k j) ≠ (⊤ : EReal) ∧ (m ((c : Thread nD τ).loc main_arg13) : S1024x32.Idx → EReal) (ix2 k j) ≠ (⊥ : EReal))

/-- The flat rows at a row of a block, by batch and position. -/
theorem out1_at (a0 : FVec Ideal S32768x1024 .f32) (a1 a2 : FVec Ideal S32768x512 .bf16) (a3 a4 : FVec Ideal S16x256x512 .bf16) (a5 : FVec Ideal S1024x6944 .f32) (a6 : FVec Ideal S1024 .f32) (a7 : FVec Ideal S128 .f32) (a8 a9 a10 : FVec Ideal S512x1024 .f32) (a11 : FVec Ideal S1024x1024 .f32) (a12 : FVec Ideal S1024 .f32) (b : Fin 16) (s : Fin 2048) (k : Fin 1024) :
    (st_out1 a0 a1 a2 a3 a4 a5 a6 a7 a8 a9 a10 a11 a12 : S32768x1024.Idx → EReal) (ix2 ⟨b * 2048 + s, by omega⟩ k) = st_t a0 a1 a2 a3 a4 a5 a6 a7 a8 a9 a10 a11 a12 (ix3 b s k) := by
  unfold st_out1
  generalize st_t a0 a1 a2 a3 a4 a5 a6 a7 a8 a9 a10 a11 a12 = X
  pointwise

/-- What point `t` stores of the logits is the reference's at the place it is written to. -/
theorem point19 (hf : Finite m) (c : Dev nD) (t : Fin cfg0.N) (y : S256x128.Idx) :
    k0_pay2 (F := Ideal) (Cert.PostIdeal.Value.kx1 (iblk m c 0 t) (iblk m c 1 t) (iblk m c 2 t) (iblk m c 5 t) (iblk m c 6 t) (iblk m c 7 t) (View.ld (iblk m c 3 t) r0_4) (View.ld (iblk m c 4 t) r0_4) (View.ld (iblk m c 3 t) r0_5) (View.ld (iblk m c 4 t) r0_5) (View.ld (iblk m c 3 t) r0_6) (View.ld (iblk m c 4 t) r0_6) (View.ld (iblk m c 3 t) r0_7) (View.ld (iblk m c 4 t) r0_7) (iblk m c 8 t) (iblk m c 9 t) (iblk m c 10 t) (iblk m c 11 t) (iblk m c 12 t)) (Cert.PostIdeal.Gen.k0_pay16 (iblk m c 13 t))
    (Cert.PostIdeal.Gen.k0_pay17 (iblk m c 0 t) (Cert.PostIdeal.Value.kmem (iblk m c 0 t) (iblk m c 5 t) (iblk m c 6 t) (iblk m c 7 t) (View.ld (iblk m c 3 t) r0_4) (View.ld (iblk m c 4 t) r0_4) (View.ld (iblk m c 3 t) r0_5) (View.ld (iblk m c 4 t) r0_5) (View.ld (iblk m c 3 t) r0_6) (View.ld (iblk m c 4 t) r0_6) (View.ld (iblk m c 3 t) r0_7) (View.ld (iblk m c 4 t) r0_7)) (Cert.PostIdeal.Gen.k0_pay13 (Cert.PostIdeal.Gen.k0_pay3 (iblk m c 0 t) (iblk m c 5 t)) (iblk m c 8 t)) Cert.PostIdeal.Gen.k0_pay14 (iblk m c 1 t) (iblk m c 9 t) (iblk m c 2 t) (iblk m c 10 t) (iblk m c 11 t) (iblk m c 12 t)) (iblk m c 14 t) (iblk m c 15 t) (iblk m c 14 t) (iblk m c 16 t) y
      = logits (st_out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (m ((c : Thread nD τ).loc main_arg13)) (m ((c : Thread nD τ).loc main_arg14)) (((cfg0.win 19).blk t).view.emb y) := by
  idx_vars y
  have ht : ∀ k : Fin 1024, _ = _ := fun k => (Cert.PostIdeal.Value.t_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (iblk m c 0 t) (iblk m c 1 t) (iblk m c 2 t) (iblk m c 5 t) (iblk m c 6 t) (iblk m c 7 t) (View.ld (iblk m c 3 t) r0_4) (View.ld (iblk m c 4 t) r0_4) (View.ld (iblk m c 3 t) r0_5) (View.ld (iblk m c 4 t) r0_5) (View.ld (iblk m c 3 t) r0_6) (View.ld (iblk m c 4 t) r0_6) (View.ld (iblk m c 3 t) r0_7) (View.ld (iblk m c 4 t) r0_7) (iblk m c 8 t) (iblk m c 9 t) (iblk m c 10 t) (iblk m c 11 t) (iblk m c 12 t) (iblk m c 13 t) ⟨(t.val * 256 + y0.val) / 2048, by have := t.isLt; change t.val < 128 at this; omega⟩ ⟨(t.val * 256 + y0.val) % 2048, by omega⟩ y0 (b0 m c t y0) (b1 m c t y0) (b2 m c t y0) (b5 m c t) (b6 m c t) (b7 m c t) (b3_0 m c t y0) (b4_0 m c t y0) (b3_1 m c t y0) (b4_1 m c t y0) (b3_2 m c t y0) (b4_2 m c t y0) (b3_3 m c t y0) (b4_3 m c t y0) (b8 m c t) (b9 m c t) (b10 m c t) (b11 m c t) (b12 m c t) (b13 m c t) k).trans (out1_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) ⟨(t.val * 256 + y0.val) / 2048, by have := t.isLt; change t.val < 128 at this; omega⟩ ⟨(t.val * 256 + y0.val) % 2048, by omega⟩ k).symm
  have hfc := (hf c).1 ⟨(t.val * 256 + y0.val) / 2048 * 2048 + (t.val * 256 + y0.val) % 2048, by have := t.isLt; change t.val < 128 at this; omega⟩
  generalize st_out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) = X at ht hfc ⊢
  rw [pay2_eq]
  generalize Cert.PostIdeal.Gen.k0_pay1 (F := Ideal) (Cert.PostIdeal.Value.kx1 (iblk m c 0 t) (iblk m c 1 t) (iblk m c 2 t) (iblk m c 5 t) (iblk m c 6 t) (iblk m c 7 t) (View.ld (iblk m c 3 t) r0_4) (View.ld (iblk m c 4 t) r0_4) (View.ld (iblk m c 3 t) r0_5) (View.ld (iblk m c 4 t) r0_5) (View.ld (iblk m c 3 t) r0_6) (View.ld (iblk m c 4 t) r0_6) (View.ld (iblk m c 3 t) r0_7) (View.ld (iblk m c 4 t) r0_7) (iblk m c 8 t) (iblk m c 9 t) (iblk m c 10 t) (iblk m c 11 t) (iblk m c 12 t)) (Cert.PostIdeal.Gen.k0_pay16 (iblk m c 13 t))
    (Cert.PostIdeal.Gen.k0_pay17 (iblk m c 0 t) (Cert.PostIdeal.Value.kmem (iblk m c 0 t) (iblk m c 5 t) (iblk m c 6 t) (iblk m c 7 t) (View.ld (iblk m c 3 t) r0_4) (View.ld (iblk m c 4 t) r0_4) (View.ld (iblk m c 3 t) r0_5) (View.ld (iblk m c 4 t) r0_5) (View.ld (iblk m c 3 t) r0_6) (View.ld (iblk m c 4 t) r0_6) (View.ld (iblk m c 3 t) r0_7) (View.ld (iblk m c 4 t) r0_7)) (Cert.PostIdeal.Gen.k0_pay13 (Cert.PostIdeal.Gen.k0_pay3 (iblk m c 0 t) (iblk m c 5 t)) (iblk m c 8 t)) Cert.PostIdeal.Gen.k0_pay14 (iblk m c 1 t) (iblk m c 9 t) (iblk m c 2 t) (iblk m c 10 t) (iblk m c 11 t) (iblk m c 12 t)) = T at ht ⊢
  have hr : ((cfg0.win 19).blk t).view.emb (ix2 y0 y1) = ix2 (⟨(t.val * 256 + y0.val) / 2048 * 2048 + (t.val * 256 + y0.val) % 2048, by have := t.isLt; change t.val < 128 at this; omega⟩ : Fin 32768) y1 := by
    blk_ext [idx t]
  rw [hr, logits_at, lg_at T _ _ _ y0 y1 (fun k => by rw [ht k]; exact hfc k) (fun k => b15 m c t k y1 (hf c).2), b16]
  simp only [b14, ht]
  split
  · rfl
  · simp

/-- The result array after the run. -/
theorem final19 (hf : Finite m) (c : Dev nD) : (dats m 0 c).arrAt 19 cfg0.N = logits (st_out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (m ((c : Thread nD τ).loc main_arg13)) (m ((c : Thread nD τ).loc main_arg14)) := by
  refine (dats m 0 c).arrAt_eq_of_covers 19 _ (by decide +kernel) fun t _ y => ?_
  blk_simp
  rw [after0_19]; frame_out [k0_pay22, k0_pay23, k0_pay24, k0_pay19, k0_pay20, k0_pay21, k0_pay18]
  exact point19 m hf c t y

end Cert.RouterIdeal.Value

end
-- ==== Proof.FfnIdealKit.lean ====
module

public import proofs.«01_k».proof.Proof.Gen.FfnIdeal.Launch
public import proofs.«01_k».proof.Proof.Gen.FfnIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FfnIdeal.Fr

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows are fetched at every point. -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- The result block is written back at every point. -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- A window's current staging memref. -/
abbrev st0_0 (a : (pcfg0 (F := F)).Adm) (t : Fin (cfg0 a).N) := ((cfg0 a).win 0).stage ((cfg0 a).slots t 0)
/-- A window's current staging memref. -/
abbrev st0_1 (a : (pcfg0 (F := F)).Adm) (t : Fin (cfg0 a).N) := ((cfg0 a).win 1).stage ((cfg0 a).slots t 1)
/-- A window's current staging memref. -/
abbrev st0_2 (a : (pcfg0 (F := F)).Adm) (t : Fin (cfg0 a).N) := ((cfg0 a).win 2).stage ((cfg0 a).slots t 2)
/-- A window's current staging memref. -/
abbrev st0_3 (a : (pcfg0 (F := F)).Adm) (t : Fin (cfg0 a).N) := ((cfg0 a).win 3).stage ((cfg0 a).slots t 3)
/-- A window's current staging memref. -/
abbrev st0_4 (a : (pcfg0 (F := F)).Adm) (t : Fin (cfg0 a).N) := ((cfg0 a).win 4).stage ((cfg0 a).slots t 4)
/-- A window's current staging memref. -/
abbrev st0_5 (a : (pcfg0 (F := F)).Adm) (t : Fin (cfg0 a).N) := ((cfg0 a).win 5).stage ((cfg0 a).slots t 5)
/-- A window's current staging memref. -/
abbrev st0_6 (a : (pcfg0 (F := F)).Adm) (t : Fin (cfg0 a).N) := ((cfg0 a).win 6).stage ((cfg0 a).slots t 6)
/-- A window's current staging memref. -/
abbrev st0_7 (a : (pcfg0 (F := F)).Adm) (t : Fin (cfg0 a).N) := ((cfg0 a).win 7).stage ((cfg0 a).slots t 7)

/-- The body at a point. -/
abbrev bodyAt0 (a : (pcfg0 (F := F)).Adm) (t : Fin (cfg0 a).N) : Prog (TpuEff nD τ sig (Elt F) Λ₀ .tc) PUnit :=
  cc0_moe_ffn (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

/-- What the buffers hold when the region is entered: the launch memory after the host operations. -/
abbrev V (c : Dev nD) (b : Ref sig .tc) : Buf (Elt F) ((c : Thread nD τ).loc b) := StableHlo.after hostOps0 (fun b => m (c, b)) b

/-- No host operation before the region allocates. -/
theorem hostOps0_fresh : (hostOps0 : List (HloOp τ sig (Elt F))).Forall fun op => op.fresh = ∅ := by
  simp only [List.Forall]; repeat' constructor

set_option maxHeartbeats 800000 in
/-- The program is its host operations and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operations leave this argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave this argument as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave this argument as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave this argument as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave this argument as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave this argument as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave this argument as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The two prefetched tables as the region finds them. -/
def tbl : pre0.Contents (Elt F) := fun j => V m (0 : Dev nD) (pre0.ref j)
/-- Every device holds those tables. -/
theorem V_pre (c : Dev nD) (j : Fin 2) : V m c (pre0.ref j) = tbl m j := by
  obtain rfl : c = 0 := Subsingleton.elim _ _; rfl
/-- The pipeline's side condition of the tables: every block they select lies inside its array. -/
abbrev Ok : Prop := ok0 (F := F) (tbl m)
/-- The tables as admissible contents. -/
abbrev adm (hO : Ok m) : (pcfg0 (F := F)).Adm := ⟨tbl m, hO⟩
/-- The pipeline at those tables. -/
abbrev cfgM (hO : Ok m) : Pipeline.Cfg sig Λ₀ := cfg0 (adm m hO)

/-- A table as the body is handed it. -/
abbrev tbM0_0 : Memref sig .tc .smem S544 .i32 := Memref.whole main_arg1
/-- A table as the body is handed it. -/
abbrev htbM0_0 : tbM0_0.IsWhole := Memref.isWhole_whole _
/-- A table as the body is handed it. -/
abbrev tbM0_1 : Memref sig .tc .smem S1 .i32 := Memref.whole main_arg2
/-- A table as the body is handed it. -/
abbrev htbM0_1 : tbM0_1.IsWhole := Memref.isWhole_whole _

/-- The contents type of a table. -/
abbrev TbBuf0 (c : Dev nD) {S : Shape} {e : EltTy} (M : Memref sig .tc .smem S e) : Type := Buf (Elt F) (M.view.loc (c : Thread nD τ))
/-- A table held at half the share. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- A window's block at a grid point, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's staging buffer holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- A run that ends at the pipeline's description of memory leaves the arguments as they were. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-- A staging buffer of the output. -/
abbrev VO0_7 : View sig .tc .vmem S256x1024 .f32 := (Memref.whole cc0_stg7_0 : Memref sig .tc .vmem S256x1024 .f32).view
/-- A window's staging memref at a point. -/
abbrev ms0_0 (hO : Ok m) (t : Fin (cfgM m hO).N) : Memref sig .tc .vmem S256x1024 .f32 := spec0_0.stage ((cfgM m hO).slots t 0)
/-- A window's staging memref at a point. -/
abbrev hs0_0 (hO : Ok m) (t : Fin (cfgM m hO).N) : (ms0_0 m hO t).IsWhole := hstage0_0 (((cfgM m hO).slots t 0).cast nbuf0_0)
/-- A window's staging memref at a point. -/
abbrev ms0_1 (hO : Ok m) (t : Fin (cfgM m hO).N) : Memref sig .tc .vmem S1x1024x1024 .bf16 := spec0_1.stage ((cfgM m hO).slots t 1)
/-- A window's staging memref at a point. -/
abbrev hs0_1 (hO : Ok m) (t : Fin (cfgM m hO).N) : (ms0_1 m hO t).IsWhole := hstage0_1 (((cfgM m hO).slots t 1).cast nbuf0_1)
/-- A window's staging memref at a point. -/
abbrev ms0_2 (hO : Ok m) (t : Fin (cfgM m hO).N) : Memref sig .tc .vmem S1x1024x1024 .bf16 := spec0_2.stage ((cfgM m hO).slots t 2)
/-- A window's staging memref at a point. -/
abbrev hs0_2 (hO : Ok m) (t : Fin (cfgM m hO).N) : (ms0_2 m hO t).IsWhole := hstage0_2 (((cfgM m hO).slots t 2).cast nbuf0_2)
/-- A window's staging memref at a point. -/
abbrev ms0_3 (hO : Ok m) (t : Fin (cfgM m hO).N) : Memref sig .tc .vmem S1x1x1024 .f32 := spec0_3.stage ((cfgM m hO).slots t 3)
/-- A window's staging memref at a point. -/
abbrev hs0_3 (hO : Ok m) (t : Fin (cfgM m hO).N) : (ms0_3 m hO t).IsWhole := hstage0_3 (((cfgM m hO).slots t 3).cast nbuf0_3)
/-- A window's staging memref at a point. -/
abbrev ms0_4 (hO : Ok m) (t : Fin (cfgM m hO).N) : Memref sig .tc .vmem S1x1x1024 .f32 := spec0_4.stage ((cfgM m hO).slots t 4)
/-- A window's staging memref at a point. -/
abbrev hs0_4 (hO : Ok m) (t : Fin (cfgM m hO).N) : (ms0_4 m hO t).IsWhole := hstage0_4 (((cfgM m hO).slots t 4).cast nbuf0_4)
/-- A window's staging memref at a point. -/
abbrev ms0_5 (hO : Ok m) (t : Fin (cfgM m hO).N) : Memref sig .tc .vmem S1x1024x1024 .bf16 := spec0_5.stage ((cfgM m hO).slots t 5)
/-- A window's staging memref at a point. -/
abbrev hs0_5 (hO : Ok m) (t : Fin (cfgM m hO).N) : (ms0_5 m hO t).IsWhole := hstage0_5 (((cfgM m hO).slots t 5).cast nbuf0_5)
/-- A window's staging memref at a point. -/
abbrev ms0_6 (hO : Ok m) (t : Fin (cfgM m hO).N) : Memref sig .tc .vmem S1x1x1024 .f32 := spec0_6.stage ((cfgM m hO).slots t 6)
/-- A window's staging memref at a point. -/
abbrev hs0_6 (hO : Ok m) (t : Fin (cfgM m hO).N) : (ms0_6 m hO t).IsWhole := hstage0_6 (((cfgM m hO).slots t 6).cast nbuf0_6)
/-- A window's staging memref at a point. -/
abbrev ms0_7 (hO : Ok m) (t : Fin (cfgM m hO).N) : Memref sig .tc .vmem S256x1024 .f32 := spec0_7.stage ((cfgM m hO).slots t 7)
/-- A window's staging memref at a point. -/
abbrev hs0_7 (hO : Ok m) (t : Fin (cfgM m hO).N) : (ms0_7 m hO t).IsWhole := hstage0_7 (((cfgM m hO).slots t 7).cast nbuf0_7)

end Cert.FfnIdeal.Fr

end
-- ==== Proof.FfnIdealBody.lean ====
module

public import proofs.«01_k».proof.Proof.FfnIdealKit

@[expose] public section

set_option maxRecDepth 16384

noncomputable section

namespace Cert.FfnIdeal.Fr

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The number of used blocks as the body reads it. -/
abbrev nuWord (c : Dev nD) (xt1 : TbBuf0 (F := F) c tbM0_1) : BitVec 32 :=
  View.readAt (Elt F) (tbM0_1).view (Rect.unit (s := S1) ![0] S1.size inb_S1_S1_0).toLoadRect xt1 (Shape.Idx.first (numel1_S1.symm ▸ Nat.one_pos))

set_option maxHeartbeats 1000000 in
/-- The body where the block is used: the pieces it leaves in the output, with its triple. -/
noncomputable def kernelRun0_A (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x1024 .f32) (harg10 : arg10.IsWhole)
    (x0 : Vec F S256x1024 .f32) (x1 : Vec F S1x1024x1024 .bf16) (x2 : Vec F S1x1024x1024 .bf16) (x3 : Vec F S1x1x1024 .f32) (x4 : Vec F S1x1x1024 .f32) (x5 : Vec F S1x1024x1024 .bf16) (x6 : Vec F S1x1x1024 .f32) (xt0 : TbBuf0 (F := F) c tbM0_0) (xt1 : TbBuf0 (F := F) c tbM0_1) (k0_h1 : k0_cond1 i (nuWord c xt1) = 1#1) (k0_h2 : ¬(k0_cond2 i (nuWord c xt1) = 1#1)) :
    { L7 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ tbPt0 c tbM0_0 xt0 ∗ tbPt0 c tbM0_1 xt1) -∗ K ⟨⟩))
          ⊢ wp frame (wpE (defs₀ (F := F)) Variants.none c none) E (cc0_moe_ffn i tbM0_0 htbM0_0 tbM0_1 htbM0_1 arg3 harg3 arg4 harg4 arg5 harg5 arg6 harg6 arg7 harg7 arg8 harg8 arg9 harg9 arg10 harg10) K } := by
  refine ⟨?_, fun E K => ?run⟩
  case run =>
    simp only [cc0_moe_ffn_eq_skeleton]; unfold cc0_moe_ffn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact k0_h1 | sl_exact k0_h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HT0]; · iexact HT0
    iexact HT1

set_option maxHeartbeats 1000000 in
/-- The body where the block is not used: the pieces it leaves in the output, with its triple. -/
noncomputable def kernelRun0_B (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x1024 .f32) (harg10 : arg10.IsWhole)
    (x0 : Vec F S256x1024 .f32) (x1 : Vec F S1x1024x1024 .bf16) (x2 : Vec F S1x1024x1024 .bf16) (x3 : Vec F S1x1x1024 .f32) (x4 : Vec F S1x1x1024 .f32) (x5 : Vec F S1x1024x1024 .bf16) (x6 : Vec F S1x1x1024 .f32) (xt0 : TbBuf0 (F := F) c tbM0_0) (xt1 : TbBuf0 (F := F) c tbM0_1) (k0_h1 : ¬(k0_cond1 i (nuWord c xt1) = 1#1)) (k0_h2 : k0_cond2 i (nuWord c xt1) = 1#1) :
    { L7 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ tbPt0 c tbM0_0 xt0 ∗ tbPt0 c tbM0_1 xt1) -∗ K ⟨⟩))
          ⊢ wp frame (wpE (defs₀ (F := F)) Variants.none c none) E (cc0_moe_ffn i tbM0_0 htbM0_0 tbM0_1 htbM0_1 arg3 harg3 arg4 harg4 arg5 harg5 arg6 harg6 arg7 harg7 arg8 harg8 arg9 harg9 arg10 harg10) K } := by
  refine ⟨?_, fun E K => ?run⟩
  case run =>
    simp only [cc0_moe_ffn_eq_skeleton]; unfold cc0_moe_ffn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact k0_h1 | sl_exact k0_h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HT0]; · iexact HT0
    iexact HT1

end Cert.FfnIdeal.Fr

end
-- ==== Proof.FfnIdealLaunch.lean ====
module

public import proofs.«01_k».proof.Proof.FfnIdealBody
public import Idealize.ShloMosaic.Lib.Claim

@[expose] public section

set_option maxRecDepth 16384

noncomputable section

namespace Cert.FfnIdeal.Fr

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The second condition of the body is the negation of the first. -/
theorem cond2_of (i : grid0.Coords) (v : BitVec 32) (h : ¬(k0_cond1 i v = 1#1)) : k0_cond2 i v = 1#1 := by
  revert h
  unfold k0_cond1 k0_cond2
  dsimp only
  generalize Scalar.cmpi .slt (BitVec.ofNat 32 (i 0).val) v = b
  revert b
  decide

/-- The second condition of the body is the negation of the first. -/
theorem cond2_not (i : grid0.Coords) (v : BitVec 32) (h : k0_cond1 i v = 1#1) : ¬(k0_cond2 i v = 1#1) := by
  revert h
  unfold k0_cond1 k0_cond2
  dsimp only
  generalize Scalar.cmpi .slt (BitVec.ofNat 32 (i 0).val) v = b
  revert b
  decide

/-- The one store covers the output block. -/
theorem cover0_A_7 (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x1024 .f32) (harg10 : arg10.IsWhole)
    (x0 : Vec F S256x1024 .f32) (x1 : Vec F S1x1024x1024 .bf16) (x2 : Vec F S1x1024x1024 .bf16) (x3 : Vec F S1x1x1024 .f32) (x4 : Vec F S1x1x1024 .f32) (x5 : Vec F S1x1024x1024 .bf16) (x6 : Vec F S1x1x1024 .f32) (xt0 : TbBuf0 (F := F) c tbM0_0) (xt1 : TbBuf0 (F := F) c tbM0_1) (k0_h1 : k0_cond1 i (nuWord c xt1) = 1#1) (k0_h2 : ¬(k0_cond2 i (nuWord c xt1) = 1#1)) (y : S256x1024.Idx) :
    ∃ pc ∈ (kernelRun0_A c i arg3 harg3 arg4 harg4 arg5 harg5 arg6 harg6 arg7 harg7 arg8 harg8 arg9 harg9 arg10 harg10 x0 x1 x2 x3 x4 x5 x6 xt0 xt1 k0_h1 k0_h2).1, y ∈ pc.1.set :=
  View.cover_of_tiledL (kernelRun0_A c i arg3 harg3 arg4 harg4 arg5 harg5 arg6 harg6 arg7 harg7 arg8 harg8 arg9 harg9 arg10 harg10 x0 x1 x2 x3 x4 x5 x6 xt0 xt1 k0_h1 k0_h2).1 S256x1024.size (by sl_kernel_rfl) y

/-- What the body leaves in the output block in this case. -/
def out0_A_7 (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x1024 .f32) (harg10 : arg10.IsWhole)
    (x0 : Vec F S256x1024 .f32) (x1 : Vec F S1x1024x1024 .bf16) (x2 : Vec F S1x1024x1024 .bf16) (x3 : Vec F S1x1x1024 .f32) (x4 : Vec F S1x1x1024 .f32) (x5 : Vec F S1x1024x1024 .bf16) (x6 : Vec F S1x1x1024 .f32) (xt0 : TbBuf0 (F := F) c tbM0_0) (xt1 : TbBuf0 (F := F) c tbM0_1) (k0_h1 : k0_cond1 i (nuWord c xt1) = 1#1) (k0_h2 : ¬(k0_cond2 i (nuWord c xt1) = 1#1)) : Vec F S256x1024 .f32 :=
  VO0_7.read (Elt F) (VO0_7.writes (Elt F) VO0_7.junk (kernelRun0_A c i arg3 harg3 arg4 harg4 arg5 harg5 arg6 harg6 arg7 harg7 arg8 harg8 arg9 harg9 arg10 harg10 x0 x1 x2 x3 x4 x5 x6 xt0 xt1 k0_h1 k0_h2).1)

/-- The one store covers the output block. -/
theorem cover0_B_7 (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x1024 .f32) (harg10 : arg10.IsWhole)
    (x0 : Vec F S256x1024 .f32) (x1 : Vec F S1x1024x1024 .bf16) (x2 : Vec F S1x1024x1024 .bf16) (x3 : Vec F S1x1x1024 .f32) (x4 : Vec F S1x1x1024 .f32) (x5 : Vec F S1x1024x1024 .bf16) (x6 : Vec F S1x1x1024 .f32) (xt0 : TbBuf0 (F := F) c tbM0_0) (xt1 : TbBuf0 (F := F) c tbM0_1) (k0_h1 : ¬(k0_cond1 i (nuWord c xt1) = 1#1)) (k0_h2 : k0_cond2 i (nuWord c xt1) = 1#1) (y : S256x1024.Idx) :
    ∃ pc ∈ (kernelRun0_B c i arg3 harg3 arg4 harg4 arg5 harg5 arg6 harg6 arg7 harg7 arg8 harg8 arg9 harg9 arg10 harg10 x0 x1 x2 x3 x4 x5 x6 xt0 xt1 k0_h1 k0_h2).1, y ∈ pc.1.set :=
  View.cover_of_tiledL (kernelRun0_B c i arg3 harg3 arg4 harg4 arg5 harg5 arg6 harg6 arg7 harg7 arg8 harg8 arg9 harg9 arg10 harg10 x0 x1 x2 x3 x4 x5 x6 xt0 xt1 k0_h1 k0_h2).1 S256x1024.size (by sl_kernel_rfl) y

/-- What the body leaves in the output block in this case. -/
def out0_B_7 (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x1024 .f32) (harg10 : arg10.IsWhole)
    (x0 : Vec F S256x1024 .f32) (x1 : Vec F S1x1024x1024 .bf16) (x2 : Vec F S1x1024x1024 .bf16) (x3 : Vec F S1x1x1024 .f32) (x4 : Vec F S1x1x1024 .f32) (x5 : Vec F S1x1024x1024 .bf16) (x6 : Vec F S1x1x1024 .f32) (xt0 : TbBuf0 (F := F) c tbM0_0) (xt1 : TbBuf0 (F := F) c tbM0_1) (k0_h1 : ¬(k0_cond1 i (nuWord c xt1) = 1#1)) (k0_h2 : k0_cond2 i (nuWord c xt1) = 1#1) : Vec F S256x1024 .f32 :=
  VO0_7.read (Elt F) (VO0_7.writes (Elt F) VO0_7.junk (kernelRun0_B c i arg3 harg3 arg4 harg4 arg5 harg5 arg6 harg6 arg7 harg7 arg8 harg8 arg9 harg9 arg10 harg10 x0 x1 x2 x3 x4 x5 x6 xt0 xt1 k0_h1 k0_h2).1)

/-- What the output block holds after a point: the used case or the other, by the number of used blocks. -/
def outsAt0 (hO : Ok m) (c : Dev nD) (t : Fin (cfgM m hO).N) : Vec F S256x1024 .f32 :=
  if h : k0_cond1 (grid0.coords t) (nuWord (F := F) c (tbl m 1)) = 1#1 then
    out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0) (tbl m 1) h (cond2_not _ _ h)
  else
    out0_B_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0) (tbl m 1) h (cond2_of _ _ h)

/-- The proof data of the pipeline. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => (outsAt0 m hO c t)
  Φ _ := iprop(Pipeline.ΦA spec0 c ∗ Pipeline.ΦT pre0 (tbl m) c)
  q _ := fullShare
  owed _ := 0

/-- The data's arrays are those the region finds. -/
theorem A_eq (hO : Ok m) (c : Dev nD) (w : Fin (cfgM m hO).W) : (dats m hO 0 c).A w = V m c (Pipeline.arrRef spec0 w) := by
  dsimp only [dats]

/-- What the body leaves in a window. -/
theorem after0_0 (hO : Ok m) (c : Dev nD) (t : Fin (cfgM m hO).N) : (dats m hO 0 c).after 0 t = iblk m hO c 0 t := by dsimp only [dats]; try rfl
/-- What the body leaves in a window. -/
theorem after0_1 (hO : Ok m) (c : Dev nD) (t : Fin (cfgM m hO).N) : (dats m hO 0 c).after 1 t = iblk m hO c 1 t := by dsimp only [dats]; try rfl
/-- What the body leaves in a window. -/
theorem after0_2 (hO : Ok m) (c : Dev nD) (t : Fin (cfgM m hO).N) : (dats m hO 0 c).after 2 t = iblk m hO c 2 t := by dsimp only [dats]; try rfl
/-- What the body leaves in a window. -/
theorem after0_3 (hO : Ok m) (c : Dev nD) (t : Fin (cfgM m hO).N) : (dats m hO 0 c).after 3 t = iblk m hO c 3 t := by dsimp only [dats]; try rfl
/-- What the body leaves in a window. -/
theorem after0_4 (hO : Ok m) (c : Dev nD) (t : Fin (cfgM m hO).N) : (dats m hO 0 c).after 4 t = iblk m hO c 4 t := by dsimp only [dats]; try rfl
/-- What the body leaves in a window. -/
theorem after0_5 (hO : Ok m) (c : Dev nD) (t : Fin (cfgM m hO).N) : (dats m hO 0 c).after 5 t = iblk m hO c 5 t := by dsimp only [dats]; try rfl
/-- What the body leaves in a window. -/
theorem after0_6 (hO : Ok m) (c : Dev nD) (t : Fin (cfgM m hO).N) : (dats m hO 0 c).after 6 t = iblk m hO c 6 t := by dsimp only [dats]; try rfl
/-- What the body leaves in a window. -/
theorem after0_7 (hO : Ok m) (c : Dev nD) (t : Fin (cfgM m hO).N) : (dats m hO 0 c).after 7 t = (outsAt0 m hO c t) := by dsimp only [dats]; try rfl

/-- An input's buffer holds its block. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- An input's buffer holds its block. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- An input's buffer holds its block. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- An input's buffer holds its block. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- An input's buffer holds its block. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
/-- An input's buffer holds its block. -/
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
/-- An input's buffer holds its block. -/
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-- What the body starts from. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- What the body ends at. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 800000 in
/-- The body at any point meets its specification. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.ΦT pre0 (tbl m) c) from rfl, PhiT0_eq]
  unfold outsAt0
  by_cases h : k0_cond1 (grid0.coords t) (nuWord (F := F) c (tbl m 1)) = 1#1
  · rw [dif_pos h]
    unfold out0_A_7
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) h (cond2_not _ _ h)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    iintro ⟨H0, H1, H2, H3, H4, H5, H6, ⟨%e7, H7⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_A_7 c _ _ _ _ _ _ _ _ _ _ _ _ _ _ _ _ _ _ _ _ _ _ _ _ _ _ _ _)
  · rw [dif_neg h]
    unfold out0_B_7
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) h (cond2_of _ _ h)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    iintro ⟨H0, H1, H2, H3, H4, H5, H6, ⟨%e7, H7⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_B_7 c _ _ _ _ _ _ _ _ _ _ _ _ _ _ _ _ _ _ _ _ _ _ _ _ _ _ _ _)

/-- The body of the pipeline at a point. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The pipeline's obligation on its body. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have hfl := flush0_7 (adm m hO) t
  dsimp only
  split
  · split
    · rename_i hf
      exact absurd (hf.symm.trans hfl) Bool.false_ne_true
    · exact .rfl
  · exact .rfl

set_option backward.isDefEq.respectTransparency.types false in
/-- The launch: the run ends with memory as described and the counters at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The launch without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- The frame claim, under the tables' side condition. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.FfnIdeal.Fr

end
-- ==== Proof.FfnIdealTables.lean ====
module

public import proofs.«01_k».proof.Proof.FfnIdealLaunch
public import proofs.«01_k».proof.Defs
public import proofs.«01_k».proof.Proof.Gen.Pre_experts_in_range
public import Idealize.ShloMosaic.Lib.Affine
public import Idealize.ShloMosaic.Lib.Pipeline.ValueKit

@[expose] public section

set_option maxRecDepth 16384

noncomputable section

namespace Cert.FfnIdeal.Fr

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
open Idealize.ShloMosaic.WordCmp

/-- The precondition, read at a block: its expert lies in the weights' range. -/
theorem range_of (a0 : FVec F S139264x1024 .f32) (a1 : IVec S544 32) (a2 : IVec S1 32) (a3 : FVec F S32x1024x2048 .f32)
    (a4 : FVec F S32x2048 .f32) (a5 : FVec F S32x1024x1024 .f32) (a6 : FVec F S32x1024 .f32)
    (h : Cert.Pre_experts_in_range.fn (F := F) a0 a1 a2 a3 a4 a5 a6 = fun _ => 1#1) (j : S544.Idx) : (a1 j).toNat < 32 := by
  have e : IntOp.andi (IntOp.cmpi .sge (a1 j) 0#32) (IntOp.cmpi .slt (a1 j) 32#32) = 1#1 := congrFun h j
  have e' := (andi_sge_zero_slt_ofNat (w := 32) (k := 32) (by decide) (a1 j)).symm.trans e
  exact of_decide_eq_true ((ofBool_eq_one_iff _).mp e')

/-- The first table is the experts' argument. -/
theorem tbl_0 : tbl m 0 = m ((0 : Dev nD), main_arg1) := V_main_arg1 m 0
/-- The second table is the number of used blocks. -/
theorem tbl_1 : tbl m 1 = m ((0 : Dev nD), main_arg2) := V_main_arg2 m 0

/-- The expert of a grid point's block, as the index maps read it. -/
def eword (i : grid0.Coords) : BitVec 32 := (m ((0 : Dev nD), main_arg1) : S544.Idx → BitVec 32) (ix1 ⟨(i 0).val, (i 0).isLt⟩)

/-- What an index map reads of the first table. -/
theorem at_eq (i : grid0.Coords) :
    (tbl m).at 0 (Rect.unit (s := S544) ![(Scalar.indexCast (BitVec.ofNat 32 (i 0).val) : Index).toNat] S1.size (k0_off1_inb i)) numel1_S1 = eword m i := by
  unfold eword
  rw [← tbl_0 m]
  refine congrArg (tbl m 0) (funext fun (a : Fin 1) => Fin.ext ?_)
  obtain rfl : a = 0 := Subsingleton.elim _ _
  have hb : (i 0).val < 544 := (i 0).isLt
  have hn : ((Scalar.indexCast (BitVec.ofNat 32 (i 0).val) : Index)).toNat = (i 0).val := by
    show (BitVec.ofNat 32 (i 0).val).toNat = (i 0).val
    exact toNat_ofNat_of_lt (by omega)
  show ((Scalar.indexCast (BitVec.ofNat 32 (i 0).val) : Index)).toNat + 0 = (i 0).val
  omega

/-- The condition on the launch memory: the experts lie in range. -/
abbrev InRange : Prop := ∀ j : S544.Idx, ((m ((0 : Dev nD), main_arg1) : S544.Idx → BitVec 32) j).toNat < 32

/-- With the experts in range the pipeline's side condition holds. -/
theorem ok_of (h : InRange m) : Ok m := by
  have hw : ∀ i : grid0.Coords, (eword m i).toNat < 32 := fun i => h _
  refine ⟨fun i => ⟨fun a => ?_, ?_⟩, fun i => ⟨fun a => ?_, ?_⟩, fun i => ⟨fun a => ?_, .inl rfl⟩, fun i => ⟨fun a => ?_, .inl rfl⟩, fun i => ⟨fun a => ?_, ?_⟩, fun i => ⟨fun a => ?_, .inl rfl⟩⟩
  all_goals first
    | exact .inr (Affine.block_words_dvd (of_decide_eq_true rfl) (by decide))
    | (have hi := hw i
       rw [← at_eq m i] at hi
       match a with
       | ⟨0, _⟩ => exact (Nat.mul_one _).le.trans hi
       | ⟨1, _⟩ => exact Nat.le_refl _
       | ⟨2, _⟩ => exact Nat.le_refl _)

/-- The claim's precondition gives the range. -/
theorem inRange_of_pre (m : (ℓ : Loc nD τ sig) → Buf (Elt Ideal) ℓ) (h : Cert.Pre_FfnIdeal m) : InRange m :=
  fun j => range_of (F := Ideal) _ _ _ _ _ _ _ (h 0) j

end Cert.FfnIdeal.Fr

end
-- ==== Proof.FfnSpec.lean ====
module

public import proofs.«01_k».proof.Proof.Gen.FfnRefIdeal.Run
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.FfnRefIdeal.Spec

open Cert.FfnRefIdeal Cert.FfnRefIdeal.Gen

/-- The dimension numbers of taking whole planes of a rank-3 array by a column of indices. -/
abbrev planes (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Taking planes, read at an index: the plane the index array names, where that lies inside the array. -/
theorem planes_apply {α : Type} {N A B n : Nat}
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (c : Fin n) (a : Fin A) (b : Fin B)
    (e : Fin N) (he : (idx (ix2 c (0 : Fin 1))).toInt.toNat = e.val) :
    Host.gather (planes N A B n wf) x idx (ix3 c a b) = x (ix3 e a b) := by
  unfold Host.gather
  refine congrArg x (funext fun k => Fin.ext ?_)
  show (planes N A B n wf).start (ix3 c a b) idx k + (planes N A B n wf).batchCoord (ix3 c a b) k + (planes N A B n wf).offCoord (ix3 c a b) k = _
  rw [GatherDims.batchCoord_eq_zero _ _ _ List.not_mem_nil, Nat.add_zero]
  match k with
  | ⟨0, _⟩ =>
    have ho : (planes N A B n wf).offCoord (ix3 c a b) 0 = 0 :=
      GatherDims.offCoord_eq_zero _ _ _ (fun h => ((GatherDims.mem_sKept _ _).mp h).1 (List.mem_singleton.mpr rfl))
    show (planes N A B n wf).start (ix3 c a b) idx 0 + (planes N A B n wf).offCoord (ix3 c a b) 0 = e.val
    rw [ho, Nat.add_zero]
    unfold GatherDims.start
    rw [dif_pos (show (0 : Fin 3) ∈ (planes N A B n wf).startIndexMap from List.mem_singleton.mpr rfl)]
    have hsi : (planes N A B n wf).siIdx (ix3 c a b) ⟨List.idxOf (0 : Fin 3) (planes N A B n wf).startIndexMap,
        List.idxOf_lt_length_iff.2 (List.mem_singleton.mpr rfl)⟩ = ix2 c (0 : Fin 1) := by
      funext q; refine Fin.ext ?_
      match q with
      | ⟨0, _⟩ => rfl
      | ⟨1, _⟩ => rfl
    rw [hsi, he]
    exact Nat.min_eq_left (Nat.le_sub_one_of_lt e.isLt)
  | ⟨1, _⟩ =>
    show (planes N A B n wf).start (ix3 c a b) idx 1 + (planes N A B n wf).offCoord (ix3 c a b) 1 = a.val
    have hs : (planes N A B n wf).start (ix3 c a b) idx 1 = 0 := by
      unfold GatherDims.start
      exact dif_neg (fun h => absurd (List.mem_singleton.mp h : (1 : Fin 3) = 0) (by decide))
    rw [hs, Nat.zero_add]
    rfl
  | ⟨2, _⟩ =>
    show (planes N A B n wf).start (ix3 c a b) idx 2 + (planes N A B n wf).offCoord (ix3 c a b) 2 = b.val
    have hs : (planes N A B n wf).start (ix3 c a b) idx 2 = 0 := by
      unfold GatherDims.start
      exact dif_neg (fun h => absurd (List.mem_singleton.mp h : (2 : Fin 3) = 0) (by decide))
    rw [hs, Nat.zero_add]
    rfl

/-- The dimension numbers of taking whole rows of a rank-2 array by a column of indices. -/
abbrev lines (N B n : Nat)
    (wf : GatherDims.WF ⟨2, ![N, B]⟩ ⟨2, ![n, 1]⟩ ⟨2, ![n, B]⟩ [1] [0] [] [0] [] 1 ![1, B]) :
    GatherDims ⟨2, ![N, B]⟩ ⟨2, ![n, 1]⟩ ⟨2, ![n, B]⟩ where
  offsetDims := [1]
  collapsedSliceDims := [0]
  operandBatchingDims := []
  startIndicesBatchingDims := []
  startIndexMap := [0]
  indexVectorDim := 1
  sliceSizes := ![1, B]
  wf := wf

/-- Taking rows, read at an index: the row the index array names, where that lies inside the array. -/
theorem lines_apply {α : Type} {N B n : Nat}
    (wf : GatherDims.WF ⟨2, ![N, B]⟩ ⟨2, ![n, 1]⟩ ⟨2, ![n, B]⟩ [1] [0] [] [0] [] 1 ![1, B])
    (x : (⟨2, ![N, B]⟩ : Shape).Idx → α) (idx : IVec ⟨2, ![n, 1]⟩ 32) (c : Fin n) (b : Fin B)
    (e : Fin N) (he : (idx (ix2 c (0 : Fin 1))).toInt.toNat = e.val) :
    Host.gather (lines N B n wf) x idx (ix2 c b) = x (ix2 e b) := by
  unfold Host.gather
  refine congrArg x (funext fun k => Fin.ext ?_)
  show (lines N B n wf).start (ix2 c b) idx k + (lines N B n wf).batchCoord (ix2 c b) k + (lines N B n wf).offCoord (ix2 c b) k = _
  rw [GatherDims.batchCoord_eq_zero _ _ _ List.not_mem_nil, Nat.add_zero]
  match k with
  | ⟨0, _⟩ =>
    have ho : (lines N B n wf).offCoord (ix2 c b) 0 = 0 :=
      GatherDims.offCoord_eq_zero _ _ _ (fun h => ((GatherDims.mem_sKept _ _).mp h).1 (List.mem_singleton.mpr rfl))
    show (lines N B n wf).start (ix2 c b) idx 0 + (lines N B n wf).offCoord (ix2 c b) 0 = e.val
    rw [ho, Nat.add_zero]
    unfold GatherDims.start
    rw [dif_pos (show (0 : Fin 2) ∈ (lines N B n wf).startIndexMap from List.mem_singleton.mpr rfl)]
    have hsi : (lines N B n wf).siIdx (ix2 c b) ⟨List.idxOf (0 : Fin 2) (lines N B n wf).startIndexMap,
        List.idxOf_lt_length_iff.2 (List.mem_singleton.mpr rfl)⟩ = ix2 c (0 : Fin 1) := by
      funext q; refine Fin.ext ?_
      match q with
      | ⟨0, _⟩ => rfl
      | ⟨1, _⟩ => rfl
    rw [hsi, he]
    exact Nat.min_eq_left (Nat.le_sub_one_of_lt e.isLt)
  | ⟨1, _⟩ =>
    show (lines N B n wf).start (ix2 c b) idx 1 + (lines N B n wf).offCoord (ix2 c b) 1 = b.val
    have hs : (lines N B n wf).start (ix2 c b) idx 1 = 0 := by
      unfold GatherDims.start
      exact dif_neg (fun h => absurd (List.mem_singleton.mp h : (1 : Fin 2) = 0) (by decide))
    rw [hs, Nat.zero_add]
    rfl

/-- Stage of the reference: the blocks' experts as the column the weights are taken by. -/
def st_idx (a1 : IVec S544 32) : IVec S544x1 32 :=
  broadcastInDim S544x1 ![0] bcast_S544_S544x1_0 (select (cmpi .slt a1 (broadcastInDim S544 ![] bcast_S_S544 (constantI S_ 32 0#32))) (addi a1 (broadcastInDim S544 ![] bcast_S_S544 (constantI S_ 32 32#32))) a1)

/-- Stage of the reference: the gate and up projections, interleaved. -/
def st_hgu (a0 : FVec Ideal S139264x1024 .f32) (a1 : IVec S544 32) (a3 : FVec Ideal S32x1024x2048 .f32) (a4 : FVec Ideal S32x2048 .f32) : FVec Ideal S544x256x2048 .f32 :=
  addf (Host.dotGeneral dot_S544x256x1024_S544x1024x2048_S544x256x2048_2_1_1_2_0_0 none (shapeCast _ a0 shapeCasts_S139264x1024_S544x256x1024) (Host.gather gather_S32x1024x2048_S544x1_S544x1024x2048_12_0_n_n_0_1_110242048 a3 (st_idx a1))) (broadcastInDim S544x256x2048 ![0, 1, 2] bcast_S544x1x2048_S544x256x2048_0_1_2 (broadcastInDim S544x1x2048 ![0, 2] bcast_S544x2048_S544x1x2048_0_2 (Host.gather gather_S32x2048_S544x1_S544x2048_1_0_n_n_0_1_12048 a4 (st_idx a1))))

/-- Stage of the reference: the gated activation. -/
def st_act (h : FVec Ideal S544x256x2048 .f32) : FVec Ideal S544x256x1024 .f32 :=
  mulf (addf (minimumf (broadcastInDim S544x256x1024 ![] bcast_S_S544x256x1024 (id (constant S_ .f32 0x40E00000#32))) (maximumf (broadcastInDim S544x256x1024 ![] bcast_S_S544x256x1024 (id (constant S_ .f32 0xC0E00000#32))) (Host.slice S544x256x1024 ![0, 0, 1] ![1, 1, 2] h slicesBy_S544x256x2048_S544x256x1024_0s1_0s1_1s2))) (broadcastInDim S544x256x1024 ![] bcast_S_S544x256x1024 (constant S_ .f32 0x3F800000#32))) (mulf (minimumf (Host.slice S544x256x1024 ![0, 0, 0] ![1, 1, 2] h slicesBy_S544x256x2048_S544x256x1024_0s1_0s1_0s2) (broadcastInDim S544x256x1024 ![] bcast_S_S544x256x1024 (constant S_ .f32 0x40E00000#32))) (Host.divf (broadcastInDim S544x256x1024 ![] bcast_S_S544x256x1024 (constant S_ .f32 0x3F800000#32)) (addf (broadcastInDim S544x256x1024 ![] bcast_S_S544x256x1024 (constant S_ .f32 0x3F800000#32)) (Host.exp (Host.negf (mulf (broadcastInDim S544x256x1024 ![] bcast_S_S544x256x1024 (constant S_ .f32 0x3FD9DB23#32)) (minimumf (Host.slice S544x256x1024 ![0, 0, 0] ![1, 1, 2] h slicesBy_S544x256x2048_S544x256x1024_0s1_0s1_0s2) (broadcastInDim S544x256x1024 ![] bcast_S_S544x256x1024 (constant S_ .f32 0x40E00000#32)))))))))

/-- Stage of the reference: the down projection. -/
def st_y (h : FVec Ideal S544x256x1024 .f32) (a1 : IVec S544 32) (a5 : FVec Ideal S32x1024x1024 .f32) (a6 : FVec Ideal S32x1024 .f32) : FVec Ideal S544x256x1024 .f32 :=
  addf (Host.dotGeneral dot_S544x256x1024_S544x1024x1024_S544x256x1024_2_1_1_2_0_0 none h (Host.gather gather_S32x1024x1024_S544x1_S544x1024x1024_12_0_n_n_0_1_110241024 a5 (st_idx a1))) (broadcastInDim S544x256x1024 ![0, 1, 2] bcast_S544x1x1024_S544x256x1024_0_1_2 (broadcastInDim S544x1x1024 ![0, 2] bcast_S544x1024_S544x1x1024_0_2 (Host.gather gather_S32x1024_S544x1_S544x1024_1_0_n_n_0_1_11024 a6 (st_idx a1))))

/-- Stage of the reference: the used blocks' rows, the others zero. -/
def st_out (y : FVec Ideal S544x256x1024 .f32) (a2 : IVec S1 32) : FVec Ideal S139264x1024 .f32 :=
  shapeCast _ (select (broadcastInDim S544x256x1024 ![0, 1, 2] bcast_S544x1x1_S544x256x1024_0_1_2 (broadcastInDim S544x1x1 ![0] bcast_S544_S544x1x1_0 (cmpi .slt (iotaInDim S544 32 0) (broadcastInDim S544 ![] bcast_S_S544 (shapeCast _ a2 shapeCasts_S1_S_))))) y (broadcastInDim S544x256x1024 ![] bcast_S_S544x256x1024 (id (constant S_ .f32 0x00000000#32)))) shapeCasts_S544x256x1024_S139264x1024

/-- The reference's result, in its stages. -/
theorem res0 (m : (ℓ : Loc nD τ sig) → Buf (Elt Ideal) ℓ) (c : Dev nD) :
    Value.res_out0 (F := Ideal) m c = st_out (st_y (st_act (st_hgu (m ((c : Thread nD τ).loc main_arg0)) (m ((c : Thread nD τ).loc main_arg1)) (m ((c : Thread nD τ).loc main_arg3)) (m ((c : Thread nD τ).loc main_arg4)))) (m ((c : Thread nD τ).loc main_arg1)) (m ((c : Thread nD τ).loc main_arg5)) (m ((c : Thread nD τ).loc main_arg6))) (m ((c : Thread nD τ).loc main_arg2)) := rfl

variable (a0 : FVec Ideal S139264x1024 .f32) (a1 : IVec S544 32) (a2 : IVec S1 32) (a3 : FVec Ideal S32x1024x2048 .f32) (a4 : FVec Ideal S32x2048 .f32) (a5 : FVec Ideal S32x1024x1024 .f32) (a6 : FVec Ideal S32x1024 .f32)

/-- The column holds the block's expert. -/
theorem idx_at (n : Fin 544) (h : (a1 (ix1 n)).toNat < 32) : (st_idx a1 (ix2 n (0 : Fin 1))).toInt.toNat = (a1 (ix1 n)).toNat := by
  have e : st_idx a1 (ix2 n (0 : Fin 1)) = a1 (ix1 n) := by
    pointwise [st_idx]
    rw [WordCmp.cmpi_slt_zero, decide_eq_false (by omega)]
    rfl
  rw [e, WordCmp.toInt_eq_toNat_of_lt_half (by omega)]
  rfl

/-- The interleaved projections of a row. -/
theorem hgu_at (n : Fin 544) (h : (a1 (ix1 n)).toNat < 32) (r : Fin 256) (f : Fin 2048) :
    (st_hgu a0 a1 a3 a4 : S544x256x2048.Idx → EReal) (ix3 n r f)
      = (∑ d : Fin 1024, (a0 : S139264x1024.Idx → EReal) (ix2 ⟨n * 256 + r, by omega⟩ d) * (a3 : S32x1024x2048.Idx → EReal) (ix3 ⟨_, h⟩ d f)) + (a4 : S32x2048.Idx → EReal) (ix2 ⟨_, h⟩ f) := by
  pointwise [st_hgu]
  have e1 := fun d : Fin 1024 => planes_apply (N := 32) (A := 1024) (B := 2048) (n := 544) gather_S32x1024x2048_S544x1_S544x1024x2048_12_0_n_n_0_1_110242048_wf a3 (st_idx a1) n d f ⟨_, h⟩ (idx_at a1 n h)
  have e2 := lines_apply (N := 32) (B := 2048) (n := 544) gather_S32x2048_S544x1_S544x2048_1_0_n_n_0_1_12048_wf a4 (st_idx a1) n f ⟨_, h⟩ (idx_at a1 n h)
  exact congrArg₂ (· + ·) (Finset.sum_congr rfl fun d _ => congrArg _ (e1 d)) e2

/-- The gated activation of one pair of projections: the gate `g` bounded above, the up projection `u` bounded on both sides. -/
def glu (g u : EReal) : EReal :=
  (min (Ideal.ofBits .f32 0x40E00000#32) (max (Ideal.ofBits .f32 0xC0E00000#32) u) + 1)
    * (min g (Ideal.ofBits .f32 0x40E00000#32) * Ideal.div 1 (1 + Ideal.exp (-(Ideal.ofBits .f32 0x3FD9DB23#32 * min g (Ideal.ofBits .f32 0x40E00000#32)))))

/-- The activation of a row. -/
theorem act_at (h : FVec Ideal S544x256x2048 .f32) (n : Fin 544) (r : Fin 256) (f : Fin 1024) :
    (st_act h : S544x256x1024.Idx → EReal) (ix3 n r f)
      = glu ((h : S544x256x2048.Idx → EReal) (ix3 n r ⟨2 * f, by omega⟩)) ((h : S544x256x2048.Idx → EReal) (ix3 n r ⟨1 + 2 * f, by omega⟩)) := by
  pointwise [st_act, glu]
  rfl

/-- The down projection of a row. -/
theorem y_at (h : FVec Ideal S544x256x1024 .f32) (n : Fin 544) (hn : (a1 (ix1 n)).toNat < 32) (r : Fin 256) (d : Fin 1024) :
    (st_y h a1 a5 a6 : S544x256x1024.Idx → EReal) (ix3 n r d)
      = (∑ f : Fin 1024, (h : S544x256x1024.Idx → EReal) (ix3 n r f) * (a5 : S32x1024x1024.Idx → EReal) (ix3 ⟨_, hn⟩ f d)) + (a6 : S32x1024.Idx → EReal) (ix2 ⟨_, hn⟩ d) := by
  pointwise [st_y]
  have e1 := fun f : Fin 1024 => planes_apply (N := 32) (A := 1024) (B := 1024) (n := 544) gather_S32x1024x1024_S544x1_S544x1024x1024_12_0_n_n_0_1_110241024_wf a5 (st_idx a1) n f d ⟨_, hn⟩ (idx_at a1 n hn)
  have e2 := lines_apply (N := 32) (B := 1024) (n := 544) gather_S32x1024_S544x1_S544x1024_1_0_n_n_0_1_11024_wf a6 (st_idx a1) n d ⟨_, hn⟩ (idx_at a1 n hn)
  exact congrArg₂ (· + ·) (Finset.sum_congr rfl fun f _ => congrArg _ (e1 f)) e2

/-- The result at a row. -/
theorem out_at (y : FVec Ideal S544x256x1024 .f32) (n : Fin 544) (r : Fin 256) (d : Fin 1024) :
    (st_out y a2 : S139264x1024.Idx → EReal) (ix2 ⟨n * 256 + r, by omega⟩ d)
      = if (BitVec.ofNat 32 n.val).toInt < (a2 (ix1 (0 : Fin 1))).toInt then (y : S544x256x1024.Idx → EReal) (ix3 n r d) else 0 := by
  pointwise [st_out]
  have hd : (n * 256 + r : ℕ) / 256 = n := by omega
  have hm : (n * 256 + r : ℕ) % 256 = r := by omega
  rw [WordCmp.cmpi_slt_eq]
  by_cases hc : (BitVec.ofNat 32 n.val).toInt < (a2 (ix1 (0 : Fin 1))).toInt
  · rw [if_pos hc, decide_eq_true hc]; rfl
  · rw [if_neg hc, decide_eq_false hc]; show Ideal.ofBits .f32 0#32 = 0; simp

end Cert.FfnRefIdeal.Spec

end
-- ==== Proof.FfnPay.lean ====
module

public import proofs.«01_k».proof.Proof.FfnIdealTables
public import proofs.«01_k».proof.Proof.FfnSpec
public import Idealize.ShloMosaic.Lib.Pipeline.ValueKit

@[expose] public section

set_option maxRecDepth 16384

noncomputable section

namespace Cert.FfnIdeal.Fr

open Cert.FfnIdeal Cert.FfnIdeal.Gen
open Idealize.ShloMosaic Idealize.ShloMosaic.TcCoe Idealize.SL.Sem
open Idealize.ShloMosaic.Pipeline (Dat)
open Cert.FfnRefIdeal.Spec (glu)

/-- What the kernel keeps of a row's gate and up projections: their gated activation. -/
theorem pay3_at (x : FVec Ideal S256x1024 .f32) (wg wu : FVec Ideal S1x1024x1024 .bf16) (bg bu : FVec Ideal S1x1x1024 .f32) (r : Fin 256) (f : Fin 1024) :
    (k0_pay3 (F := Ideal) x wg bg wu bu : S256x1024.Idx → EReal) (ix2 r f)
      = glu ((∑ d : Fin 1024, (x : S256x1024.Idx → EReal) (ix2 r d) * (wg : S1x1024x1024.Idx → EReal) (ix3 0 d f)) + (bg : S1x1x1024.Idx → EReal) (ix3 0 0 f))
          ((∑ d : Fin 1024, (x : S256x1024.Idx → EReal) (ix2 r d) * (wu : S1x1024x1024.Idx → EReal) (ix3 0 d f)) + (bu : S1x1x1024.Idx → EReal) (ix3 0 0 f)) := by
  pointwise [k0_pay3, glu]
  rw [zero_sub]

/-- The down projection of the kernel's rows. -/
theorem pay1_at (a : FVec Ideal S256x1024 .bf16) (wd : FVec Ideal S1x1024x1024 .bf16) (bd : FVec Ideal S1x1x1024 .f32) (r : Fin 256) (d : Fin 1024) :
    (k0_pay1 (F := Ideal) a wd bd : S256x1024.Idx → EReal) (ix2 r d)
      = (∑ f : Fin 1024, (a : S256x1024.Idx → EReal) (ix2 r f) * (wd : S1x1024x1024.Idx → EReal) (ix3 0 f d)) + (bd : S1x1x1024.Idx → EReal) (ix3 0 0 d) := by
  pointwise [k0_pay1]

/-- The rows of an unused block are zero. -/
theorem pay2_at (y : S256x1024.Idx) : (k0_pay2 (F := Ideal) : S256x1024.Idx → EReal) y = 0 := by
  show Ideal.ofBits .f32 0#32 = 0
  simp

variable (m : (ℓ : Loc nD τ sig) → Buf (Elt Ideal) ℓ)

/-- The gate weights: the even columns of the gate and up weights. -/
theorem V_v1 (c : Dev nD) (e : Fin 32) (d f : Fin 1024) :
    (V m c main_v1 : S32x1024x1024.Idx → EReal) (ix3 e d f) = (m ((c : Thread nD τ).loc main_arg3) : S32x1024x2048.Idx → EReal) (ix3 e d ⟨2 * f, by omega⟩) := by
  show (StableHlo.after hostOps0 (fun b => m (c, b)) (Proc.devRef .tc main_v1) : S32x1024x1024.Idx → EReal) (ix3 e d f) = _
  after_results_simp
  pointwise
  blk_ext

/-- The up weights: the odd columns of the gate and up weights. -/
theorem V_v3 (c : Dev nD) (e : Fin 32) (d f : Fin 1024) :
    (V m c main_v3 : S32x1024x1024.Idx → EReal) (ix3 e d f) = (m ((c : Thread nD τ).loc main_arg3) : S32x1024x2048.Idx → EReal) (ix3 e d ⟨1 + 2 * f, by omega⟩) := by
  show (StableHlo.after hostOps0 (fun b => m (c, b)) (Proc.devRef .tc main_v3) : S32x1024x1024.Idx → EReal) (ix3 e d f) = _
  after_results_simp
  pointwise
  blk_ext

/-- The gate biases: the even entries. -/
theorem V_v5 (c : Dev nD) (e : Fin 32) (z : Fin 1) (f : Fin 1024) :
    (V m c main_v5 : S32x1x1024.Idx → EReal) (ix3 e z f) = (m ((c : Thread nD τ).loc main_arg4) : S32x2048.Idx → EReal) (ix2 e ⟨2 * f, by omega⟩) := by
  show (StableHlo.after hostOps0 (fun b => m (c, b)) (Proc.devRef .tc main_v5) : S32x1x1024.Idx → EReal) (ix3 e z f) = _
  after_results_simp
  pointwise
  blk_ext

/-- The up biases: the odd entries. -/
theorem V_v7 (c : Dev nD) (e : Fin 32) (z : Fin 1) (f : Fin 1024) :
    (V m c main_v7 : S32x1x1024.Idx → EReal) (ix3 e z f) = (m ((c : Thread nD τ).loc main_arg4) : S32x2048.Idx → EReal) (ix2 e ⟨1 + 2 * f, by omega⟩) := by
  show (StableHlo.after hostOps0 (fun b => m (c, b)) (Proc.devRef .tc main_v7) : S32x1x1024.Idx → EReal) (ix3 e z f) = _
  after_results_simp
  pointwise
  blk_ext

/-- The down weights. -/
theorem V_v8 (c : Dev nD) (j : S32x1024x1024.Idx) :
    (V m c main_v8 : S32x1024x1024.Idx → EReal) j = (m ((c : Thread nD τ).loc main_arg5) : S32x1024x1024.Idx → EReal) j := by
  show (StableHlo.after hostOps0 (fun b => m (c, b)) (Proc.devRef .tc main_v8) : S32x1024x1024.Idx → EReal) j = _
  after_results_simp
  rfl

/-- The down biases. -/
theorem V_v9 (c : Dev nD) (e : Fin 32) (z : Fin 1) (d : Fin 1024) :
    (V m c main_v9 : S32x1x1024.Idx → EReal) (ix3 e z d) = (m ((c : Thread nD τ).loc main_arg6) : S32x1024.Idx → EReal) (ix2 e d) := by
  show (StableHlo.after hostOps0 (fun b => m (c, b)) (Proc.devRef .tc main_v9) : S32x1x1024.Idx → EReal) (ix3 e z d) = _
  after_results_simp
  pointwise
  blk_ext

end Cert.FfnIdeal.Fr

end
-- ==== Proof.FfnValue.lean ====
module

public import proofs.«01_k».proof.Proof.FfnPay

@[expose] public section

set_option maxRecDepth 16384

noncomputable section

namespace Cert.FfnIdeal.Fr

open Cert.FfnIdeal Cert.FfnIdeal.Gen
open Idealize.ShloMosaic Idealize.ShloMosaic.TcCoe Idealize.SL.Sem
open Idealize.ShloMosaic.Pipeline (Dat)
open Cert.FfnRefIdeal.Spec (glu)

variable (m : (ℓ : Loc nD τ sig) → Buf (Elt Ideal) ℓ)

/-- The grid has one axis: a point's coordinate is its number. -/
theorem coord (t : Fin grid0.N) : (grid0.coords t 0).val = t.val :=
  (by decide +kernel : ∀ t : Fin grid0.N, (grid0.coords t 0).val = t.val) t

/-- The index map of the rows. -/
theorem idx0 (hO : Ok m) (t : Fin (cfgM m hO).N) : ((cfgM m hO).win 0).index t = ![t.val, 0] := by
  have h := coord t
  have hb : t.val < 544 := t.isLt
  show cc0_transform_0 (grid0.coords t) = _
  unfold cc0_transform_0
  dsimp only
  rw [h, BitVec.toNat_ofNat, Nat.mod_eq_of_lt (by omega)]
  rfl

/-- The index map of the gate weights. -/
theorem idx1 (hO : Ok m) (t : Fin (cfgM m hO).N) : ((cfgM m hO).win 1).index t = ![(eword m (grid0.coords t)).toNat, 0, 0] := by
  show cc0_transform_1 k0_off1_inb numel1_S1 (tbl m) (grid0.coords t) = _
  unfold cc0_transform_1
  dsimp only
  rw [at_eq m (grid0.coords t)]
  rfl

/-- The index map of the up weights. -/
theorem idx2 (hO : Ok m) (t : Fin (cfgM m hO).N) : ((cfgM m hO).win 2).index t = ![(eword m (grid0.coords t)).toNat, 0, 0] := by
  show cc0_transform_2 k0_off1_inb numel1_S1 (tbl m) (grid0.coords t) = _
  unfold cc0_transform_2
  dsimp only
  rw [at_eq m (grid0.coords t)]
  rfl

/-- The index map of the gate biases. -/
theorem idx3 (hO : Ok m) (t : Fin (cfgM m hO).N) : ((cfgM m hO).win 3).index t = ![(eword m (grid0.coords t)).toNat, 0, 0] := by
  show cc0_transform_3 k0_off1_inb numel1_S1 (tbl m) (grid0.coords t) = _
  unfold cc0_transform_3
  dsimp only
  rw [at_eq m (grid0.coords t)]
  rfl

/-- The index map of the up biases. -/
theorem idx4 (hO : Ok m) (t : Fin (cfgM m hO).N) : ((cfgM m hO).win 4).index t = ![(eword m (grid0.coords t)).toNat, 0, 0] := by
  show cc0_transform_4 k0_off1_inb numel1_S1 (tbl m) (grid0.coords t) = _
  unfold cc0_transform_4
  dsimp only
  rw [at_eq m (grid0.coords t)]
  rfl

/-- The index map of the down weights. -/
theorem idx5 (hO : Ok m) (t : Fin (cfgM m hO).N) : ((cfgM m hO).win 5).index t = ![(eword m (grid0.coords t)).toNat, 0, 0] := by
  show cc0_transform_5 k0_off1_inb numel1_S1 (tbl m) (grid0.coords t) = _
  unfold cc0_transform_5
  dsimp only
  rw [at_eq m (grid0.coords t)]
  rfl

/-- The index map of the down biases. -/
theorem idx6 (hO : Ok m) (t : Fin (cfgM m hO).N) : ((cfgM m hO).win 6).index t = ![(eword m (grid0.coords t)).toNat, 0, 0] := by
  show cc0_transform_6 k0_off1_inb numel1_S1 (tbl m) (grid0.coords t) = _
  unfold cc0_transform_6
  dsimp only
  rw [at_eq m (grid0.coords t)]
  rfl

/-- The index map of the result. -/
theorem idx7 (hO : Ok m) (t : Fin (cfgM m hO).N) : ((cfgM m hO).win 7).index t = ![t.val, 0] := by
  have h := coord t
  have hb : t.val < 544 := t.isLt
  show cc0_transform_7 (grid0.coords t) = _
  unfold cc0_transform_7
  dsimp only
  rw [h, BitVec.toNat_ofNat, Nat.mod_eq_of_lt (by omega)]
  rfl

/-- The rows' block at a point. -/
theorem iblk0_at (hO : Ok m) (c : Dev nD) (t : Fin (cfgM m hO).N) (r : Fin 256) (d : Fin 1024) :
    (iblk m hO c 0 t : S256x1024.Idx → EReal) (ix2 r d)
      = (m ((c : Thread nD τ).loc main_arg0) : S139264x1024.Idx → EReal) (ix2 ⟨t.val * 256 + r, by have := (show t.val < 544 from t.isLt); omega⟩ d) := by
  rw [← V_main_arg0 m c]
  show V m c main_arg0 ((((cfgM m hO).win 0).blk t).view.emb (ix2 r d)) = _
  have e := idx0 m hO t
  refine congrArg (V m c main_arg0) ?_
  blk_ext [e]

/-- The gate weights' block at a point: those of the point's expert. -/
theorem iblk1_at (hO : Ok m) (c : Dev nD) (t : Fin (cfgM m hO).N) (h : (eword m (grid0.coords t)).toNat < 32) (a b : Fin 1024) :
    (iblk m hO c 1 t : S1x1024x1024.Idx → EReal) (ix3 0 a b)
      = (m ((c : Thread nD τ).loc main_arg3) : S32x1024x2048.Idx → EReal) (ix3 ⟨(eword m (grid0.coords t)).toNat, h⟩ a ⟨2 * b, by omega⟩) := by
  refine Eq.trans ?_ (V_v1 m c ⟨_, h⟩ a b)
  show V m c main_v1 ((((cfgM m hO).win 1).blk t).view.emb (ix3 0 a b)) = _
  have e := idx1 m hO t
  refine congrArg (V m c main_v1) ?_
  blk_ext [e]

/-- The up weights' block at a point: those of the point's expert. -/
theorem iblk2_at (hO : Ok m) (c : Dev nD) (t : Fin (cfgM m hO).N) (h : (eword m (grid0.coords t)).toNat < 32) (a b : Fin 1024) :
    (iblk m hO c 2 t : S1x1024x1024.Idx → EReal) (ix3 0 a b)
      = (m ((c : Thread nD τ).loc main_arg3) : S32x1024x2048.Idx → EReal) (ix3 ⟨(eword m (grid0.coords t)).toNat, h⟩ a ⟨1 + 2 * b, by omega⟩) := by
  refine Eq.trans ?_ (V_v3 m c ⟨_, h⟩ a b)
  show V m c main_v3 ((((cfgM m hO).win 2).blk t).view.emb (ix3 0 a b)) = _
  have e := idx2 m hO t
  refine congrArg (V m c main_v3) ?_
  blk_ext [e]

/-- The down weights' block at a point: those of the point's expert. -/
theorem iblk5_at (hO : Ok m) (c : Dev nD) (t : Fin (cfgM m hO).N) (h : (eword m (grid0.coords t)).toNat < 32) (a b : Fin 1024) :
    (iblk m hO c 5 t : S1x1024x1024.Idx → EReal) (ix3 0 a b)
      = (m ((c : Thread nD τ).loc main_arg5) : S32x1024x1024.Idx → EReal) (ix3 ⟨(eword m (grid0.coords t)).toNat, h⟩ a b) := by
  refine Eq.trans ?_ (V_v8 m c (ix3 ⟨_, h⟩ a b))
  show V m c main_v8 ((((cfgM m hO).win 5).blk t).view.emb (ix3 0 a b)) = _
  have e := idx5 m hO t
  refine congrArg (V m c main_v8) ?_
  blk_ext [e]

/-- The gate biases' block at a point: those of the point's expert. -/
theorem iblk3_at (hO : Ok m) (c : Dev nD) (t : Fin (cfgM m hO).N) (h : (eword m (grid0.coords t)).toNat < 32) (b : Fin 1024) :
    (iblk m hO c 3 t : S1x1x1024.Idx → EReal) (ix3 0 0 b)
      = (m ((c : Thread nD τ).loc main_arg4) : S32x2048.Idx → EReal) (ix2 ⟨(eword m (grid0.coords t)).toNat, h⟩ ⟨2 * b, by omega⟩) := by
  refine Eq.trans ?_ (V_v5 m c ⟨_, h⟩ 0 b)
  show V m c main_v5 ((((cfgM m hO).win 3).blk t).view.emb (ix3 0 0 b)) = _
  have e := idx3 m hO t
  refine congrArg (V m c main_v5) ?_
  blk_ext [e]

/-- The up biases' block at a point: those of the point's expert. -/
theorem iblk4_at (hO : Ok m) (c : Dev nD) (t : Fin (cfgM m hO).N) (h : (eword m (grid0.coords t)).toNat < 32) (b : Fin 1024) :
    (iblk m hO c 4 t : S1x1x1024.Idx → EReal) (ix3 0 0 b)
      = (m ((c : Thread nD τ).loc main_arg4) : S32x2048.Idx → EReal) (ix2 ⟨(eword m (grid0.coords t)).toNat, h⟩ ⟨1 + 2 * b, by omega⟩) := by
  refine Eq.trans ?_ (V_v7 m c ⟨_, h⟩ 0 b)
  show V m c main_v7 ((((cfgM m hO).win 4).blk t).view.emb (ix3 0 0 b)) = _
  have e := idx4 m hO t
  refine congrArg (V m c main_v7) ?_
  blk_ext [e]

/-- The down biases' block at a point: those of the point's expert. -/
theorem iblk6_at (hO : Ok m) (c : Dev nD) (t : Fin (cfgM m hO).N) (h : (eword m (grid0.coords t)).toNat < 32) (b : Fin 1024) :
    (iblk m hO c 6 t : S1x1x1024.Idx → EReal) (ix3 0 0 b)
      = (m ((c : Thread nD τ).loc main_arg6) : S32x1024.Idx → EReal) (ix2 ⟨(eword m (grid0.coords t)).toNat, h⟩ b) := by
  refine Eq.trans ?_ (V_v9 m c ⟨_, h⟩ 0 b)
  show V m c main_v9 ((((cfgM m hO).win 6).blk t).view.emb (ix3 0 0 b)) = _
  have e := idx6 m hO t
  refine congrArg (V m c main_v9) ?_
  blk_ext [e]

/-- The number of used blocks as the body reads it. -/
theorem nu_eq (c : Dev nD) : nuWord (F := Ideal) c (tbl m 1) = (m ((0 : Dev nD), main_arg2) : S1.Idx → BitVec 32) (ix1 (0 : Fin 1)) := by
  rw [← tbl_1 m]
  refine congrArg (tbl m 1) (funext fun (a : Fin 1) => Fin.ext ?_)
  obtain rfl : a = 0 := Subsingleton.elim _ _
  rfl

/-- The body's first condition: the block is one of the used ones. -/
theorem cond1_iff (t : Fin grid0.N) (v : BitVec 32) : k0_cond1 (grid0.coords t) v = 1#1 ↔ (BitVec.ofNat 32 t.val).toInt < v.toInt := by
  have h := coord t
  unfold k0_cond1
  dsimp only
  rw [h]
  simp only [WordCmp.cmpi_slt_eq, Scalar.cmpi]
  by_cases hc : (BitVec.ofNat 32 t.val).toInt < v.toInt
  · exact iff_of_true (by rw [decide_eq_true hc]; decide) hc
  · exact iff_of_false (by rw [decide_eq_false hc]; decide) hc

/-- The stored rows as a function of the seven blocks read. -/
theorem pay_congr {x0 x0' : FVec Ideal S256x1024 .f32} {x1 x1' x2 x2' x5 x5' : FVec Ideal S1x1024x1024 .bf16} {x3 x3' x4 x4' x6 x6' : FVec Ideal S1x1x1024 .f32}
    (h0 : x0 = x0') (h1 : x1 = x1') (h2 : x2 = x2') (h3 : x3 = x3') (h4 : x4 = x4') (h5 : x5 = x5') (h6 : x6 = x6') :
    k0_pay1 (F := Ideal) (k0_pay3 (F := Ideal) x0 x1 x3 x2 x4) x5 x6 = k0_pay1 (F := Ideal) (k0_pay3 (F := Ideal) x0' x1' x3' x2' x4') x5' x6' := by
  subst h0 h1 h2 h3 h4 h5 h6; rfl

/-- What the body leaves at a point of a used block. -/
theorem outsAt_used (hO : Ok m) (c : Dev nD) (t : Fin (cfgM m hO).N) (h : k0_cond1 (grid0.coords t) (nuWord (F := Ideal) c (tbl m 1)) = 1#1) :
    outsAt0 m hO c t = k0_pay1 (F := Ideal) (k0_pay3 (F := Ideal) (iblk m hO c 0 t) (iblk m hO c 1 t) (iblk m hO c 3 t) (iblk m hO c 2 t) (iblk m hO c 4 t)) (iblk m hO c 5 t) (iblk m hO c 6 t) := by
  unfold outsAt0
  rw [dif_pos h]
  frame_out [out0_A_7, kernelRun0_A]
  exact pay_congr ((hs0_0 m hO t).read_unread _) ((hs0_1 m hO t).read_unread _) ((hs0_2 m hO t).read_unread _) ((hs0_3 m hO t).read_unread _) ((hs0_4 m hO t).read_unread _) ((hs0_5 m hO t).read_unread _) ((hs0_6 m hO t).read_unread _)

/-- What the body leaves at a point of an unused block. -/
theorem outsAt_idle (hO : Ok m) (c : Dev nD) (t : Fin (cfgM m hO).N) (h : ¬(k0_cond1 (grid0.coords t) (nuWord (F := Ideal) c (tbl m 1)) = 1#1)) :
    outsAt0 m hO c t = k0_pay2 (F := Ideal) := by
  unfold outsAt0
  rw [dif_neg h]
  frame_out [out0_B_7, kernelRun0_B]

/-- The reference's result of the launch memory. -/
abbrev want (c : Dev nD) : FVec Ideal S139264x1024 .f32 :=
  Cert.FfnRefIdeal.Spec.st_out (Cert.FfnRefIdeal.Spec.st_y (Cert.FfnRefIdeal.Spec.st_act (Cert.FfnRefIdeal.Spec.st_hgu (m ((c : Thread nD τ).loc main_arg0)) (m ((c : Thread nD τ).loc main_arg1)) (m ((c : Thread nD τ).loc main_arg3)) (m ((c : Thread nD τ).loc main_arg4)))) (m ((c : Thread nD τ).loc main_arg1)) (m ((c : Thread nD τ).loc main_arg5)) (m ((c : Thread nD τ).loc main_arg6))) (m ((c : Thread nD τ).loc main_arg2))

/-- What the body leaves at a point is the reference's result on the point's rows. -/
theorem point (hO : Ok m) (hr : InRange m) (c : Dev nD) (t : Fin (cfgM m hO).N) (r : Fin 256) (d : Fin 1024) :
    (outsAt0 m hO c t : S256x1024.Idx → EReal) (ix2 r d)
      = (want m c : S139264x1024.Idx → EReal) (ix2 ⟨t.val * 256 + r, by have := (show t.val < 544 from t.isLt); omega⟩ d) := by
  obtain rfl : c = 0 := Subsingleton.elim _ _
  have hb : t.val < 544 := t.isLt
  have ht : (⟨(grid0.coords t 0).val, (grid0.coords t 0).isLt⟩ : Fin 544) = ⟨t.val, hb⟩ := Fin.ext (coord t)
  have hw : eword m (grid0.coords t) = (m (((0 : Dev nD) : Thread nD τ).loc main_arg1) : S544.Idx → BitVec 32) (ix1 ⟨t.val, hb⟩) :=
    congrArg (fun n : Fin 544 => (m ((0 : Dev nD), main_arg1) : S544.Idx → BitVec 32) (ix1 n)) ht
  have hn : ((m (((0 : Dev nD) : Thread nD τ).loc main_arg1) : S544.Idx → BitVec 32) (ix1 ⟨t.val, hb⟩)).toNat < 32 := hr _
  have he : (eword m (grid0.coords t)).toNat < 32 := hr _
  have hE : (⟨(eword m (grid0.coords t)).toNat, he⟩ : Fin 32) = ⟨_, hn⟩ := Fin.ext (congrArg BitVec.toNat hw)
  refine Eq.trans ?_ (Cert.FfnRefIdeal.Spec.out_at _ _ ⟨t.val, hb⟩ r d).symm
  by_cases hc : k0_cond1 (grid0.coords t) (nuWord (F := Ideal) 0 (tbl m 1)) = 1#1
  · have hlt := (cond1_iff t _).mp hc
    rw [nu_eq m 0] at hlt
    rw [if_pos hlt]
    refine (congrFun (outsAt_used m hO 0 t hc) (ix2 r d)).trans ((pay1_at _ _ _ r d).trans ?_)
    refine Eq.trans ?_ (Cert.FfnRefIdeal.Spec.y_at _ _ _ _ ⟨t.val, hb⟩ hn r d).symm
    refine congrArg₂ (· + ·) (Finset.sum_congr rfl fun f _ => congrArg₂ (· * ·) ?_ ?_) ?_
    · refine (pay3_at _ _ _ _ _ r f).trans (Eq.trans ?_ (Cert.FfnRefIdeal.Spec.act_at _ ⟨t.val, hb⟩ r f).symm)
      refine Eq.trans ?_ (congrArg₂ glu (Cert.FfnRefIdeal.Spec.hgu_at _ _ _ _ ⟨t.val, hb⟩ hn r _) (Cert.FfnRefIdeal.Spec.hgu_at _ _ _ _ ⟨t.val, hb⟩ hn r _)).symm
      refine congrArg₂ glu (congrArg₂ (· + ·) (Finset.sum_congr rfl fun k _ => congrArg₂ (· * ·) ?_ ?_) ?_) (congrArg₂ (· + ·) (Finset.sum_congr rfl fun k _ => congrArg₂ (· * ·) ?_ ?_) ?_)
      · exact iblk0_at m hO 0 t r k
      · exact (iblk1_at m hO 0 t he k f).trans (by rw [hE])
      · exact (iblk3_at m hO 0 t he f).trans (by rw [hE])
      · exact iblk0_at m hO 0 t r k
      · exact (iblk2_at m hO 0 t he k f).trans (by rw [hE])
      · exact (iblk4_at m hO 0 t he f).trans (by rw [hE])
    · exact (iblk5_at m hO 0 t he f d).trans (by rw [hE])
    · exact (iblk6_at m hO 0 t he d).trans (by rw [hE])
  · have hlt := fun h => hc ((cond1_iff t _).mpr h)
    rw [nu_eq m 0] at hlt
    rw [if_neg hlt]
    exact (congrFun (outsAt_idle m hO 0 t hc) (ix2 r d)).trans (pay2_at _)

/-- The result's blocks tile its array. -/
theorem covers7 (hO : Ok m) : ((cfgM m hO).win 7).Covers := by
  refine ⟨fun (a : Fin 2) => (by decide : ∀ a : Fin 2, 0 < S256x1024.size a) a, fun β => ?_⟩
  have h0 : (β (0 : Fin 2)).val < 544 := (β (0 : Fin 2)).isLt.trans_eq (show (139264 + 256 - 1) / 256 = 544 from rfl)
  have h1 : (β (1 : Fin 2)).val < 1 := (β (1 : Fin 2)).isLt.trans_eq (show (1024 + 1024 - 1) / 1024 = 1 from rfl)
  refine ⟨⟨(β (0 : Fin 2)).val, h0⟩, flush0_7 (adm m hO) _, fun (a : Fin 2) => ⟨?_, .inl rfl⟩⟩
  rw [idx7 m hO]
  match a with
  | 0 => rfl
  | 1 => show 0 = (β (1 : Fin 2)).val; omega

/-- The same at a place of the result's block. -/
theorem point7 (hO : Ok m) (hr : InRange m) (c : Dev nD) (t : Fin (cfgM m hO).N) (y : S256x1024.Idx) :
    outsAt0 m hO c t y = want m c ((((cfgM m hO).win 7).blk t).view.emb y) := by
  idx_vars y
  refine (point m hO hr c t y0 y1).trans (congrArg (want m c) ?_)
  have e := idx7 m hO t
  blk_ext [e]

/-- The result array after the run is the reference's. -/
theorem final (hO : Ok m) (hr : InRange m) (c : Dev nD) : (dats m hO 0 c).arrAt 7 (cfgM m hO).N = want m c := by
  refine (dats m hO 0 c).arrAt_eq_of_covers 7 _ (covers7 m hO) fun t _ y => ?_
  blk_simp
  rw [after0_7 m hO c t]
  exact point7 m hO hr c t y

/-- A run ends with the reference's result in the result array and the arguments as launched. -/
theorem run_value (g : Dev nD → PrngReg) (hr : InRange m) : θ_run defs (onTc (τ := τ) (main (F := Ideal))) ⟨m, fun _ => 0, g⟩ (fun r => ∀ c : Dev nD,
      r.2.mem ((c.tc : Thread nD τ).loc main_v10) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (final m (ok_of m hr) hr c),
      ((h c).1 0).trans (((dats m (ok_of m hr) 0 c).arrAt_in 0 rfl _).trans ((A_eq m (ok_of m hr) c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) (run_main m g (ok_of m hr))

end Cert.FfnIdeal.Fr

end
-- ==== Proof.NsaPrepRef.lean ====
module

public import proofs.«01_k».proof.Proof.Gen.NsaPrepRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NsaPrepRefIdeal.Spec

open Cert.NsaPrepRefIdeal Cert.NsaPrepRefIdeal.Gen

/-- The angles of the rotation: position times frequency. -/
def ang : FVec Ideal S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The cosines of the angles. -/
def cosT : FVec Ideal S2048x1x32 .f32 := broadcastInDim S2048x1x32 ![0, 2] bcast_S2048x32_S2048x1x32_0_2 (Host.cos ang)

/-- The sines of the angles. -/
def sinT : FVec Ideal S2048x1x32 .f32 := broadcastInDim S2048x1x32 ![0, 2] bcast_S2048x32_S2048x1x32_0_2 (Host.sin ang)

/-- The queries' heads, normalised. -/
def nrmq (u : FVec Ideal S16x2048x8x64 .f32) (g : FVec Ideal S64 .f32) : FVec Ideal S16x2048x8x64 .f32 :=
  mulf (mulf u (broadcastInDim S16x2048x8x64 ![0, 1, 2, 3] bcast_S16x2048x8x1_S16x2048x8x64_0_1_2_3 (Host.rsqrt (addf (Host.divf (broadcastInDim S16x2048x8x1 ![0, 1, 2] bcast_S16x2048x8_S16x2048x8x1_0_1_2 (Host.reduceAdd (mulf u u) (constant S_ .f32 0x00000000#32) reducesTo_S16x2048x8x64_S16x2048x8_d3 h_S_)) (broadcastInDim S16x2048x8x1 ![] bcast_S_S16x2048x8x1 (constant S_ .f32 0x42800000#32))) (broadcastInDim S16x2048x8x1 ![] bcast_S_S16x2048x8x1 (constant S_ .f32 0x358637BD#32)))))) (broadcastInDim S16x2048x8x64 ![0, 1, 2, 3] bcast_S1x1x1x64_S16x2048x8x64_0_1_2_3 (broadcastInDim S1x1x1x64 ![3] bcast_S64_S1x1x1x64_3 g))

/-- The keys' heads, normalised. -/
def nrmk (u : FVec Ideal S16x2048x2x64 .f32) (g : FVec Ideal S64 .f32) : FVec Ideal S16x2048x2x64 .f32 :=
  mulf (mulf u (broadcastInDim S16x2048x2x64 ![0, 1, 2, 3] bcast_S16x2048x2x1_S16x2048x2x64_0_1_2_3 (Host.rsqrt (addf (Host.divf (broadcastInDim S16x2048x2x1 ![0, 1, 2] bcast_S16x2048x2_S16x2048x2x1_0_1_2 (Host.reduceAdd (mulf u u) (constant S_ .f32 0x00000000#32) reducesTo_S16x2048x2x64_S16x2048x2_d3 h_S_)) (broadcastInDim S16x2048x2x1 ![] bcast_S_S16x2048x2x1 (constant S_ .f32 0x42800000#32))) (broadcastInDim S16x2048x2x1 ![] bcast_S_S16x2048x2x1 (constant S_ .f32 0x358637BD#32)))))) (broadcastInDim S16x2048x2x64 ![0, 1, 2, 3] bcast_S1x1x1x64_S16x2048x2x64_0_1_2_3 (broadcastInDim S1x1x1x64 ![3] bcast_S64_S1x1x1x64_3 g))

/-- The rotation of the queries' heads by their positions. -/
def rotq (f : FVec Ideal S16x2048x8x64 .f32) : FVec Ideal S16x2048x8x64 .f32 :=
  concatenate S16x2048x8x64 3 [⟨S16x2048x8x32, (subf (mulf (extractStridedSlice S16x2048x8x32 ![0, 0, 0, 0] f slices_S16x2048x8x64_S16x2048x8x32_0_0_0_0) (broadcastInDim S16x2048x8x32 ![0, 1, 2, 3] bcast_S1x2048x1x32_S16x2048x8x32_0_1_2_3 (broadcastInDim S1x2048x1x32 ![1, 2, 3] bcast_S2048x1x32_S1x2048x1x32_1_2_3 cosT))) (mulf (extractStridedSlice S16x2048x8x32 ![0, 0, 0, 32] f slices_S16x2048x8x64_S16x2048x8x32_0_0_0_32) (broadcastInDim S16x2048x8x32 ![0, 1, 2, 3] bcast_S1x2048x1x32_S16x2048x8x32_0_1_2_3 (broadcastInDim S1x2048x1x32 ![1, 2, 3] bcast_S2048x1x32_S1x2048x1x32_1_2_3 sinT))))⟩, ⟨S16x2048x8x32, (addf (mulf (extractStridedSlice S16x2048x8x32 ![0, 0, 0, 32] f slices_S16x2048x8x64_S16x2048x8x32_0_0_0_32) (broadcastInDim S16x2048x8x32 ![0, 1, 2, 3] bcast_S1x2048x1x32_S16x2048x8x32_0_1_2_3 (broadcastInDim S1x2048x1x32 ![1, 2, 3] bcast_S2048x1x32_S1x2048x1x32_1_2_3 cosT))) (mulf (extractStridedSlice S16x2048x8x32 ![0, 0, 0, 0] f slices_S16x2048x8x64_S16x2048x8x32_0_0_0_0) (broadcastInDim S16x2048x8x32 ![0, 1, 2, 3] bcast_S1x2048x1x32_S16x2048x8x32_0_1_2_3 (broadcastInDim S1x2048x1x32 ![1, 2, 3] bcast_S2048x1x32_S1x2048x1x32_1_2_3 sinT))))⟩] concatenates_S16x2048x8x32_S16x2048x8x32_S16x2048x8x64_d3

/-- The rotation of the keys' heads by their positions. -/
def rotk (f : FVec Ideal S16x2048x2x64 .f32) : FVec Ideal S16x2048x2x64 .f32 :=
  concatenate S16x2048x2x64 3 [⟨S16x2048x2x32, (subf (mulf (extractStridedSlice S16x2048x2x32 ![0, 0, 0, 0] f slices_S16x2048x2x64_S16x2048x2x32_0_0_0_0) (broadcastInDim S16x2048x2x32 ![0, 1, 2, 3] bcast_S1x2048x1x32_S16x2048x2x32_0_1_2_3 (broadcastInDim S1x2048x1x32 ![1, 2, 3] bcast_S2048x1x32_S1x2048x1x32_1_2_3 cosT))) (mulf (extractStridedSlice S16x2048x2x32 ![0, 0, 0, 32] f slices_S16x2048x2x64_S16x2048x2x32_0_0_0_32) (broadcastInDim S16x2048x2x32 ![0, 1, 2, 3] bcast_S1x2048x1x32_S16x2048x2x32_0_1_2_3 (broadcastInDim S1x2048x1x32 ![1, 2, 3] bcast_S2048x1x32_S1x2048x1x32_1_2_3 sinT))))⟩, ⟨S16x2048x2x32, (addf (mulf (extractStridedSlice S16x2048x2x32 ![0, 0, 0, 32] f slices_S16x2048x2x64_S16x2048x2x32_0_0_0_32) (broadcastInDim S16x2048x2x32 ![0, 1, 2, 3] bcast_S1x2048x1x32_S16x2048x2x32_0_1_2_3 (broadcastInDim S1x2048x1x32 ![1, 2, 3] bcast_S2048x1x32_S1x2048x1x32_1_2_3 cosT))) (mulf (extractStridedSlice S16x2048x2x32 ![0, 0, 0, 0] f slices_S16x2048x2x64_S16x2048x2x32_0_0_0_0) (broadcastInDim S16x2048x2x32 ![0, 1, 2, 3] bcast_S1x2048x1x32_S16x2048x2x32_0_1_2_3 (broadcastInDim S1x2048x1x32 ![1, 2, 3] bcast_S2048x1x32_S1x2048x1x32_1_2_3 sinT))))⟩] concatenates_S16x2048x2x32_S16x2048x2x32_S16x2048x2x64_d3

/-- A gain of the keys. -/
def gk1 (a2 : FVec Ideal S3x64 .f32) : FVec Ideal S64 .f32 := shapeCast _ (extractStridedSlice S1x64 ![1, 0] a2 slices_S3x64_S1x64_1_0) shapeCasts_S1x64_S64
/-- Another gain of the keys. -/
def gk2 (a2 : FVec Ideal S3x64 .f32) : FVec Ideal S64 .f32 := shapeCast _ (extractStridedSlice S1x64 ![2, 0] a2 slices_S3x64_S1x64_2_0) shapeCasts_S1x64_S64

/-- Heads brought to the front, each row twice side by side. -/
def byHead (t : FVec Ideal S16x2048x2x64 .f32) : FVec Ideal S16x2x2048x128 .bf16 :=
  truncf .bf16 (concatenate S16x2x2048x128 3 [⟨S16x2x2048x64, (transpose S16x2x2048x64 [0, 2, 1, 3] t transposes_S16x2048x2x64_S16x2x2048x64_0_2_1_3)⟩, ⟨S16x2x2048x64, (transpose S16x2x2048x64 [0, 2, 1, 3] t transposes_S16x2048x2x64_S16x2x2048x64_0_2_1_3)⟩] concatenates_S16x2x2048x64_S16x2x2048x64_S16x2x2048x128_d3) bitsLt_bf16_f32

/-- The queries. -/
def qs (a0 : FVec Ideal S16x2048x1408 .f32) (a1 : FVec Ideal S64 .f32) : FVec Ideal S16x2048x512 .bf16 :=
  truncf .bf16 (shapeCast _ (mulf (rotq (nrmq (shapeCast _ (extractStridedSlice S16x2048x512 ![0, 0, 0] a0 slices_S16x2048x1408_S16x2048x512_0_0_0) shapeCasts_S16x2048x512_S16x2048x8x64) a1)) (broadcastInDim S16x2048x8x64 ![] bcast_S_S16x2048x8x64 (constant S_ .f32 0x3E000000#32))) shapeCasts_S16x2048x8x64_S16x2048x512) bitsLt_bf16_f32

/-- The keys of the selected blocks. -/
def ks (a0 : FVec Ideal S16x2048x1408 .f32) (a2 : FVec Ideal S3x64 .f32) : FVec Ideal S16x2x2048x128 .bf16 :=
  byHead (rotk (nrmk (shapeCast _ (extractStridedSlice S16x2048x128 ![0, 0, 768] a0 slices_S16x2048x1408_S16x2048x128_0_0_768) shapeCasts_S16x2048x128_S16x2048x2x64) (gk1 a2)))
/-- The values of the selected blocks. -/
def vs (a0 : FVec Ideal S16x2048x1408 .f32) : FVec Ideal S16x2x2048x128 .bf16 :=
  byHead (shapeCast _ (extractStridedSlice S16x2048x128 ![0, 0, 896] a0 slices_S16x2048x1408_S16x2048x128_0_0_896) shapeCasts_S16x2048x128_S16x2048x2x64)
/-- The keys of the window. -/
def kw (a0 : FVec Ideal S16x2048x1408 .f32) (a2 : FVec Ideal S3x64 .f32) : FVec Ideal S16x2x2048x128 .bf16 :=
  byHead (rotk (nrmk (shapeCast _ (extractStridedSlice S16x2048x128 ![0, 0, 1024] a0 slices_S16x2048x1408_S16x2048x128_0_0_1024) shapeCasts_S16x2048x128_S16x2048x2x64) (gk2 a2)))
/-- The values of the window. -/
def vw (a0 : FVec Ideal S16x2048x1408 .f32) : FVec Ideal S16x2x2048x128 .bf16 :=
  byHead (shapeCast _ (extractStridedSlice S16x2048x128 ![0, 0, 1152] a0 slices_S16x2048x1408_S16x2048x128_0_0_1152) shapeCasts_S16x2048x128_S16x2048x2x64)
/-- The rows that are compressed to keys. -/
def kc (a0 : FVec Ideal S16x2048x1408 .f32) : FVec Ideal S16x2048x128 .f32 := extractStridedSlice S16x2048x128 ![0, 0, 512] a0 slices_S16x2048x1408_S16x2048x128_0_0_512
/-- The rows that are compressed to values. -/
def vc (a0 : FVec Ideal S16x2048x1408 .f32) : FVec Ideal S16x2048x128 .f32 := extractStridedSlice S16x2048x128 ![0, 0, 640] a0 slices_S16x2048x1408_S16x2048x128_0_0_640

/-- One head's row divided by its root mean square, times the gain. -/
def nrm (u g : Fin 64 → EReal) (d : Fin 64) : EReal :=
  u d * Ideal.rsqrt (Ideal.div (∑ k, u k * u k) (Ideal.ofBits .f32 0x42800000#32) + Ideal.ofBits .f32 0x358637BD#32) * g d

/-- One head's row rotated by the angles of position `s`. -/
def rot (f : Fin 64 → EReal) (s : Fin 2048) (d : Fin 64) : EReal :=
  if h : (d : ℕ) < 32 then f d * Ideal.cos (ang (ix2 s ⟨d, h⟩)) - f ⟨d + 32, by omega⟩ * Ideal.sin (ang (ix2 s ⟨d, h⟩))
  else f d * Ideal.cos (ang (ix2 s ⟨d - 32, by omega⟩)) + f ⟨d - 32, by omega⟩ * Ideal.sin (ang (ix2 s ⟨d - 32, by omega⟩))

/-- The normalised queries' heads at an index. -/
theorem nrmq_at (u : FVec Ideal S16x2048x8x64 .f32) (g : FVec Ideal S64 .f32) (b : Fin 16) (s : Fin 2048) (h : Fin 8) (d : Fin 64) :
    nrmq u g (ix4 b s h d) = nrm (fun k => u (ix4 b s h k)) (fun k => g (ix1 k)) d := by
  unfold nrmq nrm
  pointwise

/-- The rotated queries' heads at an index. -/
theorem rotq_at (f : FVec Ideal S16x2048x8x64 .f32) (b : Fin 16) (s : Fin 2048) (h : Fin 8) (d : Fin 64) :
    rotq f (ix4 b s h d) = rot (fun k => f (ix4 b s h k)) s d := by
  unfold rotq rot cosT sinT
  generalize ang = A
  pointwise
  by_cases hd : (d : ℕ) < 32
  · simp only [dif_pos hd, Nat.add_comm 32 (d : ℕ)]
  · have e : f (ix4 b s h ⟨32 + ((d : ℕ) - 32), by omega⟩) = f (ix4 b s h d) :=
      congrArg (fun z => f (ix4 b s h z)) (Fin.ext (by show 32 + ((d : ℕ) - 32) = d; omega))
    simp only [dif_neg hd]
    rw [e]

/-- The normalised keys' heads at an index. -/
theorem nrmk_at (u : FVec Ideal S16x2048x2x64 .f32) (g : FVec Ideal S64 .f32) (b : Fin 16) (s : Fin 2048) (h : Fin 2) (d : Fin 64) :
    nrmk u g (ix4 b s h d) = nrm (fun k => u (ix4 b s h k)) (fun k => g (ix1 k)) d := by
  unfold nrmk nrm
  pointwise

/-- The rotated keys' heads at an index. -/
theorem rotk_at (f : FVec Ideal S16x2048x2x64 .f32) (b : Fin 16) (s : Fin 2048) (h : Fin 2) (d : Fin 64) :
    rotk f (ix4 b s h d) = rot (fun k => f (ix4 b s h k)) s d := by
  unfold rotk rot cosT sinT
  generalize ang = A
  pointwise
  by_cases hd : (d : ℕ) < 32
  · simp only [dif_pos hd, Nat.add_comm 32 (d : ℕ)]
  · have e : f (ix4 b s h ⟨32 + ((d : ℕ) - 32), by omega⟩) = f (ix4 b s h d) :=
      congrArg (fun z => f (ix4 b s h z)) (Fin.ext (by show 32 + ((d : ℕ) - 32) = d; omega))
    simp only [dif_neg hd]
    rw [e]

/-- What `byHead` holds at an index. -/
theorem byHead_at (t : FVec Ideal S16x2048x2x64 .f32) (b : Fin 16) (s : Fin 2048) (h : Fin 2) (j : Fin 128) :
    (byHead t : S16x2x2048x128.Idx → EReal) (ix4 b h s j) = t (ix4 b s h ⟨(j : ℕ) % 64, by omega⟩) := by
  unfold byHead
  pointwise
  by_cases hj : (j : ℕ) < 64
  · simp only [dif_pos hj]
    exact congrArg (fun z => t (ix4 b s h z)) (Fin.ext (by show (j : ℕ) = j % 64; omega))
  · simp only [dif_neg hj]
    exact congrArg (fun z => t (ix4 b s h z)) (Fin.ext (by show (j : ℕ) - 64 = j % 64; omega))

/-- The queries at an index. -/
theorem qs_at (a0 : FVec Ideal S16x2048x1408 .f32) (a1 : FVec Ideal S64 .f32) (b : Fin 16) (s : Fin 2048) (j : Fin 512) :
    (qs a0 a1 : S16x2048x512.Idx → EReal) (ix3 b s j) = rot (nrm (fun k => a0 (ix3 b s ⟨(j : ℕ) / 64 * 64 + k, by omega⟩)) (fun k => a1 (ix1 k))) s ⟨(j : ℕ) % 64, by omega⟩ * Ideal.ofBits .f32 0x3E000000#32 := by
  unfold qs
  pointwise
  rw [rotq_at]
  simp only [nrmq_at]
  pointwise

/-- The keys of the selected blocks at an index. -/
theorem ks_at (a0 : FVec Ideal S16x2048x1408 .f32) (a2 : FVec Ideal S3x64 .f32) (b : Fin 16) (s : Fin 2048) (h : Fin 2) (j : Fin 128) :
    (ks a0 a2 : S16x2x2048x128.Idx → EReal) (ix4 b h s j) = rot (nrm (fun k => a0 (ix3 b s ⟨768 + ((h : ℕ) * 64 + k), by omega⟩)) (fun k => a2 (ix2 1 k))) s ⟨(j : ℕ) % 64, by omega⟩ := by
  unfold ks
  rw [byHead_at, rotk_at]
  simp only [nrmk_at]
  unfold gk1
  pointwise

/-- The keys of the window at an index. -/
theorem kw_at (a0 : FVec Ideal S16x2048x1408 .f32) (a2 : FVec Ideal S3x64 .f32) (b : Fin 16) (s : Fin 2048) (h : Fin 2) (j : Fin 128) :
    (kw a0 a2 : S16x2x2048x128.Idx → EReal) (ix4 b h s j) = rot (nrm (fun k => a0 (ix3 b s ⟨1024 + ((h : ℕ) * 64 + k), by omega⟩)) (fun k => a2 (ix2 2 k))) s ⟨(j : ℕ) % 64, by omega⟩ := by
  unfold kw
  rw [byHead_at, rotk_at]
  simp only [nrmk_at]
  unfold gk2
  pointwise

/-- The values of the selected blocks at an index. -/
theorem vs_at (a0 : FVec Ideal S16x2048x1408 .f32) (b : Fin 16) (s : Fin 2048) (h : Fin 2) (j : Fin 128) :
    (vs a0 : S16x2x2048x128.Idx → EReal) (ix4 b h s j) = a0 (ix3 b s ⟨896 + ((h : ℕ) * 64 + (j : ℕ) % 64), by omega⟩) := by
  unfold vs
  rw [byHead_at]
  pointwise

/-- The values of the window at an index. -/
theorem vw_at (a0 : FVec Ideal S16x2048x1408 .f32) (b : Fin 16) (s : Fin 2048) (h : Fin 2) (j : Fin 128) :
    (vw a0 : S16x2x2048x128.Idx → EReal) (ix4 b h s j) = a0 (ix3 b s ⟨1152 + ((h : ℕ) * 64 + (j : ℕ) % 64), by omega⟩) := by
  unfold vw
  rw [byHead_at]
  pointwise

/-- The rows to be compressed to keys at an index. -/
theorem kc_at (a0 : FVec Ideal S16x2048x1408 .f32) (b : Fin 16) (s : Fin 2048) (j : Fin 128) :
    kc a0 (ix3 b s j) = a0 (ix3 b s ⟨512 + j, by omega⟩) := by
  unfold kc
  pointwise

/-- The rows to be compressed to values at an index. -/
theorem vc_at (a0 : FVec Ideal S16x2048x1408 .f32) (b : Fin 16) (s : Fin 2048) (j : Fin 128) :
    vc a0 (ix3 b s j) = a0 (ix3 b s ⟨640 + j, by omega⟩) := by
  unfold vc
  pointwise

end Cert.NsaPrepRefIdeal.Spec

end
-- ==== Proof.NsaPrepCore.lean ====
module

public import proofs.«01_k».proof.Proof.Gen.NsaPrepIdeal.Value
public import proofs.«01_k».proof.Proof.NsaPrepRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NsaPrepIdeal.Value

open Cert.NsaPrepIdeal Cert.NsaPrepIdeal.Gen Cert.NsaPrepRefIdeal.Spec

/-- One group of two heads, normalised and rotated, as the call computes it. -/
def core (v1 v3 : FVec Ideal S256x128 .f32) (x4 : FVec Ideal S128x128 .bf16) (xs : FVec Ideal S1x256x128 .f32) (g : FVec Ideal S1x128 .f32) : FVec Ideal S256x128 .f32 :=
  k0_pay26 v1 v3 (k0_pay22 xs) (k0_pay23 g) (k0_pay24 x4 xs) k0_pay25

/-- A row of two heads normalised through the table of ones, as the call computes it: the squares are summed in three parts. -/
def hn (v : Fin 128 → EReal) (G : Fin 128 → Fin 128 → EReal) (g : Fin 128 → EReal) (j : Fin 128) : EReal :=
  v j * Ideal.rsqrt ((∑ x, v x * v x * G x j + ∑ x, (v x * v x - v x * v x) * G x j + ∑ x, (v x * v x - v x * v x - (v x * v x - v x * v x)) * G x j) * Ideal.ofBits .f32 0x3C800000#32 + Ideal.ofBits .f32 0x358637BD#32) * g j

/-- The lanes of the first half of each head. -/
theorem mask_at : ∀ j : Fin 128,
    IntOp.cmpi CmpIPredicate.slt
            (Scalar.select
              (IntOp.andi
                (IntOp.xori
                  (IntOp.cmpi CmpIPredicate.slt
                    (IntOp.remsi ArithUnit.vector (BitVec.ofNat 32 (j : ℕ))
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 (j : ℕ))
                    (Scalar.select (Scalar.cmpi CmpIPredicate.eq 64#32 0#32) 1#32 64#32))
                  0#32))
              (IntOp.addi
                (IntOp.remsi ArithUnit.vector (BitVec.ofNat 32 (j : ℕ))
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 (j : ℕ))
                (Scalar.select (Scalar.cmpi CmpIPredicate.eq 64#32 0#32) 1#32 64#32)))
            32#32 = if (j : ℕ) % 64 < 32 then 1#1 else 0#1 := by decide +kernel

/-- The group at an index, in terms of the normalised row. -/
theorem core_at (v1 v3 : FVec Ideal S256x128 .f32) (x4 : FVec Ideal S128x128 .bf16) (xs : FVec Ideal S1x256x128 .f32) (g : FVec Ideal S1x128 .f32) (r : Fin 256) (j : Fin 128) :
    core v1 v3 x4 xs g (ix2 r j) = hn (fun k => xs (ix3 0 r k)) (fun x y => (x4 : S128x128.Idx → EReal) (ix2 x y)) (fun k => g (ix2 0 k)) j * v1 (ix2 r j)
      + (if (j : ℕ) % 64 < 32 then hn (fun k => xs (ix3 0 r k)) (fun x y => (x4 : S128x128.Idx → EReal) (ix2 x y)) (fun k => g (ix2 0 k)) ⟨((j : ℕ) + 128 - 96) % 128, by omega⟩
        else hn (fun k => xs (ix3 0 r k)) (fun x y => (x4 : S128x128.Idx → EReal) (ix2 x y)) (fun k => g (ix2 0 k)) ⟨((j : ℕ) + 128 - 32) % 128, by omega⟩) * v3 (ix2 r j) := by
  unfold core hn
  pointwise [k0_pay26, k0_pay22, k0_pay23, k0_pay24, k0_pay25]
  rw [mask_at]
  by_cases h : (j : ℕ) % 64 < 32
  · rw [if_pos h, if_pos h]
    rfl
  · rw [if_neg h, if_neg h]
    rfl

/-- A sum over two heads against the table of ones is the sum over the own head. -/
theorem sum_half (w : Fin 128 → EReal) (j : Fin 128) :
    ∑ x : Fin 128, w x * (if (x : ℕ) / 64 = (j : ℕ) / 64 then (1 : EReal) else 0) = ∑ k : Fin 64, w ⟨(j : ℕ) / 64 * 64 + k, by omega⟩ := by
  rw [Fin.sum_univ_add (a := 64) (b := 64) (f := fun x : Fin 128 => w x * (if (x : ℕ) / 64 = (j : ℕ) / 64 then (1 : EReal) else 0))]
  by_cases h : (j : ℕ) < 64
  · have e : (j : ℕ) / 64 = 0 := by omega
    have h1 : ∀ x : Fin 64, w (Fin.castAdd 64 x) * (if ((Fin.castAdd 64 x : Fin 128) : ℕ) / 64 = (j : ℕ) / 64 then (1 : EReal) else 0) = w ⟨(j : ℕ) / 64 * 64 + x, by omega⟩ := fun x => by
      rw [if_pos (by show (x : ℕ) / 64 = _; omega), mul_one]
      exact congrArg w (Fin.ext (show (x : ℕ) = (j : ℕ) / 64 * 64 + x by omega))
    have h2 : ∀ x : Fin 64, w (Fin.natAdd 64 x) * (if ((Fin.natAdd 64 x : Fin 128) : ℕ) / 64 = (j : ℕ) / 64 then (1 : EReal) else 0) = 0 := fun x => by
      rw [if_neg (by show ¬ (64 + (x : ℕ)) / 64 = _; omega), mul_zero]
    rw [Finset.sum_congr rfl fun x _ => h1 x, Finset.sum_congr rfl fun x _ => h2 x, Finset.sum_const_zero, add_zero]
  · have e : (j : ℕ) / 64 = 1 := by omega
    have h1 : ∀ x : Fin 64, w (Fin.castAdd 64 x) * (if ((Fin.castAdd 64 x : Fin 128) : ℕ) / 64 = (j : ℕ) / 64 then (1 : EReal) else 0) = 0 := fun x => by
      rw [if_neg (by show ¬ (x : ℕ) / 64 = _; omega), mul_zero]
    have h2 : ∀ x : Fin 64, w (Fin.natAdd 64 x) * (if ((Fin.natAdd 64 x : Fin 128) : ℕ) / 64 = (j : ℕ) / 64 then (1 : EReal) else 0) = w ⟨(j : ℕ) / 64 * 64 + x, by omega⟩ := fun x => by
      rw [if_pos (by show (64 + (x : ℕ)) / 64 = _; omega), mul_one]
      exact congrArg w (Fin.ext (show 64 + (x : ℕ) = (j : ℕ) / 64 * 64 + x by omega))
    rw [Finset.sum_congr rfl fun x _ => h1 x, Finset.sum_congr rfl fun x _ => h2 x, Finset.sum_const_zero, zero_add]

/-- Division by sixty-four is the product with its inverse. -/
theorem div64 (x : EReal) : Ideal.div x (Ideal.ofBits .f32 0x42800000#32) = x * Ideal.ofBits .f32 0x3C800000#32 := by
  have e1 : Ideal.ofBits .f32 0x42800000#32 = ((64 : ℝ) : EReal) := by
    simp [Ideal.ofBits, Ideal.ieee, -EReal.coe_mul]; norm_num
  have e2 : Ideal.ofBits .f32 0x3C800000#32 = ((1 / 64 : ℝ) : EReal) := by
    simp [Ideal.ofBits, Ideal.ieee, -EReal.coe_mul]; norm_num
  rw [e1, e2, Ideal.div_coe (by norm_num)]

/-- For finite entries the call's normalised row is the own head's normalised row. -/
theorem hn_eq (v : Fin 128 → EReal) (hv : ∀ k, v k ≠ ⊤ ∧ v k ≠ ⊥) (G : Fin 128 → Fin 128 → EReal) (hG : ∀ x y : Fin 128, G x y = if (x : ℕ) / 64 = (y : ℕ) / 64 then 1 else 0)
    (g : Fin 128 → EReal) (γ : Fin 64 → EReal) (hg : ∀ j : Fin 128, g j = γ ⟨(j : ℕ) % 64, by omega⟩) (j : Fin 128) :
    hn v G g j = nrm (fun k => v ⟨(j : ℕ) / 64 * 64 + k, by omega⟩) γ ⟨(j : ℕ) % 64, by omega⟩ := by
  have z : ∀ k, v k * v k - v k * v k = 0 := fun k => by
    obtain ⟨a, ha⟩ : ∃ a : ℝ, (a : EReal) = v k := ⟨(v k).toReal, EReal.coe_toReal (hv k).1 (hv k).2⟩
    rw [← ha, ← EReal.coe_mul, ← EReal.coe_sub, sub_self, EReal.coe_zero]
  unfold hn nrm
  simp only [z, sub_zero, zero_mul, Finset.sum_const_zero, add_zero, hG, hg, div64]
  rw [sum_half (fun x => v x * v x) j]
  have e : v j = v ⟨(j : ℕ) / 64 * 64 + (j : ℕ) % 64, by omega⟩ := congrArg v (Fin.ext (Nat.div_add_mod' _ _).symm)
  rw [← e]

/-- A group of two heads at an index, against the reference's rotation of the normalised head. -/
theorem core_rot (v1 v3 : FVec Ideal S256x128 .f32) (x4 : FVec Ideal S128x128 .bf16) (xs : FVec Ideal S1x256x128 .f32) (g : FVec Ideal S1x128 .f32) (r : Fin 256) (s : Fin 2048)
    (h1 : ∀ j : Fin 128, v1 (ix2 r j) = Ideal.cos (ang (ix2 s ⟨(j : ℕ) % 32, by omega⟩)))
    (h3 : ∀ j : Fin 128, v3 (ix2 r j) = if (j : ℕ) % 64 < 32 then -Ideal.sin (ang (ix2 s ⟨(j : ℕ) % 32, by omega⟩)) else Ideal.sin (ang (ix2 s ⟨(j : ℕ) % 32, by omega⟩)))
    (h4 : ∀ x y : Fin 128, (x4 : S128x128.Idx → EReal) (ix2 x y) = if (x : ℕ) / 64 = (y : ℕ) / 64 then 1 else 0)
    (u : Fin 128 → EReal) (hu : ∀ k, xs (ix3 0 r k) = u k) (hf : ∀ k, u k ≠ ⊤ ∧ u k ≠ ⊥)
    (γ : Fin 64 → EReal) (hg : ∀ j : Fin 128, g (ix2 0 j) = γ ⟨(j : ℕ) % 64, by omega⟩) (j : Fin 128) :
    core v1 v3 x4 xs g (ix2 r j) = rot (nrm (fun k => u ⟨(j : ℕ) / 64 * 64 + k, by omega⟩) γ) s ⟨(j : ℕ) % 64, by omega⟩ := by
  have eu : (fun k => xs (ix3 0 r k)) = u := funext hu
  rw [core_at, eu]
  have hn' := hn_eq u hf (fun x y => (x4 : S128x128.Idx → EReal) (ix2 x y)) h4 (fun k => g (ix2 0 k)) γ hg
  simp only [hn', h1, h3]
  unfold rot
  by_cases h : (j : ℕ) % 64 < 32
  · have a1 : (((j : ℕ) + 128 - 96) % 128) / 64 = (j : ℕ) / 64 := by omega
    have a2 : (((j : ℕ) + 128 - 96) % 128) % 64 = (j : ℕ) % 64 + 32 := by omega
    have a3 : (j : ℕ) % 32 = (j : ℕ) % 64 := by omega
    simp only [if_pos h, dif_pos h, a1, a2, a3]
    rw [mul_neg, ← sub_eq_add_neg]
  · have a1 : (((j : ℕ) + 128 - 32) % 128) / 64 = (j : ℕ) / 64 := by omega
    have a2 : (((j : ℕ) + 128 - 32) % 128) % 64 = (j : ℕ) % 64 - 32 := by omega
    have a3 : (j : ℕ) % 32 = (j : ℕ) % 64 - 32 := by omega
    simp only [if_neg h, dif_neg h, a1, a2, a3]

end Cert.NsaPrepIdeal.Value

end
-- ==== Proof.NsaPrepTable.lean ====
module

public import proofs.«01_k».proof.Proof.Gen.NsaPrepIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NsaPrepIdeal.Value

open Cert.NsaPrepIdeal

/-- The constant table: one where row and column lie in the same half, zero elsewhere. -/
theorem lit0_eq : ∀ i : Fin 16384, lit0 i = if (i : ℕ) / 128 / 64 = (i : ℕ) % 128 / 64 then 0x3F80#16 else 0#16 := by decide +kernel

end Cert.NsaPrepIdeal.Value

end
-- ==== Proof.NsaPrepValue.lean ====
module

public import proofs.«01_k».proof.Proof.Gen.NsaPrepIdeal.Value
public import proofs.«01_k».proof.Proof.NsaPrepCore
public import proofs.«01_k».proof.Proof.NsaPrepTable
public import proofs.«01_k».proof.Pre_rows_finite
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NsaPrepIdeal.Value

open Cert.NsaPrepIdeal Cert.NsaPrepIdeal.Gen Cert.NsaPrepRefIdeal.Spec

/-- The lanes of the first head. -/
theorem half_at : ∀ j : Fin 128, IntOp.cmpi CmpIPredicate.slt (BitVec.ofNat 32 (j : ℕ)) 64#32 = if (j : ℕ) < 64 then 1#1 else 0#1 := by decide +kernel

/-- Head 0 twice over side by side, at an index of its piece. -/
theorem twice39 (v : FVec Ideal S256x128 .f32) (r : Fin 256) (d : Fin 128) :
    (k0_pay39 (F := Ideal) v : S1x1x256x128.Idx → EReal) (ix4 0 0 r d) = v (ix2 r ⟨(d : ℕ) % 64, by omega⟩) := by
  pointwise [k0_pay39, k0_pay37, k0_pay38]
  rw [half_at]
  by_cases h : (d : ℕ) < 64
  · rw [if_pos h]
    exact congrArg (fun z => v (ix2 r z)) (Fin.ext (show (d : ℕ) = (d : ℕ) % 64 by omega))
  · rw [if_neg h]
    exact congrArg (fun z => v (ix2 r z)) (Fin.ext (show (((d : ℕ) + 128 - 64) % 128 : ℕ) = (d : ℕ) % 64 by omega))

/-- Head 1 twice over side by side, at an index of its piece. -/
theorem twice40 (v : FVec Ideal S256x128 .f32) (r : Fin 256) (d : Fin 128) :
    (k0_pay40 (F := Ideal) v : S1x1x256x128.Idx → EReal) (ix4 0 0 r d) = v (ix2 r ⟨64 + (d : ℕ) % 64, by omega⟩) := by
  pointwise [k0_pay40, k0_pay37, k0_pay38]
  rw [half_at]
  by_cases h : (d : ℕ) < 64
  · rw [if_pos h]
    exact congrArg (fun z => v (ix2 r z)) (Fin.ext (show (((d : ℕ) + 128 - 64) % 128 : ℕ) = 64 + (d : ℕ) % 64 by omega))
  · rw [if_neg h]
    exact congrArg (fun z => v (ix2 r z)) (Fin.ext (show (d : ℕ) = 64 + (d : ℕ) % 64 by omega))

/-- Head 0 twice over side by side, at an index of its piece. -/
theorem twice43 (v : FVec Ideal S256x128 .f32) (r : Fin 256) (d : Fin 128) :
    (k0_pay43 (F := Ideal) v : S1x1x256x128.Idx → EReal) (ix4 0 0 r d) = v (ix2 r ⟨(d : ℕ) % 64, by omega⟩) := by
  pointwise [k0_pay43, k0_pay41, k0_pay42]
  rw [half_at]
  by_cases h : (d : ℕ) < 64
  · rw [if_pos h]
    exact congrArg (fun z => v (ix2 r z)) (Fin.ext (show (d : ℕ) = (d : ℕ) % 64 by omega))
  · rw [if_neg h]
    exact congrArg (fun z => v (ix2 r z)) (Fin.ext (show (((d : ℕ) + 128 - 64) % 128 : ℕ) = (d : ℕ) % 64 by omega))

/-- Head 1 twice over side by side, at an index of its piece. -/
theorem twice44 (v : FVec Ideal S256x128 .f32) (r : Fin 256) (d : Fin 128) :
    (k0_pay44 (F := Ideal) v : S1x1x256x128.Idx → EReal) (ix4 0 0 r d) = v (ix2 r ⟨64 + (d : ℕ) % 64, by omega⟩) := by
  pointwise [k0_pay44, k0_pay41, k0_pay42]
  rw [half_at]
  by_cases h : (d : ℕ) < 64
  · rw [if_pos h]
    exact congrArg (fun z => v (ix2 r z)) (Fin.ext (show (((d : ℕ) + 128 - 64) % 128 : ℕ) = 64 + (d : ℕ) % 64 by omega))
  · rw [if_neg h]
    exact congrArg (fun z => v (ix2 r z)) (Fin.ext (show (d : ℕ) = 64 + (d : ℕ) % 64 by omega))

/-- Head 0 twice over side by side, at an index of its piece. -/
theorem twice48 (v : FVec Ideal S256x128 .f32) (r : Fin 256) (d : Fin 128) :
    (k0_pay48 (F := Ideal) (k0_pay47 v) : S1x1x256x128.Idx → EReal) (ix4 0 0 r d) = v (ix2 r ⟨(d : ℕ) % 64, by omega⟩) := by
  pointwise [k0_pay48, k0_pay47, k0_pay45, k0_pay46]
  rw [half_at]
  by_cases h : (d : ℕ) < 64
  · rw [if_pos h]
    exact congrArg (fun z => v (ix2 r z)) (Fin.ext (show (d : ℕ) = (d : ℕ) % 64 by omega))
  · rw [if_neg h]
    exact congrArg (fun z => v (ix2 r z)) (Fin.ext (show (((d : ℕ) + 128 - 64) % 128 : ℕ) = (d : ℕ) % 64 by omega))

/-- Head 1 twice over side by side, at an index of its piece. -/
theorem twice49 (v : FVec Ideal S256x128 .f32) (r : Fin 256) (d : Fin 128) :
    (k0_pay49 (F := Ideal) v k0_pay45 (k0_pay46 v) : S1x1x256x128.Idx → EReal) (ix4 0 0 r d) = v (ix2 r ⟨64 + (d : ℕ) % 64, by omega⟩) := by
  pointwise [k0_pay49, k0_pay45, k0_pay46]
  rw [half_at]
  by_cases h : (d : ℕ) < 64
  · rw [if_pos h]
    exact congrArg (fun z => v (ix2 r z)) (Fin.ext (show (((d : ℕ) + 128 - 64) % 128 : ℕ) = 64 + (d : ℕ) % 64 by omega))
  · rw [if_neg h]
    exact congrArg (fun z => v (ix2 r z)) (Fin.ext (show (d : ℕ) = 64 + (d : ℕ) % 64 by omega))

/-- Head 0 twice over side by side, at an index of its piece. -/
theorem twice52 (v : FVec Ideal S256x128 .f32) (r : Fin 256) (d : Fin 128) :
    (k0_pay52 (F := Ideal) v : S1x1x256x128.Idx → EReal) (ix4 0 0 r d) = v (ix2 r ⟨(d : ℕ) % 64, by omega⟩) := by
  pointwise [k0_pay52, k0_pay50, k0_pay51]
  rw [half_at]
  by_cases h : (d : ℕ) < 64
  · rw [if_pos h]
    exact congrArg (fun z => v (ix2 r z)) (Fin.ext (show (d : ℕ) = (d : ℕ) % 64 by omega))
  · rw [if_neg h]
    exact congrArg (fun z => v (ix2 r z)) (Fin.ext (show (((d : ℕ) + 128 - 64) % 128 : ℕ) = (d : ℕ) % 64 by omega))

/-- Head 1 twice over side by side, at an index of its piece. -/
theorem twice53 (v : FVec Ideal S256x128 .f32) (r : Fin 256) (d : Fin 128) :
    (k0_pay53 (F := Ideal) v : S1x1x256x128.Idx → EReal) (ix4 0 0 r d) = v (ix2 r ⟨64 + (d : ℕ) % 64, by omega⟩) := by
  pointwise [k0_pay53, k0_pay50, k0_pay51]
  rw [half_at]
  by_cases h : (d : ℕ) < 64
  · rw [if_pos h]
    exact congrArg (fun z => v (ix2 r z)) (Fin.ext (show (((d : ℕ) + 128 - 64) % 128 : ℕ) = 64 + (d : ℕ) % 64 by omega))
  · rw [if_neg h]
    exact congrArg (fun z => v (ix2 r z)) (Fin.ext (show (d : ℕ) = 64 + (d : ℕ) % 64 by omega))

/-- A group of queries scaled and laid out as the call stores it. -/
def qpay (v : FVec Ideal S256x128 .f32) : FVec Ideal S1x256x128 .bf16 :=
  shapeCast S1x256x128 (truncf .bf16 (mulf v (broadcast S256x128 (FloatOps.ofBits (F := Ideal) .f32 0x3E000000#32))) bitsLt_bf16_f32) shapeCasts_S256x128_S1x256x128

/-- The scaled group at an index. -/
theorem qpay_at (v : FVec Ideal S256x128 .f32) (r : Fin 256) (d : Fin 128) : (qpay v : S1x256x128.Idx → EReal) (ix3 0 r d) = v (ix2 r d) * Ideal.ofBits .f32 0x3E000000#32 := by
  unfold qpay
  pointwise

/-- The first group of queries. -/
theorem q0_eq (v1 v3 : FVec Ideal S256x128 .f32) (x4 : FVec Ideal S128x128 .bf16) (xs : FVec Ideal S1x256x128 .f32) (g : FVec Ideal S1x128 .f32) :
    k0_pay7 v1 v3 (k0_pay4 x4 xs g) (Scalar.select (Scalar.cmpi .eq 64#32 0#32) 1#32 64#32) k0_pay5 k0_pay6 0#32 = qpay (core v1 v3 x4 xs g) := rfl

/-- The second group of queries. -/
theorem q1_eq (v1 v3 : FVec Ideal S256x128 .f32) (x4 : FVec Ideal S128x128 .bf16) (xs : FVec Ideal S1x256x128 .f32) (g : FVec Ideal S1x128 .f32) :
    k0_pay12 v1 v3 (k0_pay8 xs) (k0_pay9 g) (k0_pay10 x4 xs) k0_pay11 = qpay (core v1 v3 x4 xs g) := rfl

/-- The third group of queries. -/
theorem q2_eq (v1 v3 : FVec Ideal S256x128 .f32) (x4 : FVec Ideal S128x128 .bf16) (xs : FVec Ideal S1x256x128 .f32) (g : FVec Ideal S1x128 .f32) :
    k0_pay17 v3 (k0_pay15 x4 (k0_pay13 xs) g) (k0_pay16 v1 x4 (k0_pay13 xs) g) = qpay (core v1 v3 x4 xs g) := rfl

/-- The fourth group of queries. -/
theorem q3_eq (v1 v3 : FVec Ideal S256x128 .f32) (x4 : FVec Ideal S128x128 .bf16) (xs : FVec Ideal S1x256x128 .f32) (g : FVec Ideal S1x128 .f32) :
    k0_pay21 v1 v3 (k0_pay18 x4 xs g) (Scalar.select (Scalar.cmpi .eq 64#32 0#32) 1#32 64#32) k0_pay19 k0_pay20 0#32 = qpay (core v1 v3 x4 xs g) := rfl

/-- The window's keys. -/
theorem kw_eq (v1 v3 : FVec Ideal S256x128 .f32) (x4 : FVec Ideal S128x128 .bf16) (xs : FVec Ideal S1x256x128 .f32) (g : FVec Ideal S1x128 .f32) :
    k0_pay34 v1 v3 x4 (k0_pay27 xs) (k0_pay28 g) (k0_pay30 xs) (k0_pay32 xs) (k0_pay33 xs) (constant S256x128 .f32 0x00000000#32) = core v1 v3 x4 xs g := rfl

variable (m : (ℓ : Loc nD τ sig) → Buf (Elt Ideal) ℓ)

/-- Which block each window holds at grid point `t`. -/
theorem idx : ∀ t : Fin cfg0.N, win0_0.index t = ![t.val / 8, t.val % 8, 0] ∧ win0_1.index t = ![t.val % 8, 0] ∧ win0_2.index t = ![t.val % 8, 0] ∧ win0_3.index t = ![0, 0] ∧ win0_4.index t = ![0, 0] ∧ win0_5.index t = ![0, 0] ∧ win0_6.index t = ![0, 0]
    ∧ win0_7.index t = ![t.val / 8, t.val % 8, 0] ∧ win0_8.index t = ![t.val / 8, 0, t.val % 8, 0] ∧ win0_9.index t = ![t.val / 8, 0, t.val % 8, 0] ∧ win0_10.index t = ![t.val / 8, 0, t.val % 8, 0] ∧ win0_11.index t = ![t.val / 8, 0, t.val % 8, 0]
    ∧ win0_12.index t = ![t.val / 8, t.val % 8, 0] ∧ win0_13.index t = ![t.val / 8, t.val % 8, 0] :=
  (by decide +kernel : ∀ t : Fin grid0.N, win0_0.index t = ![t.val / 8, t.val % 8, 0] ∧ win0_1.index t = ![t.val % 8, 0] ∧ win0_2.index t = ![t.val % 8, 0] ∧ win0_3.index t = ![0, 0] ∧ win0_4.index t = ![0, 0] ∧ win0_5.index t = ![0, 0] ∧ win0_6.index t = ![0, 0]
    ∧ win0_7.index t = ![t.val / 8, t.val % 8, 0] ∧ win0_8.index t = ![t.val / 8, 0, t.val % 8, 0] ∧ win0_9.index t = ![t.val / 8, 0, t.val % 8, 0] ∧ win0_10.index t = ![t.val / 8, 0, t.val % 8, 0] ∧ win0_11.index t = ![t.val / 8, 0, t.val % 8, 0]
    ∧ win0_12.index t = ![t.val / 8, t.val % 8, 0] ∧ win0_13.index t = ![t.val / 8, t.val % 8, 0])

/-- The batch of point `t`. -/
def bt (t : Fin cfg0.N) : Fin 16 := ⟨t.val / 8, by have h : t.val < 128 := t.isLt; omega⟩

/-- The position of row `r` of point `t`'s blocks. -/
def pos (t : Fin cfg0.N) (r : Fin 256) : Fin 2048 := ⟨t.val % 8 * 256 + r, by omega⟩

/-- Rows of operand 0's block. -/
theorem b0 (c : Dev nD) (t : Fin cfg0.N) (r : Fin 256) (k : Fin 1408) : (iblk m c 0 t : FVec Ideal S1x256x1408 .f32) (ix3 0 r k)
    = (m ((c : Thread nD τ).loc main_arg0) : FVec Ideal S16x2048x1408 .f32) (ix3 (bt t) (pos t r) k) := by
  unfold bt pos
  blk_ext [iblk, V, idx t]

/-- Operand 1's block: the angles' cosines. -/
theorem b1 (c : Dev nD) (t : Fin cfg0.N) (r : Fin 256) (j : Fin 128) : (iblk m c 1 t : S256x128.Idx → EReal) (ix2 r j)
    = Ideal.cos (ang (ix2 (pos t r) ⟨(j : ℕ) % 32, by omega⟩)) := by
  have e : (iblk m c 1 t : FVec Ideal S256x128 .f32) (ix2 r j) = (V m c main_v36 : FVec Ideal S2048x128 .f32) (ix2 (pos t r) j) := by
    unfold pos
    blk_ext [iblk, idx t]
  rw [e]
  entry_read
  unfold ang
  pointwise
  by_cases h : (j : ℕ) % 64 < 32
  · have e1 : (j : ℕ) % 64 = j % 32 := by omega
    rw [dif_pos h, e1]
  · have e1 : (j : ℕ) % 64 - 32 = j % 32 := by omega
    rw [dif_neg h, e1]

/-- Operand 2's block: the angles' sines, negated in the first half of each head. -/
theorem b2 (c : Dev nD) (t : Fin cfg0.N) (r : Fin 256) (j : Fin 128) : (iblk m c 2 t : S256x128.Idx → EReal) (ix2 r j)
    = if (j : ℕ) % 64 < 32 then -Ideal.sin (ang (ix2 (pos t r) ⟨(j : ℕ) % 32, by omega⟩)) else Ideal.sin (ang (ix2 (pos t r) ⟨(j : ℕ) % 32, by omega⟩)) := by
  have e : (iblk m c 2 t : FVec Ideal S256x128 .f32) (ix2 r j) = (V m c main_v39 : FVec Ideal S2048x128 .f32) (ix2 (pos t r) j) := by
    unfold pos
    blk_ext [iblk, idx t]
  rw [e]
  entry_read
  unfold ang
  pointwise
  by_cases h : (j : ℕ) % 64 < 32
  · have e1 : (j : ℕ) % 64 = j % 32 := by omega
    rw [dif_pos h, if_pos h, e1]
  · have e1 : (j : ℕ) % 64 - 32 = j % 32 := by omega
    rw [dif_neg h, if_neg h, e1]

/-- Operand 3's block: the queries' gain, once per head. -/
theorem b3 (c : Dev nD) (t : Fin cfg0.N) (j : Fin 128) : (iblk m c 3 t : S1x128.Idx → EReal) (ix2 0 j)
    = (m ((c : Thread nD τ).loc main_arg1) : FVec Ideal S64 .f32) (ix1 ⟨(j : ℕ) % 64, by omega⟩) := by
  have e : (iblk m c 3 t : FVec Ideal S1x128 .f32) (ix2 0 j) = (V m c main_v3 : FVec Ideal S1x128 .f32) (ix2 0 j) := by
    blk_ext [iblk, idx t]
  rw [e]
  entry_read
  pointwise
  try rfl

/-- Operand 4's block: a gain of the keys, once per head. -/
theorem b4 (c : Dev nD) (t : Fin cfg0.N) (j : Fin 128) : (iblk m c 4 t : S1x128.Idx → EReal) (ix2 0 j)
    = (m ((c : Thread nD τ).loc main_arg2) : FVec Ideal S3x64 .f32) (ix2 1 ⟨(j : ℕ) % 64, by omega⟩) := by
  have e : (iblk m c 4 t : FVec Ideal S1x128 .f32) (ix2 0 j) = (V m c main_v9 : FVec Ideal S1x128 .f32) (ix2 0 j) := by
    blk_ext [iblk, idx t]
  rw [e]
  entry_read
  pointwise
  try rfl

/-- Operand 5's block: a gain of the keys, once per head. -/
theorem b5 (c : Dev nD) (t : Fin cfg0.N) (j : Fin 128) : (iblk m c 5 t : S1x128.Idx → EReal) (ix2 0 j)
    = (m ((c : Thread nD τ).loc main_arg2) : FVec Ideal S3x64 .f32) (ix2 2 ⟨(j : ℕ) % 64, by omega⟩) := by
  have e : (iblk m c 5 t : FVec Ideal S1x128 .f32) (ix2 0 j) = (V m c main_v15 : FVec Ideal S1x128 .f32) (ix2 0 j) := by
    blk_ext [iblk, idx t]
  rw [e]
  entry_read
  pointwise
  try rfl

/-- The table of ones, as extended reals. -/
theorem ones_at (x y : Fin 128) (i : Fin 16384) (hi : (i : ℕ) = x * 128 + y) :
    Ideal.ofBits .bf16 (lit0 i) = if (x : ℕ) / 64 = (y : ℕ) / 64 then (1 : EReal) else 0 := by
  have h1 : ((x : ℕ) * 128 + y) / 128 = x := by omega
  have h2 : ((x : ℕ) * 128 + y) % 128 = y := by omega
  rw [lit0_eq, hi, h1, h2]
  split
  · exact Ideal.ofBits_one_bf16
  · exact Ideal.ofBits_zero_bf16

/-- Operand 6's block: the table of ones. -/
theorem b6 (c : Dev nD) (t : Fin cfg0.N) (x y : Fin 128) : (iblk m c 6 t : S128x128.Idx → EReal) (ix2 x y)
    = (if (x : ℕ) / 64 = (y : ℕ) / 64 then (1 : EReal) else 0) := by
  have e : (iblk m c 6 t : FVec Ideal S128x128 .bf16) (ix2 x y) = (V m c main_cst : FVec Ideal S128x128 .bf16) (ix2 x y) := by
    blk_ext [iblk, idx t]
  rw [e]
  entry_read
  exact ones_at x y (S128x128.rowMajor (ix2 x y)) (rowMajor_val2 _ 128 rfl)

/-- The columns from 0 of a block. -/
theorem ld2 (x : FVec Ideal S1x256x1408 .f32) (r : Fin 256) (k : Fin 128) : (View.ld (Val := Elt Ideal) (e' := .f32) x r0_2 : FVec Ideal S1x256x128 .f32) (ix3 0 r k) = x (ix3 0 r ⟨0 + k, by omega⟩) := by
  refine congrArg x (?_ : (r0_2.idx (ix3 (0 : Fin 1) r k : S1x256x128.Idx) : S1x256x1408.Idx) = _)
  refine funext fun a => Fin.ext ?_
  obtain ⟨a, ha⟩ := a
  have ha : a < 3 := ha
  interval_cases a
  all_goals
    refine (Rect.idx_unit_val _ _ _ _ _).trans ?_
    first
      | rfl
      | exact Nat.zero_add _
      | exact congrArg (· + (k : ℕ)) (by rfl)

/-- The columns from 128 of a block. -/
theorem ld5 (x : FVec Ideal S1x256x1408 .f32) (r : Fin 256) (k : Fin 128) : (View.ld (Val := Elt Ideal) (e' := .f32) x r0_5 : FVec Ideal S1x256x128 .f32) (ix3 0 r k) = x (ix3 0 r ⟨128 + k, by omega⟩) := by
  refine congrArg x (?_ : (r0_5.idx (ix3 (0 : Fin 1) r k : S1x256x128.Idx) : S1x256x1408.Idx) = _)
  refine funext fun a => Fin.ext ?_
  obtain ⟨a, ha⟩ := a
  have ha : a < 3 := ha
  interval_cases a
  all_goals
    refine (Rect.idx_unit_val _ _ _ _ _).trans ?_
    first
      | rfl
      | exact Nat.zero_add _
      | exact congrArg (· + (k : ℕ)) (by rfl)

/-- The columns from 256 of a block. -/
theorem ld7 (x : FVec Ideal S1x256x1408 .f32) (r : Fin 256) (k : Fin 128) : (View.ld (Val := Elt Ideal) (e' := .f32) x r0_7 : FVec Ideal S1x256x128 .f32) (ix3 0 r k) = x (ix3 0 r ⟨256 + k, by omega⟩) := by
  refine congrArg x (?_ : (r0_7.idx (ix3 (0 : Fin 1) r k : S1x256x128.Idx) : S1x256x1408.Idx) = _)
  refine funext fun a => Fin.ext ?_
  obtain ⟨a, ha⟩ := a
  have ha : a < 3 := ha
  interval_cases a
  all_goals
    refine (Rect.idx_unit_val _ _ _ _ _).trans ?_
    first
      | rfl
      | exact Nat.zero_add _
      | exact congrArg (· + (k : ℕ)) (by rfl)

/-- The columns from 384 of a block. -/
theorem ld9 (x : FVec Ideal S1x256x1408 .f32) (r : Fin 256) (k : Fin 128) : (View.ld (Val := Elt Ideal) (e' := .f32) x r0_9 : FVec Ideal S1x256x128 .f32) (ix3 0 r k) = x (ix3 0 r ⟨384 + k, by omega⟩) := by
  refine congrArg x (?_ : (r0_9.idx (ix3 (0 : Fin 1) r k : S1x256x128.Idx) : S1x256x1408.Idx) = _)
  refine funext fun a => Fin.ext ?_
  obtain ⟨a, ha⟩ := a
  have ha : a < 3 := ha
  interval_cases a
  all_goals
    refine (Rect.idx_unit_val _ _ _ _ _).trans ?_
    first
      | rfl
      | exact Nat.zero_add _
      | exact congrArg (· + (k : ℕ)) (by rfl)

/-- The columns from 768 of a block. -/
theorem ld11 (x : FVec Ideal S1x256x1408 .f32) (r : Fin 256) (k : Fin 128) : (View.ld (Val := Elt Ideal) (e' := .f32) x r0_11 : FVec Ideal S1x256x128 .f32) (ix3 0 r k) = x (ix3 0 r ⟨768 + k, by omega⟩) := by
  refine congrArg x (?_ : (r0_11.idx (ix3 (0 : Fin 1) r k : S1x256x128.Idx) : S1x256x1408.Idx) = _)
  refine funext fun a => Fin.ext ?_
  obtain ⟨a, ha⟩ := a
  have ha : a < 3 := ha
  interval_cases a
  all_goals
    refine (Rect.idx_unit_val _ _ _ _ _).trans ?_
    first
      | rfl
      | exact Nat.zero_add _
      | exact congrArg (· + (k : ℕ)) (by rfl)

/-- The columns from 1024 of a block. -/
theorem ld12 (x : FVec Ideal S1x256x1408 .f32) (r : Fin 256) (k : Fin 128) : (View.ld (Val := Elt Ideal) (e' := .f32) x r0_12 : FVec Ideal S1x256x128 .f32) (ix3 0 r k) = x (ix3 0 r ⟨1024 + k, by omega⟩) := by
  refine congrArg x (?_ : (r0_12.idx (ix3 (0 : Fin 1) r k : S1x256x128.Idx) : S1x256x1408.Idx) = _)
  refine funext fun a => Fin.ext ?_
  obtain ⟨a, ha⟩ := a
  have ha : a < 3 := ha
  interval_cases a
  all_goals
    refine (Rect.idx_unit_val _ _ _ _ _).trans ?_
    first
      | rfl
      | exact Nat.zero_add _
      | exact congrArg (· + (k : ℕ)) (by rfl)

/-- The columns from 896 of a block. -/
theorem ld13 (x : FVec Ideal S1x256x1408 .f32) (r : Fin 256) (k : Fin 128) : (View.ld (Val := Elt Ideal) (e' := .f32) x r0_13 : FVec Ideal S1x256x128 .f32) (ix3 0 r k) = x (ix3 0 r ⟨896 + k, by omega⟩) := by
  refine congrArg x (?_ : (r0_13.idx (ix3 (0 : Fin 1) r k : S1x256x128.Idx) : S1x256x1408.Idx) = _)
  refine funext fun a => Fin.ext ?_
  obtain ⟨a, ha⟩ := a
  have ha : a < 3 := ha
  interval_cases a
  all_goals
    refine (Rect.idx_unit_val _ _ _ _ _).trans ?_
    first
      | rfl
      | exact Nat.zero_add _
      | exact congrArg (· + (k : ℕ)) (by rfl)

/-- The columns from 1152 of a block. -/
theorem ld14 (x : FVec Ideal S1x256x1408 .f32) (r : Fin 256) (k : Fin 128) : (View.ld (Val := Elt Ideal) (e' := .f32) x r0_14 : FVec Ideal S1x256x128 .f32) (ix3 0 r k) = x (ix3 0 r ⟨1152 + k, by omega⟩) := by
  refine congrArg x (?_ : (r0_14.idx (ix3 (0 : Fin 1) r k : S1x256x128.Idx) : S1x256x1408.Idx) = _)
  refine funext fun a => Fin.ext ?_
  obtain ⟨a, ha⟩ := a
  have ha : a < 3 := ha
  interval_cases a
  all_goals
    refine (Rect.idx_unit_val _ _ _ _ _).trans ?_
    first
      | rfl
      | exact Nat.zero_add _
      | exact congrArg (· + (k : ℕ)) (by rfl)

/-- The columns from 512 of a block. -/
theorem ld17 (x : FVec Ideal S1x256x1408 .f32) (r : Fin 256) (k : Fin 128) : (View.ld (Val := Elt Ideal) (e' := .f32) x r0_17 : FVec Ideal S1x256x128 .f32) (ix3 0 r k) = x (ix3 0 r ⟨512 + k, by omega⟩) := by
  refine congrArg x (?_ : (r0_17.idx (ix3 (0 : Fin 1) r k : S1x256x128.Idx) : S1x256x1408.Idx) = _)
  refine funext fun a => Fin.ext ?_
  obtain ⟨a, ha⟩ := a
  have ha : a < 3 := ha
  interval_cases a
  all_goals
    refine (Rect.idx_unit_val _ _ _ _ _).trans ?_
    first
      | rfl
      | exact Nat.zero_add _
      | exact congrArg (· + (k : ℕ)) (by rfl)

/-- The columns from 640 of a block. -/
theorem ld19 (x : FVec Ideal S1x256x1408 .f32) (r : Fin 256) (k : Fin 128) : (View.ld (Val := Elt Ideal) (e' := .f32) x r0_19 : FVec Ideal S1x256x128 .f32) (ix3 0 r k) = x (ix3 0 r ⟨640 + k, by omega⟩) := by
  refine congrArg x (?_ : (r0_19.idx (ix3 (0 : Fin 1) r k : S1x256x128.Idx) : S1x256x1408.Idx) = _)
  refine funext fun a => Fin.ext ?_
  obtain ⟨a, ha⟩ := a
  have ha : a < 3 := ha
  interval_cases a
  all_goals
    refine (Rect.idx_unit_val _ _ _ _ _).trans ?_
    first
      | rfl
      | exact Nat.zero_add _
      | exact congrArg (· + (k : ℕ)) (by rfl)

/-- A whole block of this shape, loaded. -/
theorem ld0 (x : FVec Ideal S256x128 .f32) (r : Fin 256) (k : Fin 128) : (View.ld (Val := Elt Ideal) (e' := .f32) x r0_0 : FVec Ideal S256x128 .f32) (ix2 r k) = x (ix2 r k) := by
  refine congrArg x (?_ : (r0_0.idx (ix2 r k : S256x128.Idx) : S256x128.Idx) = _)
  refine funext fun a => Fin.ext ?_
  obtain ⟨a, ha⟩ := a
  have ha : a < 2 := ha
  interval_cases a
  all_goals
    refine (Rect.idx_unit_val _ _ _ _ _).trans ?_
    first
      | rfl
      | exact Nat.zero_add _

/-- A whole block of this shape, loaded. -/
theorem ld1 (x : FVec Ideal S128x128 .bf16) (r : Fin 128) (k : Fin 128) : (View.ld (Val := Elt Ideal) (e' := .bf16) x r0_1 : FVec Ideal S128x128 .bf16) (ix2 r k) = x (ix2 r k) := by
  refine congrArg x (?_ : (r0_1.idx (ix2 r k : S128x128.Idx) : S128x128.Idx) = _)
  refine funext fun a => Fin.ext ?_
  obtain ⟨a, ha⟩ := a
  have ha : a < 2 := ha
  interval_cases a
  all_goals
    refine (Rect.idx_unit_val _ _ _ _ _).trans ?_
    first
      | rfl
      | exact Nat.zero_add _

/-- A whole block of this shape, loaded. -/
theorem ld3 (x : FVec Ideal S1x128 .f32) (r : Fin 1) (k : Fin 128) : (View.ld (Val := Elt Ideal) (e' := .f32) x r0_3 : FVec Ideal S1x128 .f32) (ix2 r k) = x (ix2 r k) := by
  refine congrArg x (?_ : (r0_3.idx (ix2 r k : S1x128.Idx) : S1x128.Idx) = _)
  refine funext fun a => Fin.ext ?_
  obtain ⟨a, ha⟩ := a
  have ha : a < 2 := ha
  interval_cases a
  all_goals
    refine (Rect.idx_unit_val _ _ _ _ _).trans ?_
    first
      | rfl
      | exact Nat.zero_add _

/-- What the call reads of operand 1's block. -/
theorem tab1 (c : Dev nD) (t : Fin cfg0.N) (r : Fin 256) (k : Fin 128) :
    (k0_pay55 (iblk m c 0 t) (iblk m c 1 t) (iblk m c 2 t) (iblk m c 3 t) (iblk m c 4 t) (iblk m c 5 t) (iblk m c 6 t) : FVec Ideal S256x128 .f32) (ix2 r k) = (iblk m c 1 t : FVec Ideal S256x128 .f32) (ix2 r k) := by
  have e : ∀ X : FVec Ideal S256x128 .f32, (k0_pay2 (F := Ideal) X : FVec Ideal S256x128 .f32) (ix2 r k) = X (ix2 r k) := fun X => by
    pointwise [k0_pay2]
  exact (e _).trans (ld0 (iblk m c 1 t) r k)

/-- What the call reads of operand 2's block. -/
theorem tab2 (c : Dev nD) (t : Fin cfg0.N) (r : Fin 256) (k : Fin 128) :
    (k0_pay56 (iblk m c 0 t) (iblk m c 1 t) (iblk m c 2 t) (iblk m c 3 t) (iblk m c 4 t) (iblk m c 5 t) (iblk m c 6 t) : FVec Ideal S256x128 .f32) (ix2 r k) = (iblk m c 2 t : FVec Ideal S256x128 .f32) (ix2 r k) := by
  have e : ∀ X : FVec Ideal S256x128 .f32, (k0_pay3 (F := Ideal) X : FVec Ideal S256x128 .f32) (ix2 r k) = X (ix2 r k) := fun X => by
    pointwise [k0_pay3]
  exact (e _).trans (ld0 (iblk m c 2 t) r k)

/-- Every entry of the first argument is finite. -/
def Finite : Prop := ∀ (c : Dev nD) (i : S16x2048x1408.Idx), ((m ((c : Thread nD τ).loc main_arg0)) : FVec Ideal S16x2048x1408 .f32) i ≠ (⊤ : EReal) ∧ ((m ((c : Thread nD τ).loc main_arg0)) : FVec Ideal S16x2048x1408 .f32) i ≠ (⊥ : EReal)

/-- A group of two heads of point `t`, from columns `o` on, at head `h` and lane `d`. -/
theorem core_blk (hf : Finite m) (c : Dev nD) (t : Fin cfg0.N) (xs : FVec Ideal S1x256x128 .f32) (g : FVec Ideal S1x128 .f32) (γ : Fin 64 → EReal) (o : ℕ) (ho : o + 128 ≤ 1408)
    (hx : ∀ (r : Fin 256) (k : Fin 128), xs (ix3 0 r k) = (iblk m c 0 t : FVec Ideal S1x256x1408 .f32) (ix3 0 r ⟨o + k, by omega⟩))
    (hg : ∀ j : Fin 128, g (ix2 0 j) = γ ⟨(j : ℕ) % 64, by omega⟩) (r : Fin 256) (j : Fin 128) (h : ℕ) (d : Fin 64) (hh : h < 2) (hj : (j : ℕ) = h * 64 + d) :
    core (k0_pay55 (iblk m c 0 t) (iblk m c 1 t) (iblk m c 2 t) (iblk m c 3 t) (iblk m c 4 t) (iblk m c 5 t) (iblk m c 6 t)) (k0_pay56 (iblk m c 0 t) (iblk m c 1 t) (iblk m c 2 t) (iblk m c 3 t) (iblk m c 4 t) (iblk m c 5 t) (iblk m c 6 t)) (View.ld (iblk m c 6 t) r0_1) xs g (ix2 r j)
      = rot (nrm (fun k => ((m ((c : Thread nD τ).loc main_arg0)) : FVec Ideal S16x2048x1408 .f32) (ix3 (bt t) (pos t r) ⟨o + (h * 64 + k), by omega⟩)) γ) (pos t r) d := by
  refine (core_rot _ _ _ _ _ r (pos t r) ?_ ?_ ?_ (fun k => ((m ((c : Thread nD τ).loc main_arg0)) : FVec Ideal S16x2048x1408 .f32) (ix3 (bt t) (pos t r) ⟨o + k, by omega⟩)) ?_ ?_ γ hg j).trans ?_
  · exact fun j => (tab1 m c t r j).trans (b1 m c t r j)
  · exact fun j => (tab2 m c t r j).trans (b2 m c t r j)
  · exact fun x y => (ld1 (iblk m c 6 t) x y).trans (b6 m c t x y)
  · exact fun k => (hx r k).trans (b0 m c t r _)
  · exact fun k => hf c _
  · have e1 : (j : ℕ) / 64 = h := by omega
    have e2 : (⟨(j : ℕ) % 64, by omega⟩ : Fin 64) = d := Fin.ext (show (j : ℕ) % 64 = d by omega)
    rw [e2]
    simp only [e1]

/-- Where the block of point `t` lies in result 0's array. -/
theorem emb7 (t : Fin cfg0.N) (f : S16x2048x512.Idx → EReal) (r : Fin 256) (j : Fin 512) :
    f (((cfg0.win 7).blk t).view.emb (ix3 (0 : Fin 1) r j : S1x256x512.Idx)) = f (ix3 (bt t) (pos t r) j) := by
  unfold bt pos
  blk_ext [idx t]

/-- Where the block of point `t` lies in result 5's array. -/
theorem emb12 (t : Fin cfg0.N) (f : S16x2048x128.Idx → EReal) (r : Fin 256) (j : Fin 128) :
    f (((cfg0.win 12).blk t).view.emb (ix3 (0 : Fin 1) r j : S1x256x128.Idx)) = f (ix3 (bt t) (pos t r) j) := by
  unfold bt pos
  blk_ext [idx t]

/-- Where the block of point `t` lies in result 6's array. -/
theorem emb13 (t : Fin cfg0.N) (f : S16x2048x128.Idx → EReal) (r : Fin 256) (j : Fin 128) :
    f (((cfg0.win 13).blk t).view.emb (ix3 (0 : Fin 1) r j : S1x256x128.Idx)) = f (ix3 (bt t) (pos t r) j) := by
  unfold bt pos
  blk_ext [idx t]

/-- Where the block of point `t` lies in result 1's array. -/
theorem emb8 (t : Fin cfg0.N) (f : S16x2x2048x128.Idx → EReal) (h : Fin 2) (r : Fin 256) (j : Fin 128) :
    f (((cfg0.win 8).blk t).view.emb (ix4 (0 : Fin 1) h r j : S1x2x256x128.Idx)) = f (ix4 (bt t) h (pos t r) j) := by
  unfold bt pos
  blk_ext [idx t]

/-- Where the block of point `t` lies in result 2's array. -/
theorem emb9 (t : Fin cfg0.N) (f : S16x2x2048x128.Idx → EReal) (h : Fin 2) (r : Fin 256) (j : Fin 128) :
    f (((cfg0.win 9).blk t).view.emb (ix4 (0 : Fin 1) h r j : S1x2x256x128.Idx)) = f (ix4 (bt t) h (pos t r) j) := by
  unfold bt pos
  blk_ext [idx t]

/-- Where the block of point `t` lies in result 3's array. -/
theorem emb10 (t : Fin cfg0.N) (f : S16x2x2048x128.Idx → EReal) (h : Fin 2) (r : Fin 256) (j : Fin 128) :
    f (((cfg0.win 10).blk t).view.emb (ix4 (0 : Fin 1) h r j : S1x2x256x128.Idx)) = f (ix4 (bt t) h (pos t r) j) := by
  unfold bt pos
  blk_ext [idx t]

/-- Where the block of point `t` lies in result 4's array. -/
theorem emb11 (t : Fin cfg0.N) (f : S16x2x2048x128.Idx → EReal) (h : Fin 2) (r : Fin 256) (j : Fin 128) :
    f (((cfg0.win 11).blk t).view.emb (ix4 (0 : Fin 1) h r j : S1x2x256x128.Idx)) = f (ix4 (bt t) h (pos t r) j) := by
  unfold bt pos
  blk_ext [idx t]

/-- Where the queries' group from column 0 lies in the block. -/
theorem ridx4 (r : Fin 256) (d : Fin 128) : (r0_4.idx (ix3 (0 : Fin 1) r d : S1x256x128.Idx) : S1x256x512.Idx) = ix3 0 r ⟨0 + d, by omega⟩ := by
  refine funext fun a => Fin.ext ?_
  obtain ⟨a, ha⟩ := a
  have ha : a < 3 := ha
  interval_cases a
  all_goals
    refine (Rect.idx_unit_val _ _ _ _ _).trans ?_
    first
      | rfl
      | exact Nat.zero_add _
      | exact congrArg (· + (d : ℕ)) (by rfl)

/-- Where the queries' group from column 128 lies in the block. -/
theorem ridx6 (r : Fin 256) (d : Fin 128) : (r0_6.idx (ix3 (0 : Fin 1) r d : S1x256x128.Idx) : S1x256x512.Idx) = ix3 0 r ⟨128 + d, by omega⟩ := by
  refine funext fun a => Fin.ext ?_
  obtain ⟨a, ha⟩ := a
  have ha : a < 3 := ha
  interval_cases a
  all_goals
    refine (Rect.idx_unit_val _ _ _ _ _).trans ?_
    first
      | rfl
      | exact Nat.zero_add _
      | exact congrArg (· + (d : ℕ)) (by rfl)

/-- Where the queries' group from column 256 lies in the block. -/
theorem ridx8 (r : Fin 256) (d : Fin 128) : (r0_8.idx (ix3 (0 : Fin 1) r d : S1x256x128.Idx) : S1x256x512.Idx) = ix3 0 r ⟨256 + d, by omega⟩ := by
  refine funext fun a => Fin.ext ?_
  obtain ⟨a, ha⟩ := a
  have ha : a < 3 := ha
  interval_cases a
  all_goals
    refine (Rect.idx_unit_val _ _ _ _ _).trans ?_
    first
      | rfl
      | exact Nat.zero_add _
      | exact congrArg (· + (d : ℕ)) (by rfl)

/-- Where the queries' group from column 384 lies in the block. -/
theorem ridx10 (r : Fin 256) (d : Fin 128) : (r0_10.idx (ix3 (0 : Fin 1) r d : S1x256x128.Idx) : S1x256x512.Idx) = ix3 0 r ⟨384 + d, by omega⟩ := by
  refine funext fun a => Fin.ext ?_
  obtain ⟨a, ha⟩ := a
  have ha : a < 3 := ha
  interval_cases a
  all_goals
    refine (Rect.idx_unit_val _ _ _ _ _).trans ?_
    first
      | rfl
      | exact Nat.zero_add _
      | exact congrArg (· + (d : ℕ)) (by rfl)

/-- Where head 0's piece lies in the block. -/
theorem ridx15 (r : Fin 256) (d : Fin 128) : (r0_15.idx (ix4 (0 : Fin 1) (0 : Fin 1) r d : S1x1x256x128.Idx) : S1x2x256x128.Idx) = ix4 0 0 r d := by
  refine funext fun a => Fin.ext ?_
  obtain ⟨a, ha⟩ := a
  have ha : a < 4 := ha
  interval_cases a
  all_goals
    refine (Rect.idx_unit_val _ _ _ _ _).trans ?_
    first
      | rfl
      | exact Nat.zero_add _

/-- Where head 1's piece lies in the block. -/
theorem ridx16 (r : Fin 256) (d : Fin 128) : (r0_16.idx (ix4 (0 : Fin 1) (0 : Fin 1) r d : S1x1x256x128.Idx) : S1x2x256x128.Idx) = ix4 0 1 r d := by
  refine funext fun a => Fin.ext ?_
  obtain ⟨a, ha⟩ := a
  have ha : a < 4 := ha
  interval_cases a
  all_goals
    refine (Rect.idx_unit_val _ _ _ _ _).trans ?_
    first
      | rfl
      | exact Nat.zero_add _

/-- Where the only piece lies in the block. -/
theorem ridx18 (r : Fin 256) (d : Fin 128) : (r0_18.idx (ix3 (0 : Fin 1) r d : S1x256x128.Idx) : S1x256x128.Idx) = ix3 0 r d := by
  refine funext fun a => Fin.ext ?_
  obtain ⟨a, ha⟩ := a
  have ha : a < 3 := ha
  interval_cases a
  all_goals
    refine (Rect.idx_unit_val _ _ _ _ _).trans ?_
    first
      | rfl
      | exact Nat.zero_add _

/-- A group of queries of point `t`, at an index, against the reference's. -/
theorem qgrp (hf : Finite m) (c : Dev nD) (t : Fin cfg0.N) (xs : FVec Ideal S1x256x128 .f32) (o : ℕ) (ho : o + 128 ≤ 512) (h64 : o % 64 = 0)
    (hx : ∀ (r : Fin 256) (k : Fin 128), xs (ix3 0 r k) = (iblk m c 0 t : FVec Ideal S1x256x1408 .f32) (ix3 0 r ⟨o + k, by omega⟩)) (r : Fin 256) (d : Fin 128) :
    (qpay (core (k0_pay55 (iblk m c 0 t) (iblk m c 1 t) (iblk m c 2 t) (iblk m c 3 t) (iblk m c 4 t) (iblk m c 5 t) (iblk m c 6 t)) (k0_pay56 (iblk m c 0 t) (iblk m c 1 t) (iblk m c 2 t) (iblk m c 3 t) (iblk m c 4 t) (iblk m c 5 t) (iblk m c 6 t)) (View.ld (iblk m c 6 t) r0_1) xs (View.ld (iblk m c 3 t) r0_3)) : S1x256x128.Idx → EReal) (ix3 0 r d)
      = (qs (m ((c : Thread nD τ).loc main_arg0)) (m ((c : Thread nD τ).loc main_arg1)) : S16x2048x512.Idx → EReal) (ix3 (bt t) (pos t r) ⟨o + d, by omega⟩) := by
  refine (qpay_at _ r d).trans (Eq.trans ?_ (qs_at _ _ _ _ _).symm)
  refine congrArg (· * Ideal.ofBits .f32 0x3E000000#32) ?_
  refine (core_blk m hf c t xs _ (fun k => ((m ((c : Thread nD τ).loc main_arg1)) : FVec Ideal S64 .f32) (ix1 k)) o (by omega) hx (fun j => (ld3 (iblk m c 3 t) 0 j).trans (b3 m c t j)) r d ((d : ℕ) / 64) ⟨(d : ℕ) % 64, by omega⟩ (by omega) (Nat.div_add_mod' _ _).symm).trans ?_
  have e1 : ∀ k : ℕ, (o + (d : ℕ)) / 64 * 64 + k = o + ((d : ℕ) / 64 * 64 + k) := fun k => by omega
  have e2 : (o + (d : ℕ)) % 64 = (d : ℕ) % 64 := by omega
  simp only [e1, e2]

/-- What point `t` stores of the queries from column 0 is the reference's at the place it is written to. -/
theorem point7_0 (hf : Finite m) (c : Dev nD) (t : Fin cfg0.N) (x : S1x256x128.Idx) :
    (k0_pay7 (k0_pay55 (iblk m c 0 t) (iblk m c 1 t) (iblk m c 2 t) (iblk m c 3 t) (iblk m c 4 t) (iblk m c 5 t) (iblk m c 6 t)) (k0_pay56 (iblk m c 0 t) (iblk m c 1 t) (iblk m c 2 t) (iblk m c 3 t) (iblk m c 4 t) (iblk m c 5 t) (iblk m c 6 t)) (k0_pay4 (View.ld (iblk m c 6 t) r0_1) (View.ld (iblk m c 0 t) r0_2) (View.ld (iblk m c 3 t) r0_3)) (Scalar.select (Scalar.cmpi .eq 64#32 0#32) 1#32 64#32) k0_pay5 k0_pay6 0#32 : S1x256x128.Idx → EReal) x = (qs (m ((c : Thread nD τ).loc main_arg0)) (m ((c : Thread nD τ).loc main_arg1)) : S16x2048x512.Idx → EReal) (((cfg0.win 7).blk t).view.emb (r0_4.idx x)) := by
  idx_vars x
  obtain rfl : x0 = 0 := Subsingleton.elim _ _
  refine (congrFun (q0_eq _ _ _ (View.ld (iblk m c 0 t) r0_2) _) _).trans ?_
  refine (qgrp m hf c t _ 0 (by omega) (by omega) (fun r k => ld2 (iblk m c 0 t) r k) x1 x2).trans ?_
  rw [ridx4]
  exact (emb7 t (qs (m ((c : Thread nD τ).loc main_arg0)) (m ((c : Thread nD τ).loc main_arg1))) x1 _).symm

/-- What point `t` stores of the queries from column 128 is the reference's at the place it is written to. -/
theorem point7_1 (hf : Finite m) (c : Dev nD) (t : Fin cfg0.N) (x : S1x256x128.Idx) :
    (k0_pay12 (k0_pay55 (iblk m c 0 t) (iblk m c 1 t) (iblk m c 2 t) (iblk m c 3 t) (iblk m c 4 t) (iblk m c 5 t) (iblk m c 6 t)) (k0_pay56 (iblk m c 0 t) (iblk m c 1 t) (iblk m c 2 t) (iblk m c 3 t) (iblk m c 4 t) (iblk m c 5 t) (iblk m c 6 t)) (k0_pay8 (View.ld (iblk m c 0 t) r0_5)) (k0_pay9 (View.ld (iblk m c 3 t) r0_3)) (k0_pay10 (View.ld (iblk m c 6 t) r0_1) (View.ld (iblk m c 0 t) r0_5)) k0_pay11 : S1x256x128.Idx → EReal) x = (qs (m ((c : Thread nD τ).loc main_arg0)) (m ((c : Thread nD τ).loc main_arg1)) : S16x2048x512.Idx → EReal) (((cfg0.win 7).blk t).view.emb (r0_6.idx x)) := by
  idx_vars x
  obtain rfl : x0 = 0 := Subsingleton.elim _ _
  refine (congrFun (q1_eq _ _ _ (View.ld (iblk m c 0 t) r0_5) _) _).trans ?_
  refine (qgrp m hf c t _ 128 (by omega) (by omega) (fun r k => ld5 (iblk m c 0 t) r k) x1 x2).trans ?_
  rw [ridx6]
  exact (emb7 t (qs (m ((c : Thread nD τ).loc main_arg0)) (m ((c : Thread nD τ).loc main_arg1))) x1 _).symm

/-- What point `t` stores of the queries from column 256 is the reference's at the place it is written to. -/
theorem point7_2 (hf : Finite m) (c : Dev nD) (t : Fin cfg0.N) (x : S1x256x128.Idx) :
    (k0_pay17 (k0_pay56 (iblk m c 0 t) (iblk m c 1 t) (iblk m c 2 t) (iblk m c 3 t) (iblk m c 4 t) (iblk m c 5 t) (iblk m c 6 t)) (k0_pay15 (View.ld (iblk m c 6 t) r0_1) (k0_pay57 (iblk m c 0 t) (iblk m c 1 t) (iblk m c 2 t) (iblk m c 3 t) (iblk m c 4 t) (iblk m c 5 t) (iblk m c 6 t)) (View.ld (iblk m c 3 t) r0_3)) (k0_pay16 (k0_pay55 (iblk m c 0 t) (iblk m c 1 t) (iblk m c 2 t) (iblk m c 3 t) (iblk m c 4 t) (iblk m c 5 t) (iblk m c 6 t)) (View.ld (iblk m c 6 t) r0_1) (k0_pay57 (iblk m c 0 t) (iblk m c 1 t) (iblk m c 2 t) (iblk m c 3 t) (iblk m c 4 t) (iblk m c 5 t) (iblk m c 6 t)) (View.ld (iblk m c 3 t) r0_3)) : S1x256x128.Idx → EReal) x = (qs (m ((c : Thread nD τ).loc main_arg0)) (m ((c : Thread nD τ).loc main_arg1)) : S16x2048x512.Idx → EReal) (((cfg0.win 7).blk t).view.emb (r0_8.idx x)) := by
  idx_vars x
  obtain rfl : x0 = 0 := Subsingleton.elim _ _
  refine (congrFun (q2_eq _ _ _ (View.ld (iblk m c 0 t) r0_7) _) _).trans ?_
  refine (qgrp m hf c t _ 256 (by omega) (by omega) (fun r k => ld7 (iblk m c 0 t) r k) x1 x2).trans ?_
  rw [ridx8]
  exact (emb7 t (qs (m ((c : Thread nD τ).loc main_arg0)) (m ((c : Thread nD τ).loc main_arg1))) x1 _).symm

/-- What point `t` stores of the queries from column 384 is the reference's at the place it is written to. -/
theorem point7_3 (hf : Finite m) (c : Dev nD) (t : Fin cfg0.N) (x : S1x256x128.Idx) :
    (k0_pay21 (k0_pay55 (iblk m c 0 t) (iblk m c 1 t) (iblk m c 2 t) (iblk m c 3 t) (iblk m c 4 t) (iblk m c 5 t) (iblk m c 6 t)) (k0_pay56 (iblk m c 0 t) (iblk m c 1 t) (iblk m c 2 t) (iblk m c 3 t) (iblk m c 4 t) (iblk m c 5 t) (iblk m c 6 t)) (k0_pay18 (View.ld (iblk m c 6 t) r0_1) (View.ld (iblk m c 0 t) r0_9) (View.ld (iblk m c 3 t) r0_3)) (Scalar.select (Scalar.cmpi .eq 64#32 0#32) 1#32 64#32) k0_pay19 k0_pay20 0#32 : S1x256x128.Idx → EReal) x = (qs (m ((c : Thread nD τ).loc main_arg0)) (m ((c : Thread nD τ).loc main_arg1)) : S16x2048x512.Idx → EReal) (((cfg0.win 7).blk t).view.emb (r0_10.idx x)) := by
  idx_vars x
  obtain rfl : x0 = 0 := Subsingleton.elim _ _
  refine (congrFun (q3_eq _ _ _ (View.ld (iblk m c 0 t) r0_9) _) _).trans ?_
  refine (qgrp m hf c t _ 384 (by omega) (by omega) (fun r k => ld9 (iblk m c 0 t) r k) x1 x2).trans ?_
  rw [ridx10]
  exact (emb7 t (qs (m ((c : Thread nD τ).loc main_arg0)) (m ((c : Thread nD τ).loc main_arg1))) x1 _).symm

/-- Result 0's array after the run. -/
theorem final7 (hf : Finite m) (c : Dev nD) : (dats m 0 c).arrAt 7 cfg0.N = qs (m ((c : Thread nD τ).loc main_arg0)) (m ((c : Thread nD τ).loc main_arg1)) := by
  refine (dats m 0 c).arrAt_eq_of_covers 7 _ (by decide +kernel) fun t _ y => ?_
  blk_simp
  rw [after0_7]
  unfold out0_7
  refine View.canon_apply_of_pieces (Val := Elt Ideal) (fun y => qs (m ((c : Thread nD τ).loc main_arg0)) (m ((c : Thread nD τ).loc main_arg1)) (((cfg0.win 7).blk t).view.emb y)) _ ?_ y (cover0_7 _ _ _ _ y)
  intro pc hpc
  rcases List.mem_cons.mp hpc with rfl | hpc
  · exact fun x => point7_3 m hf c t x
  rcases List.mem_cons.mp hpc with rfl | hpc
  · exact fun x => point7_2 m hf c t x
  rcases List.mem_cons.mp hpc with rfl | hpc
  · exact fun x => point7_1 m hf c t x
  rcases List.mem_cons.mp hpc with rfl | hpc
  · exact fun x => point7_0 m hf c t x
  nomatch hpc

/-- What point `t` stores of head 0 of `ks` is the reference's at the place it is written to. -/
theorem point8_0 (hf : Finite m) (c : Dev nD) (t : Fin cfg0.N) (x : S1x1x256x128.Idx) :
    (k0_pay39 (k0_pay58 (iblk m c 0 t) (iblk m c 1 t) (iblk m c 2 t) (iblk m c 3 t) (iblk m c 4 t) (iblk m c 5 t) (iblk m c 6 t)) : S1x1x256x128.Idx → EReal) x = (ks (m ((c : Thread nD τ).loc main_arg0)) (m ((c : Thread nD τ).loc main_arg2)) : S16x2x2048x128.Idx → EReal) (((cfg0.win 8).blk t).view.emb (r0_15.idx x)) := by
  idx_vars x
  obtain rfl : x0 = 0 := Subsingleton.elim _ _
  obtain rfl : x1 = 0 := Subsingleton.elim _ _
  rw [ridx15]
  refine (twice39 _ x2 x3).trans (Eq.trans ?_ ((emb8 t (ks (m ((c : Thread nD τ).loc main_arg0)) (m ((c : Thread nD τ).loc main_arg2))) 0 x2 x3).trans (ks_at _ _ _ _ 0 x3)).symm)
  exact core_blk m hf c t (View.ld (iblk m c 0 t) r0_11) (View.ld (iblk m c 4 t) r0_3) (fun k => ((m ((c : Thread nD τ).loc main_arg2)) : FVec Ideal S3x64 .f32) (ix2 1 k)) 768 (by omega)
    (fun r k => ld11 (iblk m c 0 t) r k) (fun j => (ld3 (iblk m c 4 t) 0 j).trans (b4 m c t j)) x2 _ 0 ⟨(x3 : ℕ) % 64, by omega⟩ (by omega) (by show (x3 : ℕ) % 64 = 0 * 64 + (x3 : ℕ) % 64; omega)

/-- What point `t` stores of head 1 of `ks` is the reference's at the place it is written to. -/
theorem point8_1 (hf : Finite m) (c : Dev nD) (t : Fin cfg0.N) (x : S1x1x256x128.Idx) :
    (k0_pay40 (k0_pay58 (iblk m c 0 t) (iblk m c 1 t) (iblk m c 2 t) (iblk m c 3 t) (iblk m c 4 t) (iblk m c 5 t) (iblk m c 6 t)) : S1x1x256x128.Idx → EReal) x = (ks (m ((c : Thread nD τ).loc main_arg0)) (m ((c : Thread nD τ).loc main_arg2)) : S16x2x2048x128.Idx → EReal) (((cfg0.win 8).blk t).view.emb (r0_16.idx x)) := by
  idx_vars x
  obtain rfl : x0 = 0 := Subsingleton.elim _ _
  obtain rfl : x1 = 0 := Subsingleton.elim _ _
  rw [ridx16]
  refine (twice40 _ x2 x3).trans (Eq.trans ?_ ((emb8 t (ks (m ((c : Thread nD τ).loc main_arg0)) (m ((c : Thread nD τ).loc main_arg2))) 1 x2 x3).trans (ks_at _ _ _ _ 1 x3)).symm)
  exact core_blk m hf c t (View.ld (iblk m c 0 t) r0_11) (View.ld (iblk m c 4 t) r0_3) (fun k => ((m ((c : Thread nD τ).loc main_arg2)) : FVec Ideal S3x64 .f32) (ix2 1 k)) 768 (by omega)
    (fun r k => ld11 (iblk m c 0 t) r k) (fun j => (ld3 (iblk m c 4 t) 0 j).trans (b4 m c t j)) x2 _ 1 ⟨(x3 : ℕ) % 64, by omega⟩ (by omega) (rfl)

/-- Result 1's array after the run. -/
theorem final8 (hf : Finite m) (c : Dev nD) : (dats m 0 c).arrAt 8 cfg0.N = ks (m ((c : Thread nD τ).loc main_arg0)) (m ((c : Thread nD τ).loc main_arg2)) := by
  refine (dats m 0 c).arrAt_eq_of_covers 8 _ (by decide +kernel) fun t _ y => ?_
  blk_simp
  rw [after0_8]
  unfold out0_8
  refine View.canon_apply_of_pieces (Val := Elt Ideal) (fun y => ks (m ((c : Thread nD τ).loc main_arg0)) (m ((c : Thread nD τ).loc main_arg2)) (((cfg0.win 8).blk t).view.emb y)) _ ?_ y (cover0_8 _ _ y)
  intro pc hpc
  rcases List.mem_cons.mp hpc with rfl | hpc
  · exact fun x => point8_1 m hf c t x
  rcases List.mem_cons.mp hpc with rfl | hpc
  · exact fun x => point8_0 m hf c t x
  nomatch hpc

/-- What point `t` stores of head 0 of `kw` is the reference's at the place it is written to. -/
theorem point10_0 (hf : Finite m) (c : Dev nD) (t : Fin cfg0.N) (x : S1x1x256x128.Idx) :
    (k0_pay48 (k0_pay47 (k0_pay59 (iblk m c 0 t) (iblk m c 1 t) (iblk m c 2 t) (iblk m c 3 t) (iblk m c 4 t) (iblk m c 5 t) (iblk m c 6 t))) : S1x1x256x128.Idx → EReal) x = (kw (m ((c : Thread nD τ).loc main_arg0)) (m ((c : Thread nD τ).loc main_arg2)) : S16x2x2048x128.Idx → EReal) (((cfg0.win 10).blk t).view.emb (r0_15.idx x)) := by
  idx_vars x
  obtain rfl : x0 = 0 := Subsingleton.elim _ _
  obtain rfl : x1 = 0 := Subsingleton.elim _ _
  rw [ridx15]
  refine (twice48 _ x2 x3).trans (Eq.trans ?_ ((emb10 t (kw (m ((c : Thread nD τ).loc main_arg0)) (m ((c : Thread nD τ).loc main_arg2))) 0 x2 x3).trans (kw_at _ _ _ _ 0 x3)).symm)
  exact core_blk m hf c t (View.ld (iblk m c 0 t) r0_12) (View.ld (iblk m c 5 t) r0_3) (fun k => ((m ((c : Thread nD τ).loc main_arg2)) : FVec Ideal S3x64 .f32) (ix2 2 k)) 1024 (by omega)
    (fun r k => ld12 (iblk m c 0 t) r k) (fun j => (ld3 (iblk m c 5 t) 0 j).trans (b5 m c t j)) x2 _ 0 ⟨(x3 : ℕ) % 64, by omega⟩ (by omega) (by show (x3 : ℕ) % 64 = 0 * 64 + (x3 : ℕ) % 64; omega)

/-- What point `t` stores of head 1 of `kw` is the reference's at the place it is written to. -/
theorem point10_1 (hf : Finite m) (c : Dev nD) (t : Fin cfg0.N) (x : S1x1x256x128.Idx) :
    (k0_pay49 (k0_pay59 (iblk m c 0 t) (iblk m c 1 t) (iblk m c 2 t) (iblk m c 3 t) (iblk m c 4 t) (iblk m c 5 t) (iblk m c 6 t)) k0_pay45 (k0_pay46 (k0_pay59 (iblk m c 0 t) (iblk m c 1 t) (iblk m c 2 t) (iblk m c 3 t) (iblk m c 4 t) (iblk m c 5 t) (iblk m c 6 t))) : S1x1x256x128.Idx → EReal) x = (kw (m ((c : Thread nD τ).loc main_arg0)) (m ((c : Thread nD τ).loc main_arg2)) : S16x2x2048x128.Idx → EReal) (((cfg0.win 10).blk t).view.emb (r0_16.idx x)) := by
  idx_vars x
  obtain rfl : x0 = 0 := Subsingleton.elim _ _
  obtain rfl : x1 = 0 := Subsingleton.elim _ _
  rw [ridx16]
  refine (twice49 _ x2 x3).trans (Eq.trans ?_ ((emb10 t (kw (m ((c : Thread nD τ).loc main_arg0)) (m ((c : Thread nD τ).loc main_arg2))) 1 x2 x3).trans (kw_at _ _ _ _ 1 x3)).symm)
  exact core_blk m hf c t (View.ld (iblk m c 0 t) r0_12) (View.ld (iblk m c 5 t) r0_3) (fun k => ((m ((c : Thread nD τ).loc main_arg2)) : FVec Ideal S3x64 .f32) (ix2 2 k)) 1024 (by omega)
    (fun r k => ld12 (iblk m c 0 t) r k) (fun j => (ld3 (iblk m c 5 t) 0 j).trans (b5 m c t j)) x2 _ 1 ⟨(x3 : ℕ) % 64, by omega⟩ (by omega) (rfl)

/-- Result 3's array after the run. -/
theorem final10 (hf : Finite m) (c : Dev nD) : (dats m 0 c).arrAt 10 cfg0.N = kw (m ((c : Thread nD τ).loc main_arg0)) (m ((c : Thread nD τ).loc main_arg2)) := by
  refine (dats m 0 c).arrAt_eq_of_covers 10 _ (by decide +kernel) fun t _ y => ?_
  blk_simp
  rw [after0_10]
  unfold out0_10
  refine View.canon_apply_of_pieces (Val := Elt Ideal) (fun y => kw (m ((c : Thread nD τ).loc main_arg0)) (m ((c : Thread nD τ).loc main_arg2)) (((cfg0.win 10).blk t).view.emb y)) _ ?_ y (cover0_10 _ _ y)
  intro pc hpc
  rcases List.mem_cons.mp hpc with rfl | hpc
  · exact fun x => point10_1 m hf c t x
  rcases List.mem_cons.mp hpc with rfl | hpc
  · exact fun x => point10_0 m hf c t x
  nomatch hpc

/-- The values' two heads, at an index. -/
theorem raw9 (c : Dev nD) (t : Fin cfg0.N) (r : Fin 256) (k : Fin 128) :
    (k0_pay60 (iblk m c 0 t) (iblk m c 1 t) (iblk m c 2 t) (iblk m c 3 t) (iblk m c 4 t) (iblk m c 5 t) (iblk m c 6 t) : S256x128.Idx → EReal) (ix2 r k) = ((m ((c : Thread nD τ).loc main_arg0)) : FVec Ideal S16x2048x1408 .f32) (ix3 (bt t) (pos t r) ⟨896 + k, by omega⟩) := by
  have e : ∀ X : FVec Ideal S1x256x128 .f32, (k0_pay35 (F := Ideal) X : S256x128.Idx → EReal) (ix2 r k) = X (ix3 0 r k) := fun X => by
    pointwise [k0_pay35]
  exact (e _).trans ((ld13 (iblk m c 0 t) r k).trans (b0 m c t r _))

/-- What point `t` stores of head 0 of `vs` is the reference's at the place it is written to. -/
theorem point9_0 (c : Dev nD) (t : Fin cfg0.N) (x : S1x1x256x128.Idx) :
    (k0_pay43 (k0_pay60 (iblk m c 0 t) (iblk m c 1 t) (iblk m c 2 t) (iblk m c 3 t) (iblk m c 4 t) (iblk m c 5 t) (iblk m c 6 t)) : S1x1x256x128.Idx → EReal) x = (vs (m ((c : Thread nD τ).loc main_arg0)) : S16x2x2048x128.Idx → EReal) (((cfg0.win 9).blk t).view.emb (r0_15.idx x)) := by
  idx_vars x
  obtain rfl : x0 = 0 := Subsingleton.elim _ _
  obtain rfl : x1 = 0 := Subsingleton.elim _ _
  rw [ridx15]
  refine (twice43 _ x2 x3).trans (Eq.trans ?_ ((emb9 t (vs (m ((c : Thread nD τ).loc main_arg0))) 0 x2 x3).trans (vs_at _ _ _ 0 x3)).symm)
  refine (raw9 m c t x2 _).trans ?_
  refine congrArg (fun z => ((m ((c : Thread nD τ).loc main_arg0)) : FVec Ideal S16x2048x1408 .f32) (ix3 (bt t) (pos t x2) z)) (Fin.ext ?_)
  show 896 + (x3 : ℕ) % 64 = 896 + (0 * 64 + (x3 : ℕ) % 64)
  omega

/-- What point `t` stores of head 1 of `vs` is the reference's at the place it is written to. -/
theorem point9_1 (c : Dev nD) (t : Fin cfg0.N) (x : S1x1x256x128.Idx) :
    (k0_pay44 (k0_pay60 (iblk m c 0 t) (iblk m c 1 t) (iblk m c 2 t) (iblk m c 3 t) (iblk m c 4 t) (iblk m c 5 t) (iblk m c 6 t)) : S1x1x256x128.Idx → EReal) x = (vs (m ((c : Thread nD τ).loc main_arg0)) : S16x2x2048x128.Idx → EReal) (((cfg0.win 9).blk t).view.emb (r0_16.idx x)) := by
  idx_vars x
  obtain rfl : x0 = 0 := Subsingleton.elim _ _
  obtain rfl : x1 = 0 := Subsingleton.elim _ _
  rw [ridx16]
  refine (twice44 _ x2 x3).trans (Eq.trans ?_ ((emb9 t (vs (m ((c : Thread nD τ).loc main_arg0))) 1 x2 x3).trans (vs_at _ _ _ 1 x3)).symm)
  refine (raw9 m c t x2 _).trans ?_
  refine congrArg (fun z => ((m ((c : Thread nD τ).loc main_arg0)) : FVec Ideal S16x2048x1408 .f32) (ix3 (bt t) (pos t x2) z)) (Fin.ext ?_)
  rfl

/-- Result 2's array after the run. -/
theorem final9 (c : Dev nD) : (dats m 0 c).arrAt 9 cfg0.N = vs (m ((c : Thread nD τ).loc main_arg0)) := by
  refine (dats m 0 c).arrAt_eq_of_covers 9 _ (by decide +kernel) fun t _ y => ?_
  blk_simp
  rw [after0_9]
  unfold out0_9
  refine View.canon_apply_of_pieces (Val := Elt Ideal) (fun y => vs (m ((c : Thread nD τ).loc main_arg0)) (((cfg0.win 9).blk t).view.emb y)) _ ?_ y (cover0_9 _ _ y)
  intro pc hpc
  rcases List.mem_cons.mp hpc with rfl | hpc
  · exact fun x => point9_1 m c t x
  rcases List.mem_cons.mp hpc with rfl | hpc
  · exact fun x => point9_0 m c t x
  nomatch hpc

/-- The values' two heads, at an index. -/
theorem raw11 (c : Dev nD) (t : Fin cfg0.N) (r : Fin 256) (k : Fin 128) :
    (k0_pay61 (iblk m c 0 t) (iblk m c 1 t) (iblk m c 2 t) (iblk m c 3 t) (iblk m c 4 t) (iblk m c 5 t) (iblk m c 6 t) : S256x128.Idx → EReal) (ix2 r k) = ((m ((c : Thread nD τ).loc main_arg0)) : FVec Ideal S16x2048x1408 .f32) (ix3 (bt t) (pos t r) ⟨1152 + k, by omega⟩) := by
  have e : ∀ X : FVec Ideal S1x256x128 .f32, (k0_pay36 (F := Ideal) X : S256x128.Idx → EReal) (ix2 r k) = X (ix3 0 r k) := fun X => by
    pointwise [k0_pay36]
  exact (e _).trans ((ld14 (iblk m c 0 t) r k).trans (b0 m c t r _))

/-- What point `t` stores of head 0 of `vw` is the reference's at the place it is written to. -/
theorem point11_0 (c : Dev nD) (t : Fin cfg0.N) (x : S1x1x256x128.Idx) :
    (k0_pay52 (k0_pay61 (iblk m c 0 t) (iblk m c 1 t) (iblk m c 2 t) (iblk m c 3 t) (iblk m c 4 t) (iblk m c 5 t) (iblk m c 6 t)) : S1x1x256x128.Idx → EReal) x = (vw (m ((c : Thread nD τ).loc main_arg0)) : S16x2x2048x128.Idx → EReal) (((cfg0.win 11).blk t).view.emb (r0_15.idx x)) := by
  idx_vars x
  obtain rfl : x0 = 0 := Subsingleton.elim _ _
  obtain rfl : x1 = 0 := Subsingleton.elim _ _
  rw [ridx15]
  refine (twice52 _ x2 x3).trans (Eq.trans ?_ ((emb11 t (vw (m ((c : Thread nD τ).loc main_arg0))) 0 x2 x3).trans (vw_at _ _ _ 0 x3)).symm)
  refine (raw11 m c t x2 _).trans ?_
  refine congrArg (fun z => ((m ((c : Thread nD τ).loc main_arg0)) : FVec Ideal S16x2048x1408 .f32) (ix3 (bt t) (pos t x2) z)) (Fin.ext ?_)
  show 1152 + (x3 : ℕ) % 64 = 1152 + (0 * 64 + (x3 : ℕ) % 64)
  omega

/-- What point `t` stores of head 1 of `vw` is the reference's at the place it is written to. -/
theorem point11_1 (c : Dev nD) (t : Fin cfg0.N) (x : S1x1x256x128.Idx) :
    (k0_pay53 (k0_pay61 (iblk m c 0 t) (iblk m c 1 t) (iblk m c 2 t) (iblk m c 3 t) (iblk m c 4 t) (iblk m c 5 t) (iblk m c 6 t)) : S1x1x256x128.Idx → EReal) x = (vw (m ((c : Thread nD τ).loc main_arg0)) : S16x2x2048x128.Idx → EReal) (((cfg0.win 11).blk t).view.emb (r0_16.idx x)) := by
  idx_vars x
  obtain rfl : x0 = 0 := Subsingleton.elim _ _
  obtain rfl : x1 = 0 := Subsingleton.elim _ _
  rw [ridx16]
  refine (twice53 _ x2 x3).trans (Eq.trans ?_ ((emb11 t (vw (m ((c : Thread nD τ).loc main_arg0))) 1 x2 x3).trans (vw_at _ _ _ 1 x3)).symm)
  refine (raw11 m c t x2 _).trans ?_
  refine congrArg (fun z => ((m ((c : Thread nD τ).loc main_arg0)) : FVec Ideal S16x2048x1408 .f32) (ix3 (bt t) (pos t x2) z)) (Fin.ext ?_)
  rfl

/-- Result 4's array after the run. -/
theorem final11 (c : Dev nD) : (dats m 0 c).arrAt 11 cfg0.N = vw (m ((c : Thread nD τ).loc main_arg0)) := by
  refine (dats m 0 c).arrAt_eq_of_covers 11 _ (by decide +kernel) fun t _ y => ?_
  blk_simp
  rw [after0_11]
  unfold out0_11
  refine View.canon_apply_of_pieces (Val := Elt Ideal) (fun y => vw (m ((c : Thread nD τ).loc main_arg0)) (((cfg0.win 11).blk t).view.emb y)) _ ?_ y (cover0_11 _ _ y)
  intro pc hpc
  rcases List.mem_cons.mp hpc with rfl | hpc
  · exact fun x => point11_1 m c t x
  rcases List.mem_cons.mp hpc with rfl | hpc
  · exact fun x => point11_0 m c t x
  nomatch hpc

/-- What point `t` stores of `kc` is the reference's at the place it is written to. -/
theorem point12 (c : Dev nD) (t : Fin cfg0.N) (x : S1x256x128.Idx) :
    (k0_pay54 (View.ld (iblk m c 0 t) r0_17) : S1x256x128.Idx → EReal) x = (kc (m ((c : Thread nD τ).loc main_arg0)) : S16x2048x128.Idx → EReal) (((cfg0.win 12).blk t).view.emb (r0_18.idx x)) := by
  idx_vars x
  obtain rfl : x0 = 0 := Subsingleton.elim _ _
  have e : ∀ X : FVec Ideal S1x256x128 .f32, (k0_pay54 (F := Ideal) X : S1x256x128.Idx → EReal) (ix3 0 x1 x2) = X (ix3 0 x1 x2) := fun X => by
    pointwise [k0_pay54]
  rw [ridx18]
  refine (e _).trans (Eq.trans ?_ ((emb12 t (kc (m ((c : Thread nD τ).loc main_arg0))) x1 x2).trans (kc_at _ _ _ x2)).symm)
  exact (ld17 (iblk m c 0 t) x1 x2).trans (b0 m c t x1 _)

/-- Result 5's array after the run. -/
theorem final12 (c : Dev nD) : (dats m 0 c).arrAt 12 cfg0.N = kc (m ((c : Thread nD τ).loc main_arg0)) := by
  refine (dats m 0 c).arrAt_eq_of_covers 12 _ (by decide +kernel) fun t _ y => ?_
  blk_simp
  rw [after0_12]
  unfold out0_12
  refine View.canon_apply_of_pieces (Val := Elt Ideal) (fun y => kc (m ((c : Thread nD τ).loc main_arg0)) (((cfg0.win 12).blk t).view.emb y)) _ ?_ y (cover0_12 _ y)
  intro pc hpc
  rcases List.mem_cons.mp hpc with rfl | hpc
  · exact fun x => point12 m c t x
  nomatch hpc

/-- What point `t` stores of `vc` is the reference's at the place it is written to. -/
theorem point13 (c : Dev nD) (t : Fin cfg0.N) (x : S1x256x128.Idx) :
    (k0_pay1 (View.ld (iblk m c 0 t) r0_19) : S1x256x128.Idx → EReal) x = (vc (m ((c : Thread nD τ).loc main_arg0)) : S16x2048x128.Idx → EReal) (((cfg0.win 13).blk t).view.emb (r0_18.idx x)) := by
  idx_vars x
  obtain rfl : x0 = 0 := Subsingleton.elim _ _
  have e : ∀ X : FVec Ideal S1x256x128 .f32, (k0_pay1 (F := Ideal) X : S1x256x128.Idx → EReal) (ix3 0 x1 x2) = X (ix3 0 x1 x2) := fun X => by
    pointwise [k0_pay1]
  rw [ridx18]
  refine (e _).trans (Eq.trans ?_ ((emb13 t (vc (m ((c : Thread nD τ).loc main_arg0))) x1 x2).trans (vc_at _ _ _ x2)).symm)
  exact (ld19 (iblk m c 0 t) x1 x2).trans (b0 m c t x1 _)

/-- Result 6's array after the run. -/
theorem final13 (c : Dev nD) : (dats m 0 c).arrAt 13 cfg0.N = vc (m ((c : Thread nD τ).loc main_arg0)) := by
  refine (dats m 0 c).arrAt_eq_of_covers 13 _ (by decide +kernel) fun t _ y => ?_
  blk_simp
  rw [after0_13]
  unfold out0_13
  refine View.canon_apply_of_pieces (Val := Elt Ideal) (fun y => vc (m ((c : Thread nD τ).loc main_arg0)) (((cfg0.win 13).blk t).view.emb y)) _ ?_ y (cover0_13 _ y)
  intro pc hpc
  rcases List.mem_cons.mp hpc with rfl | hpc
  · exact fun x => point13 m c t x
  nomatch hpc

/-- The precondition, read at an entry: it is finite. -/
theorem finite_at [Cert.Pre_rows_finite.Facts] (a0 : FVec Ideal S16x2048x1408 .f32) (a1 : FVec Ideal S64 .f32) (a2 : FVec Ideal S3x64 .f32)
    (h : Cert.Pre_rows_finite.fn (F := Ideal) a0 a1 a2 = fun _ => 1#1) (i : S16x2048x1408.Idx) : a0 i ≠ (⊤ : EReal) ∧ a0 i ≠ (⊥ : EReal) := by
  have e : Ideal.cmp .olt (max (a0 i : EReal) (-(a0 i : EReal))) (Ideal.ofBits .f32 0x7F800000#32) = 1#1 := congrFun h i
  have htop : Ideal.ofBits .f32 0x7F800000#32 = ⊤ := by simp [Ideal.ofBits, Ideal.ieee]
  rw [htop] at e
  have e' : max (a0 i : EReal) (-(a0 i : EReal)) < ⊤ := by
    by_contra hn
    unfold Ideal.cmp at e
    simp [hn] at e
  obtain ⟨h1, h2⟩ := max_lt_iff.mp e'
  refine ⟨h1.ne, fun hb => ?_⟩
  rw [hb] at h2
  simp at h2

end Cert.NsaPrepIdeal.Value

end
-- ==== Proof.NsaCmpRef.lean ====
module

public import proofs.«01_k».proof.Proof.Gen.NsaCmpRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NsaCmpRefIdeal.Spec

open Cert.NsaCmpRefIdeal Cert.NsaCmpRefIdeal.Gen Cert.NsaCmpRefIdeal.Value

/-- The hidden layer of the compression before its activation. -/
def hidT (x : FVec Ideal S16x2048x128 .f32) (pe : FVec Ideal S32x64 .f32) (w1 : FVec Ideal S32x64x256 .f32) (b1 : FVec Ideal S256 .f32) : FVec Ideal S16x127x2x256 .f32 :=
  addf (Host.dotGeneral dot_S16x127x32x2x64_S32x64x256_S16x127x2x256_42_10_013_2_n_n none
    (addf (concatenate S16x127x32x2x64 2 [⟨S16x127x16x2x64, extractStridedSlice S16x127x16x2x64 ![0, 0, 0, 0, 0] (shapeCast S16x128x16x2x64 x shapeCasts_S16x2048x128_S16x128x16x2x64) slices_S16x128x16x2x64_S16x127x16x2x64_0_0_0_0_0⟩,
      ⟨S16x127x16x2x64, extractStridedSlice S16x127x16x2x64 ![0, 1, 0, 0, 0] (shapeCast S16x128x16x2x64 x shapeCasts_S16x2048x128_S16x128x16x2x64) slices_S16x128x16x2x64_S16x127x16x2x64_0_1_0_0_0⟩] concatenates_S16x127x16x2x64_S16x127x16x2x64_S16x127x32x2x64_d2)
      (broadcastInDim S16x127x32x2x64 ![0, 1, 2, 3, 4] bcast_S1x1x32x1x64_S16x127x32x2x64_0_1_2_3_4 (broadcastInDim S1x1x32x1x64 ![2, 4] bcast_S32x64_S1x1x32x1x64_2_4 pe))) w1)
    (broadcastInDim S16x127x2x256 ![0, 1, 2, 3] bcast_S1x1x1x256_S16x127x2x256_0_1_2_3 (broadcastInDim S1x1x1x256 ![3] bcast_S256_S1x1x1x256_3 b1))

/-- The activation: a value times its logistic. -/
def siluT (u : FVec Ideal S16x127x2x256 .f32) : FVec Ideal S16x127x2x256 .f32 :=
  mulf u (Host.divf (broadcastInDim S16x127x2x256 ![] bcast_S_S16x127x2x256 (constant S_ .f32 0x3F800000#32))
    (addf (broadcastInDim S16x127x2x256 ![] bcast_S_S16x127x2x256 (constant S_ .f32 0x3F800000#32)) (Host.exp (Host.negf u))))

/-- The compressed rows: each window of 32 rows through the two layers. -/
def comp (x : FVec Ideal S16x2048x128 .f32) (pe : FVec Ideal S32x64 .f32) (w1 : FVec Ideal S32x64x256 .f32) (b1 : FVec Ideal S256 .f32) (w2 : FVec Ideal S256x64 .f32) : FVec Ideal S16x127x2x64 .f32 :=
  Host.dotGeneral dot_S16x127x2x256_S256x64_S16x127x2x64_3_0_012_1_n_n none (siluT (hidT x pe w1 b1)) w2

/-- The angles of the rotation: the last position of the window times the frequency. -/
def ang : FVec Ideal S127x32 .f32 :=
  mulf (broadcastInDim S127x32 ![0, 1] bcast_S127x1_S127x32_0_1 (broadcastInDim S127x1 ![0] bcast_S127_S127x1_0 (sitofp .f32
      (subi (addi (muli (iotaInDim S127 32 0) (broadcastInDim S127 ![] bcast_S_S127 (constantI S_ 32 16#32))) (broadcastInDim S127 ![] bcast_S_S127 (constantI S_ 32 32#32))) (broadcastInDim S127 ![] bcast_S_S127 (constantI S_ 32 1#32))))))
    (broadcastInDim S127x32 ![0, 1] bcast_S1x32_S127x32_0_1 (broadcastInDim S1x32 ![1] bcast_S32_S1x32_1
      (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The gain of the compressed keys. -/
def gk0 (a2 : FVec Ideal S3x64 .f32) : FVec Ideal S64 .f32 := shapeCast _ (extractStridedSlice S1x64 ![0, 0] a2 slices_S3x64_S1x64_0_0) shapeCasts_S1x64_S64

/-- The compressed heads, normalised. -/
def nrmT (u : FVec Ideal S16x127x2x64 .f32) (g : FVec Ideal S64 .f32) : FVec Ideal S16x127x2x64 .f32 :=
  mulf (mulf u (broadcastInDim S16x127x2x64 ![0, 1, 2, 3] bcast_S16x127x2x1_S16x127x2x64_0_1_2_3 (Host.rsqrt (addf (Host.divf (broadcastInDim S16x127x2x1 ![0, 1, 2] bcast_S16x127x2_S16x127x2x1_0_1_2
      (Host.reduceAdd (mulf u u) (constant S_ .f32 0x00000000#32) reducesTo_S16x127x2x64_S16x127x2_d3 h_S_)) (broadcastInDim S16x127x2x1 ![] bcast_S_S16x127x2x1 (constant S_ .f32 0x42800000#32)))
      (broadcastInDim S16x127x2x1 ![] bcast_S_S16x127x2x1 (constant S_ .f32 0x358637BD#32))))))
    (broadcastInDim S16x127x2x64 ![0, 1, 2, 3] bcast_S1x1x1x64_S16x127x2x64_0_1_2_3 (broadcastInDim S1x1x1x64 ![3] bcast_S64_S1x1x1x64_3 g))

/-- A table of angles' values spread over batches and heads. -/
def spread (t : FVec Ideal S127x32 .f32) : FVec Ideal S16x127x2x32 .f32 :=
  broadcastInDim S16x127x2x32 ![0, 1, 2, 3] bcast_S1x127x1x32_S16x127x2x32_0_1_2_3 (broadcastInDim S1x127x1x32 ![1, 2, 3] bcast_S127x1x32_S1x127x1x32_1_2_3 (broadcastInDim S127x1x32 ![0, 2] bcast_S127x32_S127x1x32_0_2 t))

/-- The rotation of the compressed heads. -/
def rotT (f : FVec Ideal S16x127x2x64 .f32) : FVec Ideal S16x127x2x64 .f32 :=
  concatenate S16x127x2x64 3 [⟨S16x127x2x32, subf (mulf (extractStridedSlice S16x127x2x32 ![0, 0, 0, 0] f slices_S16x127x2x64_S16x127x2x32_0_0_0_0) (spread (Host.cos ang))) (mulf (extractStridedSlice S16x127x2x32 ![0, 0, 0, 32] f slices_S16x127x2x64_S16x127x2x32_0_0_0_32) (spread (Host.sin ang)))⟩,
    ⟨S16x127x2x32, addf (mulf (extractStridedSlice S16x127x2x32 ![0, 0, 0, 32] f slices_S16x127x2x64_S16x127x2x32_0_0_0_32) (spread (Host.cos ang))) (mulf (extractStridedSlice S16x127x2x32 ![0, 0, 0, 0] f slices_S16x127x2x64_S16x127x2x32_0_0_0_0) (spread (Host.sin ang)))⟩] concatenates_S16x127x2x32_S16x127x2x32_S16x127x2x64_d3

/-- Heads brought to the front, each row twice side by side. -/
def byHead (t : FVec Ideal S16x127x2x64 .f32) : FVec Ideal S16x2x127x128 .bf16 :=
  truncf .bf16 (concatenate S16x2x127x128 3 [⟨S16x2x127x64, transpose S16x2x127x64 [0, 2, 1, 3] t transposes_S16x127x2x64_S16x2x127x64_0_2_1_3⟩, ⟨S16x2x127x64, transpose S16x2x127x64 [0, 2, 1, 3] t transposes_S16x127x2x64_S16x2x127x64_0_2_1_3⟩] concatenates_S16x2x127x64_S16x2x127x64_S16x2x127x128_d3) bitsLt_bf16_f32

/-- The compressed keys. -/
def kc (a0 : FVec Ideal S16x2048x128 .f32) (a2 : FVec Ideal S3x64 .f32) (pe : FVec Ideal S32x64 .f32) (w1 : FVec Ideal S32x64x256 .f32) (b1 : FVec Ideal S256 .f32) (w2 : FVec Ideal S256x64 .f32) : FVec Ideal S16x2x127x128 .bf16 :=
  byHead (rotT (nrmT (comp a0 pe w1 b1 w2) (gk0 a2)))

/-- The compressed values. -/
def vc (a1 : FVec Ideal S16x2048x128 .f32) (pe : FVec Ideal S32x64 .f32) (w1 : FVec Ideal S32x64x256 .f32) (b1 : FVec Ideal S256 .f32) (w2 : FVec Ideal S256x64 .f32) : FVec Ideal S16x2x127x128 .bf16 :=
  byHead (comp a1 pe w1 b1 w2)

/-- The first result of the run is the compressed keys. -/
theorem res0 (m : (ℓ : Loc nD τ sig) → Buf (Elt Ideal) ℓ) (c : Dev nD) : res_out0 m c = kc (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

/-- The second result of the run is the compressed values. -/
theorem res1 (m : (ℓ : Loc nD τ sig) → Buf (Elt Ideal) ℓ) (c : Dev nD) : res_out1 m c = vc (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) := rfl

/-- One head's row divided by its root mean square, times the gain. -/
def nrm (u g : Fin 64 → EReal) (d : Fin 64) : EReal :=
  u d * Ideal.rsqrt (Ideal.div (∑ k, u k * u k) (Ideal.ofBits .f32 0x42800000#32) + Ideal.ofBits .f32 0x358637BD#32) * g d

/-- One head's row rotated by the angles of window `s`. -/
def rot (f : Fin 64 → EReal) (s : Fin 127) (d : Fin 64) : EReal :=
  if h : (d : ℕ) < 32 then f d * Ideal.cos (ang (ix2 s ⟨d, h⟩)) - f ⟨d + 32, by omega⟩ * Ideal.sin (ang (ix2 s ⟨d, h⟩))
  else f d * Ideal.cos (ang (ix2 s ⟨d - 32, by omega⟩)) + f ⟨d - 32, by omega⟩ * Ideal.sin (ang (ix2 s ⟨d - 32, by omega⟩))

/-- The activation of one value. -/
def act (u : EReal) : EReal := u * Ideal.div (Ideal.ofBits .f32 0x3F800000#32) (Ideal.ofBits .f32 0x3F800000#32 + Ideal.exp (-u))

/-- The activation at an index. -/
theorem siluT_at (u : FVec Ideal S16x127x2x256 .f32) (b : Fin 16) (n : Fin 127) (h : Fin 2) (f : Fin 256) : siluT u (ix4 b n h f) = act (u (ix4 b n h f)) := by
  unfold siluT act
  pointwise

/-- The compressed rows at an index. -/
theorem comp_at (x : FVec Ideal S16x2048x128 .f32) (pe : FVec Ideal S32x64 .f32) (w1 : FVec Ideal S32x64x256 .f32) (b1 : FVec Ideal S256 .f32) (w2 : FVec Ideal S256x64 .f32) (b : Fin 16) (n : Fin 127) (h : Fin 2) (d : Fin 64) :
    comp x pe w1 b1 w2 (ix4 b n h d) = ∑ f : Fin 256, act (hidT x pe w1 b1 (ix4 b n h f)) * w2 (ix2 f d) := by
  unfold comp
  simp only [← siluT_at]
  pointwise

/-- The hidden layer of the window whose halves are the rows of 16 beginning at rows `r` and `r'` of 16, at a head and a lane. -/
def hidRow (x : FVec Ideal S16x2048x128 .f32) (pe : FVec Ideal S32x64 .f32) (w1 : FVec Ideal S32x64x256 .f32) (b1 : FVec Ideal S256 .f32) (b : Fin 16) (r r' : Fin 128) (h : Fin 2) (f : Fin 256) : EReal :=
  ∑ l : Fin 16, ∑ e : Fin 64, (x (ix3 b ⟨(r : ℕ) * 16 + l, by omega⟩ ⟨(h : ℕ) * 64 + e, by omega⟩) + pe (ix2 ⟨l, by omega⟩ e)) * w1 (ix3 ⟨l, by omega⟩ e f)
    + ∑ l : Fin 16, ∑ e : Fin 64, (x (ix3 b ⟨(r' : ℕ) * 16 + l, by omega⟩ ⟨(h : ℕ) * 64 + e, by omega⟩) + pe (ix2 ⟨16 + l, by omega⟩ e)) * w1 (ix3 ⟨16 + l, by omega⟩ e f)
    + b1 (ix1 f)

/-- The hidden layer at an index. -/
theorem hid_at (x : FVec Ideal S16x2048x128 .f32) (pe : FVec Ideal S32x64 .f32) (w1 : FVec Ideal S32x64x256 .f32) (b1 : FVec Ideal S256 .f32) (b : Fin 16) (n : Fin 127) (h : Fin 2) (f : Fin 256) :
    hidT x pe w1 b1 (ix4 b n h f) = hidRow x pe w1 b1 b ⟨n, by omega⟩ ⟨1 + (n : ℕ), by omega⟩ h f := by
  unfold hidT hidRow
  pointwise
  rw [Finset.sum_add_distrib, Finset.sum_comm (f := fun (e : Fin 64) (l : Fin 16) => (x (ix3 b ⟨(n : ℕ) * 16 + l, by omega⟩ ⟨(h : ℕ) * 64 + e, by omega⟩) + pe (ix2 ⟨l, by omega⟩ e)) * w1 (ix3 ⟨l, by omega⟩ e f)),
    Finset.sum_comm (f := fun (e : Fin 64) (l : Fin 16) => (x (ix3 b ⟨(1 + (n : ℕ)) * 16 + l, by omega⟩ ⟨(h : ℕ) * 64 + e, by omega⟩) + pe (ix2 ⟨16 + l, by omega⟩ e)) * w1 (ix3 ⟨16 + l, by omega⟩ e f))]

/-- The compressed row of the window with these halves, at a head and a lane. -/
def compRow (x : FVec Ideal S16x2048x128 .f32) (pe : FVec Ideal S32x64 .f32) (w1 : FVec Ideal S32x64x256 .f32) (b1 : FVec Ideal S256 .f32) (w2 : FVec Ideal S256x64 .f32) (b : Fin 16) (r r' : Fin 128) (h : Fin 2) (d : Fin 64) : EReal :=
  ∑ f : Fin 256, act (hidRow x pe w1 b1 b r r' h f) * w2 (ix2 f d)

/-- The compressed rows at an index, by the two halves of the window. -/
theorem comp_row (x : FVec Ideal S16x2048x128 .f32) (pe : FVec Ideal S32x64 .f32) (w1 : FVec Ideal S32x64x256 .f32) (b1 : FVec Ideal S256 .f32) (w2 : FVec Ideal S256x64 .f32) (b : Fin 16) (n : Fin 127) (h : Fin 2) (d : Fin 64) :
    comp x pe w1 b1 w2 (ix4 b n h d) = compRow x pe w1 b1 w2 b ⟨n, by omega⟩ ⟨1 + (n : ℕ), by omega⟩ h d := by
  rw [comp_at]
  simp only [hid_at]
  rfl

/-- The normalised heads at an index. -/
theorem nrmT_at (u : FVec Ideal S16x127x2x64 .f32) (g : FVec Ideal S64 .f32) (b : Fin 16) (s : Fin 127) (h : Fin 2) (d : Fin 64) :
    nrmT u g (ix4 b s h d) = nrm (fun k => u (ix4 b s h k)) (fun k => g (ix1 k)) d := by
  unfold nrmT nrm
  pointwise

/-- The rotated heads at an index. -/
theorem rotT_at (f : FVec Ideal S16x127x2x64 .f32) (b : Fin 16) (s : Fin 127) (h : Fin 2) (d : Fin 64) :
    rotT f (ix4 b s h d) = rot (fun k => f (ix4 b s h k)) s d := by
  unfold rotT rot spread
  generalize ang = A
  pointwise
  by_cases hd : (d : ℕ) < 32
  · simp only [dif_pos hd, Nat.add_comm 32 (d : ℕ)]
  · have e : f (ix4 b s h ⟨32 + ((d : ℕ) - 32), by omega⟩) = f (ix4 b s h d) :=
      congrArg (fun z => f (ix4 b s h z)) (Fin.ext (by show 32 + ((d : ℕ) - 32) = d; omega))
    simp only [dif_neg hd]
    rw [e]

/-- What `byHead` holds at an index. -/
theorem byHead_at (t : FVec Ideal S16x127x2x64 .f32) (b : Fin 16) (s : Fin 127) (h : Fin 2) (j : Fin 128) :
    (byHead t : S16x2x127x128.Idx → EReal) (ix4 b h s j) = t (ix4 b s h ⟨(j : ℕ) % 64, by omega⟩) := by
  unfold byHead
  pointwise
  by_cases hj : (j : ℕ) < 64
  · simp only [dif_pos hj]
    exact congrArg (fun z => t (ix4 b s h z)) (Fin.ext (by show (j : ℕ) = j % 64; omega))
  · simp only [dif_neg hj]
    exact congrArg (fun z => t (ix4 b s h z)) (Fin.ext (by show (j : ℕ) - 64 = j % 64; omega))

/-- The compressed keys at an index. -/
theorem kc_at (a0 : FVec Ideal S16x2048x128 .f32) (a2 : FVec Ideal S3x64 .f32) (pe : FVec Ideal S32x64 .f32) (w1 : FVec Ideal S32x64x256 .f32) (b1 : FVec Ideal S256 .f32) (w2 : FVec Ideal S256x64 .f32) (b : Fin 16) (h : Fin 2) (n : Fin 127) (j : Fin 128) :
    (kc a0 a2 pe w1 b1 w2 : S16x2x127x128.Idx → EReal) (ix4 b h n j) = rot (nrm (fun k => comp a0 pe w1 b1 w2 (ix4 b n h k)) (fun k => a2 (ix2 0 k))) n ⟨(j : ℕ) % 64, by omega⟩ := by
  unfold kc
  rw [byHead_at, rotT_at]
  simp only [nrmT_at]
  unfold gk0
  pointwise

/-- The compressed values at an index. -/
theorem vc_at (a1 : FVec Ideal S16x2048x128 .f32) (pe : FVec Ideal S32x64 .f32) (w1 : FVec Ideal S32x64x256 .f32) (b1 : FVec Ideal S256 .f32) (w2 : FVec Ideal S256x64 .f32) (b : Fin 16) (h : Fin 2) (n : Fin 127) (j : Fin 128) :
    (vc a1 pe w1 b1 w2 : S16x2x127x128.Idx → EReal) (ix4 b h n j) = comp a1 pe w1 b1 w2 (ix4 b n h ⟨(j : ℕ) % 64, by omega⟩) := by
  unfold vc
  exact byHead_at _ _ _ _ _

end Cert.NsaCmpRefIdeal.Spec

end
-- ==== Proof.NsaCmpCore.lean ====
module

public import proofs.«01_k».proof.Proof.Gen.NsaCmpIdeal.Frame
public import proofs.«01_k».proof.Proof.NsaPrepCore
public import proofs.«01_k».proof.Proof.NsaCmpRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NsaCmpIdeal.Value

open Cert.NsaCmpIdeal Cert.NsaCmpIdeal.Gen Cert.NsaCmpRefIdeal.Spec
open Cert.NsaPrepIdeal.Value (hn hn_eq sum_half mask_at)

/-- A row of 2048 against a matrix that keeps each head's columns to itself: the sums over the 16 positions and one head's lanes. -/
theorem dense (B : Fin 2048 → EReal) (W : Fin 2048 → EReal) (w : Fin 16 → Fin 64 → EReal) (q : Fin 2)
    (hW : ∀ x : Fin 2048, W x = w ⟨(x : ℕ) / 128, by omega⟩ ⟨(x : ℕ) % 64, by omega⟩ * (if (x : ℕ) / 64 % 2 = (q : ℕ) then (1 : EReal) else 0)) :
    ∑ x, B x * W x = ∑ l : Fin 16, ∑ e : Fin 64, B ⟨(l : ℕ) * 128 + ((q : ℕ) * 64 + e), by omega⟩ * w l e := by
  rw [← (Equiv.sum_comp (finProdFinEquiv : Fin 16 × Fin 128 ≃ Fin (16 * 128)) (fun x : Fin 2048 => B x * W x) : _ = ∑ x : Fin 2048, B x * W x), Fintype.sum_prod_type]
  refine Finset.sum_congr rfl fun l _ => ?_
  have h := sum_half (fun y : Fin 128 => B ⟨(l : ℕ) * 128 + y, by omega⟩ * w l ⟨(y : ℕ) % 64, by omega⟩) ⟨(q : ℕ) * 64, by omega⟩
  have hq : (q : ℕ) * 64 / 64 = q := by omega
  refine Eq.trans (Finset.sum_congr rfl fun y _ => ?_) (h.trans (Finset.sum_congr rfl fun e _ => ?_))
  · have e1 : (finProdFinEquiv (l, y) : Fin (16 * 128)) = (⟨(l : ℕ) * 128 + y, by omega⟩ : Fin 2048) := Fin.ext (show (y : ℕ) + 128 * (l : ℕ) = (l : ℕ) * 128 + y by omega)
    have e2 : ((l : ℕ) * 128 + y) / 128 = l := by omega
    have e3 : ((l : ℕ) * 128 + y) % 64 = (y : ℕ) % 64 := by omega
    have e4 : ((l : ℕ) * 128 + y) / 64 % 2 = (y : ℕ) / 64 := by omega
    rw [e1, hW, ← mul_assoc]
    simp only [e2, e3, e4, hq]
  · have e5 : ((q : ℕ) * 64 + (e : ℕ)) % 64 = e := by omega
    simp only [hq, e5]

/-- A row of 512 against a matrix that keeps each head's rows to itself: the sum over one head's lanes. -/
theorem dense2 (A : Fin 512 → EReal) (W : Fin 512 → EReal) (w : Fin 256 → EReal) (q : Fin 2)
    (hW : ∀ f : Fin 512, W f = w ⟨(f : ℕ) % 256, by omega⟩ * (if (f : ℕ) / 256 = (q : ℕ) then (1 : EReal) else 0)) :
    ∑ f, A f * W f = ∑ f : Fin 256, A ⟨(q : ℕ) * 256 + f, by omega⟩ * w f := by
  rw [← (Equiv.sum_comp (finProdFinEquiv : Fin 2 × Fin 256 ≃ Fin (2 * 256)) (fun f : Fin 512 => A f * W f) : _ = ∑ f : Fin 512, A f * W f), Fintype.sum_prod_type,
    Finset.sum_eq_single q]
  · refine Finset.sum_congr rfl fun f _ => ?_
    have e1 : (finProdFinEquiv (q, f) : Fin (2 * 256)) = (⟨(q : ℕ) * 256 + f, by omega⟩ : Fin 512) := Fin.ext (show (f : ℕ) + 256 * (q : ℕ) = (q : ℕ) * 256 + f by omega)
    have e2 : ((q : ℕ) * 256 + (f : ℕ)) % 256 = f := by omega
    have e3 : ((q : ℕ) * 256 + (f : ℕ)) / 256 = q := by omega
    rw [e1, hW]
    simp only [e2, e3, if_true, mul_one]
  · intro p _ hp
    refine Finset.sum_eq_zero fun f _ => ?_
    have e1 : (finProdFinEquiv (p, f) : Fin (2 * 256)) = (⟨(p : ℕ) * 256 + f, by omega⟩ : Fin 512) := Fin.ext (show (f : ℕ) + 256 * (p : ℕ) = (p : ℕ) * 256 + f by omega)
    have e3 : ¬ ((p : ℕ) * 256 + (f : ℕ)) / 256 = q := fun h => hp (Fin.ext (by omega))
    rw [e1, hW, if_neg e3, mul_zero, mul_zero]
  · exact fun h => absurd (Finset.mem_univ q) h

/-- The row after this one, around the end. -/
def nx (r : Fin 128) : Fin 128 := ⟨((r : ℕ) + 128 - 127) % 128, by omega⟩

/-- The hidden layer as the call computes it for one batch. -/
def pre (X : FVec Ideal S1x128x2048 .f32) (p0 p1 : FVec Ideal S1x2048 .f32) (wa wb : FVec Ideal S2048x512 .bf16) (b1 : FVec Ideal S1x512 .f32) (r : Fin 128) (f : Fin 512) : EReal :=
  ∑ x : Fin 2048, ((X (ix3 0 r x) : EReal) + p0 (ix2 0 x)) * wa (ix2 x f) + ∑ x : Fin 2048, ((X (ix3 0 (nx r) x) : EReal) + p1 (ix2 0 x)) * wb (ix2 x f) + b1 (ix2 0 f)

/-- The two layers as the call computes them for one batch, at an index: row `r` and the row after it, around the end. -/
theorem layer_at (X : FVec Ideal S1x128x2048 .f32) (p0 p1 : FVec Ideal S1x2048 .f32) (wa wb : FVec Ideal S2048x512 .bf16) (b1 : FVec Ideal S1x512 .f32) (w2 : FVec Ideal S512x128 .bf16) (r j : Fin 128) :
    (k0_pay2 X p0 wa p1 wb b1 w2 : FVec Ideal S128x128 .f32) (ix2 r j) = ∑ f : Fin 512, act (pre X p0 p1 wa wb b1 r f) * (w2 (ix2 f j) : EReal) := by
  have e : ∀ u : EReal, act u = u * Ideal.div 1 (1 + Ideal.exp (0 - u)) := fun u => by
    unfold act
    rw [zero_sub, Ideal.ofBits_one_f32]
  simp only [e]
  unfold pre nx
  pointwise [k0_pay2]

/-- The two layers of one batch, at an index, in terms of the weights: the compressed row of rows `r` and after. -/
theorem layer_row (x : FVec Ideal S16x2048x128 .f32) (pe : FVec Ideal S32x64 .f32) (w1 : FVec Ideal S32x64x256 .f32) (b : FVec Ideal S256 .f32) (w2 : FVec Ideal S256x64 .f32) (t : Fin 16)
    (X : FVec Ideal S1x128x2048 .f32) (p0 p1 : FVec Ideal S1x2048 .f32) (wa wb : FVec Ideal S2048x512 .bf16) (c1 : FVec Ideal S1x512 .f32) (c2 : FVec Ideal S512x128 .bf16)
    (hX : ∀ (r : Fin 128) (y : Fin 2048), X (ix3 0 r y) = x (ix3 t ⟨(r : ℕ) * 16 + (y : ℕ) / 128, by omega⟩ ⟨(y : ℕ) % 128, by omega⟩))
    (hp0 : ∀ y : Fin 2048, p0 (ix2 0 y) = pe (ix2 ⟨(y : ℕ) / 128, by omega⟩ ⟨(y : ℕ) % 64, by omega⟩))
    (hp1 : ∀ y : Fin 2048, p1 (ix2 0 y) = pe (ix2 ⟨16 + (y : ℕ) / 128, by omega⟩ ⟨(y : ℕ) % 64, by omega⟩))
    (ha : ∀ (y : Fin 2048) (f : Fin 512), (wa (ix2 y f) : EReal) = (w1 (ix3 ⟨(y : ℕ) / 128, by omega⟩ ⟨(y : ℕ) % 64, by omega⟩ ⟨(f : ℕ) % 256, by omega⟩) : EReal) * (if (y : ℕ) / 64 % 2 = (f : ℕ) / 256 then (1 : EReal) else 0))
    (hb : ∀ (y : Fin 2048) (f : Fin 512), (wb (ix2 y f) : EReal) = (w1 (ix3 ⟨16 + (y : ℕ) / 128, by omega⟩ ⟨(y : ℕ) % 64, by omega⟩ ⟨(f : ℕ) % 256, by omega⟩) : EReal) * (if (y : ℕ) / 64 % 2 = (f : ℕ) / 256 then (1 : EReal) else 0))
    (hc1 : ∀ f : Fin 512, c1 (ix2 0 f) = b (ix1 ⟨(f : ℕ) % 256, by omega⟩))
    (hc2 : ∀ (f : Fin 512) (d : Fin 128), (c2 (ix2 f d) : EReal) = (w2 (ix2 ⟨(f : ℕ) % 256, by omega⟩ ⟨(d : ℕ) % 64, by omega⟩) : EReal) * (if (f : ℕ) / 256 = (d : ℕ) / 64 then (1 : EReal) else 0))
    (r j : Fin 128) :
    (k0_pay2 X p0 wa p1 wb c1 c2 : FVec Ideal S128x128 .f32) (ix2 r j) = compRow x pe w1 b w2 t r (nx r) ⟨(j : ℕ) / 64, by omega⟩ ⟨(j : ℕ) % 64, by omega⟩ := by
  rw [layer_at, dense2 _ (fun f => (c2 (ix2 f j) : EReal)) (fun f => w2 (ix2 f ⟨(j : ℕ) % 64, by omega⟩)) ⟨(j : ℕ) / 64, by omega⟩ (fun f => hc2 f j)]
  unfold compRow
  refine Finset.sum_congr rfl fun f _ => ?_
  refine congrArg (fun z => act z * (w2 (ix2 f ⟨(j : ℕ) % 64, by omega⟩) : EReal)) ?_
  have e1 : ((j : ℕ) / 64 * 256 + (f : ℕ)) % 256 = f := by omega
  have e2 : ((j : ℕ) / 64 * 256 + (f : ℕ)) / 256 = (j : ℕ) / 64 := by omega
  unfold pre
  rw [dense _ (fun y => (wa (ix2 y ⟨(j : ℕ) / 64 * 256 + f, by omega⟩) : EReal)) (fun l e => w1 (ix3 ⟨(l : ℕ), by omega⟩ e f)) ⟨(j : ℕ) / 64, by omega⟩
      (fun y => by rw [ha]; simp only [e1, e2]),
    dense _ (fun y => (wb (ix2 y ⟨(j : ℕ) / 64 * 256 + f, by omega⟩) : EReal)) (fun l e => w1 (ix3 ⟨16 + (l : ℕ), by omega⟩ e f)) ⟨(j : ℕ) / 64, by omega⟩
      (fun y => by rw [hb]; simp only [e1, e2])]
  simp only [hX, hp0, hp1, hc1, e1]
  unfold hidRow
  have e3 : ∀ (l : Fin 16) (e : Fin 64), ((l : ℕ) * 128 + ((j : ℕ) / 64 * 64 + (e : ℕ))) / 128 = l := fun l e => by omega
  have e4 : ∀ (l : Fin 16) (e : Fin 64), ((l : ℕ) * 128 + ((j : ℕ) / 64 * 64 + (e : ℕ))) % 128 = (j : ℕ) / 64 * 64 + e := fun l e => by omega
  have e5 : ∀ (l : Fin 16) (e : Fin 64), ((l : ℕ) * 128 + ((j : ℕ) / 64 * 64 + (e : ℕ))) % 64 = e := fun l e => by omega
  simp only [e3, e4, e5]

/-- The second use of the two layers is the first's function. -/
theorem layer_eq (X : FVec Ideal S1x128x2048 .f32) (p0 p1 : FVec Ideal S1x2048 .f32) (wa wb : FVec Ideal S2048x512 .bf16) (b1 : FVec Ideal S1x512 .f32) (w2 : FVec Ideal S512x128 .bf16) :
    (k0_pay3 X p0 wa p1 wb b1 w2 : FVec Ideal S128x128 .f32) = k0_pay2 X p0 wa p1 wb b1 w2 := rfl

/-- Two heads of every row, normalised and rotated, as the call computes it. -/
def core (v76 v78 : FVec Ideal S128x128 .f32) (x4 : FVec Ideal S128x128 .bf16) (u : FVec Ideal S128x128 .f32) (g : FVec Ideal S1x128 .f32) : FVec Ideal S128x128 .f32 :=
  k0_pay10 v76 v78 (k0_pay6 u x4 g) k0_pay7 k0_pay8 k0_pay9

/-- A rotated lane of a normalised row, as the call forms it from the tables of ones, gains, cosines and signed sines. -/
def form (u : Fin 128 → EReal) (G : Fin 128 → Fin 128 → EReal) (g v1 v3 : Fin 128 → EReal) (j : Fin 128) : EReal :=
  hn u G g j * v1 j + (if (j : ℕ) % 64 < 32 then hn u G g ⟨((j : ℕ) + 128 - 96) % 128, by omega⟩ else hn u G g ⟨((j : ℕ) + 128 - 32) % 128, by omega⟩) * v3 j

/-- The two heads at an index, in terms of the normalised row. -/
theorem core_at (v1 v3 : FVec Ideal S128x128 .f32) (x4 : FVec Ideal S128x128 .bf16) (u : FVec Ideal S128x128 .f32) (g : FVec Ideal S1x128 .f32) (r : Fin 128) (j : Fin 128) :
    core v1 v3 x4 u g (ix2 r j) = form (fun k => u (ix2 r k)) (fun x y => (x4 : S128x128.Idx → EReal) (ix2 x y)) (fun k => g (ix2 0 k)) (fun k => v1 (ix2 r k)) (fun k => v3 (ix2 r k)) j := by
  unfold core form hn
  pointwise [k0_pay10, k0_pay6, k0_pay7, k0_pay8, k0_pay9]
  rw [mask_at]
  by_cases h : (j : ℕ) % 64 < 32
  · rw [if_pos h, if_pos h]
    rfl
  · rw [if_neg h, if_neg h]
    rfl

/-- A finite row's lane, rotated, is the reference's. -/
theorem form_rot (u : Fin 128 → EReal) (G : Fin 128 → Fin 128 → EReal) (g v1 v3 : Fin 128 → EReal) (s : Fin 127)
    (h1 : ∀ j : Fin 128, v1 j = Ideal.cos (ang (ix2 s ⟨(j : ℕ) % 32, by omega⟩)))
    (h3 : ∀ j : Fin 128, v3 j = if (j : ℕ) % 64 < 32 then -Ideal.sin (ang (ix2 s ⟨(j : ℕ) % 32, by omega⟩)) else Ideal.sin (ang (ix2 s ⟨(j : ℕ) % 32, by omega⟩)))
    (h4 : ∀ x y : Fin 128, G x y = if (x : ℕ) / 64 = (y : ℕ) / 64 then 1 else 0) (hf : ∀ k, u k ≠ ⊤ ∧ u k ≠ ⊥)
    (γ : Fin 64 → EReal) (hg : ∀ j : Fin 128, g j = γ ⟨(j : ℕ) % 64, by omega⟩) (j : Fin 128) :
    form u G g v1 v3 j = rot (nrm (fun k => u ⟨(j : ℕ) / 64 * 64 + k, by omega⟩) γ) s ⟨(j : ℕ) % 64, by omega⟩ := by
  have hn' : ∀ j : Fin 128, hn u G g j = nrm (fun k => u ⟨(j : ℕ) / 64 * 64 + k, by omega⟩) γ ⟨(j : ℕ) % 64, by omega⟩ := fun j => hn_eq u hf G h4 g γ hg j
  unfold form
  simp only [hn', h1, h3]
  unfold rot
  by_cases h : (j : ℕ) % 64 < 32
  · have a1 : (((j : ℕ) + 128 - 96) % 128) / 64 = (j : ℕ) / 64 := by omega
    have a2 : (((j : ℕ) + 128 - 96) % 128) % 64 = (j : ℕ) % 64 + 32 := by omega
    have a3 : (j : ℕ) % 32 = (j : ℕ) % 64 := by omega
    simp only [if_pos h, dif_pos h, a1, a2, a3]
    rw [mul_neg, ← sub_eq_add_neg]
  · have a1 : (((j : ℕ) + 128 - 32) % 128) / 64 = (j : ℕ) / 64 := by omega
    have a2 : (((j : ℕ) + 128 - 32) % 128) % 64 = (j : ℕ) % 64 - 32 := by omega
    have a3 : (j : ℕ) % 32 = (j : ℕ) % 64 - 32 := by omega
    simp only [if_neg h, dif_neg h, a1, a2, a3]

/-- The lanes of the first head. -/
theorem half_at : ∀ j : Fin 128, IntOp.cmpi CmpIPredicate.slt (BitVec.ofNat 32 (j : ℕ)) 64#32 = if (j : ℕ) < 64 then 1#1 else 0#1 := by decide +kernel

/-- Head 0 of the keys twice over side by side, at an index of its piece. -/
theorem twice13 (v1 v3 : FVec Ideal S128x128 .f32) (x4 : FVec Ideal S128x128 .bf16) (u : FVec Ideal S128x128 .f32) (g : FVec Ideal S1x128 .f32) (r d : Fin 128) :
    (k0_pay13 (F := Ideal) v1 v3 (k0_pay6 u x4 g) k0_pay7 k0_pay8 k0_pay9 : S1x1x128x128.Idx → EReal) (ix4 0 0 r d) = core v1 v3 x4 u g (ix2 r ⟨(d : ℕ) % 64, by omega⟩) := by
  have e : ∀ v : FVec Ideal S128x128 .f32, k0_pay10 v1 v3 (k0_pay6 u x4 g) k0_pay7 k0_pay8 k0_pay9 = v →
      (k0_pay13 (F := Ideal) v1 v3 (k0_pay6 u x4 g) k0_pay7 k0_pay8 k0_pay9 : S1x1x128x128.Idx → EReal) (ix4 0 0 r d) = v (ix2 r ⟨(d : ℕ) % 64, by omega⟩) := fun v hv => by
    unfold k0_pay13 k0_pay12
    rw [hv]
    pointwise [k0_pay11]
    rw [half_at]
    by_cases h : (d : ℕ) < 64
    · rw [if_pos h]
      exact congrArg (fun z => v (ix2 r z)) (Fin.ext (show (d : ℕ) = (d : ℕ) % 64 by omega))
    · rw [if_neg h]
      exact congrArg (fun z => v (ix2 r z)) (Fin.ext (show (((d : ℕ) + 128 - 64) % 128 : ℕ) = (d : ℕ) % 64 by omega))
  exact e _ rfl

/-- Head 1 of the keys twice over side by side, at an index of its piece. -/
theorem twice14 (v1 v3 : FVec Ideal S128x128 .f32) (x4 : FVec Ideal S128x128 .bf16) (u : FVec Ideal S128x128 .f32) (g : FVec Ideal S1x128 .f32) (r d : Fin 128) :
    (k0_pay14 (F := Ideal) v1 v3 (k0_pay6 u x4 g) k0_pay7 k0_pay8 k0_pay9 : S1x1x128x128.Idx → EReal) (ix4 0 0 r d) = core v1 v3 x4 u g (ix2 r ⟨64 + (d : ℕ) % 64, by omega⟩) := by
  have e : ∀ v : FVec Ideal S128x128 .f32, k0_pay10 v1 v3 (k0_pay6 u x4 g) k0_pay7 k0_pay8 k0_pay9 = v →
      (k0_pay14 (F := Ideal) v1 v3 (k0_pay6 u x4 g) k0_pay7 k0_pay8 k0_pay9 : S1x1x128x128.Idx → EReal) (ix4 0 0 r d) = v (ix2 r ⟨64 + (d : ℕ) % 64, by omega⟩) := fun v hv => by
    unfold k0_pay14 k0_pay12
    rw [hv]
    pointwise [k0_pay11]
    rw [half_at]
    by_cases h : (d : ℕ) < 64
    · rw [if_pos h]
      exact congrArg (fun z => v (ix2 r z)) (Fin.ext (show (((d : ℕ) + 128 - 64) % 128 : ℕ) = 64 + (d : ℕ) % 64 by omega))
    · rw [if_neg h]
      exact congrArg (fun z => v (ix2 r z)) (Fin.ext (show (d : ℕ) = 64 + (d : ℕ) % 64 by omega))
  exact e _ rfl

/-- Head 0 of the values twice over side by side, at an index of its piece. -/
theorem twice17 (v : FVec Ideal S128x128 .f32) (r d : Fin 128) :
    (k0_pay17 (F := Ideal) v : S1x1x128x128.Idx → EReal) (ix4 0 0 r d) = v (ix2 r ⟨(d : ℕ) % 64, by omega⟩) := by
  pointwise [k0_pay17, k0_pay15, k0_pay16]
  rw [half_at]
  by_cases h : (d : ℕ) < 64
  · rw [if_pos h]
    exact congrArg (fun z => v (ix2 r z)) (Fin.ext (show (d : ℕ) = (d : ℕ) % 64 by omega))
  · rw [if_neg h]
    exact congrArg (fun z => v (ix2 r z)) (Fin.ext (show (((d : ℕ) + 128 - 64) % 128 : ℕ) = (d : ℕ) % 64 by omega))

/-- Head 1 of the values twice over side by side, at an index of its piece. -/
theorem twice18 (v : FVec Ideal S128x128 .f32) (r d : Fin 128) :
    (k0_pay1 (F := Ideal) (k0_pay18 v) : S1x1x128x128.Idx → EReal) (ix4 0 0 r d) = v (ix2 r ⟨64 + (d : ℕ) % 64, by omega⟩) := by
  pointwise [k0_pay1, k0_pay18, k0_pay15, k0_pay16]
  rw [half_at]
  by_cases h : (d : ℕ) < 64
  · rw [if_pos h]
    exact congrArg (fun z => v (ix2 r z)) (Fin.ext (show (((d : ℕ) + 128 - 64) % 128 : ℕ) = 64 + (d : ℕ) % 64 by omega))
  · rw [if_neg h]
    exact congrArg (fun z => v (ix2 r z)) (Fin.ext (show (d : ℕ) = 64 + (d : ℕ) % 64 by omega))

end Cert.NsaCmpIdeal.Value

end
-- ==== Proof.NsaCmpTable.lean ====
module

public import proofs.«01_k».proof.Proof.Gen.NsaCmpIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NsaCmpIdeal.Value

open Cert.NsaCmpIdeal

/-- The constant table: one where row and column lie in the same half, zero elsewhere. -/
theorem lit0_eq : ∀ i : Fin 16384, lit0 i = if (i : ℕ) / 128 / 64 = (i : ℕ) % 128 / 64 then 0x3F80#16 else 0#16 := by decide +kernel

end Cert.NsaCmpIdeal.Value

end
-- ==== Proof.NsaCmpHost.lean ====
module

public import proofs.«01_k».proof.Proof.NsaCmpCore
public import proofs.«01_k».proof.Proof.NsaCmpTable
public import proofs.«01_k».proof.Pre_keys_finite

@[expose] public section

set_option maxRecDepth 16384

noncomputable section

open Idealize.ShloMosaic Idealize.ShloMosaic.TcCoe Idealize.SL.Sem
open Idealize.ShloMosaic.Pipeline (Dat)

namespace Cert.NsaCmpIdeal.Value

open Cert.NsaCmpIdeal Cert.NsaCmpIdeal.Gen Cert.NsaCmpRefIdeal.Spec
open Cert.NsaPrepIdeal.Value (hn)

variable (m : (ℓ : Loc nD τ sig) → Buf (Elt Ideal) ℓ)

/-- The values before the region, as one list of operations leaves them. -/
theorem V_eq (c : Dev nD) (b : Ref sig .tc) : V m c b = StableHlo.after hostOps0 (fun b => m (c, b)) (Proc.devRef .tc b) := by
  show StableHlo.after (List.flatten [hostOps0]) _ _ = _
  rw [show List.flatten [(hostOps0 : List (HloOp τ sig (Elt Ideal)))] = hostOps0 from by rw [List.flatten_cons, List.flatten_nil, List.append_nil]]

/-- One where two of the heads are the same, zero elsewhere. -/
theorem eye_at : ∀ p q : Fin 2, (FloatOps.uitofp (F := Ideal) FTy.f32 (IntOp.cmpi CmpIPredicate.eq (IntOp.addi (BitVec.ofNat 32 (p : ℕ)) 0#32) (BitVec.ofNat 32 (q : ℕ))) : EReal) = if (p : ℕ) = (q : ℕ) then 1 else 0 := by
  intro p q
  have h1 : (FloatOps.uitofp (F := Ideal) FTy.f32 (1#1 : BitVec 1) : EReal) = 1 := by
    show (((1#1 : BitVec 1).toNat : ℝ) : EReal) = 1
    norm_num
  have h0 : (FloatOps.uitofp (F := Ideal) FTy.f32 (0#1 : BitVec 1) : EReal) = 0 := by
    show (((0#1 : BitVec 1).toNat : ℝ) : EReal) = 0
    norm_num
  have h : IntOp.cmpi CmpIPredicate.eq (IntOp.addi (BitVec.ofNat 32 (p : ℕ)) 0#32) (BitVec.ofNat 32 (q : ℕ)) = if (p : ℕ) = (q : ℕ) then 1#1 else 0#1 := by
    revert p q
    decide
  rw [h]
  split
  · exact h1
  · exact h0

/-- The same of two heads given as numbers. -/
theorem eye_nat (p q : ℕ) (hp : p < 2) (hq : q < 2) : (FloatOps.uitofp (F := Ideal) FTy.f32 (IntOp.cmpi CmpIPredicate.eq (IntOp.addi (BitVec.ofNat 32 p) 0#32) (BitVec.ofNat 32 q)) : EReal) = if p = q then 1 else 0 :=
  eye_at ⟨p, hp⟩ ⟨q, hq⟩

/-- The windows' positions: the last of each window's 32, counted from either side. -/
theorem place_at : ∀ s : Fin 127, IntOp.addi (IntOp.muli (BitVec.ofNat 32 (s : ℕ)) 16#32) 31#32 = IntOp.subi (IntOp.addi (IntOp.muli (BitVec.ofNat 32 (s : ℕ)) 16#32) 32#32) 1#32 := by decide +kernel

/-- The table of ones, as extended reals. -/
theorem ones_at (x y : Fin 128) (i : Fin 16384) (hi : (i : ℕ) = x * 128 + y) :
    Ideal.ofBits .bf16 (lit0 i) = if (x : ℕ) / 64 = (y : ℕ) / 64 then (1 : EReal) else 0 := by
  have h1 : ((x : ℕ) * 128 + y) / 128 = x := by omega
  have h2 : ((x : ℕ) * 128 + y) % 128 = y := by omega
  rw [lit0_eq, hi, h1, h2]
  split
  · exact Ideal.ofBits_one_bf16
  · exact Ideal.ofBits_zero_bf16

/-- The rows of argument 0, 16 positions side by side. -/
theorem h122 (c : Dev nD) (b : Fin 16) (r : Fin 128) (y : Fin 2048) : (V m c main_v122 : FVec Ideal S16x128x2048 .f32) (ix3 b r y) = ((m ((c : Thread nD τ).loc main_arg0)) : FVec Ideal S16x2048x128 .f32) (ix3 b ⟨(r : ℕ) * 16 + (y : ℕ) / 128, by omega⟩ ⟨(y : ℕ) % 128, by omega⟩) := by
  rw [V_eq]
  entry_read
  pointwise
  try rfl

/-- The rows of argument 1, 16 positions side by side. -/
theorem h123 (c : Dev nD) (b : Fin 16) (r : Fin 128) (y : Fin 2048) : (V m c main_v123 : FVec Ideal S16x128x2048 .f32) (ix3 b r y) = ((m ((c : Thread nD τ).loc main_arg1)) : FVec Ideal S16x2048x128 .f32) (ix3 b ⟨(r : ℕ) * 16 + (y : ℕ) / 128, by omega⟩ ⟨(y : ℕ) % 128, by omega⟩) := by
  rw [V_eq]
  entry_read
  pointwise
  try rfl

/-- The position terms of argument 3, half 0 of a window. -/
theorem h38_0 (c : Dev nD) (y : Fin 2048) : (V m c main_v38 : FVec Ideal S2x2048 .f32) (ix2 0 y) = ((m ((c : Thread nD τ).loc main_arg3)) : FVec Ideal S32x64 .f32) (ix2 ⟨(y : ℕ) / 128, by omega⟩ ⟨(y : ℕ) % 64, by omega⟩) := by
  rw [V_eq]
  entry_read
  pointwise
  try rfl

/-- The position terms of argument 3, half 1 of a window. -/
theorem h38_1 (c : Dev nD) (y : Fin 2048) : (V m c main_v38 : FVec Ideal S2x2048 .f32) (ix2 1 y) = ((m ((c : Thread nD τ).loc main_arg3)) : FVec Ideal S32x64 .f32) (ix2 ⟨16 + (y : ℕ) / 128, by omega⟩ ⟨(y : ℕ) % 64, by omega⟩) := by
  rw [V_eq]
  entry_read
  pointwise
  try rfl

/-- The position terms of argument 7, half 0 of a window. -/
theorem h82_0 (c : Dev nD) (y : Fin 2048) : (V m c main_v82 : FVec Ideal S2x2048 .f32) (ix2 0 y) = ((m ((c : Thread nD τ).loc main_arg7)) : FVec Ideal S32x64 .f32) (ix2 ⟨(y : ℕ) / 128, by omega⟩ ⟨(y : ℕ) % 64, by omega⟩) := by
  rw [V_eq]
  entry_read
  pointwise
  try rfl

/-- The position terms of argument 7, half 1 of a window. -/
theorem h82_1 (c : Dev nD) (y : Fin 2048) : (V m c main_v82 : FVec Ideal S2x2048 .f32) (ix2 1 y) = ((m ((c : Thread nD τ).loc main_arg7)) : FVec Ideal S32x64 .f32) (ix2 ⟨16 + (y : ℕ) / 128, by omega⟩ ⟨(y : ℕ) % 64, by omega⟩) := by
  rw [V_eq]
  entry_read
  pointwise
  try rfl

/-- A half of the first layer's weights of argument 4, once per head. -/
theorem h20 (c : Dev nD) (y : Fin 2048) (f : Fin 512) : (V m c main_v20 : S2048x512.Idx → EReal) (ix2 y f) = @HMul.hMul EReal EReal EReal _ (((m ((c : Thread nD τ).loc main_arg4)) : S32x64x256.Idx → EReal) (ix3 ⟨(y : ℕ) / 128, by omega⟩ ⟨(y : ℕ) % 64, by omega⟩ ⟨(f : ℕ) % 256, by omega⟩)) (if (y : ℕ) / 64 % 2 = (f : ℕ) / 256 then (1 : EReal) else 0) := by
  rw [V_eq]
  entry_read
  pointwise
  exact congrArg (@HMul.hMul EReal EReal EReal _ _) (eye_nat ((y : ℕ) / 64 % 2) ((f : ℕ) / 256) (by omega) (by omega))

/-- A half of the first layer's weights of argument 4, once per head. -/
theorem h27 (c : Dev nD) (y : Fin 2048) (f : Fin 512) : (V m c main_v27 : S2048x512.Idx → EReal) (ix2 y f) = @HMul.hMul EReal EReal EReal _ (((m ((c : Thread nD τ).loc main_arg4)) : S32x64x256.Idx → EReal) (ix3 ⟨16 + (y : ℕ) / 128, by omega⟩ ⟨(y : ℕ) % 64, by omega⟩ ⟨(f : ℕ) % 256, by omega⟩)) (if (y : ℕ) / 64 % 2 = (f : ℕ) / 256 then (1 : EReal) else 0) := by
  rw [V_eq]
  entry_read
  pointwise
  exact congrArg (@HMul.hMul EReal EReal EReal _ _) (eye_nat ((y : ℕ) / 64 % 2) ((f : ℕ) / 256) (by omega) (by omega))

/-- A half of the first layer's weights of argument 8, once per head. -/
theorem h64 (c : Dev nD) (y : Fin 2048) (f : Fin 512) : (V m c main_v64 : S2048x512.Idx → EReal) (ix2 y f) = @HMul.hMul EReal EReal EReal _ (((m ((c : Thread nD τ).loc main_arg8)) : S32x64x256.Idx → EReal) (ix3 ⟨(y : ℕ) / 128, by omega⟩ ⟨(y : ℕ) % 64, by omega⟩ ⟨(f : ℕ) % 256, by omega⟩)) (if (y : ℕ) / 64 % 2 = (f : ℕ) / 256 then (1 : EReal) else 0) := by
  rw [V_eq]
  entry_read
  pointwise
  exact congrArg (@HMul.hMul EReal EReal EReal _ _) (eye_nat ((y : ℕ) / 64 % 2) ((f : ℕ) / 256) (by omega) (by omega))

/-- A half of the first layer's weights of argument 8, once per head. -/
theorem h71 (c : Dev nD) (y : Fin 2048) (f : Fin 512) : (V m c main_v71 : S2048x512.Idx → EReal) (ix2 y f) = @HMul.hMul EReal EReal EReal _ (((m ((c : Thread nD τ).loc main_arg8)) : S32x64x256.Idx → EReal) (ix3 ⟨16 + (y : ℕ) / 128, by omega⟩ ⟨(y : ℕ) % 64, by omega⟩ ⟨(f : ℕ) % 256, by omega⟩)) (if (y : ℕ) / 64 % 2 = (f : ℕ) / 256 then (1 : EReal) else 0) := by
  rw [V_eq]
  entry_read
  pointwise
  exact congrArg (@HMul.hMul EReal EReal EReal _ _) (eye_nat ((y : ℕ) / 64 % 2) ((f : ℕ) / 256) (by omega) (by omega))

/-- The first layer's added terms of argument 5, once per head. -/
theorem h49 (c : Dev nD) (f : Fin 512) : (V m c main_v49 : FVec Ideal S1x512 .f32) (ix2 0 f) = ((m ((c : Thread nD τ).loc main_arg5)) : FVec Ideal S256 .f32) (ix1 ⟨(f : ℕ) % 256, by omega⟩) := by
  rw [V_eq]
  entry_read
  pointwise
  try rfl

/-- The first layer's added terms of argument 9, once per head. -/
theorem h93 (c : Dev nD) (f : Fin 512) : (V m c main_v93 : FVec Ideal S1x512 .f32) (ix2 0 f) = ((m ((c : Thread nD τ).loc main_arg9)) : FVec Ideal S256 .f32) (ix1 ⟨(f : ℕ) % 256, by omega⟩) := by
  rw [V_eq]
  entry_read
  pointwise
  try rfl

/-- The second layer's weights of argument 6, once per head. -/
theorem h45 (c : Dev nD) (f : Fin 512) (d : Fin 128) : (V m c main_v45 : S512x128.Idx → EReal) (ix2 f d) = @HMul.hMul EReal EReal EReal _ (((m ((c : Thread nD τ).loc main_arg6)) : S256x64.Idx → EReal) (ix2 ⟨(f : ℕ) % 256, by omega⟩ ⟨(d : ℕ) % 64, by omega⟩)) (if (f : ℕ) / 256 = (d : ℕ) / 64 then (1 : EReal) else 0) := by
  rw [V_eq]
  entry_read
  pointwise
  exact congrArg (@HMul.hMul EReal EReal EReal _ _) (eye_nat ((f : ℕ) / 256) ((d : ℕ) / 64) (by omega) (by omega))

/-- The second layer's weights of argument 10, once per head. -/
theorem h89 (c : Dev nD) (f : Fin 512) (d : Fin 128) : (V m c main_v89 : S512x128.Idx → EReal) (ix2 f d) = @HMul.hMul EReal EReal EReal _ (((m ((c : Thread nD τ).loc main_arg10)) : S256x64.Idx → EReal) (ix2 ⟨(f : ℕ) % 256, by omega⟩ ⟨(d : ℕ) % 64, by omega⟩)) (if (f : ℕ) / 256 = (d : ℕ) / 64 then (1 : EReal) else 0) := by
  rw [V_eq]
  entry_read
  pointwise
  exact congrArg (@HMul.hMul EReal EReal EReal _ _) (eye_nat ((f : ℕ) / 256) ((d : ℕ) / 64) (by omega) (by omega))

/-- The keys' gain, once per head. -/
theorem h5 (c : Dev nD) (j : Fin 128) : (V m c main_v5 : FVec Ideal S1x128 .f32) (ix2 0 j) = ((m ((c : Thread nD τ).loc main_arg2)) : FVec Ideal S3x64 .f32) (ix2 0 ⟨(j : ℕ) % 64, by omega⟩) := by
  rw [V_eq]
  entry_read
  pointwise
  try rfl

/-- The angles' cosines, of the windows there are. -/
theorem h118 (c : Dev nD) (s : Fin 127) (j : Fin 128) : (V m c main_v118 : FVec Ideal S128x128 .f32) (ix2 ⟨s, by omega⟩ j) = Ideal.cos (ang (ix2 s ⟨(j : ℕ) % 32, by omega⟩)) := by
  rw [V_eq]
  entry_read
  unfold ang
  pointwise
  rw [← place_at]
  by_cases h : (j : ℕ) % 64 < 32
  · have e1 : (j : ℕ) % 64 = j % 32 := by omega
    rw [dif_pos h, e1]
  · have e1 : (j : ℕ) % 64 - 32 = j % 32 := by omega
    rw [dif_neg h, e1]

/-- The angles' sines, with the sign of the half, of the windows there are. -/
theorem h121 (c : Dev nD) (s : Fin 127) (j : Fin 128) : (V m c main_v121 : FVec Ideal S128x128 .f32) (ix2 ⟨s, by omega⟩ j)
    = if (j : ℕ) % 64 < 32 then -Ideal.sin (ang (ix2 s ⟨(j : ℕ) % 32, by omega⟩)) else Ideal.sin (ang (ix2 s ⟨(j : ℕ) % 32, by omega⟩)) := by
  rw [V_eq]
  entry_read
  unfold ang
  pointwise
  rw [← place_at]
  by_cases h : (j : ℕ) % 64 < 32
  · have e1 : (j : ℕ) % 64 = j % 32 := by omega
    rw [dif_pos h, if_pos h, e1]
  · have e1 : (j : ℕ) % 64 - 32 = j % 32 := by omega
    rw [dif_neg h, if_neg h, e1]

/-- The table of ones. -/
theorem hcst (c : Dev nD) (x y : Fin 128) : @Eq EReal ((V m c main_cst : S128x128.Idx → EReal) (ix2 x y)) (if (x : ℕ) / 64 = (y : ℕ) / 64 then (1 : EReal) else 0) := by
  rw [V_eq]
  entry_read
  exact ones_at x y (S128x128.rowMajor (ix2 x y)) (rowMajor_val2 _ 128 rfl)

end Cert.NsaCmpIdeal.Value

end
-- ==== Proof.NsaCmpValue.lean ====
module

public import proofs.«01_k».proof.Proof.NsaCmpHost

@[expose] public section

set_option maxRecDepth 16384

noncomputable section

open Idealize.ShloMosaic Idealize.ShloMosaic.TcCoe Idealize.SL.Sem
open Idealize.ShloMosaic.Pipeline (Dat)

namespace Cert.NsaCmpIdeal.Value

open Cert.NsaCmpIdeal Cert.NsaCmpIdeal.Gen Cert.NsaCmpRefIdeal.Spec
open Cert.NsaPrepIdeal.Value (hn)

variable (m : (ℓ : Loc nD τ sig) → Buf (Elt Ideal) ℓ)

/-- Which block each window holds at grid point `t`. -/
theorem idx : ∀ t : Fin cfg0.N, win0_0.index t = ![t.val, 0, 0] ∧ win0_1.index t = ![t.val, 0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![t.val, 0, 0, 0] ∧ win0_17.index t = ![t.val, 0, 0, 0] :=
  (by decide +kernel : ∀ t : Fin grid0.N, win0_0.index t = ![t.val, 0, 0] ∧ win0_1.index t = ![t.val, 0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![t.val, 0, 0, 0] ∧ win0_17.index t = ![t.val, 0, 0, 0])

/-- The batch of point `t`. -/
def bt (t : Fin cfg0.N) : Fin 16 := ⟨t.val, t.isLt⟩

/-- Operand 0's block, in its array. -/
theorem b0 (c : Dev nD) (t : Fin cfg0.N) (r : Fin 128) (y : Fin 2048) : (iblk m c 0 t : FVec Ideal S1x128x2048 .f32) (ix3 0 r y) = (V m c main_v122 : FVec Ideal S16x128x2048 .f32) (ix3 (bt t) r y) := by
  unfold bt
  blk_ext [iblk, idx t]

/-- Operand 1's block, in its array. -/
theorem b1 (c : Dev nD) (t : Fin cfg0.N) (r : Fin 128) (y : Fin 2048) : (iblk m c 1 t : FVec Ideal S1x128x2048 .f32) (ix3 0 r y) = (V m c main_v123 : FVec Ideal S16x128x2048 .f32) (ix3 (bt t) r y) := by
  unfold bt
  blk_ext [iblk, idx t]

/-- Operand 2's block, in its array. -/
theorem b2 (c : Dev nD) (t : Fin cfg0.N) (x : Fin 2) (y : Fin 2048) : (iblk m c 2 t : FVec Ideal S2x2048 .f32) (ix2 x y) = (V m c main_v38 : FVec Ideal S2x2048 .f32) (ix2 x y) := by
  blk_ext [iblk, idx t]

/-- Operand 3's block, in its array. -/
theorem b3 (c : Dev nD) (t : Fin cfg0.N) (x : Fin 2) (y : Fin 2048) : (iblk m c 3 t : FVec Ideal S2x2048 .f32) (ix2 x y) = (V m c main_v82 : FVec Ideal S2x2048 .f32) (ix2 x y) := by
  blk_ext [iblk, idx t]

/-- Operand 4's block, in its array. -/
theorem b4 (c : Dev nD) (t : Fin cfg0.N) (x : Fin 2048) (y : Fin 512) : (iblk m c 4 t : FVec Ideal S2048x512 .bf16) (ix2 x y) = (V m c main_v20 : FVec Ideal S2048x512 .bf16) (ix2 x y) := by
  blk_ext [iblk, idx t]

/-- Operand 5's block, in its array. -/
theorem b5 (c : Dev nD) (t : Fin cfg0.N) (x : Fin 2048) (y : Fin 512) : (iblk m c 5 t : FVec Ideal S2048x512 .bf16) (ix2 x y) = (V m c main_v27 : FVec Ideal S2048x512 .bf16) (ix2 x y) := by
  blk_ext [iblk, idx t]

/-- Operand 6's block, in its array. -/
theorem b6 (c : Dev nD) (t : Fin cfg0.N) (x : Fin 2048) (y : Fin 512) : (iblk m c 6 t : FVec Ideal S2048x512 .bf16) (ix2 x y) = (V m c main_v64 : FVec Ideal S2048x512 .bf16) (ix2 x y) := by
  blk_ext [iblk, idx t]

/-- Operand 7's block, in its array. -/
theorem b7 (c : Dev nD) (t : Fin cfg0.N) (x : Fin 2048) (y : Fin 512) : (iblk m c 7 t : FVec Ideal S2048x512 .bf16) (ix2 x y) = (V m c main_v71 : FVec Ideal S2048x512 .bf16) (ix2 x y) := by
  blk_ext [iblk, idx t]

/-- Operand 8's block, in its array. -/
theorem b8 (c : Dev nD) (t : Fin cfg0.N) (x : Fin 1) (y : Fin 512) : (iblk m c 8 t : FVec Ideal S1x512 .f32) (ix2 x y) = (V m c main_v49 : FVec Ideal S1x512 .f32) (ix2 x y) := by
  blk_ext [iblk, idx t]

/-- Operand 9's block, in its array. -/
theorem b9 (c : Dev nD) (t : Fin cfg0.N) (x : Fin 1) (y : Fin 512) : (iblk m c 9 t : FVec Ideal S1x512 .f32) (ix2 x y) = (V m c main_v93 : FVec Ideal S1x512 .f32) (ix2 x y) := by
  blk_ext [iblk, idx t]

/-- Operand 10's block, in its array. -/
theorem b10 (c : Dev nD) (t : Fin cfg0.N) (x : Fin 512) (y : Fin 128) : (iblk m c 10 t : FVec Ideal S512x128 .bf16) (ix2 x y) = (V m c main_v45 : FVec Ideal S512x128 .bf16) (ix2 x y) := by
  blk_ext [iblk, idx t]

/-- Operand 11's block, in its array. -/
theorem b11 (c : Dev nD) (t : Fin cfg0.N) (x : Fin 512) (y : Fin 128) : (iblk m c 11 t : FVec Ideal S512x128 .bf16) (ix2 x y) = (V m c main_v89 : FVec Ideal S512x128 .bf16) (ix2 x y) := by
  blk_ext [iblk, idx t]

/-- Operand 12's block, in its array. -/
theorem b12 (c : Dev nD) (t : Fin cfg0.N) (x : Fin 1) (y : Fin 128) : (iblk m c 12 t : FVec Ideal S1x128 .f32) (ix2 x y) = (V m c main_v5 : FVec Ideal S1x128 .f32) (ix2 x y) := by
  blk_ext [iblk, idx t]

/-- Operand 13's block, in its array. -/
theorem b13 (c : Dev nD) (t : Fin cfg0.N) (x : Fin 128) (y : Fin 128) : (iblk m c 13 t : FVec Ideal S128x128 .f32) (ix2 x y) = (V m c main_v118 : FVec Ideal S128x128 .f32) (ix2 x y) := by
  blk_ext [iblk, idx t]

/-- Operand 14's block, in its array. -/
theorem b14 (c : Dev nD) (t : Fin cfg0.N) (x : Fin 128) (y : Fin 128) : (iblk m c 14 t : FVec Ideal S128x128 .f32) (ix2 x y) = (V m c main_v121 : FVec Ideal S128x128 .f32) (ix2 x y) := by
  blk_ext [iblk, idx t]

/-- Operand 15's block, in its array. -/
theorem b15 (c : Dev nD) (t : Fin cfg0.N) (x : Fin 128) (y : Fin 128) : (iblk m c 15 t : FVec Ideal S128x128 .bf16) (ix2 x y) = (V m c main_cst : FVec Ideal S128x128 .bf16) (ix2 x y) := by
  blk_ext [iblk, idx t]

/-- A whole block of this shape, loaded. -/
theorem ld0 (x : FVec Ideal S1x128x2048 .f32) (r : Fin 128) (k : Fin 2048) : (View.ld (Val := Elt Ideal) (e' := .f32) x r0_0 : FVec Ideal S1x128x2048 .f32) (ix3 0 r k) = x (ix3 0 r k) := by
  refine congrArg x (?_ : (r0_0.idx (ix3 (0 : Fin 1) r k : S1x128x2048.Idx) : S1x128x2048.Idx) = _)
  refine funext fun a => Fin.ext ?_
  obtain ⟨a, ha⟩ := a
  have ha : a < 3 := ha
  interval_cases a
  all_goals
    refine (Rect.idx_unit_val _ _ _ _ _).trans ?_
    first
      | rfl
      | exact Nat.zero_add _

/-- Row 0 of a block, loaded. -/
theorem ld1 (x : FVec Ideal S2x2048 .f32) (k : Fin 2048) : (View.ld (Val := Elt Ideal) (e' := .f32) x r0_1 : FVec Ideal S1x2048 .f32) (ix2 0 k) = x (ix2 0 k) := by
  refine congrArg x (?_ : (r0_1.idx (ix2 (0 : Fin 1) k : S1x2048.Idx) : S2x2048.Idx) = _)
  refine funext fun a => Fin.ext ?_
  obtain ⟨a, ha⟩ := a
  have ha : a < 2 := ha
  interval_cases a
  all_goals
    refine (Rect.idx_unit_val _ _ _ _ _).trans ?_
    first
      | rfl
      | exact Nat.zero_add _

/-- Row 1 of a block, loaded. -/
theorem ld3 (x : FVec Ideal S2x2048 .f32) (k : Fin 2048) : (View.ld (Val := Elt Ideal) (e' := .f32) x r0_3 : FVec Ideal S1x2048 .f32) (ix2 0 k) = x (ix2 1 k) := by
  refine congrArg x (?_ : (r0_3.idx (ix2 (0 : Fin 1) k : S1x2048.Idx) : S2x2048.Idx) = _)
  refine funext fun a => Fin.ext ?_
  obtain ⟨a, ha⟩ := a
  have ha : a < 2 := ha
  interval_cases a
  all_goals
    refine (Rect.idx_unit_val _ _ _ _ _).trans ?_
    first
      | rfl
      | exact Nat.zero_add _

/-- A whole block of this shape, loaded. -/
theorem ld2 (x : FVec Ideal S2048x512 .bf16) (r : Fin 2048) (k : Fin 512) : (View.ld (Val := Elt Ideal) (e' := .bf16) x r0_2 : FVec Ideal S2048x512 .bf16) (ix2 r k) = x (ix2 r k) := by
  refine congrArg x (?_ : (r0_2.idx (ix2 r k : S2048x512.Idx) : S2048x512.Idx) = _)
  refine funext fun a => Fin.ext ?_
  obtain ⟨a, ha⟩ := a
  have ha : a < 2 := ha
  interval_cases a
  all_goals
    refine (Rect.idx_unit_val _ _ _ _ _).trans ?_
    first
      | rfl
      | exact Nat.zero_add _

/-- A whole block of this shape, loaded. -/
theorem ld4 (x : FVec Ideal S1x512 .f32) (r : Fin 1) (k : Fin 512) : (View.ld (Val := Elt Ideal) (e' := .f32) x r0_4 : FVec Ideal S1x512 .f32) (ix2 r k) = x (ix2 r k) := by
  refine congrArg x (?_ : (r0_4.idx (ix2 r k : S1x512.Idx) : S1x512.Idx) = _)
  refine funext fun a => Fin.ext ?_
  obtain ⟨a, ha⟩ := a
  have ha : a < 2 := ha
  interval_cases a
  all_goals
    refine (Rect.idx_unit_val _ _ _ _ _).trans ?_
    first
      | rfl
      | exact Nat.zero_add _

/-- A whole block of this shape, loaded. -/
theorem ld5 (x : FVec Ideal S512x128 .bf16) (r : Fin 512) (k : Fin 128) : (View.ld (Val := Elt Ideal) (e' := .bf16) x r0_5 : FVec Ideal S512x128 .bf16) (ix2 r k) = x (ix2 r k) := by
  refine congrArg x (?_ : (r0_5.idx (ix2 r k : S512x128.Idx) : S512x128.Idx) = _)
  refine funext fun a => Fin.ext ?_
  obtain ⟨a, ha⟩ := a
  have ha : a < 2 := ha
  interval_cases a
  all_goals
    refine (Rect.idx_unit_val _ _ _ _ _).trans ?_
    first
      | rfl
      | exact Nat.zero_add _

/-- A whole block of this shape, loaded. -/
theorem ld6 (x : FVec Ideal S128x128 .f32) (r : Fin 128) (k : Fin 128) : (View.ld (Val := Elt Ideal) (e' := .f32) x r0_6 : FVec Ideal S128x128 .f32) (ix2 r k) = x (ix2 r k) := by
  refine congrArg x (?_ : (r0_6.idx (ix2 r k : S128x128.Idx) : S128x128.Idx) = _)
  refine funext fun a => Fin.ext ?_
  obtain ⟨a, ha⟩ := a
  have ha : a < 2 := ha
  interval_cases a
  all_goals
    refine (Rect.idx_unit_val _ _ _ _ _).trans ?_
    first
      | rfl
      | exact Nat.zero_add _

/-- A whole block of this shape, loaded. -/
theorem ld6b (x : FVec Ideal S128x128 .bf16) (r : Fin 128) (k : Fin 128) : (View.ld (Val := Elt Ideal) (e' := .bf16) x r0_6 : FVec Ideal S128x128 .bf16) (ix2 r k) = x (ix2 r k) := by
  refine congrArg x (?_ : (r0_6.idx (ix2 r k : S128x128.Idx) : S128x128.Idx) = _)
  refine funext fun a => Fin.ext ?_
  obtain ⟨a, ha⟩ := a
  have ha : a < 2 := ha
  interval_cases a
  all_goals
    refine (Rect.idx_unit_val _ _ _ _ _).trans ?_
    first
      | rfl
      | exact Nat.zero_add _

/-- A whole block of this shape, loaded. -/
theorem ld7 (x : FVec Ideal S1x128 .f32) (r : Fin 1) (k : Fin 128) : (View.ld (Val := Elt Ideal) (e' := .f32) x r0_7 : FVec Ideal S1x128 .f32) (ix2 r k) = x (ix2 r k) := by
  refine congrArg x (?_ : (r0_7.idx (ix2 r k : S1x128.Idx) : S1x128.Idx) = _)
  refine funext fun a => Fin.ext ?_
  obtain ⟨a, ha⟩ := a
  have ha : a < 2 := ha
  interval_cases a
  all_goals
    refine (Rect.idx_unit_val _ _ _ _ _).trans ?_
    first
      | rfl
      | exact Nat.zero_add _

/-- Where head 0's piece lies in the block. -/
theorem ridx8 (r : Fin 128) (d : Fin 128) : (r0_8.idx (ix4 (0 : Fin 1) (0 : Fin 1) r d : S1x1x128x128.Idx) : S1x2x128x128.Idx) = ix4 0 0 r d := by
  refine funext fun a => Fin.ext ?_
  obtain ⟨a, ha⟩ := a
  have ha : a < 4 := ha
  interval_cases a
  all_goals
    refine (Rect.idx_unit_val _ _ _ _ _).trans ?_
    first
      | rfl
      | exact Nat.zero_add _

/-- Where head 1's piece lies in the block. -/
theorem ridx9 (r : Fin 128) (d : Fin 128) : (r0_9.idx (ix4 (0 : Fin 1) (0 : Fin 1) r d : S1x1x128x128.Idx) : S1x2x128x128.Idx) = ix4 0 1 r d := by
  refine funext fun a => Fin.ext ?_
  obtain ⟨a, ha⟩ := a
  have ha : a < 4 := ha
  interval_cases a
  all_goals
    refine (Rect.idx_unit_val _ _ _ _ _).trans ?_
    first
      | rfl
      | exact Nat.zero_add _

/-- Where the block of point `t` lies in result 0's array. -/
theorem emb16 (t : Fin cfg0.N) (f : S16x2x128x128.Idx → EReal) (h : Fin 2) (r : Fin 128) (j : Fin 128) :
    f (((cfg0.win 16).blk t).view.emb (ix4 (0 : Fin 1) h r j : S1x2x128x128.Idx)) = f (ix4 (bt t) h r j) := by
  unfold bt
  blk_ext [idx t]

/-- Where the block of point `t` lies in result 1's array. -/
theorem emb17 (t : Fin cfg0.N) (f : S16x2x128x128.Idx → EReal) (h : Fin 2) (r : Fin 128) (j : Fin 128) :
    f (((cfg0.win 17).blk t).view.emb (ix4 (0 : Fin 1) h r j : S1x2x128x128.Idx)) = f (ix4 (bt t) h r j) := by
  unfold bt
  blk_ext [idx t]

/-- The compressed rows of batch `b`'s keys at a row and a lane of both heads. -/
def kRow (c : Dev nD) (b : Fin 16) (r j : Fin 128) : EReal :=
  compRow (m ((c : Thread nD τ).loc main_arg0)) (m ((c : Thread nD τ).loc main_arg3)) (m ((c : Thread nD τ).loc main_arg4)) (m ((c : Thread nD τ).loc main_arg5)) (m ((c : Thread nD τ).loc main_arg6)) b r (nx r) ⟨(j : ℕ) / 64, by omega⟩ ⟨(j : ℕ) % 64, by omega⟩

/-- The two layers of point `t`'s keys. -/
theorem kRow_blk (c : Dev nD) (t : Fin cfg0.N) (r j : Fin 128) :
    (k0_pay2 (View.ld (iblk m c 0 t) r0_0) (View.ld (iblk m c 2 t) r0_1) (View.ld (iblk m c 4 t) r0_2) (View.ld (iblk m c 2 t) r0_3) (View.ld (iblk m c 5 t) r0_2) (View.ld (iblk m c 8 t) r0_4) (View.ld (iblk m c 10 t) r0_5) : FVec Ideal S128x128 .f32) (ix2 r j) = kRow m c (bt t) r j :=
  layer_row (m ((c : Thread nD τ).loc main_arg0)) (m ((c : Thread nD τ).loc main_arg3)) (m ((c : Thread nD τ).loc main_arg4)) (m ((c : Thread nD τ).loc main_arg5)) (m ((c : Thread nD τ).loc main_arg6)) (bt t) _ _ _ _ _ _ _
    (fun r y => (ld0 (iblk m c 0 t) r y).trans ((b0 m c t r y).trans (h122 m c (bt t) r y)))
    (fun y => (ld1 (iblk m c 2 t) y).trans ((b2 m c t 0 y).trans (h38_0 m c y)))
    (fun y => (ld3 (iblk m c 2 t) y).trans ((b2 m c t 1 y).trans (h38_1 m c y)))
    (fun y f => (ld2 (iblk m c 4 t) y f).trans ((b4 m c t y f).trans (h20 m c y f)))
    (fun y f => (ld2 (iblk m c 5 t) y f).trans ((b5 m c t y f).trans (h27 m c y f)))
    (fun f => (ld4 (iblk m c 8 t) 0 f).trans ((b8 m c t 0 f).trans (h49 m c f)))
    (fun f d => (ld5 (iblk m c 10 t) f d).trans ((b10 m c t f d).trans (h45 m c f d))) r j

/-- The compressed rows of batch `b`'s values at a row and a lane of both heads. -/
def vRow (c : Dev nD) (b : Fin 16) (r j : Fin 128) : EReal :=
  compRow (m ((c : Thread nD τ).loc main_arg1)) (m ((c : Thread nD τ).loc main_arg7)) (m ((c : Thread nD τ).loc main_arg8)) (m ((c : Thread nD τ).loc main_arg9)) (m ((c : Thread nD τ).loc main_arg10)) b r (nx r) ⟨(j : ℕ) / 64, by omega⟩ ⟨(j : ℕ) % 64, by omega⟩

/-- The two layers of point `t`'s values. -/
theorem vRow_blk (c : Dev nD) (t : Fin cfg0.N) (r j : Fin 128) :
    (k0_pay2 (View.ld (iblk m c 1 t) r0_0) (View.ld (iblk m c 3 t) r0_1) (View.ld (iblk m c 6 t) r0_2) (View.ld (iblk m c 3 t) r0_3) (View.ld (iblk m c 7 t) r0_2) (View.ld (iblk m c 9 t) r0_4) (View.ld (iblk m c 11 t) r0_5) : FVec Ideal S128x128 .f32) (ix2 r j) = vRow m c (bt t) r j :=
  layer_row (m ((c : Thread nD τ).loc main_arg1)) (m ((c : Thread nD τ).loc main_arg7)) (m ((c : Thread nD τ).loc main_arg8)) (m ((c : Thread nD τ).loc main_arg9)) (m ((c : Thread nD τ).loc main_arg10)) (bt t) _ _ _ _ _ _ _
    (fun r y => (ld0 (iblk m c 1 t) r y).trans ((b1 m c t r y).trans (h123 m c (bt t) r y)))
    (fun y => (ld1 (iblk m c 3 t) y).trans ((b3 m c t 0 y).trans (h82_0 m c y)))
    (fun y => (ld3 (iblk m c 3 t) y).trans ((b3 m c t 1 y).trans (h82_1 m c y)))
    (fun y f => (ld2 (iblk m c 6 t) y f).trans ((b6 m c t y f).trans (h64 m c y f)))
    (fun y f => (ld2 (iblk m c 7 t) y f).trans ((b7 m c t y f).trans (h71 m c y f)))
    (fun f => (ld4 (iblk m c 9 t) 0 f).trans ((b9 m c t 0 f).trans (h93 m c f)))
    (fun f d => (ld5 (iblk m c 11 t) f d).trans ((b11 m c t f d).trans (h89 m c f d))) r j

/-- The keys of batch `b` after the norm and the rotation, at a row and a lane of both heads. -/
def kAt (c : Dev nD) (b : Fin 16) (r j : Fin 128) : EReal :=
  form (fun k => kRow m c b r k) (fun x y => (V m c main_cst : S128x128.Idx → EReal) (ix2 x y)) (fun k => (V m c main_v5 : S1x128.Idx → EReal) (ix2 0 k))
    (fun k => (V m c main_v118 : S128x128.Idx → EReal) (ix2 r k)) (fun k => (V m c main_v121 : S128x128.Idx → EReal) (ix2 r k)) j

/-- The tables pass through unchanged. -/
theorem pay4_at (x : FVec Ideal S128x128 .f32) (r k : Fin 128) : (k0_pay4 (F := Ideal) x : FVec Ideal S128x128 .f32) (ix2 r k) = x (ix2 r k) := by
  pointwise [k0_pay4]

/-- The tables pass through unchanged. -/
theorem pay5_at (x : FVec Ideal S128x128 .f32) (r k : Fin 128) : (k0_pay5 (F := Ideal) x : FVec Ideal S128x128 .f32) (ix2 r k) = x (ix2 r k) := by
  pointwise [k0_pay5]

/-- The two heads of point `t`. -/
theorem core_blk (c : Dev nD) (t : Fin cfg0.N) (r j : Fin 128) :
    core (k0_pay4 (View.ld (iblk m c 13 t) r0_6)) (k0_pay5 (View.ld (iblk m c 14 t) r0_6)) (View.ld (iblk m c 15 t) r0_6) (k0_pay2 (View.ld (iblk m c 0 t) r0_0) (View.ld (iblk m c 2 t) r0_1) (View.ld (iblk m c 4 t) r0_2) (View.ld (iblk m c 2 t) r0_3) (View.ld (iblk m c 5 t) r0_2) (View.ld (iblk m c 8 t) r0_4) (View.ld (iblk m c 10 t) r0_5)) (View.ld (iblk m c 12 t) r0_7) (ix2 r j) = kAt m c (bt t) r j := by
  rw [core_at]
  unfold kAt
  have e1 : ∀ k : Fin 128, ((k0_pay2 (View.ld (iblk m c 0 t) r0_0) (View.ld (iblk m c 2 t) r0_1) (View.ld (iblk m c 4 t) r0_2) (View.ld (iblk m c 2 t) r0_3) (View.ld (iblk m c 5 t) r0_2) (View.ld (iblk m c 8 t) r0_4) (View.ld (iblk m c 10 t) r0_5)) : FVec Ideal S128x128 .f32) (ix2 r k) = kRow m c (bt t) r k := fun k => kRow_blk m c t r k
  have e2 : ∀ x y : Fin 128, ((View.ld (iblk m c 15 t) r0_6) : S128x128.Idx → EReal) (ix2 x y) = (V m c main_cst : S128x128.Idx → EReal) (ix2 x y) := fun x y => (ld6b (iblk m c 15 t) x y).trans (b15 m c t x y)
  have e3 : ∀ k : Fin 128, ((View.ld (iblk m c 12 t) r0_7) : FVec Ideal S1x128 .f32) (ix2 0 k) = (V m c main_v5 : S1x128.Idx → EReal) (ix2 0 k) := fun k => (ld7 (iblk m c 12 t) 0 k).trans (b12 m c t 0 k)
  have e4 : ∀ k : Fin 128, (k0_pay4 (View.ld (iblk m c 13 t) r0_6) : FVec Ideal S128x128 .f32) (ix2 r k) = (V m c main_v118 : S128x128.Idx → EReal) (ix2 r k) := fun k => (pay4_at _ r k).trans ((ld6 (iblk m c 13 t) r k).trans (b13 m c t r k))
  have e5 : ∀ k : Fin 128, (k0_pay5 (View.ld (iblk m c 14 t) r0_6) : FVec Ideal S128x128 .f32) (ix2 r k) = (V m c main_v121 : S128x128.Idx → EReal) (ix2 r k) := fun k => (pay5_at _ r k).trans ((ld6 (iblk m c 14 t) r k).trans (b14 m c t r k))
  rw [funext e1, funext fun x => funext (e2 x), funext e3, funext e4, funext e5]

/-- The lane of head `h` that lane `j` of its row twice over holds. -/
def lane (h : Fin 2) (j : Fin 128) : Fin 128 := ⟨(h : ℕ) * 64 + (j : ℕ) % 64, by omega⟩

/-- The call's result for the keys, each head's lanes twice over side by side. -/
def kF (c : Dev nD) : S16x2x128x128.Idx → EReal := fun i =>
  kAt m c (i 0) (i 2) (lane (i 1) (i 3))

/-- The same at an index. -/
theorem kF_at (c : Dev nD) (b : Fin 16) (h : Fin 2) (r j : Fin 128) : kF m c (ix4 b h r j) = kAt m c b r (lane h j) := rfl

/-- The call's result for the values, each head's lanes twice over side by side. -/
def vF (c : Dev nD) : S16x2x128x128.Idx → EReal := fun i =>
  vRow m c (i 0) (i 2) (lane (i 1) (i 3))

/-- The same at an index. -/
theorem vF_at (c : Dev nD) (b : Fin 16) (h : Fin 2) (r j : Fin 128) : vF m c (ix4 b h r j) = vRow m c b r (lane h j) := rfl

/-- What point `t` stores of head 0 of the keys. -/
theorem point16_0 (c : Dev nD) (t : Fin cfg0.N) (x : S1x1x128x128.Idx) :
    (k0_pay13 (k0_pay20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (k0_pay21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (k0_pay22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (k0_pay23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (k0_pay24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (k0_pay25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) : S1x1x128x128.Idx → EReal) x = kF m c (((cfg0.win 16).blk t).view.emb (r0_8.idx x)) := by
  idx_vars x
  obtain rfl : x0 = 0 := Subsingleton.elim _ _
  obtain rfl : x1 = 0 := Subsingleton.elim _ _
  rw [ridx8]
  refine (twice13 (k0_pay4 (View.ld (iblk m c 13 t) r0_6)) (k0_pay5 (View.ld (iblk m c 14 t) r0_6)) (View.ld (iblk m c 15 t) r0_6) (k0_pay2 (View.ld (iblk m c 0 t) r0_0) (View.ld (iblk m c 2 t) r0_1) (View.ld (iblk m c 4 t) r0_2) (View.ld (iblk m c 2 t) r0_3) (View.ld (iblk m c 5 t) r0_2) (View.ld (iblk m c 8 t) r0_4) (View.ld (iblk m c 10 t) r0_5)) (View.ld (iblk m c 12 t) r0_7) x2 x3).trans ((core_blk m c t x2 _).trans (Eq.trans ?_ ((emb16 t (kF m c) 0 x2 x3).trans (kF_at m c (bt t) 0 x2 x3)).symm))
  exact congrArg (kAt m c (bt t) x2) (Fin.ext (by show (x3 : ℕ) % 64 = 0 * 64 + (x3 : ℕ) % 64; omega))

/-- What point `t` stores of head 0 of the values. -/
theorem point17_0 (c : Dev nD) (t : Fin cfg0.N) (x : S1x1x128x128.Idx) :
    (k0_pay17 (k0_pay19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) : S1x1x128x128.Idx → EReal) x = vF m c (((cfg0.win 17).blk t).view.emb (r0_8.idx x)) := by
  idx_vars x
  obtain rfl : x0 = 0 := Subsingleton.elim _ _
  obtain rfl : x1 = 0 := Subsingleton.elim _ _
  rw [ridx8]
  refine (twice17 (k0_pay19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) x2 x3).trans ((vRow_blk m c t x2 _).trans (Eq.trans ?_ ((emb17 t (vF m c) 0 x2 x3).trans (vF_at m c (bt t) 0 x2 x3)).symm))
  exact congrArg (vRow m c (bt t) x2) (Fin.ext (by show (x3 : ℕ) % 64 = 0 * 64 + (x3 : ℕ) % 64; omega))

/-- What point `t` stores of head 1 of the keys. -/
theorem point16_1 (c : Dev nD) (t : Fin cfg0.N) (x : S1x1x128x128.Idx) :
    (k0_pay14 (k0_pay20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (k0_pay21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (k0_pay22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (k0_pay23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (k0_pay24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (k0_pay25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) : S1x1x128x128.Idx → EReal) x = kF m c (((cfg0.win 16).blk t).view.emb (r0_9.idx x)) := by
  idx_vars x
  obtain rfl : x0 = 0 := Subsingleton.elim _ _
  obtain rfl : x1 = 0 := Subsingleton.elim _ _
  rw [ridx9]
  refine (twice14 (k0_pay4 (View.ld (iblk m c 13 t) r0_6)) (k0_pay5 (View.ld (iblk m c 14 t) r0_6)) (View.ld (iblk m c 15 t) r0_6) (k0_pay2 (View.ld (iblk m c 0 t) r0_0) (View.ld (iblk m c 2 t) r0_1) (View.ld (iblk m c 4 t) r0_2) (View.ld (iblk m c 2 t) r0_3) (View.ld (iblk m c 5 t) r0_2) (View.ld (iblk m c 8 t) r0_4) (View.ld (iblk m c 10 t) r0_5)) (View.ld (iblk m c 12 t) r0_7) x2 x3).trans ((core_blk m c t x2 _).trans (Eq.trans ?_ ((emb16 t (kF m c) 1 x2 x3).trans (kF_at m c (bt t) 1 x2 x3)).symm))
  exact congrArg (kAt m c (bt t) x2) (Fin.ext (by show 64 + (x3 : ℕ) % 64 = 1 * 64 + (x3 : ℕ) % 64; omega))

/-- What point `t` stores of head 1 of the values. -/
theorem point17_1 (c : Dev nD) (t : Fin cfg0.N) (x : S1x1x128x128.Idx) :
    (k0_pay1 (k0_pay18 (k0_pay19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))) : S1x1x128x128.Idx → EReal) x = vF m c (((cfg0.win 17).blk t).view.emb (r0_9.idx x)) := by
  idx_vars x
  obtain rfl : x0 = 0 := Subsingleton.elim _ _
  obtain rfl : x1 = 0 := Subsingleton.elim _ _
  rw [ridx9]
  refine (twice18 (k0_pay19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) x2 x3).trans ((vRow_blk m c t x2 _).trans (Eq.trans ?_ ((emb17 t (vF m c) 1 x2 x3).trans (vF_at m c (bt t) 1 x2 x3)).symm))
  exact congrArg (vRow m c (bt t) x2) (Fin.ext (by show 64 + (x3 : ℕ) % 64 = 1 * 64 + (x3 : ℕ) % 64; omega))

/-- Result 0's array after the region. -/
theorem final16 (c : Dev nD) : (dats m 0 c).arrAt 16 cfg0.N = kF m c := by
  refine (dats m 0 c).arrAt_eq_of_covers 16 _ (by decide +kernel) fun t _ y => ?_
  blk_simp
  rw [after0_16]
  unfold out0_16
  refine View.canon_apply_of_pieces (Val := Elt Ideal) (fun y => kF m c (((cfg0.win 16).blk t).view.emb y)) _ ?_ y (cover0_16 _ _ y)
  intro pc hpc
  rcases List.mem_cons.mp hpc with rfl | hpc
  · exact fun x => point16_1 m c t x
  rcases List.mem_cons.mp hpc with rfl | hpc
  · exact fun x => point16_0 m c t x
  nomatch hpc

/-- Result 1's array after the region. -/
theorem final17 (c : Dev nD) : (dats m 0 c).arrAt 17 cfg0.N = vF m c := by
  refine (dats m 0 c).arrAt_eq_of_covers 17 _ (by decide +kernel) fun t _ y => ?_
  blk_simp
  rw [after0_17]
  unfold out0_17
  refine View.canon_apply_of_pieces (Val := Elt Ideal) (fun y => vF m c (((cfg0.win 17).blk t).view.emb y)) _ ?_ y (cover0_17 _ _ y)
  intro pc hpc
  rcases List.mem_cons.mp hpc with rfl | hpc
  · exact fun x => point17_1 m c t x
  rcases List.mem_cons.mp hpc with rfl | hpc
  · exact fun x => point17_0 m c t x
  nomatch hpc

end Cert.NsaCmpIdeal.Value

end
-- ==== Proof.NsaCmpTail.lean ====
module

public import proofs.«01_k».proof.Proof.Gen.NsaCmpIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NsaCmpIdeal.Value

open Cert.NsaCmpIdeal Cert.NsaCmpIdeal.Gen

variable (m : (ℓ : Loc nD τ sig) → Buf (Elt Ideal) ℓ)

/-- The keys' result: the call's without its last row. -/
theorem tail125 (c : Dev nD) : Pipeline.afterTail₀ cfgs (dats m) 0 (V0 m) [hostOps1] c main_v125
    = (extractStridedSlice S16x2x127x128 ![0, 0, 0, 0] · slices_S16x2x128x128_S16x2x127x128_0_0_0_0) ((dats m 0 c).arrAt 16 cfg0.N) := by
  have hw : Pipeline.withArrays (cfgs 0).spec c (V0 m c) (fun w => (dats m 0 c).arrAt w (cfgs 0).N) (Proc.devRef .tc main_v124_0) = (dats m 0 c).arrAt 16 cfg0.N :=
    Pipeline.withArrays_arr spec0 launch0.win.arr_inj c (V0 m c) (fun w => (dats m 0 c).arrAt w (cfgs 0).N) 16
  unfold Pipeline.afterTail₀
  rw [← hw]
  generalize Pipeline.withArrays (cfgs 0).spec c (V0 m c) (fun w => (dats m 0 c).arrAt w (cfgs 0).N) = σ
  simp only [hostOps1, List.flatten_cons, List.flatten_nil, List.append_nil]
  after_results_simp <;> rfl

/-- The values' result: the call's without its last row. -/
theorem tail126 (c : Dev nD) : Pipeline.afterTail₀ cfgs (dats m) 0 (V0 m) [hostOps1] c main_v126
    = (extractStridedSlice S16x2x127x128 ![0, 0, 0, 0] · slices_S16x2x128x128_S16x2x127x128_0_0_0_0) ((dats m 0 c).arrAt 17 cfg0.N) := by
  have hw : Pipeline.withArrays (cfgs 0).spec c (V0 m c) (fun w => (dats m 0 c).arrAt w (cfgs 0).N) (Proc.devRef .tc main_v124_1) = (dats m 0 c).arrAt 17 cfg0.N :=
    Pipeline.withArrays_arr spec0 launch0.win.arr_inj c (V0 m c) (fun w => (dats m 0 c).arrAt w (cfgs 0).N) 17
  unfold Pipeline.afterTail₀
  rw [← hw]
  generalize Pipeline.withArrays (cfgs 0).spec c (V0 m c) (fun w => (dats m 0 c).arrAt w (cfgs 0).N) = σ
  simp only [hostOps1, List.flatten_cons, List.flatten_nil, List.append_nil]
  after_results_simp <;> rfl

end Cert.NsaCmpIdeal.Value

end
-- ==== Proof.NsaCmpResult.lean ====
module

public import proofs.«01_k».proof.Proof.NsaCmpValue
public import proofs.«01_k».proof.Proof.NsaCmpTail

@[expose] public section

set_option maxRecDepth 16384

noncomputable section

open Idealize.ShloMosaic Idealize.ShloMosaic.TcCoe Idealize.SL.Sem
open Idealize.ShloMosaic.Pipeline (Dat)

namespace Cert.NsaCmpIdeal.Value

open Cert.NsaCmpIdeal Cert.NsaCmpIdeal.Gen Cert.NsaCmpRefIdeal.Spec

variable (m : (ℓ : Loc nD τ sig) → Buf (Elt Ideal) ℓ)

/-- The precondition, read at an entry of the compressed keys: it is finite. -/
theorem finite_at [Cert.Pre_keys_finite.Facts] (a0 a1 : FVec Ideal S16x2048x128 .f32) (a2 : FVec Ideal S3x64 .f32) (a3 : FVec Ideal S32x64 .f32) (a4 : FVec Ideal S32x64x256 .f32) (a5 : FVec Ideal S256 .f32) (a6 : FVec Ideal S256x64 .f32)
    (a7 : FVec Ideal S32x64 .f32) (a8 : FVec Ideal S32x64x256 .f32) (a9 : FVec Ideal S256 .f32) (a10 : FVec Ideal S256x64 .f32)
    (h : Cert.Pre_keys_finite.fn (F := Ideal) a0 a1 a2 a3 a4 a5 a6 a7 a8 a9 a10 = fun _ => 1#1) (i : Cert.NsaCmpRefIdeal.S16x127x2x64.Idx) :
    comp a0 a3 a4 a5 a6 i ≠ (⊤ : EReal) ∧ comp a0 a3 a4 a5 a6 i ≠ (⊥ : EReal) := by
  have e : Ideal.cmp .olt (max (comp a0 a3 a4 a5 a6 i : EReal) (-(comp a0 a3 a4 a5 a6 i : EReal))) (Ideal.ofBits .f32 0x7F800000#32) = 1#1 := congrFun h i
  have htop : Ideal.ofBits .f32 0x7F800000#32 = ⊤ := by simp [Ideal.ofBits, Ideal.ieee]
  rw [htop] at e
  have e' : max (comp a0 a3 a4 a5 a6 i : EReal) (-(comp a0 a3 a4 a5 a6 i : EReal)) < ⊤ := by
    by_contra hn
    unfold Ideal.cmp at e
    simp [hn] at e
  obtain ⟨h1, h2⟩ := max_lt_iff.mp e'
  refine ⟨h1.ne, fun hb => ?_⟩
  rw [hb] at h2
  simp at h2

/-- Every entry of the compressed keys is finite. -/
def Finite : Prop := ∀ (c : Dev nD) (i : Cert.NsaCmpRefIdeal.S16x127x2x64.Idx),
  comp (m ((c : Thread nD τ).loc main_arg0)) (m ((c : Thread nD τ).loc main_arg3)) (m ((c : Thread nD τ).loc main_arg4)) (m ((c : Thread nD τ).loc main_arg5)) (m ((c : Thread nD τ).loc main_arg6)) i ≠ (⊤ : EReal)
  ∧ comp (m ((c : Thread nD τ).loc main_arg0)) (m ((c : Thread nD τ).loc main_arg3)) (m ((c : Thread nD τ).loc main_arg4)) (m ((c : Thread nD τ).loc main_arg5)) (m ((c : Thread nD τ).loc main_arg6)) i ≠ (⊥ : EReal)

/-- The row after a window's first half is its second half. -/
theorem nx_at (n : Fin 127) : nx ⟨n, by omega⟩ = ⟨1 + (n : ℕ), by omega⟩ := Fin.ext (show ((n : ℕ) + 128 - 127) % 128 = 1 + (n : ℕ) by omega)

/-- The compressed keys, for the windows there are. -/
theorem kRow_at (c : Dev nD) (b : Fin 16) (n : Fin 127) (j : Fin 128) :
    kRow m c b ⟨n, by omega⟩ j = comp (m ((c : Thread nD τ).loc main_arg0)) (m ((c : Thread nD τ).loc main_arg3)) (m ((c : Thread nD τ).loc main_arg4)) (m ((c : Thread nD τ).loc main_arg5)) (m ((c : Thread nD τ).loc main_arg6)) (ix4 b n ⟨(j : ℕ) / 64, by omega⟩ ⟨(j : ℕ) % 64, by omega⟩) := by
  unfold kRow
  rw [nx_at]
  exact (comp_row _ _ _ _ _ _ _ _ _).symm

/-- The compressed values, for the windows there are. -/
theorem vRow_at (c : Dev nD) (b : Fin 16) (n : Fin 127) (j : Fin 128) :
    vRow m c b ⟨n, by omega⟩ j = comp (m ((c : Thread nD τ).loc main_arg1)) (m ((c : Thread nD τ).loc main_arg7)) (m ((c : Thread nD τ).loc main_arg8)) (m ((c : Thread nD τ).loc main_arg9)) (m ((c : Thread nD τ).loc main_arg10)) (ix4 b n ⟨(j : ℕ) / 64, by omega⟩ ⟨(j : ℕ) % 64, by omega⟩) := by
  unfold vRow
  rw [nx_at]
  exact (comp_row _ _ _ _ _ _ _ _ _).symm

/-- Finite compressed keys, normalised and rotated, are the reference's. -/
theorem kAt_rot (hf : Finite m) (c : Dev nD) (b : Fin 16) (n : Fin 127) (h : Fin 2) (j : Fin 128) :
    kAt m c b ⟨n, by omega⟩ (lane h j) = (kc (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) : S16x2x127x128.Idx → EReal) (ix4 b h n j) := by
  refine Eq.trans ?_ (kc_at _ _ _ _ _ _ b h n j).symm
  unfold kAt
  refine (form_rot _ _ _ _ _ n (fun j => h118 m c n j) (fun j => h121 m c n j) (fun x y => hcst m c x y) (fun k => ?_) (fun k => (m ((c : Thread nD τ).loc main_arg2) : FVec Ideal S3x64 .f32) (ix2 0 k)) (fun j => h5 m c j) (lane h j)).trans ?_
  · rw [kRow_at]
    exact hf c _
  · have e1 : ∀ k : Fin 64, (((lane h j : Fin 128) : ℕ) / 64 * 64 + (k : ℕ)) / 64 = h := fun k => by
      show (((h : ℕ) * 64 + (j : ℕ) % 64) / 64 * 64 + (k : ℕ)) / 64 = h
      omega
    have e2 : ∀ k : Fin 64, (((lane h j : Fin 128) : ℕ) / 64 * 64 + (k : ℕ)) % 64 = k := fun k => by omega
    have e3 : ((lane h j : Fin 128) : ℕ) % 64 = (j : ℕ) % 64 := by
      show ((h : ℕ) * 64 + (j : ℕ) % 64) % 64 = (j : ℕ) % 64
      omega
    simp only [kRow_at, e1, e2, e3]

/-- The keys' result is the reference's. -/
theorem result125 (hf : Finite m) (c : Dev nD) : Pipeline.afterTail₀ cfgs (dats m) 0 (V0 m) [hostOps1] c main_v125
    = kc (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  rw [tail125, final16]
  refine funext fun y => ?_
  idx_vars y
  refine Eq.trans ?_ (kAt_rot m hf c y0 y2 y1 y3)
  refine Eq.trans ?_ (kF_at m c y0 y1 ⟨y2, by omega⟩ y3)
  pointwise

/-- The values' result is the reference's. -/
theorem result126 (c : Dev nD) : Pipeline.afterTail₀ cfgs (dats m) 0 (V0 m) [hostOps1] c main_v126
    = vc (m ((c : Thread nD τ).loc main_arg1)) (m ((c : Thread nD τ).loc main_arg7)) (m ((c : Thread nD τ).loc main_arg8)) (m ((c : Thread nD τ).loc main_arg9)) (m ((c : Thread nD τ).loc main_arg10)) := by
  rw [tail126, final17]
  refine funext fun y => ?_
  idx_vars y
  refine Eq.trans ?_ (vc_at _ _ _ _ _ y0 y1 y2 y3).symm
  have e1 : ((lane y1 y3 : Fin 128) : ℕ) / 64 = y1 := by
    show ((y1 : ℕ) * 64 + (y3 : ℕ) % 64) / 64 = y1
    omega
  have e2 : ((lane y1 y3 : Fin 128) : ℕ) % 64 = (y3 : ℕ) % 64 := by
    show ((y1 : ℕ) * 64 + (y3 : ℕ) % 64) % 64 = (y3 : ℕ) % 64
    omega
  have e := vRow_at m c y0 y2 (lane y1 y3)
  simp only [e1, e2] at e
  refine Eq.trans ?_ e
  refine Eq.trans ?_ (vF_at m c y0 y1 ⟨y2, by omega⟩ y3)
  pointwise

end Cert.NsaCmpIdeal.Value

end
-- ==== Proof.lean ====
module

public import proofs.«01_k».proof.Proof.ProjValue
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.MemKvValue
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.PostValue
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Proof.RouterRef
public import proofs.«01_k».proof.Proof.RouterValue
public import proofs.«01_k».proof.Proof.Gen.Router
public import proofs.«01_k».proof.Proof.Gen.Router.Frame
public import proofs.«01_k».proof.Proof.Gen.RouterIdeal
public import proofs.«01_k».proof.Proof.Gen.RouterIdeal.Frame
public import proofs.«01_k».proof.Proof.Gen.RouterIdeal.Value
public import proofs.«01_k».proof.Proof.Gen.RouterRefIdeal
public import proofs.«01_k».proof.Proof.Gen.RouterRefIdeal.Run
public import proofs.«01_k».proof.Proof.Gen.Pre_router_finite
public import proofs.«01_k».proof.Proof.FfnTables
public import proofs.«01_k».proof.Proof.FfnValue
public import proofs.«01_k».proof.Proof.Gen.Ffn
public import proofs.«01_k».proof.Proof.Gen.Ffn.Launch
public import proofs.«01_k».proof.Proof.Gen.Ffn.Skeleton
public import proofs.«01_k».proof.Proof.Gen.FfnIdeal
public import proofs.«01_k».proof.Proof.Gen.FfnIdeal.Launch
public import proofs.«01_k».proof.Proof.Gen.FfnIdeal.Skeleton
public import proofs.«01_k».proof.Proof.Gen.FfnRefIdeal
public import proofs.«01_k».proof.Proof.Gen.FfnRefIdeal.Run
public import proofs.«01_k».proof.Proof.Gen.Pre_experts_in_range
public import proofs.«01_k».proof.Proof.Gen.Mlstm
public import proofs.«01_k».proof.Proof.Gen.Mlstm.Frame
public import proofs.«01_k».proof.Proof.Gen.MlstmIdeal
public import proofs.«01_k».proof.Proof.Gen.MlstmIdeal.Frame
public import proofs.«01_k».proof.Proof.NsaPrepValue
public import proofs.«01_k».proof.Proof.Gen.NsaPrep
public import proofs.«01_k».proof.Proof.Gen.NsaPrep.Frame
public import proofs.«01_k».proof.Proof.Gen.NsaPrepIdeal
public import proofs.«01_k».proof.Proof.Gen.NsaPrepIdeal.Frame
public import proofs.«01_k».proof.Proof.Gen.NsaPrepIdeal.Value
public import proofs.«01_k».proof.Proof.Gen.NsaPrepRefIdeal
public import proofs.«01_k».proof.Proof.Gen.NsaPrepRefIdeal.Run
public import proofs.«01_k».proof.Proof.Gen.Pre_rows_finite
public import proofs.«01_k».proof.Proof.NsaCmpResult
public import proofs.«01_k».proof.Proof.Gen.NsaCmp
public import proofs.«01_k».proof.Proof.Gen.NsaCmp.Frame
public import proofs.«01_k».proof.Proof.Gen.NsaCmpIdeal
public import proofs.«01_k».proof.Proof.Gen.NsaCmpIdeal.Frame
public import proofs.«01_k».proof.Proof.Gen.NsaCmpRefIdeal
public import proofs.«01_k».proof.Proof.Gen.NsaCmpRefIdeal.Run
public import proofs.«01_k».proof.Proof.Gen.Pre_keys_finite
public import proofs.«01_k».proof.Defs
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The kernel's results are the reference's, for the memory keys and values. -/
theorem alg_MemKv : Cert.algebraic_MemKvIdeal_MemKvRefIdeal (hMemKvIdeal := Cert.MemKvIdeal.Gen.facts) (hMemKvRefIdeal := Cert.MemKvRefIdeal.Gen.facts) := by
  intro m g m' g' _ hag
  refine ⟨fun c => (Cert.MemKvIdeal.Gen.dats m 0 c).arrAt 4 Cert.MemKvIdeal.cfg0.N, fun c => (Cert.MemKvIdeal.Gen.dats m 0 c).arrAt 5 Cert.MemKvIdeal.cfg0.N, ?_, ?_⟩
  · exact Cert.MemKvIdeal.Value.run_blocks (F := Ideal) m g
  · refine (θ_run _ _ _).mono (fun r h c => ?_) (Cert.MemKvRefIdeal.Value.run (F := Ideal) m' g')
    obtain ⟨a0, a1, a2, a3⟩ := hag c
    have e0 : Cert.MemKvRefIdeal.Spec.keys (m' ((c : Thread Cert.MemKvRefIdeal.nD Cert.MemKvRefIdeal.τ).loc Cert.MemKvRefIdeal.main_arg0)) (m' ((c : Thread Cert.MemKvRefIdeal.nD Cert.MemKvRefIdeal.τ).loc Cert.MemKvRefIdeal.main_arg1)) (m' ((c : Thread Cert.MemKvRefIdeal.nD Cert.MemKvRefIdeal.τ).loc Cert.MemKvRefIdeal.main_arg2)) (m' ((c : Thread Cert.MemKvRefIdeal.nD Cert.MemKvRefIdeal.τ).loc Cert.MemKvRefIdeal.main_arg3)) = Cert.MemKvRefIdeal.Spec.keys (m ((c : Thread Cert.MemKvIdeal.nD Cert.MemKvIdeal.τ).loc Cert.MemKvIdeal.main_arg0)) (m ((c : Thread Cert.MemKvIdeal.nD Cert.MemKvIdeal.τ).loc Cert.MemKvIdeal.main_arg1)) (m ((c : Thread Cert.MemKvIdeal.nD Cert.MemKvIdeal.τ).loc Cert.MemKvIdeal.main_arg2)) (m ((c : Thread Cert.MemKvIdeal.nD Cert.MemKvIdeal.τ).loc Cert.MemKvIdeal.main_arg3)) := by
      rw [a0, a1, a2, a3]
    have e1 : Cert.MemKvRefIdeal.Spec.vals (m' ((c : Thread Cert.MemKvRefIdeal.nD Cert.MemKvRefIdeal.τ).loc Cert.MemKvRefIdeal.main_arg0)) (m' ((c : Thread Cert.MemKvRefIdeal.nD Cert.MemKvRefIdeal.τ).loc Cert.MemKvRefIdeal.main_arg1)) (m' ((c : Thread Cert.MemKvRefIdeal.nD Cert.MemKvRefIdeal.τ).loc Cert.MemKvRefIdeal.main_arg2)) = Cert.MemKvRefIdeal.Spec.vals (m ((c : Thread Cert.MemKvIdeal.nD Cert.MemKvIdeal.τ).loc Cert.MemKvIdeal.main_arg0)) (m ((c : Thread Cert.MemKvIdeal.nD Cert.MemKvIdeal.τ).loc Cert.MemKvIdeal.main_arg1)) (m ((c : Thread Cert.MemKvIdeal.nD Cert.MemKvIdeal.τ).loc Cert.MemKvIdeal.main_arg2)) := by
      rw [a0, a1, a2]
    exact ⟨(h c).1.trans ((rfl).trans (e0.trans (Cert.MemKvIdeal.Value.final4 m c).symm)), (h c).2.1.trans ((rfl).trans (e1.trans (Cert.MemKvIdeal.Value.final5 m c).symm)), (h c).2.2⟩

/-- The kernel's results are the reference's, for the projection. -/
theorem alg_Proj : Cert.algebraic_ProjIdeal_ProjRefIdeal (hProjIdeal := Cert.ProjIdeal.Gen.facts) (hProjRefIdeal := Cert.ProjRefIdeal.Gen.facts) := by
  intro m g m' g' _ hag
  refine ⟨fun c => (Cert.ProjIdeal.Gen.dats m 0 c).arrAt 4 Cert.ProjIdeal.cfg0.N, fun c => (Cert.ProjIdeal.Gen.dats m 0 c).arrAt 5 Cert.ProjIdeal.cfg0.N, ?_, ?_⟩
  · exact Cert.ProjIdeal.Value.run_blocks (F := Ideal) m g
  · refine (θ_run _ _ _).mono (fun r h c => ?_) (Cert.ProjRefIdeal.Value.run (F := Ideal) m' g')
    obtain ⟨a0, a1, a2⟩ := hag c
    have e0 : Cert.ProjRefIdeal.Spec.ml (m' ((c : Thread Cert.ProjRefIdeal.nD Cert.ProjRefIdeal.τ).loc Cert.ProjRefIdeal.main_arg0)) (m' ((c : Thread Cert.ProjRefIdeal.nD Cert.ProjRefIdeal.τ).loc Cert.ProjRefIdeal.main_arg1)) (m' ((c : Thread Cert.ProjRefIdeal.nD Cert.ProjRefIdeal.τ).loc Cert.ProjRefIdeal.main_arg2)) = Cert.ProjRefIdeal.Spec.ml (m ((c : Thread Cert.ProjIdeal.nD Cert.ProjIdeal.τ).loc Cert.ProjIdeal.main_arg0)) (m ((c : Thread Cert.ProjIdeal.nD Cert.ProjIdeal.τ).loc Cert.ProjIdeal.main_arg1)) (m ((c : Thread Cert.ProjIdeal.nD Cert.ProjIdeal.τ).loc Cert.ProjIdeal.main_arg2)) := by
      rw [a0, a1, a2]
    have e1 : Cert.ProjRefIdeal.Spec.nsa (m' ((c : Thread Cert.ProjRefIdeal.nD Cert.ProjRefIdeal.τ).loc Cert.ProjRefIdeal.main_arg0)) (m' ((c : Thread Cert.ProjRefIdeal.nD Cert.ProjRefIdeal.τ).loc Cert.ProjRefIdeal.main_arg1)) (m' ((c : Thread Cert.ProjRefIdeal.nD Cert.ProjRefIdeal.τ).loc Cert.ProjRefIdeal.main_arg2)) = Cert.ProjRefIdeal.Spec.nsa (m ((c : Thread Cert.ProjIdeal.nD Cert.ProjIdeal.τ).loc Cert.ProjIdeal.main_arg0)) (m ((c : Thread Cert.ProjIdeal.nD Cert.ProjIdeal.τ).loc Cert.ProjIdeal.main_arg1)) (m ((c : Thread Cert.ProjIdeal.nD Cert.ProjIdeal.τ).loc Cert.ProjIdeal.main_arg2)) := by
      rw [a0, a1, a2]
    exact ⟨(h c).1.trans ((rfl).trans (e0.trans (Cert.ProjIdeal.Value.final4 m c).symm)), (h c).2.1.trans ((rfl).trans (e1.trans (Cert.ProjIdeal.Value.final5 m c).symm)), (h c).2.2⟩

/-- The kernel's results are the reference's, for the memory attention, merge and output projection. -/
theorem alg_Post : Cert.algebraic_PostIdeal_PostRefIdeal (hPostIdeal := Cert.PostIdeal.Gen.facts) (hPostRefIdeal := Cert.PostRefIdeal.Gen.facts) := by
  intro m g m' g' _ hag
  refine ⟨fun c => (Cert.PostIdeal.Gen.dats m 0 c).arrAt 17 Cert.PostIdeal.cfg0.N, fun c => (Cert.PostIdeal.Gen.dats m 0 c).arrAt 18 Cert.PostIdeal.cfg0.N, ?_, ?_⟩
  · exact (θ_run _ _ _).mono (fun r h c => ⟨(h c).1, (h c).2.1, (h c).2.2.2⟩) (Cert.PostIdeal.Value.run_blocks (F := Ideal) m g)
  · refine (θ_run _ _ _).mono (fun r h c => ?_) (Cert.PostRefIdeal.Value.run (F := Ideal) m' g')
    obtain ⟨a0, a1, a2, a3, a4, a5, a6, a7, a8, a9, a10, a11, a12⟩ := hag c
    have e0 : Cert.PostRefIdeal.Spec.st_out0 (m' ((c : Thread Cert.PostRefIdeal.nD Cert.PostRefIdeal.τ).loc Cert.PostRefIdeal.main_arg0)) (m' ((c : Thread Cert.PostRefIdeal.nD Cert.PostRefIdeal.τ).loc Cert.PostRefIdeal.main_arg1)) (m' ((c : Thread Cert.PostRefIdeal.nD Cert.PostRefIdeal.τ).loc Cert.PostRefIdeal.main_arg2)) (m' ((c : Thread Cert.PostRefIdeal.nD Cert.PostRefIdeal.τ).loc Cert.PostRefIdeal.main_arg3)) (m' ((c : Thread Cert.PostRefIdeal.nD Cert.PostRefIdeal.τ).loc Cert.PostRefIdeal.main_arg4)) (m' ((c : Thread Cert.PostRefIdeal.nD Cert.PostRefIdeal.τ).loc Cert.PostRefIdeal.main_arg5)) (m' ((c : Thread Cert.PostRefIdeal.nD Cert.PostRefIdeal.τ).loc Cert.PostRefIdeal.main_arg6)) (m' ((c : Thread Cert.PostRefIdeal.nD Cert.PostRefIdeal.τ).loc Cert.PostRefIdeal.main_arg7)) (m' ((c : Thread Cert.PostRefIdeal.nD Cert.PostRefIdeal.τ).loc Cert.PostRefIdeal.main_arg8)) (m' ((c : Thread Cert.PostRefIdeal.nD Cert.PostRefIdeal.τ).loc Cert.PostRefIdeal.main_arg9)) (m' ((c : Thread Cert.PostRefIdeal.nD Cert.PostRefIdeal.τ).loc Cert.PostRefIdeal.main_arg10)) (m' ((c : Thread Cert.PostRefIdeal.nD Cert.PostRefIdeal.τ).loc Cert.PostRefIdeal.main_arg11)) = Cert.PostRefIdeal.Spec.st_out0 (m ((c : Thread Cert.PostIdeal.nD Cert.PostIdeal.τ).loc Cert.PostIdeal.main_arg0)) (m ((c : Thread Cert.PostIdeal.nD Cert.PostIdeal.τ).loc Cert.PostIdeal.main_arg1)) (m ((c : Thread Cert.PostIdeal.nD Cert.PostIdeal.τ).loc Cert.PostIdeal.main_arg2)) (m ((c : Thread Cert.PostIdeal.nD Cert.PostIdeal.τ).loc Cert.PostIdeal.main_arg3)) (m ((c : Thread Cert.PostIdeal.nD Cert.PostIdeal.τ).loc Cert.PostIdeal.main_arg4)) (m ((c : Thread Cert.PostIdeal.nD Cert.PostIdeal.τ).loc Cert.PostIdeal.main_arg5)) (m ((c : Thread Cert.PostIdeal.nD Cert.PostIdeal.τ).loc Cert.PostIdeal.main_arg6)) (m ((c : Thread Cert.PostIdeal.nD Cert.PostIdeal.τ).loc Cert.PostIdeal.main_arg7)) (m ((c : Thread Cert.PostIdeal.nD Cert.PostIdeal.τ).loc Cert.PostIdeal.main_arg8)) (m ((c : Thread Cert.PostIdeal.nD Cert.PostIdeal.τ).loc Cert.PostIdeal.main_arg9)) (m ((c : Thread Cert.PostIdeal.nD Cert.PostIdeal.τ).loc Cert.PostIdeal.main_arg10)) (m ((c : Thread Cert.PostIdeal.nD Cert.PostIdeal.τ).loc Cert.PostIdeal.main_arg11)) := by
      rw [a0, a1, a2, a3, a4, a5, a6, a7, a8, a9, a10, a11]
    have e1 : Cert.PostRefIdeal.Spec.st_out1 (m' ((c : Thread Cert.PostRefIdeal.nD Cert.PostRefIdeal.τ).loc Cert.PostRefIdeal.main_arg0)) (m' ((c : Thread Cert.PostRefIdeal.nD Cert.PostRefIdeal.τ).loc Cert.PostRefIdeal.main_arg1)) (m' ((c : Thread Cert.PostRefIdeal.nD Cert.PostRefIdeal.τ).loc Cert.PostRefIdeal.main_arg2)) (m' ((c : Thread Cert.PostRefIdeal.nD Cert.PostRefIdeal.τ).loc Cert.PostRefIdeal.main_arg3)) (m' ((c : Thread Cert.PostRefIdeal.nD Cert.PostRefIdeal.τ).loc Cert.PostRefIdeal.main_arg4)) (m' ((c : Thread Cert.PostRefIdeal.nD Cert.PostRefIdeal.τ).loc Cert.PostRefIdeal.main_arg5)) (m' ((c : Thread Cert.PostRefIdeal.nD Cert.PostRefIdeal.τ).loc Cert.PostRefIdeal.main_arg6)) (m' ((c : Thread Cert.PostRefIdeal.nD Cert.PostRefIdeal.τ).loc Cert.PostRefIdeal.main_arg7)) (m' ((c : Thread Cert.PostRefIdeal.nD Cert.PostRefIdeal.τ).loc Cert.PostRefIdeal.main_arg8)) (m' ((c : Thread Cert.PostRefIdeal.nD Cert.PostRefIdeal.τ).loc Cert.PostRefIdeal.main_arg9)) (m' ((c : Thread Cert.PostRefIdeal.nD Cert.PostRefIdeal.τ).loc Cert.PostRefIdeal.main_arg10)) (m' ((c : Thread Cert.PostRefIdeal.nD Cert.PostRefIdeal.τ).loc Cert.PostRefIdeal.main_arg11)) (m' ((c : Thread Cert.PostRefIdeal.nD Cert.PostRefIdeal.τ).loc Cert.PostRefIdeal.main_arg12)) = Cert.PostRefIdeal.Spec.st_out1 (m ((c : Thread Cert.PostIdeal.nD Cert.PostIdeal.τ).loc Cert.PostIdeal.main_arg0)) (m ((c : Thread Cert.PostIdeal.nD Cert.PostIdeal.τ).loc Cert.PostIdeal.main_arg1)) (m ((c : Thread Cert.PostIdeal.nD Cert.PostIdeal.τ).loc Cert.PostIdeal.main_arg2)) (m ((c : Thread Cert.PostIdeal.nD Cert.PostIdeal.τ).loc Cert.PostIdeal.main_arg3)) (m ((c : Thread Cert.PostIdeal.nD Cert.PostIdeal.τ).loc Cert.PostIdeal.main_arg4)) (m ((c : Thread Cert.PostIdeal.nD Cert.PostIdeal.τ).loc Cert.PostIdeal.main_arg5)) (m ((c : Thread Cert.PostIdeal.nD Cert.PostIdeal.τ).loc Cert.PostIdeal.main_arg6)) (m ((c : Thread Cert.PostIdeal.nD Cert.PostIdeal.τ).loc Cert.PostIdeal.main_arg7)) (m ((c : Thread Cert.PostIdeal.nD Cert.PostIdeal.τ).loc Cert.PostIdeal.main_arg8)) (m ((c : Thread Cert.PostIdeal.nD Cert.PostIdeal.τ).loc Cert.PostIdeal.main_arg9)) (m ((c : Thread Cert.PostIdeal.nD Cert.PostIdeal.τ).loc Cert.PostIdeal.main_arg10)) (m ((c : Thread Cert.PostIdeal.nD Cert.PostIdeal.τ).loc Cert.PostIdeal.main_arg11)) (m ((c : Thread Cert.PostIdeal.nD Cert.PostIdeal.τ).loc Cert.PostIdeal.main_arg12)) := by
      rw [a0, a1, a2, a3, a4, a5, a6, a7, a8, a9, a10, a11, a12]
    exact ⟨(h c).1.trans ((Cert.PostRefIdeal.Spec.res0 m' c).trans (e0.trans (Cert.PostIdeal.Value.final17 m c).symm)), (h c).2.1.trans ((Cert.PostRefIdeal.Spec.res1 m' c).trans (e1.trans (Cert.PostIdeal.Value.final18 m c).symm)), (h c).2.2⟩

/-- The kernel's result is the reference's, for the router's logits. -/
theorem alg_Router : Cert.algebraic_RouterIdeal_RouterRefIdeal_pre_router_finite (hRouterIdeal := Cert.RouterIdeal.Gen.facts) (hRouterRefIdeal := Cert.RouterRefIdeal.Gen.facts) (hPre_router_finite := Cert.Pre_router_finite.Gen.facts) := by
  intro m g m' g' hp hag
  have hf : Cert.RouterIdeal.Value.Finite m := fun c => by
    haveI := Cert.Pre_router_finite.Gen.facts
    exact Cert.RouterRefIdeal.Spec.finite_of _ _ _ _ _ _ _ _ _ _ _ _ _ _ _ (hp c)
  refine ⟨fun c => Cert.RouterRefIdeal.Spec.logits (Cert.PostRefIdeal.Spec.st_out1 (m ((c : Thread Cert.RouterIdeal.nD Cert.RouterIdeal.τ).loc Cert.RouterIdeal.main_arg0)) (m ((c : Thread Cert.RouterIdeal.nD Cert.RouterIdeal.τ).loc Cert.RouterIdeal.main_arg1)) (m ((c : Thread Cert.RouterIdeal.nD Cert.RouterIdeal.τ).loc Cert.RouterIdeal.main_arg2)) (m ((c : Thread Cert.RouterIdeal.nD Cert.RouterIdeal.τ).loc Cert.RouterIdeal.main_arg3)) (m ((c : Thread Cert.RouterIdeal.nD Cert.RouterIdeal.τ).loc Cert.RouterIdeal.main_arg4)) (m ((c : Thread Cert.RouterIdeal.nD Cert.RouterIdeal.τ).loc Cert.RouterIdeal.main_arg5)) (m ((c : Thread Cert.RouterIdeal.nD Cert.RouterIdeal.τ).loc Cert.RouterIdeal.main_arg6)) (m ((c : Thread Cert.RouterIdeal.nD Cert.RouterIdeal.τ).loc Cert.RouterIdeal.main_arg7)) (m ((c : Thread Cert.RouterIdeal.nD Cert.RouterIdeal.τ).loc Cert.RouterIdeal.main_arg8)) (m ((c : Thread Cert.RouterIdeal.nD Cert.RouterIdeal.τ).loc Cert.RouterIdeal.main_arg9)) (m ((c : Thread Cert.RouterIdeal.nD Cert.RouterIdeal.τ).loc Cert.RouterIdeal.main_arg10)) (m ((c : Thread Cert.RouterIdeal.nD Cert.RouterIdeal.τ).loc Cert.RouterIdeal.main_arg11)) (m ((c : Thread Cert.RouterIdeal.nD Cert.RouterIdeal.τ).loc Cert.RouterIdeal.main_arg12))) (m ((c : Thread Cert.RouterIdeal.nD Cert.RouterIdeal.τ).loc Cert.RouterIdeal.main_arg13)) (m ((c : Thread Cert.RouterIdeal.nD Cert.RouterIdeal.τ).loc Cert.RouterIdeal.main_arg14)), ?_, ?_⟩
  · exact (θ_run _ _ _).mono (fun r h c => ⟨(h c).2.2.1.trans (Cert.RouterIdeal.Value.final19 m hf c), (h c).2.2.2⟩) (Cert.RouterIdeal.Value.run_blocks (F := Ideal) m g)
  · refine (θ_run _ _ _).mono (fun r h c => ?_) (Cert.RouterRefIdeal.Value.run (F := Ideal) m' g')
    obtain ⟨a0, a1, a2, a3, a4, a5, a6, a7, a8, a9, a10, a11, a12, a13, a14⟩ := hag c
    have e0 : Cert.RouterRefIdeal.Spec.logits (Cert.PostRefIdeal.Spec.st_out1 (m' ((c : Thread Cert.RouterRefIdeal.nD Cert.RouterRefIdeal.τ).loc Cert.RouterRefIdeal.main_arg0)) (m' ((c : Thread Cert.RouterRefIdeal.nD Cert.RouterRefIdeal.τ).loc Cert.RouterRefIdeal.main_arg1)) (m' ((c : Thread Cert.RouterRefIdeal.nD Cert.RouterRefIdeal.τ).loc Cert.RouterRefIdeal.main_arg2)) (m' ((c : Thread Cert.RouterRefIdeal.nD Cert.RouterRefIdeal.τ).loc Cert.RouterRefIdeal.main_arg3)) (m' ((c : Thread Cert.RouterRefIdeal.nD Cert.RouterRefIdeal.τ).loc Cert.RouterRefIdeal.main_arg4)) (m' ((c : Thread Cert.RouterRefIdeal.nD Cert.RouterRefIdeal.τ).loc Cert.RouterRefIdeal.main_arg5)) (m' ((c : Thread Cert.RouterRefIdeal.nD Cert.RouterRefIdeal.τ).loc Cert.RouterRefIdeal.main_arg6)) (m' ((c : Thread Cert.RouterRefIdeal.nD Cert.RouterRefIdeal.τ).loc Cert.RouterRefIdeal.main_arg7)) (m' ((c : Thread Cert.RouterRefIdeal.nD Cert.RouterRefIdeal.τ).loc Cert.RouterRefIdeal.main_arg8)) (m' ((c : Thread Cert.RouterRefIdeal.nD Cert.RouterRefIdeal.τ).loc Cert.RouterRefIdeal.main_arg9)) (m' ((c : Thread Cert.RouterRefIdeal.nD Cert.RouterRefIdeal.τ).loc Cert.RouterRefIdeal.main_arg10)) (m' ((c : Thread Cert.RouterRefIdeal.nD Cert.RouterRefIdeal.τ).loc Cert.RouterRefIdeal.main_arg11)) (m' ((c : Thread Cert.RouterRefIdeal.nD Cert.RouterRefIdeal.τ).loc Cert.RouterRefIdeal.main_arg12))) (m' ((c : Thread Cert.RouterRefIdeal.nD Cert.RouterRefIdeal.τ).loc Cert.RouterRefIdeal.main_arg13)) (m' ((c : Thread Cert.RouterRefIdeal.nD Cert.RouterRefIdeal.τ).loc Cert.RouterRefIdeal.main_arg14)) = Cert.RouterRefIdeal.Spec.logits (Cert.PostRefIdeal.Spec.st_out1 (m ((c : Thread Cert.RouterIdeal.nD Cert.RouterIdeal.τ).loc Cert.RouterIdeal.main_arg0)) (m ((c : Thread Cert.RouterIdeal.nD Cert.RouterIdeal.τ).loc Cert.RouterIdeal.main_arg1)) (m ((c : Thread Cert.RouterIdeal.nD Cert.RouterIdeal.τ).loc Cert.RouterIdeal.main_arg2)) (m ((c : Thread Cert.RouterIdeal.nD Cert.RouterIdeal.τ).loc Cert.RouterIdeal.main_arg3)) (m ((c : Thread Cert.RouterIdeal.nD Cert.RouterIdeal.τ).loc Cert.RouterIdeal.main_arg4)) (m ((c : Thread Cert.RouterIdeal.nD Cert.RouterIdeal.τ).loc Cert.RouterIdeal.main_arg5)) (m ((c : Thread Cert.RouterIdeal.nD Cert.RouterIdeal.τ).loc Cert.RouterIdeal.main_arg6)) (m ((c : Thread Cert.RouterIdeal.nD Cert.RouterIdeal.τ).loc Cert.RouterIdeal.main_arg7)) (m ((c : Thread Cert.RouterIdeal.nD Cert.RouterIdeal.τ).loc Cert.RouterIdeal.main_arg8)) (m ((c : Thread Cert.RouterIdeal.nD Cert.RouterIdeal.τ).loc Cert.RouterIdeal.main_arg9)) (m ((c : Thread Cert.RouterIdeal.nD Cert.RouterIdeal.τ).loc Cert.RouterIdeal.main_arg10)) (m ((c : Thread Cert.RouterIdeal.nD Cert.RouterIdeal.τ).loc Cert.RouterIdeal.main_arg11)) (m ((c : Thread Cert.RouterIdeal.nD Cert.RouterIdeal.τ).loc Cert.RouterIdeal.main_arg12))) (m ((c : Thread Cert.RouterIdeal.nD Cert.RouterIdeal.τ).loc Cert.RouterIdeal.main_arg13)) (m ((c : Thread Cert.RouterIdeal.nD Cert.RouterIdeal.τ).loc Cert.RouterIdeal.main_arg14)) := by
      rw [a0, a1, a2, a3, a4, a5, a6, a7, a8, a9, a10, a11, a12, a13, a14]
    exact ⟨(h c).1.trans ((Cert.RouterRefIdeal.Spec.res0 m' c).trans e0), (h c).2⟩

/-- The kernel's result is the reference's, for the experts' feed-forward. -/
theorem alg_Ffn : Cert.algebraic_FfnIdeal_FfnRefIdeal (hFfnIdeal := Cert.FfnIdeal.Gen.facts) (hFfnRefIdeal := Cert.FfnRefIdeal.Gen.facts) (hPre_experts_in_range := Cert.Pre_experts_in_range.Gen.facts) := by
  intro m g m' g' hp hag
  refine ⟨fun c => Cert.FfnIdeal.Fr.want m c, ?_, ?_⟩
  · exact Cert.FfnIdeal.Fr.run_value m g (Cert.FfnIdeal.Fr.inRange_of_pre m hp)
  · refine (θ_run _ _ _).mono (fun r h c => ?_) (Cert.FfnRefIdeal.Value.run (F := Ideal) m' g')
    obtain ⟨a0, a1, a2, a3, a4, a5, a6⟩ := hag c
    refine ⟨(h c).1.trans ((Cert.FfnRefIdeal.Spec.res0 m' c).trans ?_), (h c).2⟩
    show _ = Cert.FfnIdeal.Fr.want m c
    unfold Cert.FfnIdeal.Fr.want
    rw [a0, a1, a2, a3, a4, a5, a6]

/-- The kernel's results are the reference's, for the normalised and rotated inputs of the sparse attention. -/
theorem alg_NsaPrep : Cert.algebraic_NsaPrepIdeal_NsaPrepRefIdeal_pre_rows_finite (hNsaPrepIdeal := Cert.NsaPrepIdeal.Gen.facts) (hNsaPrepRefIdeal := Cert.NsaPrepRefIdeal.Gen.facts) (hPre_rows_finite := Cert.Pre_rows_finite.Gen.facts) := by
  intro m g m' g' hp hag
  have hf : Cert.NsaPrepIdeal.Value.Finite m := fun c i => by
    haveI := Cert.Pre_rows_finite.Gen.facts
    exact Cert.NsaPrepIdeal.Value.finite_at _ _ _ (hp c) i
  refine ⟨fun c => Cert.NsaPrepRefIdeal.Spec.qs (m ((c : Thread Cert.NsaPrepIdeal.nD Cert.NsaPrepIdeal.τ).loc Cert.NsaPrepIdeal.main_arg0)) (m ((c : Thread Cert.NsaPrepIdeal.nD Cert.NsaPrepIdeal.τ).loc Cert.NsaPrepIdeal.main_arg1)), fun c => Cert.NsaPrepRefIdeal.Spec.ks (m ((c : Thread Cert.NsaPrepIdeal.nD Cert.NsaPrepIdeal.τ).loc Cert.NsaPrepIdeal.main_arg0)) (m ((c : Thread Cert.NsaPrepIdeal.nD Cert.NsaPrepIdeal.τ).loc Cert.NsaPrepIdeal.main_arg2)), fun c => Cert.NsaPrepRefIdeal.Spec.vs (m ((c : Thread Cert.NsaPrepIdeal.nD Cert.NsaPrepIdeal.τ).loc Cert.NsaPrepIdeal.main_arg0)), fun c => Cert.NsaPrepRefIdeal.Spec.kw (m ((c : Thread Cert.NsaPrepIdeal.nD Cert.NsaPrepIdeal.τ).loc Cert.NsaPrepIdeal.main_arg0)) (m ((c : Thread Cert.NsaPrepIdeal.nD Cert.NsaPrepIdeal.τ).loc Cert.NsaPrepIdeal.main_arg2)), fun c => Cert.NsaPrepRefIdeal.Spec.vw (m ((c : Thread Cert.NsaPrepIdeal.nD Cert.NsaPrepIdeal.τ).loc Cert.NsaPrepIdeal.main_arg0)), fun c => Cert.NsaPrepRefIdeal.Spec.kc (m ((c : Thread Cert.NsaPrepIdeal.nD Cert.NsaPrepIdeal.τ).loc Cert.NsaPrepIdeal.main_arg0)), fun c => Cert.NsaPrepRefIdeal.Spec.vc (m ((c : Thread Cert.NsaPrepIdeal.nD Cert.NsaPrepIdeal.τ).loc Cert.NsaPrepIdeal.main_arg0)), ?_, ?_⟩
  · refine (θ_run _ _ _).mono (fun r h c => ?_) (Cert.NsaPrepIdeal.Value.run_blocks (F := Ideal) m g)
    exact ⟨(h c).1.trans (Cert.NsaPrepIdeal.Value.final7 m hf c), (h c).2.1.trans (Cert.NsaPrepIdeal.Value.final8 m hf c), (h c).2.2.1.trans (Cert.NsaPrepIdeal.Value.final9 m c), (h c).2.2.2.1.trans (Cert.NsaPrepIdeal.Value.final10 m hf c), (h c).2.2.2.2.1.trans (Cert.NsaPrepIdeal.Value.final11 m c), (h c).2.2.2.2.2.1.trans (Cert.NsaPrepIdeal.Value.final12 m c), (h c).2.2.2.2.2.2.1.trans (Cert.NsaPrepIdeal.Value.final13 m c), (h c).2.2.2.2.2.2.2⟩
  · refine (θ_run _ _ _).mono (fun r h c => ?_) (Cert.NsaPrepRefIdeal.Value.run (F := Ideal) m' g')
    obtain ⟨a0, a1, a2⟩ := hag c
    have e0 : Cert.NsaPrepRefIdeal.Spec.qs (m' ((c : Thread Cert.NsaPrepRefIdeal.nD Cert.NsaPrepRefIdeal.τ).loc Cert.NsaPrepRefIdeal.main_arg0)) (m' ((c : Thread Cert.NsaPrepRefIdeal.nD Cert.NsaPrepRefIdeal.τ).loc Cert.NsaPrepRefIdeal.main_arg1)) = Cert.NsaPrepRefIdeal.Spec.qs (m ((c : Thread Cert.NsaPrepIdeal.nD Cert.NsaPrepIdeal.τ).loc Cert.NsaPrepIdeal.main_arg0)) (m ((c : Thread Cert.NsaPrepIdeal.nD Cert.NsaPrepIdeal.τ).loc Cert.NsaPrepIdeal.main_arg1)) := by
      rw [a0, a1]
    have e1 : Cert.NsaPrepRefIdeal.Spec.ks (m' ((c : Thread Cert.NsaPrepRefIdeal.nD Cert.NsaPrepRefIdeal.τ).loc Cert.NsaPrepRefIdeal.main_arg0)) (m' ((c : Thread Cert.NsaPrepRefIdeal.nD Cert.NsaPrepRefIdeal.τ).loc Cert.NsaPrepRefIdeal.main_arg2)) = Cert.NsaPrepRefIdeal.Spec.ks (m ((c : Thread Cert.NsaPrepIdeal.nD Cert.NsaPrepIdeal.τ).loc Cert.NsaPrepIdeal.main_arg0)) (m ((c : Thread Cert.NsaPrepIdeal.nD Cert.NsaPrepIdeal.τ).loc Cert.NsaPrepIdeal.main_arg2)) := by
      rw [a0, a2]
    have e2 : Cert.NsaPrepRefIdeal.Spec.vs (m' ((c : Thread Cert.NsaPrepRefIdeal.nD Cert.NsaPrepRefIdeal.τ).loc Cert.NsaPrepRefIdeal.main_arg0)) = Cert.NsaPrepRefIdeal.Spec.vs (m ((c : Thread Cert.NsaPrepIdeal.nD Cert.NsaPrepIdeal.τ).loc Cert.NsaPrepIdeal.main_arg0)) := by
      rw [a0]
    have e3 : Cert.NsaPrepRefIdeal.Spec.kw (m' ((c : Thread Cert.NsaPrepRefIdeal.nD Cert.NsaPrepRefIdeal.τ).loc Cert.NsaPrepRefIdeal.main_arg0)) (m' ((c : Thread Cert.NsaPrepRefIdeal.nD Cert.NsaPrepRefIdeal.τ).loc Cert.NsaPrepRefIdeal.main_arg2)) = Cert.NsaPrepRefIdeal.Spec.kw (m ((c : Thread Cert.NsaPrepIdeal.nD Cert.NsaPrepIdeal.τ).loc Cert.NsaPrepIdeal.main_arg0)) (m ((c : Thread Cert.NsaPrepIdeal.nD Cert.NsaPrepIdeal.τ).loc Cert.NsaPrepIdeal.main_arg2)) := by
      rw [a0, a2]
    have e4 : Cert.NsaPrepRefIdeal.Spec.vw (m' ((c : Thread Cert.NsaPrepRefIdeal.nD Cert.NsaPrepRefIdeal.τ).loc Cert.NsaPrepRefIdeal.main_arg0)) = Cert.NsaPrepRefIdeal.Spec.vw (m ((c : Thread Cert.NsaPrepIdeal.nD Cert.NsaPrepIdeal.τ).loc Cert.NsaPrepIdeal.main_arg0)) := by
      rw [a0]
    have e5 : Cert.NsaPrepRefIdeal.Spec.kc (m' ((c : Thread Cert.NsaPrepRefIdeal.nD Cert.NsaPrepRefIdeal.τ).loc Cert.NsaPrepRefIdeal.main_arg0)) = Cert.NsaPrepRefIdeal.Spec.kc (m ((c : Thread Cert.NsaPrepIdeal.nD Cert.NsaPrepIdeal.τ).loc Cert.NsaPrepIdeal.main_arg0)) := by
      rw [a0]
    have e6 : Cert.NsaPrepRefIdeal.Spec.vc (m' ((c : Thread Cert.NsaPrepRefIdeal.nD Cert.NsaPrepRefIdeal.τ).loc Cert.NsaPrepRefIdeal.main_arg0)) = Cert.NsaPrepRefIdeal.Spec.vc (m ((c : Thread Cert.NsaPrepIdeal.nD Cert.NsaPrepIdeal.τ).loc Cert.NsaPrepIdeal.main_arg0)) := by
      rw [a0]
    exact ⟨(h c).1.trans ((rfl).trans e0), (h c).2.1.trans ((rfl).trans e1), (h c).2.2.1.trans ((rfl).trans e2), (h c).2.2.2.1.trans ((rfl).trans e3), (h c).2.2.2.2.1.trans ((rfl).trans e4), (h c).2.2.2.2.2.1.trans ((rfl).trans e5), (h c).2.2.2.2.2.2.1.trans ((rfl).trans e6), (h c).2.2.2.2.2.2.2⟩

/-- The kernel's results are the reference's, for the compressed keys and values. -/
theorem alg_NsaCmp : Cert.algebraic_NsaCmpIdeal_NsaCmpRefIdeal_pre_keys_finite (hNsaCmpIdeal := Cert.NsaCmpIdeal.Gen.facts) (hNsaCmpRefIdeal := Cert.NsaCmpRefIdeal.Gen.facts) (hPre_keys_finite := Cert.Pre_keys_finite.Gen.facts) := by
  intro m g m' g' hp hag
  have hf : Cert.NsaCmpIdeal.Value.Finite m := fun c i => by
    haveI := Cert.Pre_keys_finite.Gen.facts
    exact Cert.NsaCmpIdeal.Value.finite_at _ _ _ _ _ _ _ _ _ _ _ (hp c) i
  refine ⟨fun c => Cert.NsaCmpRefIdeal.Spec.kc (m ((c : Thread Cert.NsaCmpIdeal.nD Cert.NsaCmpIdeal.τ).loc Cert.NsaCmpIdeal.main_arg0)) (m ((c : Thread Cert.NsaCmpIdeal.nD Cert.NsaCmpIdeal.τ).loc Cert.NsaCmpIdeal.main_arg2)) (m ((c : Thread Cert.NsaCmpIdeal.nD Cert.NsaCmpIdeal.τ).loc Cert.NsaCmpIdeal.main_arg3)) (m ((c : Thread Cert.NsaCmpIdeal.nD Cert.NsaCmpIdeal.τ).loc Cert.NsaCmpIdeal.main_arg4)) (m ((c : Thread Cert.NsaCmpIdeal.nD Cert.NsaCmpIdeal.τ).loc Cert.NsaCmpIdeal.main_arg5)) (m ((c : Thread Cert.NsaCmpIdeal.nD Cert.NsaCmpIdeal.τ).loc Cert.NsaCmpIdeal.main_arg6)), fun c => Cert.NsaCmpRefIdeal.Spec.vc (m ((c : Thread Cert.NsaCmpIdeal.nD Cert.NsaCmpIdeal.τ).loc Cert.NsaCmpIdeal.main_arg1)) (m ((c : Thread Cert.NsaCmpIdeal.nD Cert.NsaCmpIdeal.τ).loc Cert.NsaCmpIdeal.main_arg7)) (m ((c : Thread Cert.NsaCmpIdeal.nD Cert.NsaCmpIdeal.τ).loc Cert.NsaCmpIdeal.main_arg8)) (m ((c : Thread Cert.NsaCmpIdeal.nD Cert.NsaCmpIdeal.τ).loc Cert.NsaCmpIdeal.main_arg9)) (m ((c : Thread Cert.NsaCmpIdeal.nD Cert.NsaCmpIdeal.τ).loc Cert.NsaCmpIdeal.main_arg10)), ?_, ?_⟩
  · refine (θ_run _ _ _).mono (fun r h c => ⟨?_, ?_, h.1 c⟩) (θ_run_and (Cert.NsaCmpIdeal.Gen.unchanged (F := Ideal) m g) (Cert.NsaCmpIdeal.Gen.run_main (F := Ideal) m g))
    · exact ((h.2 c).2 Cert.NsaCmpIdeal.main_v125 (Pipeline.mem_restRefs_of Cert.NsaCmpIdeal.main_v125 (by decide) (by decide))).trans (Cert.NsaCmpIdeal.Value.result125 m hf c)
    · exact ((h.2 c).2 Cert.NsaCmpIdeal.main_v126 (Pipeline.mem_restRefs_of Cert.NsaCmpIdeal.main_v126 (by decide) (by decide))).trans (Cert.NsaCmpIdeal.Value.result126 m c)
  · refine (θ_run _ _ _).mono (fun r h c => ?_) (Cert.NsaCmpRefIdeal.Value.run (F := Ideal) m' g')
    obtain ⟨a0, a1, a2, a3, a4, a5, a6, a7, a8, a9, a10⟩ := hag c
    have e0 : Cert.NsaCmpRefIdeal.Spec.kc (m' ((c : Thread Cert.NsaCmpRefIdeal.nD Cert.NsaCmpRefIdeal.τ).loc Cert.NsaCmpRefIdeal.main_arg0)) (m' ((c : Thread Cert.NsaCmpRefIdeal.nD Cert.NsaCmpRefIdeal.τ).loc Cert.NsaCmpRefIdeal.main_arg2)) (m' ((c : Thread Cert.NsaCmpRefIdeal.nD Cert.NsaCmpRefIdeal.τ).loc Cert.NsaCmpRefIdeal.main_arg3)) (m' ((c : Thread Cert.NsaCmpRefIdeal.nD Cert.NsaCmpRefIdeal.τ).loc Cert.NsaCmpRefIdeal.main_arg4)) (m' ((c : Thread Cert.NsaCmpRefIdeal.nD Cert.NsaCmpRefIdeal.τ).loc Cert.NsaCmpRefIdeal.main_arg5)) (m' ((c : Thread Cert.NsaCmpRefIdeal.nD Cert.NsaCmpRefIdeal.τ).loc Cert.NsaCmpRefIdeal.main_arg6)) = Cert.NsaCmpRefIdeal.Spec.kc (m ((c : Thread Cert.NsaCmpIdeal.nD Cert.NsaCmpIdeal.τ).loc Cert.NsaCmpIdeal.main_arg0)) (m ((c : Thread Cert.NsaCmpIdeal.nD Cert.NsaCmpIdeal.τ).loc Cert.NsaCmpIdeal.main_arg2)) (m ((c : Thread Cert.NsaCmpIdeal.nD Cert.NsaCmpIdeal.τ).loc Cert.NsaCmpIdeal.main_arg3)) (m ((c : Thread Cert.NsaCmpIdeal.nD Cert.NsaCmpIdeal.τ).loc Cert.NsaCmpIdeal.main_arg4)) (m ((c : Thread Cert.NsaCmpIdeal.nD Cert.NsaCmpIdeal.τ).loc Cert.NsaCmpIdeal.main_arg5)) (m ((c : Thread Cert.NsaCmpIdeal.nD Cert.NsaCmpIdeal.τ).loc Cert.NsaCmpIdeal.main_arg6)) := by
      rw [a0, a2, a3, a4, a5, a6]
    have e1 : Cert.NsaCmpRefIdeal.Spec.vc (m' ((c : Thread Cert.NsaCmpRefIdeal.nD Cert.NsaCmpRefIdeal.τ).loc Cert.NsaCmpRefIdeal.main_arg1)) (m' ((c : Thread Cert.NsaCmpRefIdeal.nD Cert.NsaCmpRefIdeal.τ).loc Cert.NsaCmpRefIdeal.main_arg7)) (m' ((c : Thread Cert.NsaCmpRefIdeal.nD Cert.NsaCmpRefIdeal.τ).loc Cert.NsaCmpRefIdeal.main_arg8)) (m' ((c : Thread Cert.NsaCmpRefIdeal.nD Cert.NsaCmpRefIdeal.τ).loc Cert.NsaCmpRefIdeal.main_arg9)) (m' ((c : Thread Cert.NsaCmpRefIdeal.nD Cert.NsaCmpRefIdeal.τ).loc Cert.NsaCmpRefIdeal.main_arg10)) = Cert.NsaCmpRefIdeal.Spec.vc (m ((c : Thread Cert.NsaCmpIdeal.nD Cert.NsaCmpIdeal.τ).loc Cert.NsaCmpIdeal.main_arg1)) (m ((c : Thread Cert.NsaCmpIdeal.nD Cert.NsaCmpIdeal.τ).loc Cert.NsaCmpIdeal.main_arg7)) (m ((c : Thread Cert.NsaCmpIdeal.nD Cert.NsaCmpIdeal.τ).loc Cert.NsaCmpIdeal.main_arg8)) (m ((c : Thread Cert.NsaCmpIdeal.nD Cert.NsaCmpIdeal.τ).loc Cert.NsaCmpIdeal.main_arg9)) (m ((c : Thread Cert.NsaCmpIdeal.nD Cert.NsaCmpIdeal.τ).loc Cert.NsaCmpIdeal.main_arg10)) := by
      rw [a1, a7, a8, a9, a10]
    exact ⟨(h c).1.trans ((Cert.NsaCmpRefIdeal.Spec.res0 m' c).trans e0), (h c).2.1.trans ((Cert.NsaCmpRefIdeal.Spec.res1 m' c).trans e1), (h c).2.2⟩

/-- The claims: every program runs to an end and leaves its arguments as they were, and each kernel computes its reference's results. -/
theorem claim : Cert.Claim := by
  refine ⟨Cert.MemKv.Gen.facts, Cert.MemKvIdeal.Gen.facts, Cert.MemKvRefIdeal.Gen.facts, Cert.Proj.Gen.facts, Cert.ProjIdeal.Gen.facts, Cert.ProjRefIdeal.Gen.facts, Cert.Post.Gen.facts, Cert.PostIdeal.Gen.facts, Cert.PostRefIdeal.Gen.facts, Cert.Router.Gen.facts, Cert.RouterIdeal.Gen.facts, Cert.RouterRefIdeal.Gen.facts, Cert.Ffn.Gen.facts, Cert.FfnIdeal.Gen.facts, Cert.FfnRefIdeal.Gen.facts, Cert.NsaPrep.Gen.facts, Cert.NsaPrepIdeal.Gen.facts, Cert.NsaPrepRefIdeal.Gen.facts, Cert.NsaCmp.Gen.facts, Cert.NsaCmpIdeal.Gen.facts, Cert.NsaCmpRefIdeal.Gen.facts, Cert.Mlstm.Gen.facts, Cert.MlstmIdeal.Gen.facts, Cert.Pre_router_finite.Gen.facts, Cert.Pre_experts_in_range.Gen.facts, Cert.Pre_rows_finite.Gen.facts, Cert.Pre_keys_finite.Gen.facts, fun m ρ _ => Cert.MemKv.Gen.frame m ρ, fun m ρ _ => Cert.MemKvIdeal.Gen.frame m ρ, ?_, fun m ρ _ => Cert.Proj.Gen.frame m ρ, fun m ρ _ => Cert.ProjIdeal.Gen.frame m ρ, ?_, fun m ρ _ => Cert.Post.Gen.frame m ρ, fun m ρ _ => Cert.PostIdeal.Gen.frame m ρ, ?_, fun m ρ _ => Cert.Router.Gen.frame m ρ, fun m ρ _ => Cert.RouterIdeal.Gen.frame m ρ, fun m ρ _ => Cert.RouterIdeal.Gen.frame m ρ, ?_, ?_, fun m ρ h => Cert.Ffn.Fr.frame m ρ (Cert.Ffn.Fr.ok_of m (Cert.Ffn.Fr.inRange_of_pre m h)), fun m ρ h => Cert.FfnIdeal.Fr.frame m ρ (Cert.FfnIdeal.Fr.ok_of m (Cert.FfnIdeal.Fr.inRange_of_pre m h)), ?_, ?_, fun m ρ _ => Cert.NsaPrep.Gen.frame m ρ, fun m ρ _ => Cert.NsaPrepIdeal.Gen.frame m ρ, fun m ρ _ => Cert.NsaPrepIdeal.Gen.frame m ρ, ?_, ?_, fun m ρ _ => Cert.NsaCmp.Gen.frame m ρ, fun m ρ _ => Cert.NsaCmpIdeal.Gen.frame m ρ, fun m ρ _ => Cert.NsaCmpIdeal.Gen.frame m ρ, ?_, ?_, fun m ρ _ => Cert.Mlstm.Gen.frame m ρ, fun m ρ _ => Cert.MlstmIdeal.Gen.frame m ρ, trivial, alg_MemKv, trivial, alg_Proj, trivial, alg_Post, trivial, alg_Router, trivial, alg_Ffn, trivial, alg_NsaPrep, trivial, alg_NsaCmp, trivial⟩
  · exact fun m ρ _ => (θ_run _ _ _).mono (fun r h => ⟨fun c => (h c).2.2, sem_eq_zero_of_no_sems (by decide) _⟩) (Cert.MemKvRefIdeal.Value.run m ρ)
  · exact fun m ρ _ => (θ_run _ _ _).mono (fun r h => ⟨fun c => (h c).2.2, sem_eq_zero_of_no_sems (by decide) _⟩) (Cert.ProjRefIdeal.Value.run m ρ)
  · exact fun m ρ _ => (θ_run _ _ _).mono (fun r h => ⟨fun c => (h c).2.2, sem_eq_zero_of_no_sems (by decide) _⟩) (Cert.PostRefIdeal.Value.run m ρ)
  · exact fun m ρ _ => (θ_run _ _ _).mono (fun r h => ⟨fun c => (h c).2, sem_eq_zero_of_no_sems (by decide) _⟩) (Cert.RouterRefIdeal.Value.run m ρ)
  · exact fun m ρ _ => (θ_run _ _ _).mono (fun r h => ⟨fun c => (h c).2, sem_eq_zero_of_no_sems (by decide) _⟩) (Cert.RouterRefIdeal.Value.run m ρ)
  · exact fun m ρ _ => (θ_run _ _ _).mono (fun r h => ⟨fun c => (h c).2, sem_eq_zero_of_no_sems (by decide) _⟩) (Cert.FfnRefIdeal.Value.run m ρ)
  · exact fun m ρ _ => (θ_run _ _ _).mono (fun r h => ⟨fun c => (h c).2, sem_eq_zero_of_no_sems (by decide) _⟩) (Cert.FfnRefIdeal.Value.run m ρ)
  · exact fun m ρ _ => (θ_run _ _ _).mono (fun r h => ⟨fun c => (h c).2.2.2.2.2.2.2, sem_eq_zero_of_no_sems (by decide) _⟩) (Cert.NsaPrepRefIdeal.Value.run m ρ)
  · exact fun m ρ _ => (θ_run _ _ _).mono (fun r h => ⟨fun c => (h c).2.2.2.2.2.2.2, sem_eq_zero_of_no_sems (by decide) _⟩) (Cert.NsaPrepRefIdeal.Value.run m ρ)
  · exact fun m ρ _ => (θ_run _ _ _).mono (fun r h => ⟨fun c => (h c).2.2, sem_eq_zero_of_no_sems (by decide) _⟩) (Cert.NsaCmpRefIdeal.Value.run m ρ)
  · exact fun m ρ _ => (θ_run _ _ _).mono (fun r h => ⟨fun c => (h c).2.2, sem_eq_zero_of_no_sems (by decide) _⟩) (Cert.NsaCmpRefIdeal.Value.run m ρ)

end Cert.Proof

end
